-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwPu (m : (ℓ : Loc Cert.DwPu.nD Cert.DwPu.τ Cert.DwPu.sig) → Buf (Elt Bits) ℓ) : Prop :=
  True

def Pre_DwPuIdeal (m : (ℓ : Loc Cert.DwPuIdeal.nD Cert.DwPuIdeal.τ Cert.DwPuIdeal.sig) → Buf (Elt Ideal) ℓ) : Prop :=
  True

def Pre_DwPuReferenceIdeal (m : (ℓ : Loc Cert.DwPuReferenceIdeal.nD Cert.DwPuReferenceIdeal.τ Cert.DwPuReferenceIdeal.sig) → Buf (Elt Ideal) ℓ) : Prop :=
  True

def Pre_DxDown (m : (ℓ : Loc Cert.DxDown.nD Cert.DxDown.τ Cert.DxDown.sig) → Buf (Elt Bits) ℓ) : Prop :=
  True

def Pre_DxDownIdeal (m : (ℓ : Loc Cert.DxDownIdeal.nD Cert.DxDownIdeal.τ Cert.DxDownIdeal.sig) → Buf (Elt Ideal) ℓ) : Prop :=
  True

def Pre_DxDownReferenceIdeal (m : (ℓ : Loc Cert.DxDownReferenceIdeal.nD Cert.DxDownReferenceIdeal.τ Cert.DxDownReferenceIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutReferenceIdeal (m : (ℓ : Loc Cert.DxOutReferenceIdeal.nD Cert.DxOutReferenceIdeal.τ Cert.DxOutReferenceIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpReferenceIdeal (m : (ℓ : Loc Cert.DxUpReferenceIdeal.nD Cert.DxUpReferenceIdeal.τ Cert.DxUpReferenceIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInReferenceIdeal (m : (ℓ : Loc Cert.DxInReferenceIdeal.nD Cert.DxInReferenceIdeal.τ Cert.DxInReferenceIdeal.sig) → Buf (Elt Ideal) ℓ) : Prop :=
  True

def Pre_DxGate (m : (ℓ : Loc Cert.DxGate.nD Cert.DxGate.τ Cert.DxGate.sig) → Buf (Elt Bits) ℓ) : Prop :=
  True

def Pre_DxGateIdeal (m : (ℓ : Loc Cert.DxGateIdeal.nD Cert.DxGateIdeal.τ Cert.DxGateIdeal.sig) → Buf (Elt Ideal) ℓ) : Prop :=
  True

def Pre_DxGateReferenceIdeal (m : (ℓ : Loc Cert.DxGateReferenceIdeal.nD Cert.DxGateReferenceIdeal.τ Cert.DxGateReferenceIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInReferenceIdeal (m : (ℓ : Loc Cert.FwdInReferenceIdeal.nD Cert.FwdInReferenceIdeal.τ Cert.FwdInReferenceIdeal.sig) → Buf (Elt Ideal) ℓ) : Prop :=
  True

def Pre_FwdUp (m : (ℓ : Loc Cert.FwdUp.nD Cert.FwdUp.τ Cert.FwdUp.sig) → Buf (Elt Bits) ℓ) : Prop :=
  True

def Pre_FwdUpIdeal (m : (ℓ : Loc Cert.FwdUpIdeal.nD Cert.FwdUpIdeal.τ Cert.FwdUpIdeal.sig) → Buf (Elt Ideal) ℓ) : Prop :=
  True

def Pre_FwdUpReferenceIdeal (m : (ℓ : Loc Cert.FwdUpReferenceIdeal.nD Cert.FwdUpReferenceIdeal.τ Cert.FwdUpReferenceIdeal.sig) → Buf (Elt Ideal) ℓ) : Prop :=
  True

def Pre_FwdGate (m : (ℓ : Loc Cert.FwdGate.nD Cert.FwdGate.τ Cert.FwdGate.sig) → Buf (Elt Bits) ℓ) : Prop :=
  True

def Pre_FwdGateIdeal (m : (ℓ : Loc Cert.FwdGateIdeal.nD Cert.FwdGateIdeal.τ Cert.FwdGateIdeal.sig) → Buf (Elt Ideal) ℓ) : Prop :=
  True

def Pre_FwdGateReferenceIdeal (m : (ℓ : Loc Cert.FwdGateReferenceIdeal.nD Cert.FwdGateReferenceIdeal.τ Cert.FwdGateReferenceIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutReferenceIdeal (m : (ℓ : Loc Cert.FwdOutReferenceIdeal.nD Cert.FwdOutReferenceIdeal.τ Cert.FwdOutReferenceIdeal.sig) → Buf (Elt Ideal) ℓ) : Prop :=
  True

def Pre_FwdDown (m : (ℓ : Loc Cert.FwdDown.nD Cert.FwdDown.τ Cert.FwdDown.sig) → Buf (Elt Bits) ℓ) : Prop :=
  True

def Pre_FwdDownIdeal (m : (ℓ : Loc Cert.FwdDownIdeal.nD Cert.FwdDownIdeal.τ Cert.FwdDownIdeal.sig) → Buf (Elt Ideal) ℓ) : Prop :=
  True

def Pre_FwdDownReferenceIdeal (m : (ℓ : Loc Cert.FwdDownReferenceIdeal.nD Cert.FwdDownReferenceIdeal.τ Cert.FwdDownReferenceIdeal.sig) → Buf (Elt Ideal) ℓ) : Prop :=
  True

def Pre_BwdPle (m : (ℓ : Loc Cert.BwdPle.nD Cert.BwdPle.τ Cert.BwdPle.sig) → Buf (Elt Bits) ℓ) : Prop :=
  True

def Pre_BwdPleIdeal (m : (ℓ : Loc Cert.BwdPleIdeal.nD Cert.BwdPleIdeal.τ Cert.BwdPleIdeal.sig) → Buf (Elt Ideal) ℓ) : Prop :=
  True

def Pre_BwdPleReferenceIdeal (m : (ℓ : Loc Cert.BwdPleReferenceIdeal.nD Cert.BwdPleReferenceIdeal.τ Cert.BwdPleReferenceIdeal.sig) → Buf (Elt Ideal) ℓ) : Prop :=
  True

def Pre_FwdPle (m : (ℓ : Loc Cert.FwdPle.nD Cert.FwdPle.τ Cert.FwdPle.sig) → Buf (Elt Bits) ℓ) : Prop :=
  True

def Pre_FwdPleIdeal (m : (ℓ : Loc Cert.FwdPleIdeal.nD Cert.FwdPleIdeal.τ Cert.FwdPleIdeal.sig) → Buf (Elt Ideal) ℓ) : Prop :=
  True

def Pre_FwdPleReferenceIdeal (m : (ℓ : Loc Cert.FwdPleReferenceIdeal.nD Cert.FwdPleReferenceIdeal.τ Cert.FwdPleReferenceIdeal.sig) → Buf (Elt Ideal) ℓ) : Prop :=
  True

def Pre_FwdNorm (m : (ℓ : Loc Cert.FwdNorm.nD Cert.FwdNorm.τ Cert.FwdNorm.sig) → Buf (Elt Bits) ℓ) : Prop :=
  True

def Pre_FwdNormIdeal (m : (ℓ : Loc Cert.FwdNormIdeal.nD Cert.FwdNormIdeal.τ Cert.FwdNormIdeal.sig) → Buf (Elt Ideal) ℓ) : Prop :=
  True

def Pre_FwdNormReferenceIdeal (m : (ℓ : Loc Cert.FwdNormReferenceIdeal.nD Cert.FwdNormReferenceIdeal.τ Cert.FwdNormReferenceIdeal.sig) → Buf (Elt Ideal) ℓ) : Prop :=
  True

def Pre_FwdSwa (m : (ℓ : Loc Cert.FwdSwa.nD Cert.FwdSwa.τ Cert.FwdSwa.sig) → Buf (Elt Bits) ℓ) : Prop :=
  True

def Pre_FwdSwaIdeal (m : (ℓ : Loc Cert.FwdSwaIdeal.nD Cert.FwdSwaIdeal.τ Cert.FwdSwaIdeal.sig) → Buf (Elt Ideal) ℓ) : Prop :=
  True

def Pre_FwdSwaIdeal_finite_scores [hPre_finite_scores : Cert.Pre_finite_scores.Facts] (m : (ℓ : Loc Cert.FwdSwaIdeal.nD Cert.FwdSwaIdeal.τ Cert.FwdSwaIdeal.sig) → Buf (Elt Ideal) ℓ) : Prop :=
  ∀ c : Dev Cert.FwdSwaIdeal.nD,
    (Cert.Pre_finite_scores.fn (F := Ideal) (m ((c.tc : Thread Cert.FwdSwaIdeal.nD Cert.FwdSwaIdeal.τ).loc Cert.FwdSwaIdeal.main_arg0)) (m ((c.tc : Thread Cert.FwdSwaIdeal.nD Cert.FwdSwaIdeal.τ).loc Cert.FwdSwaIdeal.main_arg1)) (m ((c.tc : Thread Cert.FwdSwaIdeal.nD Cert.FwdSwaIdeal.τ).loc Cert.FwdSwaIdeal.main_arg2))) = (fun _ => 1#1)

def Pre_FwdSwaReferenceIdeal (m : (ℓ : Loc Cert.FwdSwaReferenceIdeal.nD Cert.FwdSwaReferenceIdeal.τ Cert.FwdSwaReferenceIdeal.sig) → Buf (Elt Ideal) ℓ) : Prop :=
  True

def Pre_FwdSwaReferenceIdeal_finite_scores [hPre_finite_scores : Cert.Pre_finite_scores.Facts] (m : (ℓ : Loc Cert.FwdSwaReferenceIdeal.nD Cert.FwdSwaReferenceIdeal.τ Cert.FwdSwaReferenceIdeal.sig) → Buf (Elt Ideal) ℓ) : Prop :=
  ∀ c : Dev Cert.FwdSwaReferenceIdeal.nD,
    (Cert.Pre_finite_scores.fn (F := Ideal) (m ((c.tc : Thread Cert.FwdSwaReferenceIdeal.nD Cert.FwdSwaReferenceIdeal.τ).loc Cert.FwdSwaReferenceIdeal.main_arg0)) (m ((c.tc : Thread Cert.FwdSwaReferenceIdeal.nD Cert.FwdSwaReferenceIdeal.τ).loc Cert.FwdSwaReferenceIdeal.main_arg1)) (m ((c.tc : Thread Cert.FwdSwaReferenceIdeal.nD Cert.FwdSwaReferenceIdeal.τ).loc Cert.FwdSwaReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwPu [hDwPu : Cert.DwPu.Facts] : Prop :=
  ∀ (m : (ℓ : Loc Cert.DwPu.nD Cert.DwPu.τ Cert.DwPu.sig) → Buf (Elt Bits) ℓ) (g : Dev Cert.DwPu.nD → PrngReg), Pre_DwPu m →
    θ_run (Cert.DwPu.defs (F := Bits)) (onTc (τ := Cert.DwPu.τ) (Cert.DwPu.main (F := Bits))) ⟨m, fun _ => 0, g⟩ (fun r => (∀ c : Dev Cert.DwPu.nD,
      r.2.mem ((c.tc : Thread Cert.DwPu.nD Cert.DwPu.τ).loc Cert.DwPu.main_arg0) = m ((c.tc : Thread Cert.DwPu.nD Cert.DwPu.τ).loc Cert.DwPu.main_arg0)
      ∧ r.2.mem ((c.tc : Thread Cert.DwPu.nD Cert.DwPu.τ).loc Cert.DwPu.main_arg1) = m ((c.tc : Thread Cert.DwPu.nD Cert.DwPu.τ).loc Cert.DwPu.main_arg1))
      ∧ r.2.sem = fun _ => 0)

def quiescent_DwPuIdeal [hDwPuIdeal : Cert.DwPuIdeal.Facts] : Prop :=
  ∀ (m : (ℓ : Loc Cert.DwPuIdeal.nD Cert.DwPuIdeal.τ Cert.DwPuIdeal.sig) → Buf (Elt Ideal) ℓ) (g : Dev Cert.DwPuIdeal.nD → PrngReg), Pre_DwPuIdeal m →
    θ_run (Cert.DwPuIdeal.defs (F := Ideal)) (onTc (τ := Cert.DwPuIdeal.τ) (Cert.DwPuIdeal.main (F := Ideal))) ⟨m, fun _ => 0, g⟩ (fun r => (∀ c : Dev Cert.DwPuIdeal.nD,
      r.2.mem ((c.tc : Thread Cert.DwPuIdeal.nD Cert.DwPuIdeal.τ).loc Cert.DwPuIdeal.main_arg0) = m ((c.tc : Thread Cert.DwPuIdeal.nD Cert.DwPuIdeal.τ).loc Cert.DwPuIdeal.main_arg0)
      ∧ r.2.mem ((c.tc : Thread Cert.DwPuIdeal.nD Cert.DwPuIdeal.τ).loc Cert.DwPuIdeal.main_arg1) = m ((c.tc : Thread Cert.DwPuIdeal.nD Cert.DwPuIdeal.τ).loc Cert.DwPuIdeal.main_arg1))
      ∧ r.2.sem = fun _ => 0)

def quiescent_DwPuReferenceIdeal [hDwPuReferenceIdeal : Cert.DwPuReferenceIdeal.Facts] : Prop :=
  ∀ (m : (ℓ : Loc Cert.DwPuReferenceIdeal.nD Cert.DwPuReferenceIdeal.τ Cert.DwPuReferenceIdeal.sig) → Buf (Elt Ideal) ℓ) (g : Dev Cert.DwPuReferenceIdeal.nD → PrngReg), Pre_DwPuReferenceIdeal m →
    θ_run (Cert.DwPuReferenceIdeal.defs (F := Ideal)) (onTc (τ := Cert.DwPuReferenceIdeal.τ) (Cert.DwPuReferenceIdeal.main (F := Ideal))) ⟨m, fun _ => 0, g⟩ (fun r => (∀ c : Dev Cert.DwPuReferenceIdeal.nD,
      r.2.mem ((c.tc : Thread Cert.DwPuReferenceIdeal.nD Cert.DwPuReferenceIdeal.τ).loc Cert.DwPuReferenceIdeal.main_arg0) = m ((c.tc : Thread Cert.DwPuReferenceIdeal.nD Cert.DwPuReferenceIdeal.τ).loc Cert.DwPuReferenceIdeal.main_arg0)
      ∧ r.2.mem ((c.tc : Thread Cert.DwPuReferenceIdeal.nD Cert.DwPuReferenceIdeal.τ).loc Cert.DwPuReferenceIdeal.main_arg1) = m ((c.tc : Thread Cert.DwPuReferenceIdeal.nD Cert.DwPuReferenceIdeal.τ).loc Cert.DwPuReferenceIdeal.main_arg1))
      ∧ r.2.sem = fun _ => 0)

def quiescent_DxDown [hDxDown : Cert.DxDown.Facts] : Prop :=
  ∀ (m : (ℓ : Loc Cert.DxDown.nD Cert.DxDown.τ Cert.DxDown.sig) → Buf (Elt Bits) ℓ) (g : Dev Cert.DxDown.nD → PrngReg), Pre_DxDown m →
    θ_run (Cert.DxDown.defs (F := Bits)) (onTc (τ := Cert.DxDown.τ) (Cert.DxDown.main (F := Bits))) ⟨m, fun _ => 0, g⟩ (fun r => (∀ c : Dev Cert.DxDown.nD,
      r.2.mem ((c.tc : Thread Cert.DxDown.nD Cert.DxDown.τ).loc Cert.DxDown.main_arg0) = m ((c.tc : Thread Cert.DxDown.nD Cert.DxDown.τ).loc Cert.DxDown.main_arg0)
      ∧ r.2.mem ((c.tc : Thread Cert.DxDown.nD Cert.DxDown.τ).loc Cert.DxDown.main_arg1) = m ((c.tc : Thread Cert.DxDown.nD Cert.DxDown.τ).loc Cert.DxDown.main_arg1))
      ∧ r.2.sem = fun _ => 0)

def quiescent_DxDownIdeal [hDxDownIdeal : Cert.DxDownIdeal.Facts] : Prop :=
  ∀ (m : (ℓ : Loc Cert.DxDownIdeal.nD Cert.DxDownIdeal.τ Cert.DxDownIdeal.sig) → Buf (Elt Ideal) ℓ) (g : Dev Cert.DxDownIdeal.nD → PrngReg), Pre_DxDownIdeal m →
    θ_run (Cert.DxDownIdeal.defs (F := Ideal)) (onTc (τ := Cert.DxDownIdeal.τ) (Cert.DxDownIdeal.main (F := Ideal))) ⟨m, fun _ => 0, g⟩ (fun r => (∀ c : Dev Cert.DxDownIdeal.nD,
      r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
      ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ r.2.sem = fun _ => 0)

def quiescent_DxDownReferenceIdeal [hDxDownReferenceIdeal : Cert.DxDownReferenceIdeal.Facts] : Prop :=
  ∀ (m : (ℓ : Loc Cert.DxDownReferenceIdeal.nD Cert.DxDownReferenceIdeal.τ Cert.DxDownReferenceIdeal.sig) → Buf (Elt Ideal) ℓ) (g : Dev Cert.DxDownReferenceIdeal.nD → PrngReg), Pre_DxDownReferenceIdeal m →
    θ_run (Cert.DxDownReferenceIdeal.defs (F := Ideal)) (onTc (τ := Cert.DxDownReferenceIdeal.τ) (Cert.DxDownReferenceIdeal.main (F := Ideal))) ⟨m, fun _ => 0, g⟩ (fun r => (∀ c : Dev Cert.DxDownReferenceIdeal.nD,
      r.2.mem ((c.tc : Thread Cert.DxDownReferenceIdeal.nD Cert.DxDownReferenceIdeal.τ).loc Cert.DxDownReferenceIdeal.main_arg0) = m ((c.tc : Thread Cert.DxDownReferenceIdeal.nD Cert.DxDownReferenceIdeal.τ).loc Cert.DxDownReferenceIdeal.main_arg0)
      ∧ r.2.mem ((c.tc : Thread Cert.DxDownReferenceIdeal.nD Cert.DxDownReferenceIdeal.τ).loc Cert.DxDownReferenceIdeal.main_arg1) = m ((c.tc : Thread Cert.DxDownReferenceIdeal.nD Cert.DxDownReferenceIdeal.τ).loc Cert.DxDownReferenceIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutReferenceIdeal [hDxOutReferenceIdeal : Cert.DxOutReferenceIdeal.Facts] : Prop :=
  ∀ (m : (ℓ : Loc Cert.DxOutReferenceIdeal.nD Cert.DxOutReferenceIdeal.τ Cert.DxOutReferenceIdeal.sig) → Buf (Elt Ideal) ℓ) (g : Dev Cert.DxOutReferenceIdeal.nD → PrngReg), Pre_DxOutReferenceIdeal m →
    θ_run (Cert.DxOutReferenceIdeal.defs (F := Ideal)) (onTc (τ := Cert.DxOutReferenceIdeal.τ) (Cert.DxOutReferenceIdeal.main (F := Ideal))) ⟨m, fun _ => 0, g⟩ (fun r => (∀ c : Dev Cert.DxOutReferenceIdeal.nD,
      r.2.mem ((c.tc : Thread Cert.DxOutReferenceIdeal.nD Cert.DxOutReferenceIdeal.τ).loc Cert.DxOutReferenceIdeal.main_arg0) = m ((c.tc : Thread Cert.DxOutReferenceIdeal.nD Cert.DxOutReferenceIdeal.τ).loc Cert.DxOutReferenceIdeal.main_arg0)
      ∧ r.2.mem ((c.tc : Thread Cert.DxOutReferenceIdeal.nD Cert.DxOutReferenceIdeal.τ).loc Cert.DxOutReferenceIdeal.main_arg1) = m ((c.tc : Thread Cert.DxOutReferenceIdeal.nD Cert.DxOutReferenceIdeal.τ).loc Cert.DxOutReferenceIdeal.main_arg1))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1)
      ∧ r.2.mem ((c.tc : Thread Cert.DxUp.nD Cert.DxUp.τ).loc Cert.DxUp.main_arg2) = m ((c.tc : Thread Cert.DxUp.nD Cert.DxUp.τ).loc Cert.DxUp.main_arg2)
      ∧ r.2.mem ((c.tc : Thread Cert.DxUp.nD Cert.DxUp.τ).loc Cert.DxUp.main_arg3) = m ((c.tc : Thread Cert.DxUp.nD Cert.DxUp.τ).loc Cert.DxUp.main_arg3)
      ∧ r.2.mem ((c.tc : Thread Cert.DxUp.nD Cert.DxUp.τ).loc Cert.DxUp.main_arg4) = m ((c.tc : Thread Cert.DxUp.nD Cert.DxUp.τ).loc Cert.DxUp.main_arg4)
      ∧ r.2.mem ((c.tc : Thread Cert.DxUp.nD Cert.DxUp.τ).loc Cert.DxUp.main_arg5) = m ((c.tc : Thread Cert.DxUp.nD Cert.DxUp.τ).loc Cert.DxUp.main_arg5))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
      ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3)
      ∧ r.2.mem ((c.tc : Thread Cert.DxUpIdeal.nD Cert.DxUpIdeal.τ).loc Cert.DxUpIdeal.main_arg4) = m ((c.tc : Thread Cert.DxUpIdeal.nD Cert.DxUpIdeal.τ).loc Cert.DxUpIdeal.main_arg4)
      ∧ r.2.mem ((c.tc : Thread Cert.DxUpIdeal.nD Cert.DxUpIdeal.τ).loc Cert.DxUpIdeal.main_arg5) = m ((c.tc : Thread Cert.DxUpIdeal.nD Cert.DxUpIdeal.τ).loc Cert.DxUpIdeal.main_arg5))
      ∧ r.2.sem = fun _ => 0)

def quiescent_DxUpReferenceIdeal [hDxUpReferenceIdeal : Cert.DxUpReferenceIdeal.Facts] : Prop :=
  ∀ (m : (ℓ : Loc Cert.DxUpReferenceIdeal.nD Cert.DxUpReferenceIdeal.τ Cert.DxUpReferenceIdeal.sig) → Buf (Elt Ideal) ℓ) (g : Dev Cert.DxUpReferenceIdeal.nD → PrngReg), Pre_DxUpReferenceIdeal m →
    θ_run (Cert.DxUpReferenceIdeal.defs (F := Ideal)) (onTc (τ := Cert.DxUpReferenceIdeal.τ) (Cert.DxUpReferenceIdeal.main (F := Ideal))) ⟨m, fun _ => 0, g⟩ (fun r => (∀ c : Dev Cert.DxUpReferenceIdeal.nD,
      r.2.mem ((c.tc : Thread Cert.DxUpReferenceIdeal.nD Cert.DxUpReferenceIdeal.τ).loc Cert.DxUpReferenceIdeal.main_arg0) = m ((c.tc : Thread Cert.DxUpReferenceIdeal.nD Cert.DxUpReferenceIdeal.τ).loc Cert.DxUpReferenceIdeal.main_arg0)
      ∧ r.2.mem ((c.tc : Thread Cert.DxUpReferenceIdeal.nD Cert.DxUpReferenceIdeal.τ).loc Cert.DxUpReferenceIdeal.main_arg1) = m ((c.tc : Thread Cert.DxUpReferenceIdeal.nD Cert.DxUpReferenceIdeal.τ).loc Cert.DxUpReferenceIdeal.main_arg1)
      ∧ r.2.mem ((c.tc : Thread Cert.DxUpReferenceIdeal.nD Cert.DxUpReferenceIdeal.τ).loc Cert.DxUpReferenceIdeal.main_arg2) = m ((c.tc : Thread Cert.DxUpReferenceIdeal.nD Cert.DxUpReferenceIdeal.τ).loc Cert.DxUpReferenceIdeal.main_arg2)
      ∧ r.2.mem ((c.tc : Thread Cert.DxUpReferenceIdeal.nD Cert.DxUpReferenceIdeal.τ).loc Cert.DxUpReferenceIdeal.main_arg3) = m ((c.tc : Thread Cert.DxUpReferenceIdeal.nD Cert.DxUpReferenceIdeal.τ).loc Cert.DxUpReferenceIdeal.main_arg3)
      ∧ r.2.mem ((c.tc : Thread Cert.DxUpReferenceIdeal.nD Cert.DxUpReferenceIdeal.τ).loc Cert.DxUpReferenceIdeal.main_arg4) = m ((c.tc : Thread Cert.DxUpReferenceIdeal.nD Cert.DxUpReferenceIdeal.τ).loc Cert.DxUpReferenceIdeal.main_arg4)
      ∧ r.2.mem ((c.tc : Thread Cert.DxUpReferenceIdeal.nD Cert.DxUpReferenceIdeal.τ).loc Cert.DxUpReferenceIdeal.main_arg5) = m ((c.tc : Thread Cert.DxUpReferenceIdeal.nD Cert.DxUpReferenceIdeal.τ).loc Cert.DxUpReferenceIdeal.main_arg5))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1)
      ∧ r.2.mem ((c.tc : Thread Cert.DxIn.nD Cert.DxIn.τ).loc Cert.DxIn.main_arg2) = m ((c.tc : Thread Cert.DxIn.nD Cert.DxIn.τ).loc Cert.DxIn.main_arg2)
      ∧ r.2.mem ((c.tc : Thread Cert.DxIn.nD Cert.DxIn.τ).loc Cert.DxIn.main_arg3) = m ((c.tc : Thread Cert.DxIn.nD Cert.DxIn.τ).loc Cert.DxIn.main_arg3)
      ∧ r.2.mem ((c.tc : Thread Cert.DxIn.nD Cert.DxIn.τ).loc Cert.DxIn.main_arg4) = m ((c.tc : Thread Cert.DxIn.nD Cert.DxIn.τ).loc Cert.DxIn.main_arg4))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
      ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
      ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
      ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4))
      ∧ r.2.sem = fun _ => 0)

def quiescent_DxInReferenceIdeal [hDxInReferenceIdeal : Cert.DxInReferenceIdeal.Facts] : Prop :=
  ∀ (m : (ℓ : Loc Cert.DxInReferenceIdeal.nD Cert.DxInReferenceIdeal.τ Cert.DxInReferenceIdeal.sig) → Buf (Elt Ideal) ℓ) (g : Dev Cert.DxInReferenceIdeal.nD → PrngReg), Pre_DxInReferenceIdeal m →
    θ_run (Cert.DxInReferenceIdeal.defs (F := Ideal)) (onTc (τ := Cert.DxInReferenceIdeal.τ) (Cert.DxInReferenceIdeal.main (F := Ideal))) ⟨m, fun _ => 0, g⟩ (fun r => (∀ c : Dev Cert.DxInReferenceIdeal.nD,
      r.2.mem ((c.tc : Thread Cert.DxInReferenceIdeal.nD Cert.DxInReferenceIdeal.τ).loc Cert.DxInReferenceIdeal.main_arg0) = m ((c.tc : Thread Cert.DxInReferenceIdeal.nD Cert.DxInReferenceIdeal.τ).loc Cert.DxInReferenceIdeal.main_arg0)
      ∧ r.2.mem ((c.tc : Thread Cert.DxInReferenceIdeal.nD Cert.DxInReferenceIdeal.τ).loc Cert.DxInReferenceIdeal.main_arg1) = m ((c.tc : Thread Cert.DxInReferenceIdeal.nD Cert.DxInReferenceIdeal.τ).loc Cert.DxInReferenceIdeal.main_arg1)
      ∧ r.2.mem ((c.tc : Thread Cert.DxInReferenceIdeal.nD Cert.DxInReferenceIdeal.τ).loc Cert.DxInReferenceIdeal.main_arg2) = m ((c.tc : Thread Cert.DxInReferenceIdeal.nD Cert.DxInReferenceIdeal.τ).loc Cert.DxInReferenceIdeal.main_arg2)
      ∧ r.2.mem ((c.tc : Thread Cert.DxInReferenceIdeal.nD Cert.DxInReferenceIdeal.τ).loc Cert.DxInReferenceIdeal.main_arg3) = m ((c.tc : Thread Cert.DxInReferenceIdeal.nD Cert.DxInReferenceIdeal.τ).loc Cert.DxInReferenceIdeal.main_arg3)
      ∧ r.2.mem ((c.tc : Thread Cert.DxInReferenceIdeal.nD Cert.DxInReferenceIdeal.τ).loc Cert.DxInReferenceIdeal.main_arg4) = m ((c.tc : Thread Cert.DxInReferenceIdeal.nD Cert.DxInReferenceIdeal.τ).loc Cert.DxInReferenceIdeal.main_arg4))
      ∧ r.2.sem = fun _ => 0)

def quiescent_DxGate [hDxGate : Cert.DxGate.Facts] : Prop :=
  ∀ (m : (ℓ : Loc Cert.DxGate.nD Cert.DxGate.τ Cert.DxGate.sig) → Buf (Elt Bits) ℓ) (g : Dev Cert.DxGate.nD → PrngReg), Pre_DxGate m →
    θ_run (Cert.DxGate.defs (F := Bits)) (onTc (τ := Cert.DxGate.τ) (Cert.DxGate.main (F := Bits))) ⟨m, fun _ => 0, g⟩ (fun r => (∀ c : Dev Cert.DxGate.nD,
      r.2.mem ((c.tc : Thread Cert.DxGate.nD Cert.DxGate.τ).loc Cert.DxGate.main_arg0) = m ((c.tc : Thread Cert.DxGate.nD Cert.DxGate.τ).loc Cert.DxGate.main_arg0)
      ∧ r.2.mem ((c.tc : Thread Cert.DxGate.nD Cert.DxGate.τ).loc Cert.DxGate.main_arg1) = m ((c.tc : Thread Cert.DxGate.nD Cert.DxGate.τ).loc Cert.DxGate.main_arg1)
      ∧ r.2.mem ((c.tc : Thread Cert.DxGate.nD Cert.DxGate.τ).loc Cert.DxGate.main_arg2) = m ((c.tc : Thread Cert.DxGate.nD Cert.DxGate.τ).loc Cert.DxGate.main_arg2)
      ∧ r.2.mem ((c.tc : Thread Cert.DxGate.nD Cert.DxGate.τ).loc Cert.DxGate.main_arg3) = m ((c.tc : Thread Cert.DxGate.nD Cert.DxGate.τ).loc Cert.DxGate.main_arg3)
      ∧ r.2.mem ((c.tc : Thread Cert.DxGate.nD Cert.DxGate.τ).loc Cert.DxGate.main_arg4) = m ((c.tc : Thread Cert.DxGate.nD Cert.DxGate.τ).loc Cert.DxGate.main_arg4))
      ∧ r.2.sem = fun _ => 0)

def quiescent_DxGateIdeal [hDxGateIdeal : Cert.DxGateIdeal.Facts] : Prop :=
  ∀ (m : (ℓ : Loc Cert.DxGateIdeal.nD Cert.DxGateIdeal.τ Cert.DxGateIdeal.sig) → Buf (Elt Ideal) ℓ) (g : Dev Cert.DxGateIdeal.nD → PrngReg), Pre_DxGateIdeal m →
    θ_run (Cert.DxGateIdeal.defs (F := Ideal)) (onTc (τ := Cert.DxGateIdeal.τ) (Cert.DxGateIdeal.main (F := Ideal))) ⟨m, fun _ => 0, g⟩ (fun r => (∀ c : Dev Cert.DxGateIdeal.nD,
      r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
      ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1)
      ∧ r.2.mem ((c.tc : Thread Cert.DxGateIdeal.nD Cert.DxGateIdeal.τ).loc Cert.DxGateIdeal.main_arg2) = m ((c.tc : Thread Cert.DxGateIdeal.nD Cert.DxGateIdeal.τ).loc Cert.DxGateIdeal.main_arg2)
      ∧ r.2.mem ((c.tc : Thread Cert.DxGateIdeal.nD Cert.DxGateIdeal.τ).loc Cert.DxGateIdeal.main_arg3) = m ((c.tc : Thread Cert.DxGateIdeal.nD Cert.DxGateIdeal.τ).loc Cert.DxGateIdeal.main_arg3)
      ∧ r.2.mem ((c.tc : Thread Cert.DxGateIdeal.nD Cert.DxGateIdeal.τ).loc Cert.DxGateIdeal.main_arg4) = m ((c.tc : Thread Cert.DxGateIdeal.nD Cert.DxGateIdeal.τ).loc Cert.DxGateIdeal.main_arg4))
      ∧ r.2.sem = fun _ => 0)

def quiescent_DxGateReferenceIdeal [hDxGateReferenceIdeal : Cert.DxGateReferenceIdeal.Facts] : Prop :=
  ∀ (m : (ℓ : Loc Cert.DxGateReferenceIdeal.nD Cert.DxGateReferenceIdeal.τ Cert.DxGateReferenceIdeal.sig) → Buf (Elt Ideal) ℓ) (g : Dev Cert.DxGateReferenceIdeal.nD → PrngReg), Pre_DxGateReferenceIdeal m →
    θ_run (Cert.DxGateReferenceIdeal.defs (F := Ideal)) (onTc (τ := Cert.DxGateReferenceIdeal.τ) (Cert.DxGateReferenceIdeal.main (F := Ideal))) ⟨m, fun _ => 0, g⟩ (fun r => (∀ c : Dev Cert.DxGateReferenceIdeal.nD,
      r.2.mem ((c.tc : Thread Cert.DxGateReferenceIdeal.nD Cert.DxGateReferenceIdeal.τ).loc Cert.DxGateReferenceIdeal.main_arg0) = m ((c.tc : Thread Cert.DxGateReferenceIdeal.nD Cert.DxGateReferenceIdeal.τ).loc Cert.DxGateReferenceIdeal.main_arg0)
      ∧ r.2.mem ((c.tc : Thread Cert.DxGateReferenceIdeal.nD Cert.DxGateReferenceIdeal.τ).loc Cert.DxGateReferenceIdeal.main_arg1) = m ((c.tc : Thread Cert.DxGateReferenceIdeal.nD Cert.DxGateReferenceIdeal.τ).loc Cert.DxGateReferenceIdeal.main_arg1)
      ∧ r.2.mem ((c.tc : Thread Cert.DxGateReferenceIdeal.nD Cert.DxGateReferenceIdeal.τ).loc Cert.DxGateReferenceIdeal.main_arg2) = m ((c.tc : Thread Cert.DxGateReferenceIdeal.nD Cert.DxGateReferenceIdeal.τ).loc Cert.DxGateReferenceIdeal.main_arg2)
      ∧ r.2.mem ((c.tc : Thread Cert.DxGateReferenceIdeal.nD Cert.DxGateReferenceIdeal.τ).loc Cert.DxGateReferenceIdeal.main_arg3) = m ((c.tc : Thread Cert.DxGateReferenceIdeal.nD Cert.DxGateReferenceIdeal.τ).loc Cert.DxGateReferenceIdeal.main_arg3)
      ∧ r.2.mem ((c.tc : Thread Cert.DxGateReferenceIdeal.nD Cert.DxGateReferenceIdeal.τ).loc Cert.DxGateReferenceIdeal.main_arg4) = m ((c.tc : Thread Cert.DxGateReferenceIdeal.nD Cert.DxGateReferenceIdeal.τ).loc Cert.DxGateReferenceIdeal.main_arg4))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ r.2.sem = fun _ => 0)

def quiescent_FwdInReferenceIdeal [hFwdInReferenceIdeal : Cert.FwdInReferenceIdeal.Facts] : Prop :=
  ∀ (m : (ℓ : Loc Cert.FwdInReferenceIdeal.nD Cert.FwdInReferenceIdeal.τ Cert.FwdInReferenceIdeal.sig) → Buf (Elt Ideal) ℓ) (g : Dev Cert.FwdInReferenceIdeal.nD → PrngReg), Pre_FwdInReferenceIdeal m →
    θ_run (Cert.FwdInReferenceIdeal.defs (F := Ideal)) (onTc (τ := Cert.FwdInReferenceIdeal.τ) (Cert.FwdInReferenceIdeal.main (F := Ideal))) ⟨m, fun _ => 0, g⟩ (fun r => (∀ c : Dev Cert.FwdInReferenceIdeal.nD,
      r.2.mem ((c.tc : Thread Cert.FwdInReferenceIdeal.nD Cert.FwdInReferenceIdeal.τ).loc Cert.FwdInReferenceIdeal.main_arg0) = m ((c.tc : Thread Cert.FwdInReferenceIdeal.nD Cert.FwdInReferenceIdeal.τ).loc Cert.FwdInReferenceIdeal.main_arg0)
      ∧ r.2.mem ((c.tc : Thread Cert.FwdInReferenceIdeal.nD Cert.FwdInReferenceIdeal.τ).loc Cert.FwdInReferenceIdeal.main_arg1) = m ((c.tc : Thread Cert.FwdInReferenceIdeal.nD Cert.FwdInReferenceIdeal.τ).loc Cert.FwdInReferenceIdeal.main_arg1))
      ∧ r.2.sem = fun _ => 0)

def quiescent_FwdUp [hFwdUp : Cert.FwdUp.Facts] : Prop :=
  ∀ (m : (ℓ : Loc Cert.FwdUp.nD Cert.FwdUp.τ Cert.FwdUp.sig) → Buf (Elt Bits) ℓ) (g : Dev Cert.FwdUp.nD → PrngReg), Pre_FwdUp m →
    θ_run (Cert.FwdUp.defs (F := Bits)) (onTc (τ := Cert.FwdUp.τ) (Cert.FwdUp.main (F := Bits))) ⟨m, fun _ => 0, g⟩ (fun r => (∀ c : Dev Cert.FwdUp.nD,
      r.2.mem ((c.tc : Thread Cert.FwdUp.nD Cert.FwdUp.τ).loc Cert.FwdUp.main_arg0) = m ((c.tc : Thread Cert.FwdUp.nD Cert.FwdUp.τ).loc Cert.FwdUp.main_arg0)
      ∧ r.2.mem ((c.tc : Thread Cert.FwdUp.nD Cert.FwdUp.τ).loc Cert.FwdUp.main_arg1) = m ((c.tc : Thread Cert.FwdUp.nD Cert.FwdUp.τ).loc Cert.FwdUp.main_arg1))
      ∧ r.2.sem = fun _ => 0)

def quiescent_FwdUpIdeal [hFwdUpIdeal : Cert.FwdUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ r.2.sem = fun _ => 0)

def quiescent_FwdUpReferenceIdeal [hFwdUpReferenceIdeal : Cert.FwdUpReferenceIdeal.Facts] : Prop :=
  ∀ (m : (ℓ : Loc Cert.FwdUpReferenceIdeal.nD Cert.FwdUpReferenceIdeal.τ Cert.FwdUpReferenceIdeal.sig) → Buf (Elt Ideal) ℓ) (g : Dev Cert.FwdUpReferenceIdeal.nD → PrngReg), Pre_FwdUpReferenceIdeal m →
    θ_run (Cert.FwdUpReferenceIdeal.defs (F := Ideal)) (onTc (τ := Cert.FwdUpReferenceIdeal.τ) (Cert.FwdUpReferenceIdeal.main (F := Ideal))) ⟨m, fun _ => 0, g⟩ (fun r => (∀ c : Dev Cert.FwdUpReferenceIdeal.nD,
      r.2.mem ((c.tc : Thread Cert.FwdUpReferenceIdeal.nD Cert.FwdUpReferenceIdeal.τ).loc Cert.FwdUpReferenceIdeal.main_arg0) = m ((c.tc : Thread Cert.FwdUpReferenceIdeal.nD Cert.FwdUpReferenceIdeal.τ).loc Cert.FwdUpReferenceIdeal.main_arg0)
      ∧ r.2.mem ((c.tc : Thread Cert.FwdUpReferenceIdeal.nD Cert.FwdUpReferenceIdeal.τ).loc Cert.FwdUpReferenceIdeal.main_arg1) = m ((c.tc : Thread Cert.FwdUpReferenceIdeal.nD Cert.FwdUpReferenceIdeal.τ).loc Cert.FwdUpReferenceIdeal.main_arg1))
      ∧ r.2.sem = fun _ => 0)

def quiescent_FwdGate [hFwdGate : Cert.FwdGate.Facts] : Prop :=
  ∀ (m : (ℓ : Loc Cert.FwdGate.nD Cert.FwdGate.τ Cert.FwdGate.sig) → Buf (Elt Bits) ℓ) (g : Dev Cert.FwdGate.nD → PrngReg), Pre_FwdGate m →
    θ_run (Cert.FwdGate.defs (F := Bits)) (onTc (τ := Cert.FwdGate.τ) (Cert.FwdGate.main (F := Bits))) ⟨m, fun _ => 0, g⟩ (fun r => (∀ c : Dev Cert.FwdGate.nD,
      r.2.mem ((c.tc : Thread Cert.FwdGate.nD Cert.FwdGate.τ).loc Cert.FwdGate.main_arg0) = m ((c.tc : Thread Cert.FwdGate.nD Cert.FwdGate.τ).loc Cert.FwdGate.main_arg0)
      ∧ r.2.mem ((c.tc : Thread Cert.FwdGate.nD Cert.FwdGate.τ).loc Cert.FwdGate.main_arg1) = m ((c.tc : Thread Cert.FwdGate.nD Cert.FwdGate.τ).loc Cert.FwdGate.main_arg1))
      ∧ r.2.sem = fun _ => 0)

def quiescent_FwdGateIdeal [hFwdGateIdeal : Cert.FwdGateIdeal.Facts] : Prop :=
  ∀ (m : (ℓ : Loc Cert.FwdGateIdeal.nD Cert.FwdGateIdeal.τ Cert.FwdGateIdeal.sig) → Buf (Elt Ideal) ℓ) (g : Dev Cert.FwdGateIdeal.nD → PrngReg), Pre_FwdGateIdeal m →
    θ_run (Cert.FwdGateIdeal.defs (F := Ideal)) (onTc (τ := Cert.FwdGateIdeal.τ) (Cert.FwdGateIdeal.main (F := Ideal))) ⟨m, fun _ => 0, g⟩ (fun r => (∀ c : Dev Cert.FwdGateIdeal.nD,
      r.2.mem ((c.tc : Thread Cert.FwdGateIdeal.nD Cert.FwdGateIdeal.τ).loc Cert.FwdGateIdeal.main_arg0) = m ((c.tc : Thread Cert.FwdGateIdeal.nD Cert.FwdGateIdeal.τ).loc Cert.FwdGateIdeal.main_arg0)
      ∧ r.2.mem ((c.tc : Thread Cert.FwdGateIdeal.nD Cert.FwdGateIdeal.τ).loc Cert.FwdGateIdeal.main_arg1) = m ((c.tc : Thread Cert.FwdGateIdeal.nD Cert.FwdGateIdeal.τ).loc Cert.FwdGateIdeal.main_arg1))
      ∧ r.2.sem = fun _ => 0)

def quiescent_FwdGateReferenceIdeal [hFwdGateReferenceIdeal : Cert.FwdGateReferenceIdeal.Facts] : Prop :=
  ∀ (m : (ℓ : Loc Cert.FwdGateReferenceIdeal.nD Cert.FwdGateReferenceIdeal.τ Cert.FwdGateReferenceIdeal.sig) → Buf (Elt Ideal) ℓ) (g : Dev Cert.FwdGateReferenceIdeal.nD → PrngReg), Pre_FwdGateReferenceIdeal m →
    θ_run (Cert.FwdGateReferenceIdeal.defs (F := Ideal)) (onTc (τ := Cert.FwdGateReferenceIdeal.τ) (Cert.FwdGateReferenceIdeal.main (F := Ideal))) ⟨m, fun _ => 0, g⟩ (fun r => (∀ c : Dev Cert.FwdGateReferenceIdeal.nD,
      r.2.mem ((c.tc : Thread Cert.FwdGateReferenceIdeal.nD Cert.FwdGateReferenceIdeal.τ).loc Cert.FwdGateReferenceIdeal.main_arg0) = m ((c.tc : Thread Cert.FwdGateReferenceIdeal.nD Cert.FwdGateReferenceIdeal.τ).loc Cert.FwdGateReferenceIdeal.main_arg0)
      ∧ r.2.mem ((c.tc : Thread Cert.FwdGateReferenceIdeal.nD Cert.FwdGateReferenceIdeal.τ).loc Cert.FwdGateReferenceIdeal.main_arg1) = m ((c.tc : Thread Cert.FwdGateReferenceIdeal.nD Cert.FwdGateReferenceIdeal.τ).loc Cert.FwdGateReferenceIdeal.main_arg1))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1)
      ∧ r.2.mem ((c.tc : Thread Cert.FwdOut.nD Cert.FwdOut.τ).loc Cert.FwdOut.main_arg2) = m ((c.tc : Thread Cert.FwdOut.nD Cert.FwdOut.τ).loc Cert.FwdOut.main_arg2)
      ∧ r.2.mem ((c.tc : Thread Cert.FwdOut.nD Cert.FwdOut.τ).loc Cert.FwdOut.main_arg3) = m ((c.tc : Thread Cert.FwdOut.nD Cert.FwdOut.τ).loc Cert.FwdOut.main_arg3))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
      ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
      ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3))
      ∧ r.2.sem = fun _ => 0)

def quiescent_FwdOutReferenceIdeal [hFwdOutReferenceIdeal : Cert.FwdOutReferenceIdeal.Facts] : Prop :=
  ∀ (m : (ℓ : Loc Cert.FwdOutReferenceIdeal.nD Cert.FwdOutReferenceIdeal.τ Cert.FwdOutReferenceIdeal.sig) → Buf (Elt Ideal) ℓ) (g : Dev Cert.FwdOutReferenceIdeal.nD → PrngReg), Pre_FwdOutReferenceIdeal m →
    θ_run (Cert.FwdOutReferenceIdeal.defs (F := Ideal)) (onTc (τ := Cert.FwdOutReferenceIdeal.τ) (Cert.FwdOutReferenceIdeal.main (F := Ideal))) ⟨m, fun _ => 0, g⟩ (fun r => (∀ c : Dev Cert.FwdOutReferenceIdeal.nD,
      r.2.mem ((c.tc : Thread Cert.FwdOutReferenceIdeal.nD Cert.FwdOutReferenceIdeal.τ).loc Cert.FwdOutReferenceIdeal.main_arg0) = m ((c.tc : Thread Cert.FwdOutReferenceIdeal.nD Cert.FwdOutReferenceIdeal.τ).loc Cert.FwdOutReferenceIdeal.main_arg0)
      ∧ r.2.mem ((c.tc : Thread Cert.FwdOutReferenceIdeal.nD Cert.FwdOutReferenceIdeal.τ).loc Cert.FwdOutReferenceIdeal.main_arg1) = m ((c.tc : Thread Cert.FwdOutReferenceIdeal.nD Cert.FwdOutReferenceIdeal.τ).loc Cert.FwdOutReferenceIdeal.main_arg1)
      ∧ r.2.mem ((c.tc : Thread Cert.FwdOutReferenceIdeal.nD Cert.FwdOutReferenceIdeal.τ).loc Cert.FwdOutReferenceIdeal.main_arg2) = m ((c.tc : Thread Cert.FwdOutReferenceIdeal.nD Cert.FwdOutReferenceIdeal.τ).loc Cert.FwdOutReferenceIdeal.main_arg2)
      ∧ r.2.mem ((c.tc : Thread Cert.FwdOutReferenceIdeal.nD Cert.FwdOutReferenceIdeal.τ).loc Cert.FwdOutReferenceIdeal.main_arg3) = m ((c.tc : Thread Cert.FwdOutReferenceIdeal.nD Cert.FwdOutReferenceIdeal.τ).loc Cert.FwdOutReferenceIdeal.main_arg3))
      ∧ r.2.sem = fun _ => 0)

def quiescent_FwdDown [hFwdDown : Cert.FwdDown.Facts] : Prop :=
  ∀ (m : (ℓ : Loc Cert.FwdDown.nD Cert.FwdDown.τ Cert.FwdDown.sig) → Buf (Elt Bits) ℓ) (g : Dev Cert.FwdDown.nD → PrngReg), Pre_FwdDown m →
    θ_run (Cert.FwdDown.defs (F := Bits)) (onTc (τ := Cert.FwdDown.τ) (Cert.FwdDown.main (F := Bits))) ⟨m, fun _ => 0, g⟩ (fun r => (∀ c : Dev Cert.FwdDown.nD,
      r.2.mem ((c.tc : Thread Cert.FwdDown.nD Cert.FwdDown.τ).loc Cert.FwdDown.main_arg0) = m ((c.tc : Thread Cert.FwdDown.nD Cert.FwdDown.τ).loc Cert.FwdDown.main_arg0)
      ∧ r.2.mem ((c.tc : Thread Cert.FwdDown.nD Cert.FwdDown.τ).loc Cert.FwdDown.main_arg1) = m ((c.tc : Thread Cert.FwdDown.nD Cert.FwdDown.τ).loc Cert.FwdDown.main_arg1)
      ∧ r.2.mem ((c.tc : Thread Cert.FwdDown.nD Cert.FwdDown.τ).loc Cert.FwdDown.main_arg2) = m ((c.tc : Thread Cert.FwdDown.nD Cert.FwdDown.τ).loc Cert.FwdDown.main_arg2)
      ∧ r.2.mem ((c.tc : Thread Cert.FwdDown.nD Cert.FwdDown.τ).loc Cert.FwdDown.main_arg3) = m ((c.tc : Thread Cert.FwdDown.nD Cert.FwdDown.τ).loc Cert.FwdDown.main_arg3))
      ∧ r.2.sem = fun _ => 0)

def quiescent_FwdDownIdeal [hFwdDownIdeal : Cert.FwdDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg), Pre_FwdDownIdeal m →
    θ_run (Cert.FwdDownIdeal.defs (F := Ideal)) (onTc (τ := Cert.FwdDownIdeal.τ) (Cert.FwdDownIdeal.main (F := Ideal))) ⟨m, fun _ => 0, g⟩ (fun r => (∀ c : Dev Cert.FwdDownIdeal.nD,
      r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
      ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
      ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2)
      ∧ r.2.mem ((c.tc : Thread Cert.FwdDownIdeal.nD Cert.FwdDownIdeal.τ).loc Cert.FwdDownIdeal.main_arg3) = m ((c.tc : Thread Cert.FwdDownIdeal.nD Cert.FwdDownIdeal.τ).loc Cert.FwdDownIdeal.main_arg3))
      ∧ r.2.sem = fun _ => 0)

def quiescent_FwdDownReferenceIdeal [hFwdDownReferenceIdeal : Cert.FwdDownReferenceIdeal.Facts] : Prop :=
  ∀ (m : (ℓ : Loc Cert.FwdDownReferenceIdeal.nD Cert.FwdDownReferenceIdeal.τ Cert.FwdDownReferenceIdeal.sig) → Buf (Elt Ideal) ℓ) (g : Dev Cert.FwdDownReferenceIdeal.nD → PrngReg), Pre_FwdDownReferenceIdeal m →
    θ_run (Cert.FwdDownReferenceIdeal.defs (F := Ideal)) (onTc (τ := Cert.FwdDownReferenceIdeal.τ) (Cert.FwdDownReferenceIdeal.main (F := Ideal))) ⟨m, fun _ => 0, g⟩ (fun r => (∀ c : Dev Cert.FwdDownReferenceIdeal.nD,
      r.2.mem ((c.tc : Thread Cert.FwdDownReferenceIdeal.nD Cert.FwdDownReferenceIdeal.τ).loc Cert.FwdDownReferenceIdeal.main_arg0) = m ((c.tc : Thread Cert.FwdDownReferenceIdeal.nD Cert.FwdDownReferenceIdeal.τ).loc Cert.FwdDownReferenceIdeal.main_arg0)
      ∧ r.2.mem ((c.tc : Thread Cert.FwdDownReferenceIdeal.nD Cert.FwdDownReferenceIdeal.τ).loc Cert.FwdDownReferenceIdeal.main_arg1) = m ((c.tc : Thread Cert.FwdDownReferenceIdeal.nD Cert.FwdDownReferenceIdeal.τ).loc Cert.FwdDownReferenceIdeal.main_arg1)
      ∧ r.2.mem ((c.tc : Thread Cert.FwdDownReferenceIdeal.nD Cert.FwdDownReferenceIdeal.τ).loc Cert.FwdDownReferenceIdeal.main_arg2) = m ((c.tc : Thread Cert.FwdDownReferenceIdeal.nD Cert.FwdDownReferenceIdeal.τ).loc Cert.FwdDownReferenceIdeal.main_arg2)
      ∧ r.2.mem ((c.tc : Thread Cert.FwdDownReferenceIdeal.nD Cert.FwdDownReferenceIdeal.τ).loc Cert.FwdDownReferenceIdeal.main_arg3) = m ((c.tc : Thread Cert.FwdDownReferenceIdeal.nD Cert.FwdDownReferenceIdeal.τ).loc Cert.FwdDownReferenceIdeal.main_arg3))
      ∧ r.2.sem = fun _ => 0)

def quiescent_BwdPle [hBwdPle : Cert.BwdPle.Facts] : Prop :=
  ∀ (m : (ℓ : Loc Cert.BwdPle.nD Cert.BwdPle.τ Cert.BwdPle.sig) → Buf (Elt Bits) ℓ) (g : Dev Cert.BwdPle.nD → PrngReg), Pre_BwdPle m →
    θ_run (Cert.BwdPle.defs (F := Bits)) (onTc (τ := Cert.BwdPle.τ) (Cert.BwdPle.main (F := Bits))) ⟨m, fun _ => 0, g⟩ (fun r => (∀ c : Dev Cert.BwdPle.nD,
      r.2.mem ((c.tc : Thread Cert.BwdPle.nD Cert.BwdPle.τ).loc Cert.BwdPle.main_arg0) = m ((c.tc : Thread Cert.BwdPle.nD Cert.BwdPle.τ).loc Cert.BwdPle.main_arg0)
      ∧ r.2.mem ((c.tc : Thread Cert.BwdPle.nD Cert.BwdPle.τ).loc Cert.BwdPle.main_arg1) = m ((c.tc : Thread Cert.BwdPle.nD Cert.BwdPle.τ).loc Cert.BwdPle.main_arg1)
      ∧ r.2.mem ((c.tc : Thread Cert.BwdPle.nD Cert.BwdPle.τ).loc Cert.BwdPle.main_arg2) = m ((c.tc : Thread Cert.BwdPle.nD Cert.BwdPle.τ).loc Cert.BwdPle.main_arg2)
      ∧ r.2.mem ((c.tc : Thread Cert.BwdPle.nD Cert.BwdPle.τ).loc Cert.BwdPle.main_arg3) = m ((c.tc : Thread Cert.BwdPle.nD Cert.BwdPle.τ).loc Cert.BwdPle.main_arg3))
      ∧ r.2.sem = fun _ => 0)

def quiescent_BwdPleIdeal [hBwdPleIdeal : Cert.BwdPleIdeal.Facts] : Prop :=
  ∀ (m : (ℓ : Loc Cert.BwdPleIdeal.nD Cert.BwdPleIdeal.τ Cert.BwdPleIdeal.sig) → Buf (Elt Ideal) ℓ) (g : Dev Cert.BwdPleIdeal.nD → PrngReg), Pre_BwdPleIdeal m →
    θ_run (Cert.BwdPleIdeal.defs (F := Ideal)) (onTc (τ := Cert.BwdPleIdeal.τ) (Cert.BwdPleIdeal.main (F := Ideal))) ⟨m, fun _ => 0, g⟩ (fun r => (∀ c : Dev Cert.BwdPleIdeal.nD,
      r.2.mem ((c.tc : Thread Cert.BwdPleIdeal.nD Cert.BwdPleIdeal.τ).loc Cert.BwdPleIdeal.main_arg0) = m ((c.tc : Thread Cert.BwdPleIdeal.nD Cert.BwdPleIdeal.τ).loc Cert.BwdPleIdeal.main_arg0)
      ∧ r.2.mem ((c.tc : Thread Cert.BwdPleIdeal.nD Cert.BwdPleIdeal.τ).loc Cert.BwdPleIdeal.main_arg1) = m ((c.tc : Thread Cert.BwdPleIdeal.nD Cert.BwdPleIdeal.τ).loc Cert.BwdPleIdeal.main_arg1)
      ∧ r.2.mem ((c.tc : Thread Cert.BwdPleIdeal.nD Cert.BwdPleIdeal.τ).loc Cert.BwdPleIdeal.main_arg2) = m ((c.tc : Thread Cert.BwdPleIdeal.nD Cert.BwdPleIdeal.τ).loc Cert.BwdPleIdeal.main_arg2)
      ∧ r.2.mem ((c.tc : Thread Cert.BwdPleIdeal.nD Cert.BwdPleIdeal.τ).loc Cert.BwdPleIdeal.main_arg3) = m ((c.tc : Thread Cert.BwdPleIdeal.nD Cert.BwdPleIdeal.τ).loc Cert.BwdPleIdeal.main_arg3))
      ∧ r.2.sem = fun _ => 0)

def quiescent_BwdPleReferenceIdeal [hBwdPleReferenceIdeal : Cert.BwdPleReferenceIdeal.Facts] : Prop :=
  ∀ (m : (ℓ : Loc Cert.BwdPleReferenceIdeal.nD Cert.BwdPleReferenceIdeal.τ Cert.BwdPleReferenceIdeal.sig) → Buf (Elt Ideal) ℓ) (g : Dev Cert.BwdPleReferenceIdeal.nD → PrngReg), Pre_BwdPleReferenceIdeal m →
    θ_run (Cert.BwdPleReferenceIdeal.defs (F := Ideal)) (onTc (τ := Cert.BwdPleReferenceIdeal.τ) (Cert.BwdPleReferenceIdeal.main (F := Ideal))) ⟨m, fun _ => 0, g⟩ (fun r => (∀ c : Dev Cert.BwdPleReferenceIdeal.nD,
      r.2.mem ((c.tc : Thread Cert.BwdPleReferenceIdeal.nD Cert.BwdPleReferenceIdeal.τ).loc Cert.BwdPleReferenceIdeal.main_arg0) = m ((c.tc : Thread Cert.BwdPleReferenceIdeal.nD Cert.BwdPleReferenceIdeal.τ).loc Cert.BwdPleReferenceIdeal.main_arg0)
      ∧ r.2.mem ((c.tc : Thread Cert.BwdPleReferenceIdeal.nD Cert.BwdPleReferenceIdeal.τ).loc Cert.BwdPleReferenceIdeal.main_arg1) = m ((c.tc : Thread Cert.BwdPleReferenceIdeal.nD Cert.BwdPleReferenceIdeal.τ).loc Cert.BwdPleReferenceIdeal.main_arg1)
      ∧ r.2.mem ((c.tc : Thread Cert.BwdPleReferenceIdeal.nD Cert.BwdPleReferenceIdeal.τ).loc Cert.BwdPleReferenceIdeal.main_arg2) = m ((c.tc : Thread Cert.BwdPleReferenceIdeal.nD Cert.BwdPleReferenceIdeal.τ).loc Cert.BwdPleReferenceIdeal.main_arg2)
      ∧ r.2.mem ((c.tc : Thread Cert.BwdPleReferenceIdeal.nD Cert.BwdPleReferenceIdeal.τ).loc Cert.BwdPleReferenceIdeal.main_arg3) = m ((c.tc : Thread Cert.BwdPleReferenceIdeal.nD Cert.BwdPleReferenceIdeal.τ).loc Cert.BwdPleReferenceIdeal.main_arg3))
      ∧ r.2.sem = fun _ => 0)

def quiescent_FwdPle [hFwdPle : Cert.FwdPle.Facts] : Prop :=
  ∀ (m : (ℓ : Loc Cert.FwdPle.nD Cert.FwdPle.τ Cert.FwdPle.sig) → Buf (Elt Bits) ℓ) (g : Dev Cert.FwdPle.nD → PrngReg), Pre_FwdPle m →
    θ_run (Cert.FwdPle.defs (F := Bits)) (onTc (τ := Cert.FwdPle.τ) (Cert.FwdPle.main (F := Bits))) ⟨m, fun _ => 0, g⟩ (fun r => (∀ c : Dev Cert.FwdPle.nD,
      r.2.mem ((c.tc : Thread Cert.FwdPle.nD Cert.FwdPle.τ).loc Cert.FwdPle.main_arg0) = m ((c.tc : Thread Cert.FwdPle.nD Cert.FwdPle.τ).loc Cert.FwdPle.main_arg0)
      ∧ r.2.mem ((c.tc : Thread Cert.FwdPle.nD Cert.FwdPle.τ).loc Cert.FwdPle.main_arg1) = m ((c.tc : Thread Cert.FwdPle.nD Cert.FwdPle.τ).loc Cert.FwdPle.main_arg1)
      ∧ r.2.mem ((c.tc : Thread Cert.FwdPle.nD Cert.FwdPle.τ).loc Cert.FwdPle.main_arg2) = m ((c.tc : Thread Cert.FwdPle.nD Cert.FwdPle.τ).loc Cert.FwdPle.main_arg2)
      ∧ r.2.mem ((c.tc : Thread Cert.FwdPle.nD Cert.FwdPle.τ).loc Cert.FwdPle.main_arg3) = m ((c.tc : Thread Cert.FwdPle.nD Cert.FwdPle.τ).loc Cert.FwdPle.main_arg3)
      ∧ r.2.mem ((c.tc : Thread Cert.FwdPle.nD Cert.FwdPle.τ).loc Cert.FwdPle.main_arg4) = m ((c.tc : Thread Cert.FwdPle.nD Cert.FwdPle.τ).loc Cert.FwdPle.main_arg4))
      ∧ r.2.sem = fun _ => 0)

def quiescent_FwdPleIdeal [hFwdPleIdeal : Cert.FwdPleIdeal.Facts] : Prop :=
  ∀ (m : (ℓ : Loc Cert.FwdPleIdeal.nD Cert.FwdPleIdeal.τ Cert.FwdPleIdeal.sig) → Buf (Elt Ideal) ℓ) (g : Dev Cert.FwdPleIdeal.nD → PrngReg), Pre_FwdPleIdeal m →
    θ_run (Cert.FwdPleIdeal.defs (F := Ideal)) (onTc (τ := Cert.FwdPleIdeal.τ) (Cert.FwdPleIdeal.main (F := Ideal))) ⟨m, fun _ => 0, g⟩ (fun r => (∀ c : Dev Cert.FwdPleIdeal.nD,
      r.2.mem ((c.tc : Thread Cert.FwdPleIdeal.nD Cert.FwdPleIdeal.τ).loc Cert.FwdPleIdeal.main_arg0) = m ((c.tc : Thread Cert.FwdPleIdeal.nD Cert.FwdPleIdeal.τ).loc Cert.FwdPleIdeal.main_arg0)
      ∧ r.2.mem ((c.tc : Thread Cert.FwdPleIdeal.nD Cert.FwdPleIdeal.τ).loc Cert.FwdPleIdeal.main_arg1) = m ((c.tc : Thread Cert.FwdPleIdeal.nD Cert.FwdPleIdeal.τ).loc Cert.FwdPleIdeal.main_arg1)
      ∧ r.2.mem ((c.tc : Thread Cert.FwdPleIdeal.nD Cert.FwdPleIdeal.τ).loc Cert.FwdPleIdeal.main_arg2) = m ((c.tc : Thread Cert.FwdPleIdeal.nD Cert.FwdPleIdeal.τ).loc Cert.FwdPleIdeal.main_arg2)
      ∧ r.2.mem ((c.tc : Thread Cert.FwdPleIdeal.nD Cert.FwdPleIdeal.τ).loc Cert.FwdPleIdeal.main_arg3) = m ((c.tc : Thread Cert.FwdPleIdeal.nD Cert.FwdPleIdeal.τ).loc Cert.FwdPleIdeal.main_arg3)
      ∧ r.2.mem ((c.tc : Thread Cert.FwdPleIdeal.nD Cert.FwdPleIdeal.τ).loc Cert.FwdPleIdeal.main_arg4) = m ((c.tc : Thread Cert.FwdPleIdeal.nD Cert.FwdPleIdeal.τ).loc Cert.FwdPleIdeal.main_arg4))
      ∧ r.2.sem = fun _ => 0)

def quiescent_FwdPleReferenceIdeal [hFwdPleReferenceIdeal : Cert.FwdPleReferenceIdeal.Facts] : Prop :=
  ∀ (m : (ℓ : Loc Cert.FwdPleReferenceIdeal.nD Cert.FwdPleReferenceIdeal.τ Cert.FwdPleReferenceIdeal.sig) → Buf (Elt Ideal) ℓ) (g : Dev Cert.FwdPleReferenceIdeal.nD → PrngReg), Pre_FwdPleReferenceIdeal m →
    θ_run (Cert.FwdPleReferenceIdeal.defs (F := Ideal)) (onTc (τ := Cert.FwdPleReferenceIdeal.τ) (Cert.FwdPleReferenceIdeal.main (F := Ideal))) ⟨m, fun _ => 0, g⟩ (fun r => (∀ c : Dev Cert.FwdPleReferenceIdeal.nD,
      r.2.mem ((c.tc : Thread Cert.FwdPleReferenceIdeal.nD Cert.FwdPleReferenceIdeal.τ).loc Cert.FwdPleReferenceIdeal.main_arg0) = m ((c.tc : Thread Cert.FwdPleReferenceIdeal.nD Cert.FwdPleReferenceIdeal.τ).loc Cert.FwdPleReferenceIdeal.main_arg0)
      ∧ r.2.mem ((c.tc : Thread Cert.FwdPleReferenceIdeal.nD Cert.FwdPleReferenceIdeal.τ).loc Cert.FwdPleReferenceIdeal.main_arg1) = m ((c.tc : Thread Cert.FwdPleReferenceIdeal.nD Cert.FwdPleReferenceIdeal.τ).loc Cert.FwdPleReferenceIdeal.main_arg1)
      ∧ r.2.mem ((c.tc : Thread Cert.FwdPleReferenceIdeal.nD Cert.FwdPleReferenceIdeal.τ).loc Cert.FwdPleReferenceIdeal.main_arg2) = m ((c.tc : Thread Cert.FwdPleReferenceIdeal.nD Cert.FwdPleReferenceIdeal.τ).loc Cert.FwdPleReferenceIdeal.main_arg2)
      ∧ r.2.mem ((c.tc : Thread Cert.FwdPleReferenceIdeal.nD Cert.FwdPleReferenceIdeal.τ).loc Cert.FwdPleReferenceIdeal.main_arg3) = m ((c.tc : Thread Cert.FwdPleReferenceIdeal.nD Cert.FwdPleReferenceIdeal.τ).loc Cert.FwdPleReferenceIdeal.main_arg3)
      ∧ r.2.mem ((c.tc : Thread Cert.FwdPleReferenceIdeal.nD Cert.FwdPleReferenceIdeal.τ).loc Cert.FwdPleReferenceIdeal.main_arg4) = m ((c.tc : Thread Cert.FwdPleReferenceIdeal.nD Cert.FwdPleReferenceIdeal.τ).loc Cert.FwdPleReferenceIdeal.main_arg4))
      ∧ r.2.sem = fun _ => 0)

def quiescent_FwdNorm [hFwdNorm : Cert.FwdNorm.Facts] : Prop :=
  ∀ (m : (ℓ : Loc Cert.FwdNorm.nD Cert.FwdNorm.τ Cert.FwdNorm.sig) → Buf (Elt Bits) ℓ) (g : Dev Cert.FwdNorm.nD → PrngReg), Pre_FwdNorm m →
    θ_run (Cert.FwdNorm.defs (F := Bits)) (onTc (τ := Cert.FwdNorm.τ) (Cert.FwdNorm.main (F := Bits))) ⟨m, fun _ => 0, g⟩ (fun r => (∀ c : Dev Cert.FwdNorm.nD,
      r.2.mem ((c.tc : Thread Cert.FwdNorm.nD Cert.FwdNorm.τ).loc Cert.FwdNorm.main_arg0) = m ((c.tc : Thread Cert.FwdNorm.nD Cert.FwdNorm.τ).loc Cert.FwdNorm.main_arg0)
      ∧ r.2.mem ((c.tc : Thread Cert.FwdNorm.nD Cert.FwdNorm.τ).loc Cert.FwdNorm.main_arg1) = m ((c.tc : Thread Cert.FwdNorm.nD Cert.FwdNorm.τ).loc Cert.FwdNorm.main_arg1))
      ∧ r.2.sem = fun _ => 0)

def quiescent_FwdNormIdeal [hFwdNormIdeal : Cert.FwdNormIdeal.Facts] : Prop :=
  ∀ (m : (ℓ : Loc Cert.FwdNormIdeal.nD Cert.FwdNormIdeal.τ Cert.FwdNormIdeal.sig) → Buf (Elt Ideal) ℓ) (g : Dev Cert.FwdNormIdeal.nD → PrngReg), Pre_FwdNormIdeal m →
    θ_run (Cert.FwdNormIdeal.defs (F := Ideal)) (onTc (τ := Cert.FwdNormIdeal.τ) (Cert.FwdNormIdeal.main (F := Ideal))) ⟨m, fun _ => 0, g⟩ (fun r => (∀ c : Dev Cert.FwdNormIdeal.nD,
      r.2.mem ((c.tc : Thread Cert.FwdNormIdeal.nD Cert.FwdNormIdeal.τ).loc Cert.FwdNormIdeal.main_arg0) = m ((c.tc : Thread Cert.FwdNormIdeal.nD Cert.FwdNormIdeal.τ).loc Cert.FwdNormIdeal.main_arg0)
      ∧ r.2.mem ((c.tc : Thread Cert.FwdNormIdeal.nD Cert.FwdNormIdeal.τ).loc Cert.FwdNormIdeal.main_arg1) = m ((c.tc : Thread Cert.FwdNormIdeal.nD Cert.FwdNormIdeal.τ).loc Cert.FwdNormIdeal.main_arg1))
      ∧ r.2.sem = fun _ => 0)

def quiescent_FwdNormReferenceIdeal [hFwdNormReferenceIdeal : Cert.FwdNormReferenceIdeal.Facts] : Prop :=
  ∀ (m : (ℓ : Loc Cert.FwdNormReferenceIdeal.nD Cert.FwdNormReferenceIdeal.τ Cert.FwdNormReferenceIdeal.sig) → Buf (Elt Ideal) ℓ) (g : Dev Cert.FwdNormReferenceIdeal.nD → PrngReg), Pre_FwdNormReferenceIdeal m →
    θ_run (Cert.FwdNormReferenceIdeal.defs (F := Ideal)) (onTc (τ := Cert.FwdNormReferenceIdeal.τ) (Cert.FwdNormReferenceIdeal.main (F := Ideal))) ⟨m, fun _ => 0, g⟩ (fun r => (∀ c : Dev Cert.FwdNormReferenceIdeal.nD,
      r.2.mem ((c.tc : Thread Cert.FwdNormReferenceIdeal.nD Cert.FwdNormReferenceIdeal.τ).loc Cert.FwdNormReferenceIdeal.main_arg0) = m ((c.tc : Thread Cert.FwdNormReferenceIdeal.nD Cert.FwdNormReferenceIdeal.τ).loc Cert.FwdNormReferenceIdeal.main_arg0)
      ∧ r.2.mem ((c.tc : Thread Cert.FwdNormReferenceIdeal.nD Cert.FwdNormReferenceIdeal.τ).loc Cert.FwdNormReferenceIdeal.main_arg1) = m ((c.tc : Thread Cert.FwdNormReferenceIdeal.nD Cert.FwdNormReferenceIdeal.τ).loc Cert.FwdNormReferenceIdeal.main_arg1))
      ∧ r.2.sem = fun _ => 0)

def quiescent_FwdSwa [hFwdSwa : Cert.FwdSwa.Facts] : Prop :=
  ∀ (m : (ℓ : Loc Cert.FwdSwa.nD Cert.FwdSwa.τ Cert.FwdSwa.sig) → Buf (Elt Bits) ℓ) (g : Dev Cert.FwdSwa.nD → PrngReg), Pre_FwdSwa m →
    θ_run (Cert.FwdSwa.defs (F := Bits)) (onTc (τ := Cert.FwdSwa.τ) (Cert.FwdSwa.main (F := Bits))) ⟨m, fun _ => 0, g⟩ (fun r => (∀ c : Dev Cert.FwdSwa.nD,
      r.2.mem ((c.tc : Thread Cert.FwdSwa.nD Cert.FwdSwa.τ).loc Cert.FwdSwa.main_arg0) = m ((c.tc : Thread Cert.FwdSwa.nD Cert.FwdSwa.τ).loc Cert.FwdSwa.main_arg0)
      ∧ r.2.mem ((c.tc : Thread Cert.FwdSwa.nD Cert.FwdSwa.τ).loc Cert.FwdSwa.main_arg1) = m ((c.tc : Thread Cert.FwdSwa.nD Cert.FwdSwa.τ).loc Cert.FwdSwa.main_arg1)
      ∧ r.2.mem ((c.tc : Thread Cert.FwdSwa.nD Cert.FwdSwa.τ).loc Cert.FwdSwa.main_arg2) = m ((c.tc : Thread Cert.FwdSwa.nD Cert.FwdSwa.τ).loc Cert.FwdSwa.main_arg2))
      ∧ r.2.sem = fun _ => 0)

def quiescent_FwdSwaIdeal [hFwdSwaIdeal : Cert.FwdSwaIdeal.Facts] : Prop :=
  ∀ (m : (ℓ : Loc Cert.FwdSwaIdeal.nD Cert.FwdSwaIdeal.τ Cert.FwdSwaIdeal.sig) → Buf (Elt Ideal) ℓ) (g : Dev Cert.FwdSwaIdeal.nD → PrngReg), Pre_FwdSwaIdeal m →
    θ_run (Cert.FwdSwaIdeal.defs (F := Ideal)) (onTc (τ := Cert.FwdSwaIdeal.τ) (Cert.FwdSwaIdeal.main (F := Ideal))) ⟨m, fun _ => 0, g⟩ (fun r => (∀ c : Dev Cert.FwdSwaIdeal.nD,
      r.2.mem ((c.tc : Thread Cert.FwdSwaIdeal.nD Cert.FwdSwaIdeal.τ).loc Cert.FwdSwaIdeal.main_arg0) = m ((c.tc : Thread Cert.FwdSwaIdeal.nD Cert.FwdSwaIdeal.τ).loc Cert.FwdSwaIdeal.main_arg0)
      ∧ r.2.mem ((c.tc : Thread Cert.FwdSwaIdeal.nD Cert.FwdSwaIdeal.τ).loc Cert.FwdSwaIdeal.main_arg1) = m ((c.tc : Thread Cert.FwdSwaIdeal.nD Cert.FwdSwaIdeal.τ).loc Cert.FwdSwaIdeal.main_arg1)
      ∧ r.2.mem ((c.tc : Thread Cert.FwdSwaIdeal.nD Cert.FwdSwaIdeal.τ).loc Cert.FwdSwaIdeal.main_arg2) = m ((c.tc : Thread Cert.FwdSwaIdeal.nD Cert.FwdSwaIdeal.τ).loc Cert.FwdSwaIdeal.main_arg2))
      ∧ r.2.sem = fun _ => 0)

def quiescent_FwdSwaIdeal_pre_finite_scores [hFwdSwaIdeal : Cert.FwdSwaIdeal.Facts] [hPre_finite_scores : Cert.Pre_finite_scores.Facts] : Prop :=
  ∀ (m : (ℓ : Loc Cert.FwdSwaIdeal.nD Cert.FwdSwaIdeal.τ Cert.FwdSwaIdeal.sig) → Buf (Elt Ideal) ℓ) (g : Dev Cert.FwdSwaIdeal.nD → PrngReg), Pre_FwdSwaIdeal_finite_scores m →
    θ_run (Cert.FwdSwaIdeal.defs (F := Ideal)) (onTc (τ := Cert.FwdSwaIdeal.τ) (Cert.FwdSwaIdeal.main (F := Ideal))) ⟨m, fun _ => 0, g⟩ (fun r => (∀ c : Dev Cert.FwdSwaIdeal.nD,
      r.2.mem ((c.tc : Thread Cert.FwdSwaIdeal.nD Cert.FwdSwaIdeal.τ).loc Cert.FwdSwaIdeal.main_arg0) = m ((c.tc : Thread Cert.FwdSwaIdeal.nD Cert.FwdSwaIdeal.τ).loc Cert.FwdSwaIdeal.main_arg0)
      ∧ r.2.mem ((c.tc : Thread Cert.FwdSwaIdeal.nD Cert.FwdSwaIdeal.τ).loc Cert.FwdSwaIdeal.main_arg1) = m ((c.tc : Thread Cert.FwdSwaIdeal.nD Cert.FwdSwaIdeal.τ).loc Cert.FwdSwaIdeal.main_arg1)
      ∧ r.2.mem ((c.tc : Thread Cert.FwdSwaIdeal.nD Cert.FwdSwaIdeal.τ).loc Cert.FwdSwaIdeal.main_arg2) = m ((c.tc : Thread Cert.FwdSwaIdeal.nD Cert.FwdSwaIdeal.τ).loc Cert.FwdSwaIdeal.main_arg2))
      ∧ r.2.sem = fun _ => 0)

def quiescent_FwdSwaReferenceIdeal [hFwdSwaReferenceIdeal : Cert.FwdSwaReferenceIdeal.Facts] : Prop :=
  ∀ (m : (ℓ : Loc Cert.FwdSwaReferenceIdeal.nD Cert.FwdSwaReferenceIdeal.τ Cert.FwdSwaReferenceIdeal.sig) → Buf (Elt Ideal) ℓ) (g : Dev Cert.FwdSwaReferenceIdeal.nD → PrngReg), Pre_FwdSwaReferenceIdeal m →
    θ_run (Cert.FwdSwaReferenceIdeal.defs (F := Ideal)) (onTc (τ := Cert.FwdSwaReferenceIdeal.τ) (Cert.FwdSwaReferenceIdeal.main (F := Ideal))) ⟨m, fun _ => 0, g⟩ (fun r => (∀ c : Dev Cert.FwdSwaReferenceIdeal.nD,
      r.2.mem ((c.tc : Thread Cert.FwdSwaReferenceIdeal.nD Cert.FwdSwaReferenceIdeal.τ).loc Cert.FwdSwaReferenceIdeal.main_arg0) = m ((c.tc : Thread Cert.FwdSwaReferenceIdeal.nD Cert.FwdSwaReferenceIdeal.τ).loc Cert.FwdSwaReferenceIdeal.main_arg0)
      ∧ r.2.mem ((c.tc : Thread Cert.FwdSwaReferenceIdeal.nD Cert.FwdSwaReferenceIdeal.τ).loc Cert.FwdSwaReferenceIdeal.main_arg1) = m ((c.tc : Thread Cert.FwdSwaReferenceIdeal.nD Cert.FwdSwaReferenceIdeal.τ).loc Cert.FwdSwaReferenceIdeal.main_arg1)
      ∧ r.2.mem ((c.tc : Thread Cert.FwdSwaReferenceIdeal.nD Cert.FwdSwaReferenceIdeal.τ).loc Cert.FwdSwaReferenceIdeal.main_arg2) = m ((c.tc : Thread Cert.FwdSwaReferenceIdeal.nD Cert.FwdSwaReferenceIdeal.τ).loc Cert.FwdSwaReferenceIdeal.main_arg2))
      ∧ r.2.sem = fun _ => 0)

def quiescent_FwdSwaReferenceIdeal_pre_finite_scores [hFwdSwaReferenceIdeal : Cert.FwdSwaReferenceIdeal.Facts] [hPre_finite_scores : Cert.Pre_finite_scores.Facts] : Prop :=
  ∀ (m : (ℓ : Loc Cert.FwdSwaReferenceIdeal.nD Cert.FwdSwaReferenceIdeal.τ Cert.FwdSwaReferenceIdeal.sig) → Buf (Elt Ideal) ℓ) (g : Dev Cert.FwdSwaReferenceIdeal.nD → PrngReg), Pre_FwdSwaReferenceIdeal_finite_scores m →
    θ_run (Cert.FwdSwaReferenceIdeal.defs (F := Ideal)) (onTc (τ := Cert.FwdSwaReferenceIdeal.τ) (Cert.FwdSwaReferenceIdeal.main (F := Ideal))) ⟨m, fun _ => 0, g⟩ (fun r => (∀ c : Dev Cert.FwdSwaReferenceIdeal.nD,
      r.2.mem ((c.tc : Thread Cert.FwdSwaReferenceIdeal.nD Cert.FwdSwaReferenceIdeal.τ).loc Cert.FwdSwaReferenceIdeal.main_arg0) = m ((c.tc : Thread Cert.FwdSwaReferenceIdeal.nD Cert.FwdSwaReferenceIdeal.τ).loc Cert.FwdSwaReferenceIdeal.main_arg0)
      ∧ r.2.mem ((c.tc : Thread Cert.FwdSwaReferenceIdeal.nD Cert.FwdSwaReferenceIdeal.τ).loc Cert.FwdSwaReferenceIdeal.main_arg1) = m ((c.tc : Thread Cert.FwdSwaReferenceIdeal.nD Cert.FwdSwaReferenceIdeal.τ).loc Cert.FwdSwaReferenceIdeal.main_arg1)
      ∧ r.2.mem ((c.tc : Thread Cert.FwdSwaReferenceIdeal.nD Cert.FwdSwaReferenceIdeal.τ).loc Cert.FwdSwaReferenceIdeal.main_arg2) = m ((c.tc : Thread Cert.FwdSwaReferenceIdeal.nD Cert.FwdSwaReferenceIdeal.τ).loc Cert.FwdSwaReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)) (v5 : (c : Dev Cert.KernelIdeal.nD) → Buf (Elt Ideal) ((c.tc : Thread Cert.KernelIdeal.nD Cert.KernelIdeal.τ).loc Cert.KernelIdeal.main_v27_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_v27_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v156) = v3 c
          ∧ r.2.mem ((c.tc : Thread Cert.ReferenceIdeal.nD Cert.ReferenceIdeal.τ).loc Cert.ReferenceIdeal.main_v158) = v4 c
          ∧ r.2.mem ((c.tc : Thread Cert.ReferenceIdeal.nD Cert.ReferenceIdeal.τ).loc Cert.ReferenceIdeal.main_v166) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v6) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v6) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v6) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwPu_DwPuIdeal : Prop :=
  True

def algebraic_DwPuIdeal_DwPuReferenceIdeal [hDwPuIdeal : Cert.DwPuIdeal.Facts] [hDwPuReferenceIdeal : Cert.DwPuReferenceIdeal.Facts] : Prop :=
  ∀ (m : (ℓ : Loc Cert.DwPuIdeal.nD Cert.DwPuIdeal.τ Cert.DwPuIdeal.sig) → Buf (Elt Ideal) ℓ) (g : Dev Cert.DwPuIdeal.nD → PrngReg)
    (m' : (ℓ : Loc Cert.DwPuReferenceIdeal.nD Cert.DwPuReferenceIdeal.τ Cert.DwPuReferenceIdeal.sig) → Buf (Elt Ideal) ℓ) (g' : Dev Cert.DwPuReferenceIdeal.nD → PrngReg), Pre_DwPuIdeal m →
    (∀ c : Dev Cert.DwPuIdeal.nD,
      m' ((c.tc : Thread Cert.DwPuReferenceIdeal.nD Cert.DwPuReferenceIdeal.τ).loc Cert.DwPuReferenceIdeal.main_arg0) = m ((c.tc : Thread Cert.DwPuIdeal.nD Cert.DwPuIdeal.τ).loc Cert.DwPuIdeal.main_arg0)
      ∧ m' ((c.tc : Thread Cert.DwPuReferenceIdeal.nD Cert.DwPuReferenceIdeal.τ).loc Cert.DwPuReferenceIdeal.main_arg1) = m ((c.tc : Thread Cert.DwPuIdeal.nD Cert.DwPuIdeal.τ).loc Cert.DwPuIdeal.main_arg1)) →
    ∃ (v0 : (c : Dev Cert.DwPuIdeal.nD) → Buf (Elt Ideal) ((c.tc : Thread Cert.DwPuIdeal.nD Cert.DwPuIdeal.τ).loc Cert.DwPuIdeal.main_v0)),
      θ_run (Cert.DwPuIdeal.defs (F := Ideal)) (onTc (τ := Cert.DwPuIdeal.τ) (Cert.DwPuIdeal.main (F := Ideal))) ⟨m, fun _ => 0, g⟩ (fun r => ∀ c : Dev Cert.DwPuIdeal.nD,
          r.2.mem ((c.tc : Thread Cert.DwPuIdeal.nD Cert.DwPuIdeal.τ).loc Cert.DwPuIdeal.main_v0) = v0 c
          ∧ r.2.mem ((c.tc : Thread Cert.DwPuIdeal.nD Cert.DwPuIdeal.τ).loc Cert.DwPuIdeal.main_arg0) = m ((c.tc : Thread Cert.DwPuIdeal.nD Cert.DwPuIdeal.τ).loc Cert.DwPuIdeal.main_arg0)
          ∧ r.2.mem ((c.tc : Thread Cert.DwPuIdeal.nD Cert.DwPuIdeal.τ).loc Cert.DwPuIdeal.main_arg1) = m ((c.tc : Thread Cert.DwPuIdeal.nD Cert.DwPuIdeal.τ).loc Cert.DwPuIdeal.main_arg1))
      ∧ θ_run (Cert.DwPuReferenceIdeal.defs (F := Ideal)) (onTc (τ := Cert.DwPuReferenceIdeal.τ) (Cert.DwPuReferenceIdeal.main (F := Ideal))) ⟨m', fun _ => 0, g'⟩ (fun r => ∀ c : Dev Cert.DwPuReferenceIdeal.nD,
          r.2.mem ((c.tc : Thread Cert.DwPuReferenceIdeal.nD Cert.DwPuReferenceIdeal.τ).loc Cert.DwPuReferenceIdeal.main_v5) = v0 c
          ∧ r.2.mem ((c.tc : Thread Cert.DwPuReferenceIdeal.nD Cert.DwPuReferenceIdeal.τ).loc Cert.DwPuReferenceIdeal.main_arg0) = m' ((c.tc : Thread Cert.DwPuReferenceIdeal.nD Cert.DwPuReferenceIdeal.τ).loc Cert.DwPuReferenceIdeal.main_arg0)
          ∧ r.2.mem ((c.tc : Thread Cert.DwPuReferenceIdeal.nD Cert.DwPuReferenceIdeal.τ).loc Cert.DwPuReferenceIdeal.main_arg1) = m' ((c.tc : Thread Cert.DwPuReferenceIdeal.nD Cert.DwPuReferenceIdeal.τ).loc Cert.DwPuReferenceIdeal.main_arg1))

def preserves_DxDown_DxDownIdeal : Prop :=
  True

def algebraic_DxDownIdeal_DxDownReferenceIdeal [hDxDownIdeal : Cert.DxDownIdeal.Facts] [hDxDownReferenceIdeal : Cert.DxDownReferenceIdeal.Facts] : Prop :=
  ∀ (m : (ℓ : Loc Cert.DxDownIdeal.nD Cert.DxDownIdeal.τ Cert.DxDownIdeal.sig) → Buf (Elt Ideal) ℓ) (g : Dev Cert.DxDownIdeal.nD → PrngReg)
    (m' : (ℓ : Loc Cert.DxDownReferenceIdeal.nD Cert.DxDownReferenceIdeal.τ Cert.DxDownReferenceIdeal.sig) → Buf (Elt Ideal) ℓ) (g' : Dev Cert.DxDownReferenceIdeal.nD → PrngReg), Pre_DxDownIdeal m →
    (∀ c : Dev Cert.DxDownIdeal.nD,
      m' ((c.tc : Thread Cert.DxDownReferenceIdeal.nD Cert.DxDownReferenceIdeal.τ).loc Cert.DxDownReferenceIdeal.main_arg0) = m ((c.tc : Thread Cert.DxDownIdeal.nD Cert.DxDownIdeal.τ).loc Cert.DxDownIdeal.main_arg0)
      ∧ m' ((c.tc : Thread Cert.DxDownReferenceIdeal.nD Cert.DxDownReferenceIdeal.τ).loc Cert.DxDownReferenceIdeal.main_arg1) = m ((c.tc : Thread Cert.DxDownIdeal.nD Cert.DxDownIdeal.τ).loc Cert.DxDownIdeal.main_arg1)) →
    ∃ (v0 : (c : Dev Cert.DxDownIdeal.nD) → Buf (Elt Ideal) ((c.tc : Thread Cert.DxDownIdeal.nD Cert.DxDownIdeal.τ).loc Cert.DxDownIdeal.main_v0)),
      θ_run (Cert.DxDownIdeal.defs (F := Ideal)) (onTc (τ := Cert.DxDownIdeal.τ) (Cert.DxDownIdeal.main (F := Ideal))) ⟨m, fun _ => 0, g⟩ (fun r => ∀ c : Dev Cert.DxDownIdeal.nD,
          r.2.mem ((c.tc : Thread Cert.DxDownIdeal.nD Cert.DxDownIdeal.τ).loc Cert.DxDownIdeal.main_v0) = v0 c
          ∧ r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
          ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ θ_run (Cert.DxDownReferenceIdeal.defs (F := Ideal)) (onTc (τ := Cert.DxDownReferenceIdeal.τ) (Cert.DxDownReferenceIdeal.main (F := Ideal))) ⟨m', fun _ => 0, g'⟩ (fun r => ∀ c : Dev Cert.DxDownReferenceIdeal.nD,
          r.2.mem ((c.tc : Thread Cert.DxDownReferenceIdeal.nD Cert.DxDownReferenceIdeal.τ).loc Cert.DxDownReferenceIdeal.main_v5) = v0 c
          ∧ r.2.mem ((c.tc : Thread Cert.DxDownReferenceIdeal.nD Cert.DxDownReferenceIdeal.τ).loc Cert.DxDownReferenceIdeal.main_arg0) = m' ((c.tc : Thread Cert.DxDownReferenceIdeal.nD Cert.DxDownReferenceIdeal.τ).loc Cert.DxDownReferenceIdeal.main_arg0)
          ∧ r.2.mem ((c.tc : Thread Cert.DxDownReferenceIdeal.nD Cert.DxDownReferenceIdeal.τ).loc Cert.DxDownReferenceIdeal.main_arg1) = m' ((c.tc : Thread Cert.DxDownReferenceIdeal.nD Cert.DxDownReferenceIdeal.τ).loc Cert.DxDownReferenceIdeal.main_arg1))

def preserves_DxOut_DxOutIdeal : Prop :=
  True

def algebraic_DxOutIdeal_DxOutReferenceIdeal [hDxOutIdeal : Cert.DxOutIdeal.Facts] [hDxOutReferenceIdeal : Cert.DxOutReferenceIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutReferenceIdeal.nD Cert.DxOutReferenceIdeal.τ Cert.DxOutReferenceIdeal.sig) → Buf (Elt Ideal) ℓ) (g' : Dev Cert.DxOutReferenceIdeal.nD → PrngReg), Pre_DxOutIdeal m →
    (∀ c : Dev Cert.DxOutIdeal.nD,
      m' ((c.tc : Thread Cert.DxOutReferenceIdeal.nD Cert.DxOutReferenceIdeal.τ).loc Cert.DxOutReferenceIdeal.main_arg0) = m ((c.tc : Thread Cert.DxOutIdeal.nD Cert.DxOutIdeal.τ).loc Cert.DxOutIdeal.main_arg0)
      ∧ m' ((c.tc : Thread Cert.DxOutReferenceIdeal.nD Cert.DxOutReferenceIdeal.τ).loc Cert.DxOutReferenceIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v0)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v0) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutReferenceIdeal.defs (F := Ideal)) (onTc (τ := Cert.DxOutReferenceIdeal.τ) (Cert.DxOutReferenceIdeal.main (F := Ideal))) ⟨m', fun _ => 0, g'⟩ (fun r => ∀ c : Dev Cert.DxOutReferenceIdeal.nD,
          r.2.mem ((c.tc : Thread Cert.DxOutReferenceIdeal.nD Cert.DxOutReferenceIdeal.τ).loc Cert.DxOutReferenceIdeal.main_v4) = v0 c
          ∧ r.2.mem ((c.tc : Thread Cert.DxOutReferenceIdeal.nD Cert.DxOutReferenceIdeal.τ).loc Cert.DxOutReferenceIdeal.main_arg0) = m' ((c.tc : Thread Cert.DxOutReferenceIdeal.nD Cert.DxOutReferenceIdeal.τ).loc Cert.DxOutReferenceIdeal.main_arg0)
          ∧ r.2.mem ((c.tc : Thread Cert.DxOutReferenceIdeal.nD Cert.DxOutReferenceIdeal.τ).loc Cert.DxOutReferenceIdeal.main_arg1) = m' ((c.tc : Thread Cert.DxOutReferenceIdeal.nD Cert.DxOutReferenceIdeal.τ).loc Cert.DxOutReferenceIdeal.main_arg1))

def preserves_DxUp_DxUpIdeal : Prop :=
  True

def algebraic_DxUpIdeal_DxUpReferenceIdeal [hDxUpIdeal : Cert.DxUpIdeal.Facts] [hDxUpReferenceIdeal : Cert.DxUpReferenceIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpReferenceIdeal.nD Cert.DxUpReferenceIdeal.τ Cert.DxUpReferenceIdeal.sig) → Buf (Elt Ideal) ℓ) (g' : Dev Cert.DxUpReferenceIdeal.nD → PrngReg), Pre_DxUpIdeal m →
    (∀ c : Dev Cert.DxUpIdeal.nD,
      m' ((c.tc : Thread Cert.DxUpReferenceIdeal.nD Cert.DxUpReferenceIdeal.τ).loc Cert.DxUpReferenceIdeal.main_arg0) = m ((c.tc : Thread Cert.DxUpIdeal.nD Cert.DxUpIdeal.τ).loc Cert.DxUpIdeal.main_arg0)
      ∧ m' ((c.tc : Thread Cert.DxUpReferenceIdeal.nD Cert.DxUpReferenceIdeal.τ).loc Cert.DxUpReferenceIdeal.main_arg1) = m ((c.tc : Thread Cert.DxUpIdeal.nD Cert.DxUpIdeal.τ).loc Cert.DxUpIdeal.main_arg1)
      ∧ m' ((c.tc : Thread Cert.DxUpReferenceIdeal.nD Cert.DxUpReferenceIdeal.τ).loc Cert.DxUpReferenceIdeal.main_arg2) = m ((c.tc : Thread Cert.DxUpIdeal.nD Cert.DxUpIdeal.τ).loc Cert.DxUpIdeal.main_arg2)
      ∧ m' ((c.tc : Thread Cert.DxUpReferenceIdeal.nD Cert.DxUpReferenceIdeal.τ).loc Cert.DxUpReferenceIdeal.main_arg3) = m ((c.tc : Thread Cert.DxUpIdeal.nD Cert.DxUpIdeal.τ).loc Cert.DxUpIdeal.main_arg3)
      ∧ m' ((c.tc : Thread Cert.DxUpReferenceIdeal.nD Cert.DxUpReferenceIdeal.τ).loc Cert.DxUpReferenceIdeal.main_arg4) = m ((c.tc : Thread Cert.DxUpIdeal.nD Cert.DxUpIdeal.τ).loc Cert.DxUpIdeal.main_arg4)
      ∧ m' ((c.tc : Thread Cert.DxUpReferenceIdeal.nD Cert.DxUpReferenceIdeal.τ).loc Cert.DxUpReferenceIdeal.main_arg5) = m ((c.tc : Thread Cert.DxUpIdeal.nD Cert.DxUpIdeal.τ).loc Cert.DxUpIdeal.main_arg5)) →
    ∃ (v0 : (c : Dev Cert.DxUpIdeal.nD) → Buf (Elt Ideal) ((c.tc : Thread Cert.DxUpIdeal.nD Cert.DxUpIdeal.τ).loc Cert.DxUpIdeal.main_v1_0)) (v1 : (c : Dev Cert.DxUpIdeal.nD) → Buf (Elt Ideal) ((c.tc : Thread Cert.DxUpIdeal.nD Cert.DxUpIdeal.τ).loc Cert.DxUpIdeal.main_v1_1)) (v2 : (c : Dev Cert.DxUpIdeal.nD) → Buf (Elt Ideal) ((c.tc : Thread Cert.DxUpIdeal.nD Cert.DxUpIdeal.τ).loc Cert.DxUpIdeal.main_v1_2)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v1_0) = v0 c
          ∧ r.2.mem ((c.tc : Thread Cert.DxUpIdeal.nD Cert.DxUpIdeal.τ).loc Cert.DxUpIdeal.main_v1_1) = v1 c
          ∧ r.2.mem ((c.tc : Thread Cert.DxUpIdeal.nD Cert.DxUpIdeal.τ).loc Cert.DxUpIdeal.main_v1_2) = v2 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
          ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
          ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3)
          ∧ r.2.mem ((c.tc : Thread Cert.DxUpIdeal.nD Cert.DxUpIdeal.τ).loc Cert.DxUpIdeal.main_arg4) = m ((c.tc : Thread Cert.DxUpIdeal.nD Cert.DxUpIdeal.τ).loc Cert.DxUpIdeal.main_arg4)
          ∧ r.2.mem ((c.tc : Thread Cert.DxUpIdeal.nD Cert.DxUpIdeal.τ).loc Cert.DxUpIdeal.main_arg5) = m ((c.tc : Thread Cert.DxUpIdeal.nD Cert.DxUpIdeal.τ).loc Cert.DxUpIdeal.main_arg5))
      ∧ θ_run (Cert.DxUpReferenceIdeal.defs (F := Ideal)) (onTc (τ := Cert.DxUpReferenceIdeal.τ) (Cert.DxUpReferenceIdeal.main (F := Ideal))) ⟨m', fun _ => 0, g'⟩ (fun r => ∀ c : Dev Cert.DxUpReferenceIdeal.nD,
          r.2.mem ((c.tc : Thread Cert.DxUpReferenceIdeal.nD Cert.DxUpReferenceIdeal.τ).loc Cert.DxUpReferenceIdeal.main_v41) = v0 c
          ∧ r.2.mem ((c.tc : Thread Cert.DxUpReferenceIdeal.nD Cert.DxUpReferenceIdeal.τ).loc Cert.DxUpReferenceIdeal.main_v42) = v1 c
          ∧ r.2.mem ((c.tc : Thread Cert.DxUpReferenceIdeal.nD Cert.DxUpReferenceIdeal.τ).loc Cert.DxUpReferenceIdeal.main_v44) = v2 c
          ∧ r.2.mem ((c.tc : Thread Cert.DxUpReferenceIdeal.nD Cert.DxUpReferenceIdeal.τ).loc Cert.DxUpReferenceIdeal.main_arg0) = m' ((c.tc : Thread Cert.DxUpReferenceIdeal.nD Cert.DxUpReferenceIdeal.τ).loc Cert.DxUpReferenceIdeal.main_arg0)
          ∧ r.2.mem ((c.tc : Thread Cert.DxUpReferenceIdeal.nD Cert.DxUpReferenceIdeal.τ).loc Cert.DxUpReferenceIdeal.main_arg1) = m' ((c.tc : Thread Cert.DxUpReferenceIdeal.nD Cert.DxUpReferenceIdeal.τ).loc Cert.DxUpReferenceIdeal.main_arg1)
          ∧ r.2.mem ((c.tc : Thread Cert.DxUpReferenceIdeal.nD Cert.DxUpReferenceIdeal.τ).loc Cert.DxUpReferenceIdeal.main_arg2) = m' ((c.tc : Thread Cert.DxUpReferenceIdeal.nD Cert.DxUpReferenceIdeal.τ).loc Cert.DxUpReferenceIdeal.main_arg2)
          ∧ r.2.mem ((c.tc : Thread Cert.DxUpReferenceIdeal.nD Cert.DxUpReferenceIdeal.τ).loc Cert.DxUpReferenceIdeal.main_arg3) = m' ((c.tc : Thread Cert.DxUpReferenceIdeal.nD Cert.DxUpReferenceIdeal.τ).loc Cert.DxUpReferenceIdeal.main_arg3)
          ∧ r.2.mem ((c.tc : Thread Cert.DxUpReferenceIdeal.nD Cert.DxUpReferenceIdeal.τ).loc Cert.DxUpReferenceIdeal.main_arg4) = m' ((c.tc : Thread Cert.DxUpReferenceIdeal.nD Cert.DxUpReferenceIdeal.τ).loc Cert.DxUpReferenceIdeal.main_arg4)
          ∧ r.2.mem ((c.tc : Thread Cert.DxUpReferenceIdeal.nD Cert.DxUpReferenceIdeal.τ).loc Cert.DxUpReferenceIdeal.main_arg5) = m' ((c.tc : Thread Cert.DxUpReferenceIdeal.nD Cert.DxUpReferenceIdeal.τ).loc Cert.DxUpReferenceIdeal.main_arg5))

def preserves_DxIn_DxInIdeal : Prop :=
  True

def algebraic_DxInIdeal_DxInReferenceIdeal [hDxInIdeal : Cert.DxInIdeal.Facts] [hDxInReferenceIdeal : Cert.DxInReferenceIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInReferenceIdeal.nD Cert.DxInReferenceIdeal.τ Cert.DxInReferenceIdeal.sig) → Buf (Elt Ideal) ℓ) (g' : Dev Cert.DxInReferenceIdeal.nD → PrngReg), Pre_DxInIdeal m →
    (∀ c : Dev Cert.DxInIdeal.nD,
      m' ((c.tc : Thread Cert.DxInReferenceIdeal.nD Cert.DxInReferenceIdeal.τ).loc Cert.DxInReferenceIdeal.main_arg0) = m ((c.tc : Thread Cert.DxInIdeal.nD Cert.DxInIdeal.τ).loc Cert.DxInIdeal.main_arg0)
      ∧ m' ((c.tc : Thread Cert.DxInReferenceIdeal.nD Cert.DxInReferenceIdeal.τ).loc Cert.DxInReferenceIdeal.main_arg1) = m ((c.tc : Thread Cert.DxInIdeal.nD Cert.DxInIdeal.τ).loc Cert.DxInIdeal.main_arg1)
      ∧ m' ((c.tc : Thread Cert.DxInReferenceIdeal.nD Cert.DxInReferenceIdeal.τ).loc Cert.DxInReferenceIdeal.main_arg2) = m ((c.tc : Thread Cert.DxInIdeal.nD Cert.DxInIdeal.τ).loc Cert.DxInIdeal.main_arg2)
      ∧ m' ((c.tc : Thread Cert.DxInReferenceIdeal.nD Cert.DxInReferenceIdeal.τ).loc Cert.DxInReferenceIdeal.main_arg3) = m ((c.tc : Thread Cert.DxInIdeal.nD Cert.DxInIdeal.τ).loc Cert.DxInIdeal.main_arg3)
      ∧ m' ((c.tc : Thread Cert.DxInReferenceIdeal.nD Cert.DxInReferenceIdeal.τ).loc Cert.DxInReferenceIdeal.main_arg4) = m ((c.tc : Thread Cert.DxInIdeal.nD Cert.DxInIdeal.τ).loc Cert.DxInIdeal.main_arg4)) →
    ∃ (v0 : (c : Dev Cert.DxInIdeal.nD) → Buf (Elt Ideal) ((c.tc : Thread Cert.DxInIdeal.nD Cert.DxInIdeal.τ).loc Cert.DxInIdeal.main_v1_0)) (v1 : (c : Dev Cert.DxInIdeal.nD) → Buf (Elt Ideal) ((c.tc : Thread Cert.DxInIdeal.nD Cert.DxInIdeal.τ).loc Cert.DxInIdeal.main_v1_1)) (v2 : (c : Dev Cert.DxInIdeal.nD) → Buf (Elt Ideal) ((c.tc : Thread Cert.DxInIdeal.nD Cert.DxInIdeal.τ).loc Cert.DxInIdeal.main_v1_2)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v1_0) = v0 c
          ∧ r.2.mem ((c.tc : Thread Cert.DxInIdeal.nD Cert.DxInIdeal.τ).loc Cert.DxInIdeal.main_v1_1) = v1 c
          ∧ r.2.mem ((c.tc : Thread Cert.DxInIdeal.nD Cert.DxInIdeal.τ).loc Cert.DxInIdeal.main_v1_2) = v2 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
          ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
          ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
          ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4))
      ∧ θ_run (Cert.DxInReferenceIdeal.defs (F := Ideal)) (onTc (τ := Cert.DxInReferenceIdeal.τ) (Cert.DxInReferenceIdeal.main (F := Ideal))) ⟨m', fun _ => 0, g'⟩ (fun r => ∀ c : Dev Cert.DxInReferenceIdeal.nD,
          r.2.mem ((c.tc : Thread Cert.DxInReferenceIdeal.nD Cert.DxInReferenceIdeal.τ).loc Cert.DxInReferenceIdeal.main_v40) = v0 c
          ∧ r.2.mem ((c.tc : Thread Cert.DxInReferenceIdeal.nD Cert.DxInReferenceIdeal.τ).loc Cert.DxInReferenceIdeal.main_v41) = v1 c
          ∧ r.2.mem ((c.tc : Thread Cert.DxInReferenceIdeal.nD Cert.DxInReferenceIdeal.τ).loc Cert.DxInReferenceIdeal.main_v43) = v2 c
          ∧ r.2.mem ((c.tc : Thread Cert.DxInReferenceIdeal.nD Cert.DxInReferenceIdeal.τ).loc Cert.DxInReferenceIdeal.main_arg0) = m' ((c.tc : Thread Cert.DxInReferenceIdeal.nD Cert.DxInReferenceIdeal.τ).loc Cert.DxInReferenceIdeal.main_arg0)
          ∧ r.2.mem ((c.tc : Thread Cert.DxInReferenceIdeal.nD Cert.DxInReferenceIdeal.τ).loc Cert.DxInReferenceIdeal.main_arg1) = m' ((c.tc : Thread Cert.DxInReferenceIdeal.nD Cert.DxInReferenceIdeal.τ).loc Cert.DxInReferenceIdeal.main_arg1)
          ∧ r.2.mem ((c.tc : Thread Cert.DxInReferenceIdeal.nD Cert.DxInReferenceIdeal.τ).loc Cert.DxInReferenceIdeal.main_arg2) = m' ((c.tc : Thread Cert.DxInReferenceIdeal.nD Cert.DxInReferenceIdeal.τ).loc Cert.DxInReferenceIdeal.main_arg2)
          ∧ r.2.mem ((c.tc : Thread Cert.DxInReferenceIdeal.nD Cert.DxInReferenceIdeal.τ).loc Cert.DxInReferenceIdeal.main_arg3) = m' ((c.tc : Thread Cert.DxInReferenceIdeal.nD Cert.DxInReferenceIdeal.τ).loc Cert.DxInReferenceIdeal.main_arg3)
          ∧ r.2.mem ((c.tc : Thread Cert.DxInReferenceIdeal.nD Cert.DxInReferenceIdeal.τ).loc Cert.DxInReferenceIdeal.main_arg4) = m' ((c.tc : Thread Cert.DxInReferenceIdeal.nD Cert.DxInReferenceIdeal.τ).loc Cert.DxInReferenceIdeal.main_arg4))

def preserves_DxGate_DxGateIdeal : Prop :=
  True

def algebraic_DxGateIdeal_DxGateReferenceIdeal [hDxGateIdeal : Cert.DxGateIdeal.Facts] [hDxGateReferenceIdeal : Cert.DxGateReferenceIdeal.Facts] : Prop :=
  ∀ (m : (ℓ : Loc Cert.DxGateIdeal.nD Cert.DxGateIdeal.τ Cert.DxGateIdeal.sig) → Buf (Elt Ideal) ℓ) (g : Dev Cert.DxGateIdeal.nD → PrngReg)
    (m' : (ℓ : Loc Cert.DxGateReferenceIdeal.nD Cert.DxGateReferenceIdeal.τ Cert.DxGateReferenceIdeal.sig) → Buf (Elt Ideal) ℓ) (g' : Dev Cert.DxGateReferenceIdeal.nD → PrngReg), Pre_DxGateIdeal m →
    (∀ c : Dev Cert.DxGateIdeal.nD,
      m' ((c.tc : Thread Cert.DxGateReferenceIdeal.nD Cert.DxGateReferenceIdeal.τ).loc Cert.DxGateReferenceIdeal.main_arg0) = m ((c.tc : Thread Cert.DxGateIdeal.nD Cert.DxGateIdeal.τ).loc Cert.DxGateIdeal.main_arg0)
      ∧ m' ((c.tc : Thread Cert.DxGateReferenceIdeal.nD Cert.DxGateReferenceIdeal.τ).loc Cert.DxGateReferenceIdeal.main_arg1) = m ((c.tc : Thread Cert.DxGateIdeal.nD Cert.DxGateIdeal.τ).loc Cert.DxGateIdeal.main_arg1)
      ∧ m' ((c.tc : Thread Cert.DxGateReferenceIdeal.nD Cert.DxGateReferenceIdeal.τ).loc Cert.DxGateReferenceIdeal.main_arg2) = m ((c.tc : Thread Cert.DxGateIdeal.nD Cert.DxGateIdeal.τ).loc Cert.DxGateIdeal.main_arg2)
      ∧ m' ((c.tc : Thread Cert.DxGateReferenceIdeal.nD Cert.DxGateReferenceIdeal.τ).loc Cert.DxGateReferenceIdeal.main_arg3) = m ((c.tc : Thread Cert.DxGateIdeal.nD Cert.DxGateIdeal.τ).loc Cert.DxGateIdeal.main_arg3)
      ∧ m' ((c.tc : Thread Cert.DxGateReferenceIdeal.nD Cert.DxGateReferenceIdeal.τ).loc Cert.DxGateReferenceIdeal.main_arg4) = m ((c.tc : Thread Cert.DxGateIdeal.nD Cert.DxGateIdeal.τ).loc Cert.DxGateIdeal.main_arg4)) →
    ∃ (v0 : (c : Dev Cert.DxGateIdeal.nD) → Buf (Elt Ideal) ((c.tc : Thread Cert.DxGateIdeal.nD Cert.DxGateIdeal.τ).loc Cert.DxGateIdeal.main_v1_0)) (v1 : (c : Dev Cert.DxGateIdeal.nD) → Buf (Elt Ideal) ((c.tc : Thread Cert.DxGateIdeal.nD Cert.DxGateIdeal.τ).loc Cert.DxGateIdeal.main_v1_1)) (v2 : (c : Dev Cert.DxGateIdeal.nD) → Buf (Elt Ideal) ((c.tc : Thread Cert.DxGateIdeal.nD Cert.DxGateIdeal.τ).loc Cert.DxGateIdeal.main_v1_2)),
      θ_run (Cert.DxGateIdeal.defs (F := Ideal)) (onTc (τ := Cert.DxGateIdeal.τ) (Cert.DxGateIdeal.main (F := Ideal))) ⟨m, fun _ => 0, g⟩ (fun r => ∀ c : Dev Cert.DxGateIdeal.nD,
          r.2.mem ((c.tc : Thread Cert.DxGateIdeal.nD Cert.DxGateIdeal.τ).loc Cert.DxGateIdeal.main_v1_0) = v0 c
          ∧ r.2.mem ((c.tc : Thread Cert.DxGateIdeal.nD Cert.DxGateIdeal.τ).loc Cert.DxGateIdeal.main_v1_1) = v1 c
          ∧ r.2.mem ((c.tc : Thread Cert.DxGateIdeal.nD Cert.DxGateIdeal.τ).loc Cert.DxGateIdeal.main_v1_2) = v2 c
          ∧ r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
          ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1)
          ∧ r.2.mem ((c.tc : Thread Cert.DxGateIdeal.nD Cert.DxGateIdeal.τ).loc Cert.DxGateIdeal.main_arg2) = m ((c.tc : Thread Cert.DxGateIdeal.nD Cert.DxGateIdeal.τ).loc Cert.DxGateIdeal.main_arg2)
          ∧ r.2.mem ((c.tc : Thread Cert.DxGateIdeal.nD Cert.DxGateIdeal.τ).loc Cert.DxGateIdeal.main_arg3) = m ((c.tc : Thread Cert.DxGateIdeal.nD Cert.DxGateIdeal.τ).loc Cert.DxGateIdeal.main_arg3)
          ∧ r.2.mem ((c.tc : Thread Cert.DxGateIdeal.nD Cert.DxGateIdeal.τ).loc Cert.DxGateIdeal.main_arg4) = m ((c.tc : Thread Cert.DxGateIdeal.nD Cert.DxGateIdeal.τ).loc Cert.DxGateIdeal.main_arg4))
      ∧ θ_run (Cert.DxGateReferenceIdeal.defs (F := Ideal)) (onTc (τ := Cert.DxGateReferenceIdeal.τ) (Cert.DxGateReferenceIdeal.main (F := Ideal))) ⟨m', fun _ => 0, g'⟩ (fun r => ∀ c : Dev Cert.DxGateReferenceIdeal.nD,
          r.2.mem ((c.tc : Thread Cert.DxGateReferenceIdeal.nD Cert.DxGateReferenceIdeal.τ).loc Cert.DxGateReferenceIdeal.main_v40) = v0 c
          ∧ r.2.mem ((c.tc : Thread Cert.DxGateReferenceIdeal.nD Cert.DxGateReferenceIdeal.τ).loc Cert.DxGateReferenceIdeal.main_v41) = v1 c
          ∧ r.2.mem ((c.tc : Thread Cert.DxGateReferenceIdeal.nD Cert.DxGateReferenceIdeal.τ).loc Cert.DxGateReferenceIdeal.main_v43) = v2 c
          ∧ r.2.mem ((c.tc : Thread Cert.DxGateReferenceIdeal.nD Cert.DxGateReferenceIdeal.τ).loc Cert.DxGateReferenceIdeal.main_arg0) = m' ((c.tc : Thread Cert.DxGateReferenceIdeal.nD Cert.DxGateReferenceIdeal.τ).loc Cert.DxGateReferenceIdeal.main_arg0)
          ∧ r.2.mem ((c.tc : Thread Cert.DxGateReferenceIdeal.nD Cert.DxGateReferenceIdeal.τ).loc Cert.DxGateReferenceIdeal.main_arg1) = m' ((c.tc : Thread Cert.DxGateReferenceIdeal.nD Cert.DxGateReferenceIdeal.τ).loc Cert.DxGateReferenceIdeal.main_arg1)
          ∧ r.2.mem ((c.tc : Thread Cert.DxGateReferenceIdeal.nD Cert.DxGateReferenceIdeal.τ).loc Cert.DxGateReferenceIdeal.main_arg2) = m' ((c.tc : Thread Cert.DxGateReferenceIdeal.nD Cert.DxGateReferenceIdeal.τ).loc Cert.DxGateReferenceIdeal.main_arg2)
          ∧ r.2.mem ((c.tc : Thread Cert.DxGateReferenceIdeal.nD Cert.DxGateReferenceIdeal.τ).loc Cert.DxGateReferenceIdeal.main_arg3) = m' ((c.tc : Thread Cert.DxGateReferenceIdeal.nD Cert.DxGateReferenceIdeal.τ).loc Cert.DxGateReferenceIdeal.main_arg3)
          ∧ r.2.mem ((c.tc : Thread Cert.DxGateReferenceIdeal.nD Cert.DxGateReferenceIdeal.τ).loc Cert.DxGateReferenceIdeal.main_arg4) = m' ((c.tc : Thread Cert.DxGateReferenceIdeal.nD Cert.DxGateReferenceIdeal.τ).loc Cert.DxGateReferenceIdeal.main_arg4))

def preserves_FwdIn_FwdInIdeal : Prop :=
  True

def algebraic_FwdInIdeal_FwdInReferenceIdeal [hFwdInIdeal : Cert.FwdInIdeal.Facts] [hFwdInReferenceIdeal : Cert.FwdInReferenceIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInReferenceIdeal.nD Cert.FwdInReferenceIdeal.τ Cert.FwdInReferenceIdeal.sig) → Buf (Elt Ideal) ℓ) (g' : Dev Cert.FwdInReferenceIdeal.nD → PrngReg), Pre_FwdInIdeal m →
    (∀ c : Dev Cert.FwdInIdeal.nD,
      m' ((c.tc : Thread Cert.FwdInReferenceIdeal.nD Cert.FwdInReferenceIdeal.τ).loc Cert.FwdInReferenceIdeal.main_arg0) = m ((c.tc : Thread Cert.FwdInIdeal.nD Cert.FwdInIdeal.τ).loc Cert.FwdInIdeal.main_arg0)
      ∧ m' ((c.tc : Thread Cert.FwdInReferenceIdeal.nD Cert.FwdInReferenceIdeal.τ).loc Cert.FwdInReferenceIdeal.main_arg1) = m ((c.tc : Thread Cert.FwdInIdeal.nD Cert.FwdInIdeal.τ).loc Cert.FwdInIdeal.main_arg1)) →
    ∃ (v0 : (c : Dev Cert.FwdInIdeal.nD) → Buf (Elt Ideal) ((c.tc : Thread Cert.FwdInIdeal.nD Cert.FwdInIdeal.τ).loc Cert.FwdInIdeal.main_v0)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0) = v0 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ θ_run (Cert.FwdInReferenceIdeal.defs (F := Ideal)) (onTc (τ := Cert.FwdInReferenceIdeal.τ) (Cert.FwdInReferenceIdeal.main (F := Ideal))) ⟨m', fun _ => 0, g'⟩ (fun r => ∀ c : Dev Cert.FwdInReferenceIdeal.nD,
          r.2.mem ((c.tc : Thread Cert.FwdInReferenceIdeal.nD Cert.FwdInReferenceIdeal.τ).loc Cert.FwdInReferenceIdeal.main_v2) = v0 c
          ∧ r.2.mem ((c.tc : Thread Cert.FwdInReferenceIdeal.nD Cert.FwdInReferenceIdeal.τ).loc Cert.FwdInReferenceIdeal.main_arg0) = m' ((c.tc : Thread Cert.FwdInReferenceIdeal.nD Cert.FwdInReferenceIdeal.τ).loc Cert.FwdInReferenceIdeal.main_arg0)
          ∧ r.2.mem ((c.tc : Thread Cert.FwdInReferenceIdeal.nD Cert.FwdInReferenceIdeal.τ).loc Cert.FwdInReferenceIdeal.main_arg1) = m' ((c.tc : Thread Cert.FwdInReferenceIdeal.nD Cert.FwdInReferenceIdeal.τ).loc Cert.FwdInReferenceIdeal.main_arg1))

def preserves_FwdUp_FwdUpIdeal : Prop :=
  True

def algebraic_FwdUpIdeal_FwdUpReferenceIdeal [hFwdUpIdeal : Cert.FwdUpIdeal.Facts] [hFwdUpReferenceIdeal : Cert.FwdUpReferenceIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg)
    (m' : (ℓ : Loc Cert.FwdUpReferenceIdeal.nD Cert.FwdUpReferenceIdeal.τ Cert.FwdUpReferenceIdeal.sig) → Buf (Elt Ideal) ℓ) (g' : Dev Cert.FwdUpReferenceIdeal.nD → PrngReg), Pre_FwdUpIdeal m →
    (∀ c : Dev Cert.FwdUpIdeal.nD,
      m' ((c.tc : Thread Cert.FwdUpReferenceIdeal.nD Cert.FwdUpReferenceIdeal.τ).loc Cert.FwdUpReferenceIdeal.main_arg0) = m ((c.tc : Thread Cert.FwdUpIdeal.nD Cert.FwdUpIdeal.τ).loc Cert.FwdUpIdeal.main_arg0)
      ∧ m' ((c.tc : Thread Cert.FwdUpReferenceIdeal.nD Cert.FwdUpReferenceIdeal.τ).loc Cert.FwdUpReferenceIdeal.main_arg1) = m ((c.tc : Thread Cert.FwdUpIdeal.nD Cert.FwdUpIdeal.τ).loc Cert.FwdUpIdeal.main_arg1)) →
    ∃ (v0 : (c : Dev Cert.FwdUpIdeal.nD) → Buf (Elt Ideal) ((c.tc : Thread Cert.FwdUpIdeal.nD Cert.FwdUpIdeal.τ).loc Cert.FwdUpIdeal.main_v0)),
      θ_run (Cert.FwdUpIdeal.defs (F := Ideal)) (onTc (τ := Cert.FwdUpIdeal.τ) (Cert.FwdUpIdeal.main (F := Ideal))) ⟨m, fun _ => 0, g⟩ (fun r => ∀ c : Dev Cert.FwdUpIdeal.nD,
          r.2.mem ((c.tc : Thread Cert.FwdUpIdeal.nD Cert.FwdUpIdeal.τ).loc Cert.FwdUpIdeal.main_v0) = v0 c
          ∧ r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
          ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ θ_run (Cert.FwdUpReferenceIdeal.defs (F := Ideal)) (onTc (τ := Cert.FwdUpReferenceIdeal.τ) (Cert.FwdUpReferenceIdeal.main (F := Ideal))) ⟨m', fun _ => 0, g'⟩ (fun r => ∀ c : Dev Cert.FwdUpReferenceIdeal.nD,
          r.2.mem ((c.tc : Thread Cert.FwdUpReferenceIdeal.nD Cert.FwdUpReferenceIdeal.τ).loc Cert.FwdUpReferenceIdeal.main_v3) = v0 c
          ∧ r.2.mem ((c.tc : Thread Cert.FwdUpReferenceIdeal.nD Cert.FwdUpReferenceIdeal.τ).loc Cert.FwdUpReferenceIdeal.main_arg0) = m' ((c.tc : Thread Cert.FwdUpReferenceIdeal.nD Cert.FwdUpReferenceIdeal.τ).loc Cert.FwdUpReferenceIdeal.main_arg0)
          ∧ r.2.mem ((c.tc : Thread Cert.FwdUpReferenceIdeal.nD Cert.FwdUpReferenceIdeal.τ).loc Cert.FwdUpReferenceIdeal.main_arg1) = m' ((c.tc : Thread Cert.FwdUpReferenceIdeal.nD Cert.FwdUpReferenceIdeal.τ).loc Cert.FwdUpReferenceIdeal.main_arg1))

def preserves_FwdGate_FwdGateIdeal : Prop :=
  True

def algebraic_FwdGateIdeal_FwdGateReferenceIdeal [hFwdGateIdeal : Cert.FwdGateIdeal.Facts] [hFwdGateReferenceIdeal : Cert.FwdGateReferenceIdeal.Facts] : Prop :=
  ∀ (m : (ℓ : Loc Cert.FwdGateIdeal.nD Cert.FwdGateIdeal.τ Cert.FwdGateIdeal.sig) → Buf (Elt Ideal) ℓ) (g : Dev Cert.FwdGateIdeal.nD → PrngReg)
    (m' : (ℓ : Loc Cert.FwdGateReferenceIdeal.nD Cert.FwdGateReferenceIdeal.τ Cert.FwdGateReferenceIdeal.sig) → Buf (Elt Ideal) ℓ) (g' : Dev Cert.FwdGateReferenceIdeal.nD → PrngReg), Pre_FwdGateIdeal m →
    (∀ c : Dev Cert.FwdGateIdeal.nD,
      m' ((c.tc : Thread Cert.FwdGateReferenceIdeal.nD Cert.FwdGateReferenceIdeal.τ).loc Cert.FwdGateReferenceIdeal.main_arg0) = m ((c.tc : Thread Cert.FwdGateIdeal.nD Cert.FwdGateIdeal.τ).loc Cert.FwdGateIdeal.main_arg0)
      ∧ m' ((c.tc : Thread Cert.FwdGateReferenceIdeal.nD Cert.FwdGateReferenceIdeal.τ).loc Cert.FwdGateReferenceIdeal.main_arg1) = m ((c.tc : Thread Cert.FwdGateIdeal.nD Cert.FwdGateIdeal.τ).loc Cert.FwdGateIdeal.main_arg1)) →
    ∃ (v0 : (c : Dev Cert.FwdGateIdeal.nD) → Buf (Elt Ideal) ((c.tc : Thread Cert.FwdGateIdeal.nD Cert.FwdGateIdeal.τ).loc Cert.FwdGateIdeal.main_v0)),
      θ_run (Cert.FwdGateIdeal.defs (F := Ideal)) (onTc (τ := Cert.FwdGateIdeal.τ) (Cert.FwdGateIdeal.main (F := Ideal))) ⟨m, fun _ => 0, g⟩ (fun r => ∀ c : Dev Cert.FwdGateIdeal.nD,
          r.2.mem ((c.tc : Thread Cert.FwdGateIdeal.nD Cert.FwdGateIdeal.τ).loc Cert.FwdGateIdeal.main_v0) = v0 c
          ∧ r.2.mem ((c.tc : Thread Cert.FwdGateIdeal.nD Cert.FwdGateIdeal.τ).loc Cert.FwdGateIdeal.main_arg0) = m ((c.tc : Thread Cert.FwdGateIdeal.nD Cert.FwdGateIdeal.τ).loc Cert.FwdGateIdeal.main_arg0)
          ∧ r.2.mem ((c.tc : Thread Cert.FwdGateIdeal.nD Cert.FwdGateIdeal.τ).loc Cert.FwdGateIdeal.main_arg1) = m ((c.tc : Thread Cert.FwdGateIdeal.nD Cert.FwdGateIdeal.τ).loc Cert.FwdGateIdeal.main_arg1))
      ∧ θ_run (Cert.FwdGateReferenceIdeal.defs (F := Ideal)) (onTc (τ := Cert.FwdGateReferenceIdeal.τ) (Cert.FwdGateReferenceIdeal.main (F := Ideal))) ⟨m', fun _ => 0, g'⟩ (fun r => ∀ c : Dev Cert.FwdGateReferenceIdeal.nD,
          r.2.mem ((c.tc : Thread Cert.FwdGateReferenceIdeal.nD Cert.FwdGateReferenceIdeal.τ).loc Cert.FwdGateReferenceIdeal.main_v3) = v0 c
          ∧ r.2.mem ((c.tc : Thread Cert.FwdGateReferenceIdeal.nD Cert.FwdGateReferenceIdeal.τ).loc Cert.FwdGateReferenceIdeal.main_arg0) = m' ((c.tc : Thread Cert.FwdGateReferenceIdeal.nD Cert.FwdGateReferenceIdeal.τ).loc Cert.FwdGateReferenceIdeal.main_arg0)
          ∧ r.2.mem ((c.tc : Thread Cert.FwdGateReferenceIdeal.nD Cert.FwdGateReferenceIdeal.τ).loc Cert.FwdGateReferenceIdeal.main_arg1) = m' ((c.tc : Thread Cert.FwdGateReferenceIdeal.nD Cert.FwdGateReferenceIdeal.τ).loc Cert.FwdGateReferenceIdeal.main_arg1))

def preserves_FwdOut_FwdOutIdeal : Prop :=
  True

def algebraic_FwdOutIdeal_FwdOutReferenceIdeal [hFwdOutIdeal : Cert.FwdOutIdeal.Facts] [hFwdOutReferenceIdeal : Cert.FwdOutReferenceIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutReferenceIdeal.nD Cert.FwdOutReferenceIdeal.τ Cert.FwdOutReferenceIdeal.sig) → Buf (Elt Ideal) ℓ) (g' : Dev Cert.FwdOutReferenceIdeal.nD → PrngReg), Pre_FwdOutIdeal m →
    (∀ c : Dev Cert.FwdOutIdeal.nD,
      m' ((c.tc : Thread Cert.FwdOutReferenceIdeal.nD Cert.FwdOutReferenceIdeal.τ).loc Cert.FwdOutReferenceIdeal.main_arg0) = m ((c.tc : Thread Cert.FwdOutIdeal.nD Cert.FwdOutIdeal.τ).loc Cert.FwdOutIdeal.main_arg0)
      ∧ m' ((c.tc : Thread Cert.FwdOutReferenceIdeal.nD Cert.FwdOutReferenceIdeal.τ).loc Cert.FwdOutReferenceIdeal.main_arg1) = m ((c.tc : Thread Cert.FwdOutIdeal.nD Cert.FwdOutIdeal.τ).loc Cert.FwdOutIdeal.main_arg1)
      ∧ m' ((c.tc : Thread Cert.FwdOutReferenceIdeal.nD Cert.FwdOutReferenceIdeal.τ).loc Cert.FwdOutReferenceIdeal.main_arg2) = m ((c.tc : Thread Cert.FwdOutIdeal.nD Cert.FwdOutIdeal.τ).loc Cert.FwdOutIdeal.main_arg2)
      ∧ m' ((c.tc : Thread Cert.FwdOutReferenceIdeal.nD Cert.FwdOutReferenceIdeal.τ).loc Cert.FwdOutReferenceIdeal.main_arg3) = m ((c.tc : Thread Cert.FwdOutIdeal.nD Cert.FwdOutIdeal.τ).loc Cert.FwdOutIdeal.main_arg3)) →
    ∃ (v0 : (c : Dev Cert.FwdOutIdeal.nD) → Buf (Elt Ideal) ((c.tc : Thread Cert.FwdOutIdeal.nD Cert.FwdOutIdeal.τ).loc Cert.FwdOutIdeal.main_v1_0)) (v1 : (c : Dev Cert.FwdOutIdeal.nD) → Buf (Elt Ideal) ((c.tc : Thread Cert.FwdOutIdeal.nD Cert.FwdOutIdeal.τ).loc Cert.FwdOutIdeal.main_v1_1)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v1_0) = v0 c
          ∧ r.2.mem ((c.tc : Thread Cert.FwdOutIdeal.nD Cert.FwdOutIdeal.τ).loc Cert.FwdOutIdeal.main_v1_1) = v1 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
          ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
          ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3))
      ∧ θ_run (Cert.FwdOutReferenceIdeal.defs (F := Ideal)) (onTc (τ := Cert.FwdOutReferenceIdeal.τ) (Cert.FwdOutReferenceIdeal.main (F := Ideal))) ⟨m', fun _ => 0, g'⟩ (fun r => ∀ c : Dev Cert.FwdOutReferenceIdeal.nD,
          r.2.mem ((c.tc : Thread Cert.FwdOutReferenceIdeal.nD Cert.FwdOutReferenceIdeal.τ).loc Cert.FwdOutReferenceIdeal.main_v3) = v0 c
          ∧ r.2.mem ((c.tc : Thread Cert.FwdOutReferenceIdeal.nD Cert.FwdOutReferenceIdeal.τ).loc Cert.FwdOutReferenceIdeal.main_v17) = v1 c
          ∧ r.2.mem ((c.tc : Thread Cert.FwdOutReferenceIdeal.nD Cert.FwdOutReferenceIdeal.τ).loc Cert.FwdOutReferenceIdeal.main_arg0) = m' ((c.tc : Thread Cert.FwdOutReferenceIdeal.nD Cert.FwdOutReferenceIdeal.τ).loc Cert.FwdOutReferenceIdeal.main_arg0)
          ∧ r.2.mem ((c.tc : Thread Cert.FwdOutReferenceIdeal.nD Cert.FwdOutReferenceIdeal.τ).loc Cert.FwdOutReferenceIdeal.main_arg1) = m' ((c.tc : Thread Cert.FwdOutReferenceIdeal.nD Cert.FwdOutReferenceIdeal.τ).loc Cert.FwdOutReferenceIdeal.main_arg1)
          ∧ r.2.mem ((c.tc : Thread Cert.FwdOutReferenceIdeal.nD Cert.FwdOutReferenceIdeal.τ).loc Cert.FwdOutReferenceIdeal.main_arg2) = m' ((c.tc : Thread Cert.FwdOutReferenceIdeal.nD Cert.FwdOutReferenceIdeal.τ).loc Cert.FwdOutReferenceIdeal.main_arg2)
          ∧ r.2.mem ((c.tc : Thread Cert.FwdOutReferenceIdeal.nD Cert.FwdOutReferenceIdeal.τ).loc Cert.FwdOutReferenceIdeal.main_arg3) = m' ((c.tc : Thread Cert.FwdOutReferenceIdeal.nD Cert.FwdOutReferenceIdeal.τ).loc Cert.FwdOutReferenceIdeal.main_arg3))

def preserves_FwdDown_FwdDownIdeal : Prop :=
  True

def algebraic_FwdDownIdeal_FwdDownReferenceIdeal [hFwdDownIdeal : Cert.FwdDownIdeal.Facts] [hFwdDownReferenceIdeal : Cert.FwdDownReferenceIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg)
    (m' : (ℓ : Loc Cert.FwdDownReferenceIdeal.nD Cert.FwdDownReferenceIdeal.τ Cert.FwdDownReferenceIdeal.sig) → Buf (Elt Ideal) ℓ) (g' : Dev Cert.FwdDownReferenceIdeal.nD → PrngReg), Pre_FwdDownIdeal m →
    (∀ c : Dev Cert.FwdDownIdeal.nD,
      m' ((c.tc : Thread Cert.FwdDownReferenceIdeal.nD Cert.FwdDownReferenceIdeal.τ).loc Cert.FwdDownReferenceIdeal.main_arg0) = m ((c.tc : Thread Cert.FwdDownIdeal.nD Cert.FwdDownIdeal.τ).loc Cert.FwdDownIdeal.main_arg0)
      ∧ m' ((c.tc : Thread Cert.FwdDownReferenceIdeal.nD Cert.FwdDownReferenceIdeal.τ).loc Cert.FwdDownReferenceIdeal.main_arg1) = m ((c.tc : Thread Cert.FwdDownIdeal.nD Cert.FwdDownIdeal.τ).loc Cert.FwdDownIdeal.main_arg1)
      ∧ m' ((c.tc : Thread Cert.FwdDownReferenceIdeal.nD Cert.FwdDownReferenceIdeal.τ).loc Cert.FwdDownReferenceIdeal.main_arg2) = m ((c.tc : Thread Cert.FwdDownIdeal.nD Cert.FwdDownIdeal.τ).loc Cert.FwdDownIdeal.main_arg2)
      ∧ m' ((c.tc : Thread Cert.FwdDownReferenceIdeal.nD Cert.FwdDownReferenceIdeal.τ).loc Cert.FwdDownReferenceIdeal.main_arg3) = m ((c.tc : Thread Cert.FwdDownIdeal.nD Cert.FwdDownIdeal.τ).loc Cert.FwdDownIdeal.main_arg3)) →
    ∃ (v0 : (c : Dev Cert.FwdDownIdeal.nD) → Buf (Elt Ideal) ((c.tc : Thread Cert.FwdDownIdeal.nD Cert.FwdDownIdeal.τ).loc Cert.FwdDownIdeal.main_v1_0)) (v1 : (c : Dev Cert.FwdDownIdeal.nD) → Buf (Elt Ideal) ((c.tc : Thread Cert.FwdDownIdeal.nD Cert.FwdDownIdeal.τ).loc Cert.FwdDownIdeal.main_v1_1)),
      θ_run (Cert.FwdDownIdeal.defs (F := Ideal)) (onTc (τ := Cert.FwdDownIdeal.τ) (Cert.FwdDownIdeal.main (F := Ideal))) ⟨m, fun _ => 0, g⟩ (fun r => ∀ c : Dev Cert.FwdDownIdeal.nD,
          r.2.mem ((c.tc : Thread Cert.FwdDownIdeal.nD Cert.FwdDownIdeal.τ).loc Cert.FwdDownIdeal.main_v1_0) = v0 c
          ∧ r.2.mem ((c.tc : Thread Cert.FwdDownIdeal.nD Cert.FwdDownIdeal.τ).loc Cert.FwdDownIdeal.main_v1_1) = v1 c
          ∧ r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
          ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1)
          ∧ r.2.mem ((c.tc : Thread Cert.FwdDownIdeal.nD Cert.FwdDownIdeal.τ).loc Cert.FwdDownIdeal.main_arg2) = m ((c.tc : Thread Cert.FwdDownIdeal.nD Cert.FwdDownIdeal.τ).loc Cert.FwdDownIdeal.main_arg2)
          ∧ r.2.mem ((c.tc : Thread Cert.FwdDownIdeal.nD Cert.FwdDownIdeal.τ).loc Cert.FwdDownIdeal.main_arg3) = m ((c.tc : Thread Cert.FwdDownIdeal.nD Cert.FwdDownIdeal.τ).loc Cert.FwdDownIdeal.main_arg3))
      ∧ θ_run (Cert.FwdDownReferenceIdeal.defs (F := Ideal)) (onTc (τ := Cert.FwdDownReferenceIdeal.τ) (Cert.FwdDownReferenceIdeal.main (F := Ideal))) ⟨m', fun _ => 0, g'⟩ (fun r => ∀ c : Dev Cert.FwdDownReferenceIdeal.nD,
          r.2.mem ((c.tc : Thread Cert.FwdDownReferenceIdeal.nD Cert.FwdDownReferenceIdeal.τ).loc Cert.FwdDownReferenceIdeal.main_v3) = v0 c
          ∧ r.2.mem ((c.tc : Thread Cert.FwdDownReferenceIdeal.nD Cert.FwdDownReferenceIdeal.τ).loc Cert.FwdDownReferenceIdeal.main_v17) = v1 c
          ∧ r.2.mem ((c.tc : Thread Cert.FwdDownReferenceIdeal.nD Cert.FwdDownReferenceIdeal.τ).loc Cert.FwdDownReferenceIdeal.main_arg0) = m' ((c.tc : Thread Cert.FwdDownReferenceIdeal.nD Cert.FwdDownReferenceIdeal.τ).loc Cert.FwdDownReferenceIdeal.main_arg0)
          ∧ r.2.mem ((c.tc : Thread Cert.FwdDownReferenceIdeal.nD Cert.FwdDownReferenceIdeal.τ).loc Cert.FwdDownReferenceIdeal.main_arg1) = m' ((c.tc : Thread Cert.FwdDownReferenceIdeal.nD Cert.FwdDownReferenceIdeal.τ).loc Cert.FwdDownReferenceIdeal.main_arg1)
          ∧ r.2.mem ((c.tc : Thread Cert.FwdDownReferenceIdeal.nD Cert.FwdDownReferenceIdeal.τ).loc Cert.FwdDownReferenceIdeal.main_arg2) = m' ((c.tc : Thread Cert.FwdDownReferenceIdeal.nD Cert.FwdDownReferenceIdeal.τ).loc Cert.FwdDownReferenceIdeal.main_arg2)
          ∧ r.2.mem ((c.tc : Thread Cert.FwdDownReferenceIdeal.nD Cert.FwdDownReferenceIdeal.τ).loc Cert.FwdDownReferenceIdeal.main_arg3) = m' ((c.tc : Thread Cert.FwdDownReferenceIdeal.nD Cert.FwdDownReferenceIdeal.τ).loc Cert.FwdDownReferenceIdeal.main_arg3))

def preserves_BwdPle_BwdPleIdeal : Prop :=
  True

def algebraic_BwdPleIdeal_BwdPleReferenceIdeal [hBwdPleIdeal : Cert.BwdPleIdeal.Facts] [hBwdPleReferenceIdeal : Cert.BwdPleReferenceIdeal.Facts] : Prop :=
  ∀ (m : (ℓ : Loc Cert.BwdPleIdeal.nD Cert.BwdPleIdeal.τ Cert.BwdPleIdeal.sig) → Buf (Elt Ideal) ℓ) (g : Dev Cert.BwdPleIdeal.nD → PrngReg)
    (m' : (ℓ : Loc Cert.BwdPleReferenceIdeal.nD Cert.BwdPleReferenceIdeal.τ Cert.BwdPleReferenceIdeal.sig) → Buf (Elt Ideal) ℓ) (g' : Dev Cert.BwdPleReferenceIdeal.nD → PrngReg), Pre_BwdPleIdeal m →
    (∀ c : Dev Cert.BwdPleIdeal.nD,
      m' ((c.tc : Thread Cert.BwdPleReferenceIdeal.nD Cert.BwdPleReferenceIdeal.τ).loc Cert.BwdPleReferenceIdeal.main_arg0) = m ((c.tc : Thread Cert.BwdPleIdeal.nD Cert.BwdPleIdeal.τ).loc Cert.BwdPleIdeal.main_arg0)
      ∧ m' ((c.tc : Thread Cert.BwdPleReferenceIdeal.nD Cert.BwdPleReferenceIdeal.τ).loc Cert.BwdPleReferenceIdeal.main_arg1) = m ((c.tc : Thread Cert.BwdPleIdeal.nD Cert.BwdPleIdeal.τ).loc Cert.BwdPleIdeal.main_arg1)
      ∧ m' ((c.tc : Thread Cert.BwdPleReferenceIdeal.nD Cert.BwdPleReferenceIdeal.τ).loc Cert.BwdPleReferenceIdeal.main_arg2) = m ((c.tc : Thread Cert.BwdPleIdeal.nD Cert.BwdPleIdeal.τ).loc Cert.BwdPleIdeal.main_arg2)
      ∧ m' ((c.tc : Thread Cert.BwdPleReferenceIdeal.nD Cert.BwdPleReferenceIdeal.τ).loc Cert.BwdPleReferenceIdeal.main_arg3) = m ((c.tc : Thread Cert.BwdPleIdeal.nD Cert.BwdPleIdeal.τ).loc Cert.BwdPleIdeal.main_arg3)) →
    ∃ (v0 : (c : Dev Cert.BwdPleIdeal.nD) → Buf (Elt Ideal) ((c.tc : Thread Cert.BwdPleIdeal.nD Cert.BwdPleIdeal.τ).loc Cert.BwdPleIdeal.main_v0_0)) (v1 : (c : Dev Cert.BwdPleIdeal.nD) → Buf (Elt Ideal) ((c.tc : Thread Cert.BwdPleIdeal.nD Cert.BwdPleIdeal.τ).loc Cert.BwdPleIdeal.main_v0_1)),
      θ_run (Cert.BwdPleIdeal.defs (F := Ideal)) (onTc (τ := Cert.BwdPleIdeal.τ) (Cert.BwdPleIdeal.main (F := Ideal))) ⟨m, fun _ => 0, g⟩ (fun r => ∀ c : Dev Cert.BwdPleIdeal.nD,
          r.2.mem ((c.tc : Thread Cert.BwdPleIdeal.nD Cert.BwdPleIdeal.τ).loc Cert.BwdPleIdeal.main_v0_0) = v0 c
          ∧ r.2.mem ((c.tc : Thread Cert.BwdPleIdeal.nD Cert.BwdPleIdeal.τ).loc Cert.BwdPleIdeal.main_v0_1) = v1 c
          ∧ r.2.mem ((c.tc : Thread Cert.BwdPleIdeal.nD Cert.BwdPleIdeal.τ).loc Cert.BwdPleIdeal.main_arg0) = m ((c.tc : Thread Cert.BwdPleIdeal.nD Cert.BwdPleIdeal.τ).loc Cert.BwdPleIdeal.main_arg0)
          ∧ r.2.mem ((c.tc : Thread Cert.BwdPleIdeal.nD Cert.BwdPleIdeal.τ).loc Cert.BwdPleIdeal.main_arg1) = m ((c.tc : Thread Cert.BwdPleIdeal.nD Cert.BwdPleIdeal.τ).loc Cert.BwdPleIdeal.main_arg1)
          ∧ r.2.mem ((c.tc : Thread Cert.BwdPleIdeal.nD Cert.BwdPleIdeal.τ).loc Cert.BwdPleIdeal.main_arg2) = m ((c.tc : Thread Cert.BwdPleIdeal.nD Cert.BwdPleIdeal.τ).loc Cert.BwdPleIdeal.main_arg2)
          ∧ r.2.mem ((c.tc : Thread Cert.BwdPleIdeal.nD Cert.BwdPleIdeal.τ).loc Cert.BwdPleIdeal.main_arg3) = m ((c.tc : Thread Cert.BwdPleIdeal.nD Cert.BwdPleIdeal.τ).loc Cert.BwdPleIdeal.main_arg3))
      ∧ θ_run (Cert.BwdPleReferenceIdeal.defs (F := Ideal)) (onTc (τ := Cert.BwdPleReferenceIdeal.τ) (Cert.BwdPleReferenceIdeal.main (F := Ideal))) ⟨m', fun _ => 0, g'⟩ (fun r => ∀ c : Dev Cert.BwdPleReferenceIdeal.nD,
          r.2.mem ((c.tc : Thread Cert.BwdPleReferenceIdeal.nD Cert.BwdPleReferenceIdeal.τ).loc Cert.BwdPleReferenceIdeal.main_v16) = v0 c
          ∧ r.2.mem ((c.tc : Thread Cert.BwdPleReferenceIdeal.nD Cert.BwdPleReferenceIdeal.τ).loc Cert.BwdPleReferenceIdeal.main_v17) = v1 c
          ∧ r.2.mem ((c.tc : Thread Cert.BwdPleReferenceIdeal.nD Cert.BwdPleReferenceIdeal.τ).loc Cert.BwdPleReferenceIdeal.main_arg0) = m' ((c.tc : Thread Cert.BwdPleReferenceIdeal.nD Cert.BwdPleReferenceIdeal.τ).loc Cert.BwdPleReferenceIdeal.main_arg0)
          ∧ r.2.mem ((c.tc : Thread Cert.BwdPleReferenceIdeal.nD Cert.BwdPleReferenceIdeal.τ).loc Cert.BwdPleReferenceIdeal.main_arg1) = m' ((c.tc : Thread Cert.BwdPleReferenceIdeal.nD Cert.BwdPleReferenceIdeal.τ).loc Cert.BwdPleReferenceIdeal.main_arg1)
          ∧ r.2.mem ((c.tc : Thread Cert.BwdPleReferenceIdeal.nD Cert.BwdPleReferenceIdeal.τ).loc Cert.BwdPleReferenceIdeal.main_arg2) = m' ((c.tc : Thread Cert.BwdPleReferenceIdeal.nD Cert.BwdPleReferenceIdeal.τ).loc Cert.BwdPleReferenceIdeal.main_arg2)
          ∧ r.2.mem ((c.tc : Thread Cert.BwdPleReferenceIdeal.nD Cert.BwdPleReferenceIdeal.τ).loc Cert.BwdPleReferenceIdeal.main_arg3) = m' ((c.tc : Thread Cert.BwdPleReferenceIdeal.nD Cert.BwdPleReferenceIdeal.τ).loc Cert.BwdPleReferenceIdeal.main_arg3))

def preserves_FwdPle_FwdPleIdeal : Prop :=
  True

def algebraic_FwdPleIdeal_FwdPleReferenceIdeal [hFwdPleIdeal : Cert.FwdPleIdeal.Facts] [hFwdPleReferenceIdeal : Cert.FwdPleReferenceIdeal.Facts] : Prop :=
  ∀ (m : (ℓ : Loc Cert.FwdPleIdeal.nD Cert.FwdPleIdeal.τ Cert.FwdPleIdeal.sig) → Buf (Elt Ideal) ℓ) (g : Dev Cert.FwdPleIdeal.nD → PrngReg)
    (m' : (ℓ : Loc Cert.FwdPleReferenceIdeal.nD Cert.FwdPleReferenceIdeal.τ Cert.FwdPleReferenceIdeal.sig) → Buf (Elt Ideal) ℓ) (g' : Dev Cert.FwdPleReferenceIdeal.nD → PrngReg), Pre_FwdPleIdeal m →
    (∀ c : Dev Cert.FwdPleIdeal.nD,
      m' ((c.tc : Thread Cert.FwdPleReferenceIdeal.nD Cert.FwdPleReferenceIdeal.τ).loc Cert.FwdPleReferenceIdeal.main_arg0) = m ((c.tc : Thread Cert.FwdPleIdeal.nD Cert.FwdPleIdeal.τ).loc Cert.FwdPleIdeal.main_arg0)
      ∧ m' ((c.tc : Thread Cert.FwdPleReferenceIdeal.nD Cert.FwdPleReferenceIdeal.τ).loc Cert.FwdPleReferenceIdeal.main_arg1) = m ((c.tc : Thread Cert.FwdPleIdeal.nD Cert.FwdPleIdeal.τ).loc Cert.FwdPleIdeal.main_arg1)
      ∧ m' ((c.tc : Thread Cert.FwdPleReferenceIdeal.nD Cert.FwdPleReferenceIdeal.τ).loc Cert.FwdPleReferenceIdeal.main_arg2) = m ((c.tc : Thread Cert.FwdPleIdeal.nD Cert.FwdPleIdeal.τ).loc Cert.FwdPleIdeal.main_arg2)
      ∧ m' ((c.tc : Thread Cert.FwdPleReferenceIdeal.nD Cert.FwdPleReferenceIdeal.τ).loc Cert.FwdPleReferenceIdeal.main_arg3) = m ((c.tc : Thread Cert.FwdPleIdeal.nD Cert.FwdPleIdeal.τ).loc Cert.FwdPleIdeal.main_arg3)
      ∧ m' ((c.tc : Thread Cert.FwdPleReferenceIdeal.nD Cert.FwdPleReferenceIdeal.τ).loc Cert.FwdPleReferenceIdeal.main_arg4) = m ((c.tc : Thread Cert.FwdPleIdeal.nD Cert.FwdPleIdeal.τ).loc Cert.FwdPleIdeal.main_arg4)) →
    ∃ (v0 : (c : Dev Cert.FwdPleIdeal.nD) → Buf (Elt Ideal) ((c.tc : Thread Cert.FwdPleIdeal.nD Cert.FwdPleIdeal.τ).loc Cert.FwdPleIdeal.main_v1_0)) (v1 : (c : Dev Cert.FwdPleIdeal.nD) → Buf (Elt Ideal) ((c.tc : Thread Cert.FwdPleIdeal.nD Cert.FwdPleIdeal.τ).loc Cert.FwdPleIdeal.main_v1_1)),
      θ_run (Cert.FwdPleIdeal.defs (F := Ideal)) (onTc (τ := Cert.FwdPleIdeal.τ) (Cert.FwdPleIdeal.main (F := Ideal))) ⟨m, fun _ => 0, g⟩ (fun r => ∀ c : Dev Cert.FwdPleIdeal.nD,
          r.2.mem ((c.tc : Thread Cert.FwdPleIdeal.nD Cert.FwdPleIdeal.τ).loc Cert.FwdPleIdeal.main_v1_0) = v0 c
          ∧ r.2.mem ((c.tc : Thread Cert.FwdPleIdeal.nD Cert.FwdPleIdeal.τ).loc Cert.FwdPleIdeal.main_v1_1) = v1 c
          ∧ r.2.mem ((c.tc : Thread Cert.FwdPleIdeal.nD Cert.FwdPleIdeal.τ).loc Cert.FwdPleIdeal.main_arg0) = m ((c.tc : Thread Cert.FwdPleIdeal.nD Cert.FwdPleIdeal.τ).loc Cert.FwdPleIdeal.main_arg0)
          ∧ r.2.mem ((c.tc : Thread Cert.FwdPleIdeal.nD Cert.FwdPleIdeal.τ).loc Cert.FwdPleIdeal.main_arg1) = m ((c.tc : Thread Cert.FwdPleIdeal.nD Cert.FwdPleIdeal.τ).loc Cert.FwdPleIdeal.main_arg1)
          ∧ r.2.mem ((c.tc : Thread Cert.FwdPleIdeal.nD Cert.FwdPleIdeal.τ).loc Cert.FwdPleIdeal.main_arg2) = m ((c.tc : Thread Cert.FwdPleIdeal.nD Cert.FwdPleIdeal.τ).loc Cert.FwdPleIdeal.main_arg2)
          ∧ r.2.mem ((c.tc : Thread Cert.FwdPleIdeal.nD Cert.FwdPleIdeal.τ).loc Cert.FwdPleIdeal.main_arg3) = m ((c.tc : Thread Cert.FwdPleIdeal.nD Cert.FwdPleIdeal.τ).loc Cert.FwdPleIdeal.main_arg3)
          ∧ r.2.mem ((c.tc : Thread Cert.FwdPleIdeal.nD Cert.FwdPleIdeal.τ).loc Cert.FwdPleIdeal.main_arg4) = m ((c.tc : Thread Cert.FwdPleIdeal.nD Cert.FwdPleIdeal.τ).loc Cert.FwdPleIdeal.main_arg4))
      ∧ θ_run (Cert.FwdPleReferenceIdeal.defs (F := Ideal)) (onTc (τ := Cert.FwdPleReferenceIdeal.τ) (Cert.FwdPleReferenceIdeal.main (F := Ideal))) ⟨m', fun _ => 0, g'⟩ (fun r => ∀ c : Dev Cert.FwdPleReferenceIdeal.nD,
          r.2.mem ((c.tc : Thread Cert.FwdPleReferenceIdeal.nD Cert.FwdPleReferenceIdeal.τ).loc Cert.FwdPleReferenceIdeal.main_v10) = v0 c
          ∧ r.2.mem ((c.tc : Thread Cert.FwdPleReferenceIdeal.nD Cert.FwdPleReferenceIdeal.τ).loc Cert.FwdPleReferenceIdeal.main_v24) = v1 c
          ∧ r.2.mem ((c.tc : Thread Cert.FwdPleReferenceIdeal.nD Cert.FwdPleReferenceIdeal.τ).loc Cert.FwdPleReferenceIdeal.main_arg0) = m' ((c.tc : Thread Cert.FwdPleReferenceIdeal.nD Cert.FwdPleReferenceIdeal.τ).loc Cert.FwdPleReferenceIdeal.main_arg0)
          ∧ r.2.mem ((c.tc : Thread Cert.FwdPleReferenceIdeal.nD Cert.FwdPleReferenceIdeal.τ).loc Cert.FwdPleReferenceIdeal.main_arg1) = m' ((c.tc : Thread Cert.FwdPleReferenceIdeal.nD Cert.FwdPleReferenceIdeal.τ).loc Cert.FwdPleReferenceIdeal.main_arg1)
          ∧ r.2.mem ((c.tc : Thread Cert.FwdPleReferenceIdeal.nD Cert.FwdPleReferenceIdeal.τ).loc Cert.FwdPleReferenceIdeal.main_arg2) = m' ((c.tc : Thread Cert.FwdPleReferenceIdeal.nD Cert.FwdPleReferenceIdeal.τ).loc Cert.FwdPleReferenceIdeal.main_arg2)
          ∧ r.2.mem ((c.tc : Thread Cert.FwdPleReferenceIdeal.nD Cert.FwdPleReferenceIdeal.τ).loc Cert.FwdPleReferenceIdeal.main_arg3) = m' ((c.tc : Thread Cert.FwdPleReferenceIdeal.nD Cert.FwdPleReferenceIdeal.τ).loc Cert.FwdPleReferenceIdeal.main_arg3)
          ∧ r.2.mem ((c.tc : Thread Cert.FwdPleReferenceIdeal.nD Cert.FwdPleReferenceIdeal.τ).loc Cert.FwdPleReferenceIdeal.main_arg4) = m' ((c.tc : Thread Cert.FwdPleReferenceIdeal.nD Cert.FwdPleReferenceIdeal.τ).loc Cert.FwdPleReferenceIdeal.main_arg4))

def preserves_FwdNorm_FwdNormIdeal : Prop :=
  True

def algebraic_FwdNormIdeal_FwdNormReferenceIdeal [hFwdNormIdeal : Cert.FwdNormIdeal.Facts] [hFwdNormReferenceIdeal : Cert.FwdNormReferenceIdeal.Facts] : Prop :=
  ∀ (m : (ℓ : Loc Cert.FwdNormIdeal.nD Cert.FwdNormIdeal.τ Cert.FwdNormIdeal.sig) → Buf (Elt Ideal) ℓ) (g : Dev Cert.FwdNormIdeal.nD → PrngReg)
    (m' : (ℓ : Loc Cert.FwdNormReferenceIdeal.nD Cert.FwdNormReferenceIdeal.τ Cert.FwdNormReferenceIdeal.sig) → Buf (Elt Ideal) ℓ) (g' : Dev Cert.FwdNormReferenceIdeal.nD → PrngReg), Pre_FwdNormIdeal m →
    (∀ c : Dev Cert.FwdNormIdeal.nD,
      m' ((c.tc : Thread Cert.FwdNormReferenceIdeal.nD Cert.FwdNormReferenceIdeal.τ).loc Cert.FwdNormReferenceIdeal.main_arg0) = m ((c.tc : Thread Cert.FwdNormIdeal.nD Cert.FwdNormIdeal.τ).loc Cert.FwdNormIdeal.main_arg0)
      ∧ m' ((c.tc : Thread Cert.FwdNormReferenceIdeal.nD Cert.FwdNormReferenceIdeal.τ).loc Cert.FwdNormReferenceIdeal.main_arg1) = m ((c.tc : Thread Cert.FwdNormIdeal.nD Cert.FwdNormIdeal.τ).loc Cert.FwdNormIdeal.main_arg1)) →
    ∃ (v0 : (c : Dev Cert.FwdNormIdeal.nD) → Buf (Elt Ideal) ((c.tc : Thread Cert.FwdNormIdeal.nD Cert.FwdNormIdeal.τ).loc Cert.FwdNormIdeal.main_v1)),
      θ_run (Cert.FwdNormIdeal.defs (F := Ideal)) (onTc (τ := Cert.FwdNormIdeal.τ) (Cert.FwdNormIdeal.main (F := Ideal))) ⟨m, fun _ => 0, g⟩ (fun r => ∀ c : Dev Cert.FwdNormIdeal.nD,
          r.2.mem ((c.tc : Thread Cert.FwdNormIdeal.nD Cert.FwdNormIdeal.τ).loc Cert.FwdNormIdeal.main_v1) = v0 c
          ∧ r.2.mem ((c.tc : Thread Cert.FwdNormIdeal.nD Cert.FwdNormIdeal.τ).loc Cert.FwdNormIdeal.main_arg0) = m ((c.tc : Thread Cert.FwdNormIdeal.nD Cert.FwdNormIdeal.τ).loc Cert.FwdNormIdeal.main_arg0)
          ∧ r.2.mem ((c.tc : Thread Cert.FwdNormIdeal.nD Cert.FwdNormIdeal.τ).loc Cert.FwdNormIdeal.main_arg1) = m ((c.tc : Thread Cert.FwdNormIdeal.nD Cert.FwdNormIdeal.τ).loc Cert.FwdNormIdeal.main_arg1))
      ∧ θ_run (Cert.FwdNormReferenceIdeal.defs (F := Ideal)) (onTc (τ := Cert.FwdNormReferenceIdeal.τ) (Cert.FwdNormReferenceIdeal.main (F := Ideal))) ⟨m', fun _ => 0, g'⟩ (fun r => ∀ c : Dev Cert.FwdNormReferenceIdeal.nD,
          r.2.mem ((c.tc : Thread Cert.FwdNormReferenceIdeal.nD Cert.FwdNormReferenceIdeal.τ).loc Cert.FwdNormReferenceIdeal.main_v13) = v0 c
          ∧ r.2.mem ((c.tc : Thread Cert.FwdNormReferenceIdeal.nD Cert.FwdNormReferenceIdeal.τ).loc Cert.FwdNormReferenceIdeal.main_arg0) = m' ((c.tc : Thread Cert.FwdNormReferenceIdeal.nD Cert.FwdNormReferenceIdeal.τ).loc Cert.FwdNormReferenceIdeal.main_arg0)
          ∧ r.2.mem ((c.tc : Thread Cert.FwdNormReferenceIdeal.nD Cert.FwdNormReferenceIdeal.τ).loc Cert.FwdNormReferenceIdeal.main_arg1) = m' ((c.tc : Thread Cert.FwdNormReferenceIdeal.nD Cert.FwdNormReferenceIdeal.τ).loc Cert.FwdNormReferenceIdeal.main_arg1))

def preserves_FwdSwa_FwdSwaIdeal : Prop :=
  True

def algebraic_FwdSwaIdeal_FwdSwaReferenceIdeal_pre_finite_scores [hFwdSwaIdeal : Cert.FwdSwaIdeal.Facts] [hFwdSwaReferenceIdeal : Cert.FwdSwaReferenceIdeal.Facts] [hPre_finite_scores : Cert.Pre_finite_scores.Facts] : Prop :=
  ∀ (m : (ℓ : Loc Cert.FwdSwaIdeal.nD Cert.FwdSwaIdeal.τ Cert.FwdSwaIdeal.sig) → Buf (Elt Ideal) ℓ) (g : Dev Cert.FwdSwaIdeal.nD → PrngReg)
    (m' : (ℓ : Loc Cert.FwdSwaReferenceIdeal.nD Cert.FwdSwaReferenceIdeal.τ Cert.FwdSwaReferenceIdeal.sig) → Buf (Elt Ideal) ℓ) (g' : Dev Cert.FwdSwaReferenceIdeal.nD → PrngReg), Pre_FwdSwaIdeal_finite_scores m →
    (∀ c : Dev Cert.FwdSwaIdeal.nD,
      m' ((c.tc : Thread Cert.FwdSwaReferenceIdeal.nD Cert.FwdSwaReferenceIdeal.τ).loc Cert.FwdSwaReferenceIdeal.main_arg0) = m ((c.tc : Thread Cert.FwdSwaIdeal.nD Cert.FwdSwaIdeal.τ).loc Cert.FwdSwaIdeal.main_arg0)
      ∧ m' ((c.tc : Thread Cert.FwdSwaReferenceIdeal.nD Cert.FwdSwaReferenceIdeal.τ).loc Cert.FwdSwaReferenceIdeal.main_arg1) = m ((c.tc : Thread Cert.FwdSwaIdeal.nD Cert.FwdSwaIdeal.τ).loc Cert.FwdSwaIdeal.main_arg1)
      ∧ m' ((c.tc : Thread Cert.FwdSwaReferenceIdeal.nD Cert.FwdSwaReferenceIdeal.τ).loc Cert.FwdSwaReferenceIdeal.main_arg2) = m ((c.tc : Thread Cert.FwdSwaIdeal.nD Cert.FwdSwaIdeal.τ).loc Cert.FwdSwaIdeal.main_arg2)) →
    ∃ (v0 : (c : Dev Cert.FwdSwaIdeal.nD) → Buf (Elt Ideal) ((c.tc : Thread Cert.FwdSwaIdeal.nD Cert.FwdSwaIdeal.τ).loc Cert.FwdSwaIdeal.main_v27)),
      θ_run (Cert.FwdSwaIdeal.defs (F := Ideal)) (onTc (τ := Cert.FwdSwaIdeal.τ) (Cert.FwdSwaIdeal.main (F := Ideal))) ⟨m, fun _ => 0, g⟩ (fun r => ∀ c : Dev Cert.FwdSwaIdeal.nD,
          r.2.mem ((c.tc : Thread Cert.FwdSwaIdeal.nD Cert.FwdSwaIdeal.τ).loc Cert.FwdSwaIdeal.main_v27) = v0 c
          ∧ r.2.mem ((c.tc : Thread Cert.FwdSwaIdeal.nD Cert.FwdSwaIdeal.τ).loc Cert.FwdSwaIdeal.main_arg0) = m ((c.tc : Thread Cert.FwdSwaIdeal.nD Cert.FwdSwaIdeal.τ).loc Cert.FwdSwaIdeal.main_arg0)
          ∧ r.2.mem ((c.tc : Thread Cert.FwdSwaIdeal.nD Cert.FwdSwaIdeal.τ).loc Cert.FwdSwaIdeal.main_arg1) = m ((c.tc : Thread Cert.FwdSwaIdeal.nD Cert.FwdSwaIdeal.τ).loc Cert.FwdSwaIdeal.main_arg1)
          ∧ r.2.mem ((c.tc : Thread Cert.FwdSwaIdeal.nD Cert.FwdSwaIdeal.τ).loc Cert.FwdSwaIdeal.main_arg2) = m ((c.tc : Thread Cert.FwdSwaIdeal.nD Cert.FwdSwaIdeal.τ).loc Cert.FwdSwaIdeal.main_arg2))
      ∧ θ_run (Cert.FwdSwaReferenceIdeal.defs (F := Ideal)) (onTc (τ := Cert.FwdSwaReferenceIdeal.τ) (Cert.FwdSwaReferenceIdeal.main (F := Ideal))) ⟨m', fun _ => 0, g'⟩ (fun r => ∀ c : Dev Cert.FwdSwaReferenceIdeal.nD,
          r.2.mem ((c.tc : Thread Cert.FwdSwaReferenceIdeal.nD Cert.FwdSwaReferenceIdeal.τ).loc Cert.FwdSwaReferenceIdeal.main_v77) = v0 c
          ∧ r.2.mem ((c.tc : Thread Cert.FwdSwaReferenceIdeal.nD Cert.FwdSwaReferenceIdeal.τ).loc Cert.FwdSwaReferenceIdeal.main_arg0) = m' ((c.tc : Thread Cert.FwdSwaReferenceIdeal.nD Cert.FwdSwaReferenceIdeal.τ).loc Cert.FwdSwaReferenceIdeal.main_arg0)
          ∧ r.2.mem ((c.tc : Thread Cert.FwdSwaReferenceIdeal.nD Cert.FwdSwaReferenceIdeal.τ).loc Cert.FwdSwaReferenceIdeal.main_arg1) = m' ((c.tc : Thread Cert.FwdSwaReferenceIdeal.nD Cert.FwdSwaReferenceIdeal.τ).loc Cert.FwdSwaReferenceIdeal.main_arg1)
          ∧ r.2.mem ((c.tc : Thread Cert.FwdSwaReferenceIdeal.nD Cert.FwdSwaReferenceIdeal.τ).loc Cert.FwdSwaReferenceIdeal.main_arg2) = m' ((c.tc : Thread Cert.FwdSwaReferenceIdeal.nD Cert.FwdSwaReferenceIdeal.τ).loc Cert.FwdSwaReferenceIdeal.main_arg2))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInReferenceIdeal : Cert.DwInReferenceIdeal.Facts) (hDwDown : Cert.DwDown.Facts) (hDwDownIdeal : Cert.DwDownIdeal.Facts) (hDwDownReferenceIdeal : Cert.DwDownReferenceIdeal.Facts) (hDwOut : Cert.DwOut.Facts) (hDwOutIdeal : Cert.DwOutIdeal.Facts) (hDwOutReferenceIdeal : Cert.DwOutReferenceIdeal.Facts) (hDwPu : Cert.DwPu.Facts) (hDwPuIdeal : Cert.DwPuIdeal.Facts) (hDwPuReferenceIdeal : Cert.DwPuReferenceIdeal.Facts) (hDxDown : Cert.DxDown.Facts) (hDxDownIdeal : Cert.DxDownIdeal.Facts) (hDxDownReferenceIdeal : Cert.DxDownReferenceIdeal.Facts) (hDxOut : Cert.DxOut.Facts) (hDxOutIdeal : Cert.DxOutIdeal.Facts) (hDxOutReferenceIdeal : Cert.DxOutReferenceIdeal.Facts) (hDxUp : Cert.DxUp.Facts) (hDxUpIdeal : Cert.DxUpIdeal.Facts) (hDxUpReferenceIdeal : Cert.DxUpReferenceIdeal.Facts) (hDxIn : Cert.DxIn.Facts) (hDxInIdeal : Cert.DxInIdeal.Facts) (hDxInReferenceIdeal : Cert.DxInReferenceIdeal.Facts) (hDxGate : Cert.DxGate.Facts) (hDxGateIdeal : Cert.DxGateIdeal.Facts) (hDxGateReferenceIdeal : Cert.DxGateReferenceIdeal.Facts) (hFwdIn : Cert.FwdIn.Facts) (hFwdInIdeal : Cert.FwdInIdeal.Facts) (hFwdInReferenceIdeal : Cert.FwdInReferenceIdeal.Facts) (hFwdUp : Cert.FwdUp.Facts) (hFwdUpIdeal : Cert.FwdUpIdeal.Facts) (hFwdUpReferenceIdeal : Cert.FwdUpReferenceIdeal.Facts) (hFwdGate : Cert.FwdGate.Facts) (hFwdGateIdeal : Cert.FwdGateIdeal.Facts) (hFwdGateReferenceIdeal : Cert.FwdGateReferenceIdeal.Facts) (hFwdOut : Cert.FwdOut.Facts) (hFwdOutIdeal : Cert.FwdOutIdeal.Facts) (hFwdOutReferenceIdeal : Cert.FwdOutReferenceIdeal.Facts) (hFwdDown : Cert.FwdDown.Facts) (hFwdDownIdeal : Cert.FwdDownIdeal.Facts) (hFwdDownReferenceIdeal : Cert.FwdDownReferenceIdeal.Facts) (hBwdPle : Cert.BwdPle.Facts) (hBwdPleIdeal : Cert.BwdPleIdeal.Facts) (hBwdPleReferenceIdeal : Cert.BwdPleReferenceIdeal.Facts) (hFwdPle : Cert.FwdPle.Facts) (hFwdPleIdeal : Cert.FwdPleIdeal.Facts) (hFwdPleReferenceIdeal : Cert.FwdPleReferenceIdeal.Facts) (hFwdNorm : Cert.FwdNorm.Facts) (hFwdNormIdeal : Cert.FwdNormIdeal.Facts) (hFwdNormReferenceIdeal : Cert.FwdNormReferenceIdeal.Facts) (hFwdSwa : Cert.FwdSwa.Facts) (hFwdSwaIdeal : Cert.FwdSwaIdeal.Facts) (hFwdSwaReferenceIdeal : Cert.FwdSwaReferenceIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwPu (hDwPu := hDwPu)
    ∧ quiescent_DwPuIdeal (hDwPuIdeal := hDwPuIdeal)
    ∧ quiescent_DwPuReferenceIdeal (hDwPuReferenceIdeal := hDwPuReferenceIdeal)
    ∧ quiescent_DxDown (hDxDown := hDxDown)
    ∧ quiescent_DxDownIdeal (hDxDownIdeal := hDxDownIdeal)
    ∧ quiescent_DxDownReferenceIdeal (hDxDownReferenceIdeal := hDxDownReferenceIdeal)
    ∧ quiescent_DxOut (hDxOut := hDxOut)
    ∧ quiescent_DxOutIdeal (hDxOutIdeal := hDxOutIdeal)
    ∧ quiescent_DxOutReferenceIdeal (hDxOutReferenceIdeal := hDxOutReferenceIdeal)
    ∧ quiescent_DxUp (hDxUp := hDxUp)
    ∧ quiescent_DxUpIdeal (hDxUpIdeal := hDxUpIdeal)
    ∧ quiescent_DxUpReferenceIdeal (hDxUpReferenceIdeal := hDxUpReferenceIdeal)
    ∧ quiescent_DxIn (hDxIn := hDxIn)
    ∧ quiescent_DxInIdeal (hDxInIdeal := hDxInIdeal)
    ∧ quiescent_DxInReferenceIdeal (hDxInReferenceIdeal := hDxInReferenceIdeal)
    ∧ quiescent_DxGate (hDxGate := hDxGate)
    ∧ quiescent_DxGateIdeal (hDxGateIdeal := hDxGateIdeal)
    ∧ quiescent_DxGateReferenceIdeal (hDxGateReferenceIdeal := hDxGateReferenceIdeal)
    ∧ quiescent_FwdIn (hFwdIn := hFwdIn)
    ∧ quiescent_FwdInIdeal (hFwdInIdeal := hFwdInIdeal)
    ∧ quiescent_FwdInReferenceIdeal (hFwdInReferenceIdeal := hFwdInReferenceIdeal)
    ∧ quiescent_FwdUp (hFwdUp := hFwdUp)
    ∧ quiescent_FwdUpIdeal (hFwdUpIdeal := hFwdUpIdeal)
    ∧ quiescent_FwdUpReferenceIdeal (hFwdUpReferenceIdeal := hFwdUpReferenceIdeal)
    ∧ quiescent_FwdGate (hFwdGate := hFwdGate)
    ∧ quiescent_FwdGateIdeal (hFwdGateIdeal := hFwdGateIdeal)
    ∧ quiescent_FwdGateReferenceIdeal (hFwdGateReferenceIdeal := hFwdGateReferenceIdeal)
    ∧ quiescent_FwdOut (hFwdOut := hFwdOut)
    ∧ quiescent_FwdOutIdeal (hFwdOutIdeal := hFwdOutIdeal)
    ∧ quiescent_FwdOutReferenceIdeal (hFwdOutReferenceIdeal := hFwdOutReferenceIdeal)
    ∧ quiescent_FwdDown (hFwdDown := hFwdDown)
    ∧ quiescent_FwdDownIdeal (hFwdDownIdeal := hFwdDownIdeal)
    ∧ quiescent_FwdDownReferenceIdeal (hFwdDownReferenceIdeal := hFwdDownReferenceIdeal)
    ∧ quiescent_BwdPle (hBwdPle := hBwdPle)
    ∧ quiescent_BwdPleIdeal (hBwdPleIdeal := hBwdPleIdeal)
    ∧ quiescent_BwdPleReferenceIdeal (hBwdPleReferenceIdeal := hBwdPleReferenceIdeal)
    ∧ quiescent_FwdPle (hFwdPle := hFwdPle)
    ∧ quiescent_FwdPleIdeal (hFwdPleIdeal := hFwdPleIdeal)
    ∧ quiescent_FwdPleReferenceIdeal (hFwdPleReferenceIdeal := hFwdPleReferenceIdeal)
    ∧ quiescent_FwdNorm (hFwdNorm := hFwdNorm)
    ∧ quiescent_FwdNormIdeal (hFwdNormIdeal := hFwdNormIdeal)
    ∧ quiescent_FwdNormReferenceIdeal (hFwdNormReferenceIdeal := hFwdNormReferenceIdeal)
    ∧ quiescent_FwdSwa (hFwdSwa := hFwdSwa)
    ∧ quiescent_FwdSwaIdeal (hFwdSwaIdeal := hFwdSwaIdeal)
    ∧ quiescent_FwdSwaIdeal_pre_finite_scores (hFwdSwaIdeal := hFwdSwaIdeal) (hPre_finite_scores := hPre_finite_scores)
    ∧ quiescent_FwdSwaReferenceIdeal (hFwdSwaReferenceIdeal := hFwdSwaReferenceIdeal)
    ∧ quiescent_FwdSwaReferenceIdeal_pre_finite_scores (hFwdSwaReferenceIdeal := hFwdSwaReferenceIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_DwIn_DwInIdeal
    ∧ algebraic_DwInIdeal_DwInReferenceIdeal (hDwInIdeal := hDwInIdeal) (hDwInReferenceIdeal := hDwInReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwPu_DwPuIdeal
    ∧ algebraic_DwPuIdeal_DwPuReferenceIdeal (hDwPuIdeal := hDwPuIdeal) (hDwPuReferenceIdeal := hDwPuReferenceIdeal)
    ∧ preserves_DxDown_DxDownIdeal
    ∧ algebraic_DxDownIdeal_DxDownReferenceIdeal (hDxDownIdeal := hDxDownIdeal) (hDxDownReferenceIdeal := hDxDownReferenceIdeal)
    ∧ preserves_DxOut_DxOutIdeal
    ∧ algebraic_DxOutIdeal_DxOutReferenceIdeal (hDxOutIdeal := hDxOutIdeal) (hDxOutReferenceIdeal := hDxOutReferenceIdeal)
    ∧ preserves_DxUp_DxUpIdeal
    ∧ algebraic_DxUpIdeal_DxUpReferenceIdeal (hDxUpIdeal := hDxUpIdeal) (hDxUpReferenceIdeal := hDxUpReferenceIdeal)
    ∧ preserves_DxIn_DxInIdeal
    ∧ algebraic_DxInIdeal_DxInReferenceIdeal (hDxInIdeal := hDxInIdeal) (hDxInReferenceIdeal := hDxInReferenceIdeal)
    ∧ preserves_DxGate_DxGateIdeal
    ∧ algebraic_DxGateIdeal_DxGateReferenceIdeal (hDxGateIdeal := hDxGateIdeal) (hDxGateReferenceIdeal := hDxGateReferenceIdeal)
    ∧ preserves_FwdIn_FwdInIdeal
    ∧ algebraic_FwdInIdeal_FwdInReferenceIdeal (hFwdInIdeal := hFwdInIdeal) (hFwdInReferenceIdeal := hFwdInReferenceIdeal)
    ∧ preserves_FwdUp_FwdUpIdeal
    ∧ algebraic_FwdUpIdeal_FwdUpReferenceIdeal (hFwdUpIdeal := hFwdUpIdeal) (hFwdUpReferenceIdeal := hFwdUpReferenceIdeal)
    ∧ preserves_FwdGate_FwdGateIdeal
    ∧ algebraic_FwdGateIdeal_FwdGateReferenceIdeal (hFwdGateIdeal := hFwdGateIdeal) (hFwdGateReferenceIdeal := hFwdGateReferenceIdeal)
    ∧ preserves_FwdOut_FwdOutIdeal
    ∧ algebraic_FwdOutIdeal_FwdOutReferenceIdeal (hFwdOutIdeal := hFwdOutIdeal) (hFwdOutReferenceIdeal := hFwdOutReferenceIdeal)
    ∧ preserves_FwdDown_FwdDownIdeal
    ∧ algebraic_FwdDownIdeal_FwdDownReferenceIdeal (hFwdDownIdeal := hFwdDownIdeal) (hFwdDownReferenceIdeal := hFwdDownReferenceIdeal)
    ∧ preserves_BwdPle_BwdPleIdeal
    ∧ algebraic_BwdPleIdeal_BwdPleReferenceIdeal (hBwdPleIdeal := hBwdPleIdeal) (hBwdPleReferenceIdeal := hBwdPleReferenceIdeal)
    ∧ preserves_FwdPle_FwdPleIdeal
    ∧ algebraic_FwdPleIdeal_FwdPleReferenceIdeal (hFwdPleIdeal := hFwdPleIdeal) (hFwdPleReferenceIdeal := hFwdPleReferenceIdeal)
    ∧ preserves_FwdNorm_FwdNormIdeal
    ∧ algebraic_FwdNormIdeal_FwdNormReferenceIdeal (hFwdNormIdeal := hFwdNormIdeal) (hFwdNormReferenceIdeal := hFwdNormReferenceIdeal)
    ∧ preserves_FwdSwa_FwdSwaIdeal
    ∧ algebraic_FwdSwaIdeal_FwdSwaReferenceIdeal_pre_finite_scores (hFwdSwaIdeal := hFwdSwaIdeal) (hFwdSwaReferenceIdeal := hFwdSwaReferenceIdeal) (hPre_finite_scores := hPre_finite_scores)
-- ==== Pre_finite.lean ====
abbrev S16384x2816 : Shape := ⟨2, ![16384, 2816]⟩
abbrev S8 : Shape := ⟨1, ![8]⟩
abbrev S16384x1024 : Shape := ⟨2, ![16384, 1024]⟩
abbrev S16384x768 : Shape := ⟨2, ![16384, 768]⟩
abbrev S_ : Shape := ⟨0, ![]⟩
abbrev S16384x512 : Shape := ⟨2, ![16384, 512]⟩

class Facts : Prop where
  slices_S16384x2816_S16384x768_0_2048 : S16384x2816.Slices ![0, 2048] S16384x768
  bcast_S_S16384x768 : S_.BroadcastsInDim S16384x768 (![] : Fin 0 → Fin S16384x768.rank)
  reducesTo_S16384x768_S_d0_1 : S16384x768.ReducesTo [0, 1] S_
  h_S_ : 0 < S_.numel
  bcast_S_S8 : S_.BroadcastsInDim S8 (![] : Fin 0 → Fin S8.rank)
  reducesTo_S8_S_d0 : S8.ReducesTo [0] S_
  slices_S16384x1024_S16384x512_0_512 : S16384x1024.Slices ![0, 512] S16384x512
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x2816 .f32) (main_arg1 : FVec F S8 .f32) (main_arg2 : FVec F S16384x1024 .f32) : IVec S_ 1 :=
  let main_v0 : FVec F S16384x768 .f32 := (extractStridedSlice S16384x768 ![0, 2048] · slices_S16384x2816_S16384x768_0_2048) main_arg0
  let main_v1 : FVec F S16384x768 .f32 := Host.absf main_v0
  let main_cst : FVec F S_ .f32 := constant S_ .f32 0x7F800000#32
  let main_v2 : FVec F S16384x768 .f32 := broadcastInDim S16384x768 ![] bcast_S_S16384x768 main_cst
  let main_v3 : IVec S16384x768 1 := cmpf .olt main_v1 main_v2
  let main_c : IVec S_ 1 := constantI S_ 1 1#1
  let main_v4 : IVec S_ 1 := (fun x v => Host.reduce IntOp.andi x v reducesTo_S16384x768_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  let main_v10 : FVec F S16384x512 .f32 := (extractStridedSlice S16384x512 ![0, 512] · slices_S16384x1024_S16384x512_0_512) main_arg2
  let main_v11 : FVec F S16384x512 .f32 := Host.absf main_v10
  let main_cst_2 : FVec F S_ .f32 := constant S_ .f32 0x7F800000#32
  let main_v12 : FVec F S16384x512 .f32 := broadcastInDim S16384x512 ![] bcast_S_S16384x512 main_cst_2
  let main_v13 : IVec S16384x512 1 := cmpf .olt main_v11 main_v12
  let main_c_3 : IVec S_ 1 := constantI S_ 1 1#1
  let main_v14 : IVec S_ 1 := (fun x v => Host.reduce IntOp.andi x v reducesTo_S16384x512_S_d0_1 h_S_) main_v13 main_c_3
  let main_v15 : IVec S_ 1 := andi main_v9 main_v14
  main_v15
-- ==== Pre_finite_scores.lean ====
abbrev S16384x2816 : Shape := ⟨2, ![16384, 2816]⟩
abbrev S8 : Shape := ⟨1, ![8]⟩
abbrev S16384x1024 : Shape := ⟨2, ![16384, 1024]⟩
abbrev S16384x640 : Shape := ⟨2, ![16384, 640]⟩
abbrev S_ : Shape := ⟨0, ![]⟩

class Facts : Prop where
  slices_S16384x2816_S16384x640_0_2048 : S16384x2816.Slices ![0, 2048] S16384x640
  bcast_S_S16384x640 : S_.BroadcastsInDim S16384x640 (![] : Fin 0 → Fin S16384x640.rank)
  reducesTo_S16384x640_S_d0_1 : S16384x640.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S16384x2816 .f32) (main_arg1 : FVec F S8 .f32) (main_arg2 : FVec F S16384x1024 .bf16) : IVec S_ 1 :=
  let main_v0 : FVec F S16384x640 .f32 := (extractStridedSlice S16384x640 ![0, 2048] · slices_S16384x2816_S16384x640_0_2048) main_arg0
  let main_v1 : FVec F S16384x640 .f32 := Host.absf main_v0
  let main_cst : FVec F S_ .f32 := constant S_ .f32 0x7F800000#32
  let main_v2 : FVec F S16384x640 .f32 := broadcastInDim S16384x640 ![] bcast_S_S16384x640 main_cst
  let main_v3 : IVec S16384x640 1 := cmpf .olt main_v1 main_v2
  let main_c : IVec S_ 1 := constantI S_ 1 1#1
  let main_v4 : IVec S_ 1 := (fun x v => Host.reduce IntOp.andi x v reducesTo_S16384x640_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Kernel.lean ====
abbrev S16384x2816 : Shape := ⟨2, ![16384, 2816]⟩
abbrev S8 : Shape := ⟨1, ![8]⟩
abbrev S16384x1024 : Shape := ⟨2, ![16384, 1024]⟩
abbrev S2x256x512 : Shape := ⟨3, ![2, 256, 512]⟩
abbrev S_ : Shape := ⟨0, ![]⟩
abbrev S2x1x4 : Shape := ⟨3, ![2, 1, 4]⟩
abbrev S2x1x4x128 : Shape := ⟨4, ![2, 1, 4, 128]⟩
abbrev S2x1x512 : Shape := ⟨3, ![2, 1, 512]⟩
abbrev S2x8x512 : Shape := ⟨3, ![2, 8, 512]⟩
abbrev S16x512 : Shape := ⟨2, ![16, 512]⟩
abbrev S16384x512 : Shape := ⟨2, ![16384, 512]⟩
abbrev S16384x128 : Shape := ⟨2, ![16384, 128]⟩
abbrev S1024x512 : Shape := ⟨2, ![1024, 512]⟩
abbrev S128x128 : Shape := ⟨2, ![128, 128]⟩
abbrev S1024x128 : Shape := ⟨2, ![1024, 128]⟩
abbrev S1152x128 : Shape := ⟨2, ![1152, 128]⟩
abbrev S256x128 : Shape := ⟨2, ![256, 128]⟩
abbrev S1x256x512 : Shape := ⟨3, ![1, 256, 512]⟩
abbrev S256x512 : Shape := ⟨2, ![256, 512]⟩
abbrev S128x512 : Shape := ⟨2, ![128, 512]⟩
abbrev S512x128 : Shape := ⟨2, ![512, 128]⟩
abbrev S256x64 : Shape := ⟨2, ![256, 64]⟩
abbrev S64x128 : Shape := ⟨2, ![64, 128]⟩
abbrev S64x512 : Shape := ⟨2, ![64, 512]⟩
abbrev S1x512 : Shape := ⟨2, ![1, 512]⟩
abbrev S128x256 : Shape := ⟨2, ![128, 256]⟩
abbrev S512 : Shape := ⟨1, ![512]⟩
abbrev S64x256 : Shape := ⟨2, ![64, 256]⟩
abbrev S1x128 : Shape := ⟨2, ![1, 128]⟩
abbrev S1 : Shape := ⟨1, ![1]⟩
abbrev S1x1 : Shape := ⟨2, ![1, 1]⟩

abbrev nBuf : Space → Nat
  | .hbm => 48
  | .vmem => 25
  | .smem => 0
  | _ => 0

abbrev bufTy : (tb : Table) → Fin (tcTables nBuf tb) → BufTy
  | .hbm, ⟨0, _⟩ => ⟨S16384x2816, .f32⟩
  | .hbm, ⟨1, _⟩ => ⟨S8, .f32⟩
  | .hbm, ⟨2, _⟩ => ⟨S16384x1024, .f32⟩
  | .hbm, ⟨3, _⟩ => ⟨S2x256x512, .i32⟩
  | .hbm, ⟨4, _⟩ => ⟨S2x256x512, .i32⟩
  | .hbm, ⟨5, _⟩ => ⟨S_, .i32⟩
  | .hbm, ⟨6, _⟩ => ⟨S2x256x512, .i32⟩
  | .hbm, ⟨7, _⟩ => ⟨S2x256x512, .i32⟩
  | .hbm, ⟨8, _⟩ => ⟨S_, .i32⟩
  | .hbm, ⟨9, _⟩ => ⟨S2x256x512, .i32⟩
  | .hbm, ⟨10, _⟩ => ⟨S2x256x512, .i32⟩
  | .hbm, ⟨11, _⟩ => ⟨S2x256x512, .i32⟩
  | .hbm, ⟨12, _⟩ => ⟨S_, .i32⟩
  | .hbm, ⟨13, _⟩ => ⟨S2x256x512, .i32⟩
  | .hbm, ⟨14, _⟩ => ⟨S2x256x512, .i1⟩
  | .hbm, ⟨15, _⟩ => ⟨S2x256x512, .i32⟩
  | .hbm, ⟨16, _⟩ => ⟨S_, .i32⟩
  | .hbm, ⟨17, _⟩ => ⟨S2x256x512, .i32⟩
  | .hbm, ⟨18, _⟩ => ⟨S2x256x512, .i1⟩
  | .hbm, ⟨19, _⟩ => ⟨S_, .i32⟩
  | .hbm, ⟨20, _⟩ => ⟨S2x256x512, .i32⟩
  | .hbm, ⟨21, _⟩ => ⟨S2x256x512, .i1⟩
  | .hbm, ⟨22, _⟩ => ⟨S2x256x512, .i1⟩
  | .hbm, ⟨23, _⟩ => ⟨S_, .i32⟩
  | .hbm, ⟨24, _⟩ => ⟨S2x256x512, .i32⟩
  | .hbm, ⟨25, _⟩ => ⟨S2x256x512, .i1⟩
  | .hbm, ⟨26, _⟩ => ⟨S2x256x512, .i1⟩
  | .hbm, ⟨27, _⟩ => ⟨S2x256x512, .i1⟩
  | .hbm, ⟨28, _⟩ => ⟨S2x256x512, .i1⟩
  | .hbm, ⟨29, _⟩ => ⟨S_, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S2x256x512, .f32⟩
  | .hbm, ⟨35, _⟩ => ⟨S2x1x4, .f32⟩
  | .hbm, ⟨36, _⟩ => ⟨S2x1x4x128, .f32⟩
  | .hbm, ⟨37, _⟩ => ⟨S2x1x512, .f32⟩
  | .hbm, ⟨38, _⟩ => ⟨S_, .i32⟩
  | .hbm, ⟨39, _⟩ => ⟨S_, .f32⟩
  | .hbm, ⟨40, _⟩ => ⟨S2x8x512, .f32⟩
  | .hbm, ⟨41, _⟩ => ⟨S16x512, .f32⟩
  | .hbm, ⟨42, _⟩ => ⟨S16384x512, .bf16⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16x512, .f32⟩
  | .local _ .vmem, ⟨0, _⟩ => ⟨S1024x512, .f32⟩
  | .local _ .vmem, ⟨1, _⟩ => ⟨S1024x512, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S16x512, .f32⟩
  | .local _ .vmem, ⟨11, _⟩ => ⟨S2x256x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S16x512, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_call1_v0 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v25 : BitVec 32 := Scalar.minsi arg0 c1_i32
  let v26 : Index := Scalar.indexCast v25
  let c0_8 : Index := 0#32
  let c0_9 : Index := 0#32
  ![v26.toNat, 0, 0]
def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let c0_i32_0 : BitVec 32 := 0#32
  ![v2.toNat, c21_i32.toNat]

def cc0_transform_4 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x2816 : Shape := ⟨2, ![16384, 2816]⟩
abbrev S8 : Shape := ⟨1, ![8]⟩
abbrev S16384x1024 : Shape := ⟨2, ![16384, 1024]⟩
abbrev S1x16384x2816 : Shape := ⟨3, ![1, 16384, 2816]⟩
abbrev S1x16384x512 : Shape := ⟨3, ![1, 16384, 512]⟩
abbrev S1x16384x128 : Shape := ⟨3, ![1, 16384, 128]⟩
abbrev S1x128x128x2x4x64 : Shape := ⟨6, ![1, 128, 128, 2, 4, 64]⟩
abbrev S1x128x128x2x64 : Shape := ⟨5, ![1, 128, 128, 2, 64]⟩
abbrev S1x127x128x2x64 : Shape := ⟨5, ![1, 127, 128, 2, 64]⟩
abbrev S_ : Shape := ⟨0, ![]⟩
abbrev S1x128x256x2x64 : Shape := ⟨5, ![1, 128, 256, 2, 64]⟩
abbrev S8x128 : Shape := ⟨2, ![8, 128]⟩
abbrev S1024 : Shape := ⟨1, ![1024]⟩
abbrev S1x128x2x256x128x4 : Shape := ⟨6, ![1, 128, 2, 256, 128, 4]⟩
abbrev S1x128x2x4x128x256 : Shape := ⟨6, ![1, 128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S1x128x1x1x128x256 : Shape := ⟨6, ![1, 128, 1, 1, 128, 256]⟩
abbrev S2x4x128 : Shape := ⟨3, ![2, 4, 128]⟩
abbrev S1x1x2x4x128x1 : Shape := ⟨6, ![1, 1, 2, 4, 128, 1]⟩
abbrev S1x128x2x4x128 : Shape := ⟨5, ![1, 128, 2, 4, 128]⟩
abbrev S1x128x2x4x128x1 : Shape := ⟨6, ![1, 128, 2, 4, 128, 1]⟩
abbrev S1x128x2x64x4x128 : Shape := ⟨6, ![1, 128, 2, 64, 4, 128]⟩
abbrev S16384x512 : Shape := ⟨2, ![16384, 512]⟩
abbrev S1x128x2x64x256 : Shape := ⟨5, ![1, 128, 2, 64, 256]⟩
abbrev S1x2x4x128x1 : Shape := ⟨5, ![1, 2, 4, 128, 1]⟩
abbrev S128x2x4x128 : Shape := ⟨4, ![128, 2, 4, 128]⟩
abbrev S1x128x2x128x4x64 : Shape := ⟨6, ![1, 128, 2, 128, 4, 64]⟩
abbrev S1x128x2x256x64 : Shape := ⟨5, ![1, 128, 2, 256, 64]⟩
abbrev S16384x128 : Shape := ⟨2, ![16384, 128]⟩
abbrev S2x4 : Shape := ⟨2, ![2, 4]⟩
abbrev S2x4x1 : Shape := ⟨3, ![2, 4, 1]⟩
abbrev S2x4x512 : Shape := ⟨3, ![2, 4, 512]⟩
abbrev S2x1x512 : Shape := ⟨3, ![2, 1, 512]⟩
abbrev S2x3x512 : Shape := ⟨3, ![2, 3, 512]⟩
abbrev S2x8x512 : Shape := ⟨3, ![2, 8, 512]⟩
abbrev S16x512 : Shape := ⟨2, ![16, 512]⟩

abbrev nBuf : Space → Nat
  | .hbm => 208
  | .vmem => 0
  | .smem => 0
  | _ => 0

abbrev hbmTy0_0 (i : Nat) : BufTy := match i % 128 with
  | 0 => ⟨S16384x2816, .f32⟩
  | 1 => ⟨S8, .f32⟩
  | 2 => ⟨S16384x1024, .f32⟩
  | 3 => ⟨S1x16384x2816, .f32⟩
  | 4 => ⟨S1x16384x512, .f32⟩
  | 5 => ⟨S1x16384x512, .f32⟩
  | 6 => ⟨S1x16384x512, .f32⟩
  | 7 => ⟨S1x16384x512, .f32⟩
  | 8 => ⟨S1x16384x512, .f32⟩
  | 9 => ⟨S1x16384x128, .f32⟩
  | 10 => ⟨S1x16384x128, .f32⟩
  | 11 => ⟨S1x128x128x2x4x64, .f32⟩
  | 12 => ⟨S1x128x128x2x64, .f32⟩
  | 13 => ⟨S1x128x128x2x64, .f32⟩
  | 14 => ⟨S1x127x128x2x64, .f32⟩
  | 15 => ⟨S_, .i32⟩
  | 16 => ⟨S_, .f32⟩
  | 17 => ⟨S1x128x128x2x64, .f32⟩
  | 18 => ⟨S1x128x256x2x64, .f32⟩
  | 19 => ⟨S1x127x128x2x64, .f32⟩
  | 20 => ⟨S_, .i32⟩
  | 21 => ⟨S_, .f32⟩
  | 22 => ⟨S1x128x128x2x64, .f32⟩
  | 23 => ⟨S1x128x256x2x64, .f32⟩
  | 24 => ⟨S8x128, .f32⟩
  | 25 => ⟨S1024, .f32⟩
  | 26 => ⟨S1x128x2x256x128x4, .f32⟩
  | 27 => ⟨S1x128x2x4x128x256, .f32⟩
  | 28 => ⟨S_, .f32⟩
  | 29 => ⟨S1x128x2x4x128x256, .f32⟩
  | 30 => ⟨S1x128x2x4x128x256, .f32⟩
  | 31 => ⟨S128, .i32⟩
  | 32 => ⟨S128x1, .i32⟩
  | 33 => ⟨S_, .i32⟩
  | 34 => ⟨S128x1, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S128, .i32⟩
  | 49 => ⟨S_, .i32⟩
  | 50 => ⟨S128, .i32⟩
  | 51 => ⟨S128, .i1⟩
  | 52 => ⟨S128x1x1, .i1⟩
  | 53 => ⟨S1x128x256, .i1⟩
  | 54 => ⟨S_, .i32⟩
  | 55 => ⟨S1x256, .i32⟩
  | 56 => ⟨S1x256, .i1⟩
  | 57 => ⟨S1x1x256, .i1⟩
  | 58 => ⟨S128x1x256, .i1⟩
  | 59 => ⟨S128x1x256, .i1⟩
  | 60 => ⟨S128x1x256, .i1⟩
  | 61 => ⟨S128x1x256, .i1⟩
  | 62 => ⟨S128x128x256, .i1⟩
  | 63 => ⟨S128x128x256, .i1⟩
  | 64 => ⟨S128x128x256, .i1⟩
  | 65 => ⟨S1x128x1x1x128x256, .i1⟩
  | 66 => ⟨S_, .f32⟩
  | 67 => ⟨S_, .f32⟩
  | 68 => ⟨S1x128x2x4x128x256, .i1⟩
  | 69 => ⟨S1x128x2x4x128x256, .f32⟩
  | 70 => ⟨S1x128x2x4x128x256, .f32⟩
  | 71 => ⟨S_, .f32⟩
  | 72 => ⟨S1x128x2x4x128x256, .f32⟩
  | 73 => ⟨S2x4x128, .f32⟩
  | 74 => ⟨S1x1x2x4x128x1, .f32⟩
  | 75 => ⟨S_, .f32⟩
  | 76 => ⟨S1x128x2x4x128, .f32⟩
  | 77 => ⟨S1x128x2x4x128x1, .f32⟩
  | 78 => ⟨S1x128x2x4x128x256, .f32⟩
  | 79 => ⟨S1x128x2x4x128x256, .i1⟩
  | 80 => ⟨S1x128x2x4x128x256, .f32⟩
  | 81 => ⟨S_, .f32⟩
  | 82 => ⟨S1x128x2x4x128, .f32⟩
  | 83 => ⟨S1x128x2x4x128x1, .f32⟩
  | 84 => ⟨S1x128x2x4x128x1, .f32⟩
  | 85 => ⟨S1x128x2x4x128x1, .f32⟩
  | 86 => ⟨S1x128x2x4x128x1, .f32⟩
  | 87 => ⟨S1x128x2x4x128x1, .i1⟩
  | 88 => ⟨S1x128x2x4x128x1, .f32⟩
  | 89 => ⟨S1x128x2x4x128x1, .i1⟩
  | 90 => ⟨S_, .f32⟩
  | 91 => ⟨S1x128x2x4x128x1, .f32⟩
  | 92 => ⟨S_, .f32⟩
  | 93 => ⟨S1x128x2x4x128x1, .f32⟩
  | 94 => ⟨S_, .f32⟩
  | 95 => ⟨S1x128x2x4x128x1, .f32⟩
  | 96 => ⟨S1x128x2x4x128x1, .f32⟩
  | 97 => ⟨S1x128x2x4x128x1, .f32⟩
  | 98 => ⟨S1x128x2x4x128x1, .f32⟩
  | 99 => ⟨S1x128x2x4x128x1, .i1⟩
  | 100 => ⟨S1x128x2x4x128x1, .f32⟩
  | 101 => ⟨S1x128x2x4x128x1, .i1⟩
  | 102 => ⟨S_, .f32⟩
  | 103 => ⟨S1x128x2x4x128x1, .f32⟩
  | 104 => ⟨S_, .f32⟩
  | 105 => ⟨S1x128x2x4x128x1, .f32⟩
  | 106 => ⟨S_, .f32⟩
  | 107 => ⟨S1x128x2x4x128x1, .f32⟩
  | 108 => ⟨S1x128x2x4x128x1, .f32⟩
  | 109 => ⟨S1x128x2x4x128x1, .f32⟩
  | 110 => ⟨S1x128x2x4x128x256, .f32⟩
  | 111 => ⟨S1x128x2x4x128x256, .f32⟩
  | 112 => ⟨S1x128x2x4x128x256, .f32⟩
  | 113 => ⟨S_, .f32⟩
  | 114 => ⟨S1x128x2x4x128, .f32⟩
  | 115 => ⟨S1x128x2x4x128x1, .f32⟩
  | 116 => ⟨S1x128x2x4x128x1, .f32⟩
  | 117 => ⟨S1x128x2x4x128x1, .f32⟩
  | 118 => ⟨S1x128x2x4x128x1, .f32⟩
  | 119 => ⟨S1x128x2x4x128x1, .f32⟩
  | 120 => ⟨S1x128x2x4x128x256, .f32⟩
  | 121 => ⟨S1x128x2x4x128x256, .f32⟩
  | 122 => ⟨S1x128x2x4x128x1, .f32⟩
  | 123 => ⟨S_, .f32⟩
  | 124 => ⟨S1x128x2x4x128x1, .f32⟩
  | 125 => ⟨S1x128x2x4x128x1, .f32⟩
  | 126 => ⟨S1x128x2x64x4x128, .f32⟩
  | 127 => ⟨S1x128x128x2x4x64, .f32⟩
  | _ => ⟨S16384x2816, .f32⟩

abbrev hbmTy0_1 (i : Nat) : BufTy := match i % 128 with
  | 0 => ⟨S1x16384x512, .f32⟩
  | 1 => ⟨S16384x512, .f32⟩
  | 2 => ⟨S1x16384x512, .f32⟩
  | 3 => ⟨S1x128x128x2x4x64, .f32⟩
  | 4 => ⟨S1x128x2x64x4x128, .f32⟩
  | 5 => ⟨S1x128x2x4x128x256, .f32⟩
  | 6 => ⟨S1x128x2x64x256, .f32⟩
  | 7 => ⟨S1x128x256x2x64, .f32⟩
  | 8 => ⟨S1x128x2x4x128x256, .f32⟩
  | 9 => ⟨S1x128x2x4x128x256, .f32⟩
  | 10 => ⟨S1x128x2x4x128x256, .f32⟩
  | 11 => ⟨S_, .f32⟩
  | 12 => ⟨S1x128x2x4x128, .f32⟩
  | 13 => ⟨S1x128x2x4x128x1, .f32⟩
  | 14 => ⟨S1x128x2x4x128x1, .f32⟩
  | 15 => ⟨S1x128x2x4x128x256, .f32⟩
  | 16 => ⟨S1x128x2x4x128x256, .f32⟩
  | 17 => ⟨S1x128x2x4x128x1, .f32⟩
  | 18 => ⟨S_, .f32⟩
  | 19 => ⟨S1x2x4x128x1, .f32⟩
  | 20 => ⟨S1x1x2x4x128x1, .f32⟩
  | 21 => ⟨S1x128x2x4x128x1, .f32⟩
  | 22 => ⟨S_, .f32⟩
  | 23 => ⟨S128x2x4x128, .f32⟩
  | 24 => ⟨S1x128x2x4x128, .f32⟩
  | 25 => ⟨S1x128x2x4x128x256, .f32⟩
  | 26 => ⟨S1x128x2x4x128x256, .f32⟩
  | 27 => ⟨S1x128x2x4x128x256, .f32⟩
  | 28 => ⟨S1x128x2x4x128x256, .f32⟩
  | 29 => ⟨S_, .f32⟩
  | 30 => ⟨S1x128x2x4x128, .f32⟩
  | 31 => ⟨S1x128x2x4x128x1, .f32⟩
  | 32 => ⟨S1x128x2x4x128x1, .f32⟩
  | 33 => ⟨S1x128x2x4x128x1, .f32⟩
  | 34 => ⟨S_, .f32⟩
  | 35 => ⟨S1x2x4x128x1, .f32⟩
  | 36 => ⟨S1x1x2x4x128x1, .f32⟩
  | 37 => ⟨S1x1x2x4x128x1, .f32⟩
  | 38 => ⟨S1x128x2x4x128x1, .f32⟩
  | 39 => ⟨S_, .f32⟩
  | 40 => ⟨S128x2x4x128, .f32⟩
  | 41 => ⟨S1x128x2x4x128, .f32⟩
  | 42 => ⟨S1x128x2x4x128, .f32⟩
  | 43 => ⟨S1x128x2x4x128x256, .f32⟩
  | 44 => ⟨S1x128x2x4x128x256, .f32⟩
  | 45 => ⟨S1x128x2x4x128x256, .f32⟩
  | 46 => ⟨S_, .f32⟩
  | 47 => ⟨S2x4x128, .f32⟩
  | 48 => ⟨S1024, .f32⟩
  | 49 => ⟨S_, .f32⟩
  | 50 => ⟨S1x128x2x4x128x256, .f32⟩
  | 51 => ⟨S1x128x2x4x128x256, .f32⟩
  | 52 => ⟨S_, .f32⟩
  | 53 => ⟨S1x128x2x4x128x256, .f32⟩
  | 54 => ⟨S1x128x2x4x128x256, .f32⟩
  | 55 => ⟨S1x128x2x256x128x4, .f32⟩
  | 56 => ⟨S1x128x2x128x4x64, .f32⟩
  | 57 => ⟨S1x128x128x2x4x64, .f32⟩
  | 58 => ⟨S1x128x2x256x64, .f32⟩
  | 59 => ⟨S1x128x256x2x64, .f32⟩
  | 60 => ⟨S16384x512, .f32⟩
  | 61 => ⟨S16384x512, .bf16⟩
  | 62 => ⟨S1x128x128x2x64, .f32⟩
  | 63 => ⟨S16384x128, .f32⟩
  | 64 => ⟨S1x128x128x2x64, .f32⟩
  | 65 => ⟨S16384x128, .f32⟩
  | 66 => ⟨S1x128x128x2x64, .f32⟩
  | 67 => ⟨S16384x128, .f32⟩
  | 68 => ⟨S1x128x128x2x64, .f32⟩
  | 69 => ⟨S16384x128, .f32⟩
  | 70 => ⟨S2x4x128, .f32⟩
  | 71 => ⟨S_, .f32⟩
  | 72 => ⟨S2x4, .f32⟩
  | 73 => ⟨S2x4x1, .f32⟩
  | 74 => ⟨S2x4x512, .f32⟩
  | 75 => ⟨S2x1x512, .f32⟩
  | 76 => ⟨S_, .f32⟩
  | 77 => ⟨S2x3x512, .f32⟩
  | 78 => ⟨S2x8x512, .f32⟩
  | 79 => ⟨S16x512, .f32⟩
  | _ => ⟨S16384x2816, .f32⟩

abbrev hbmTy (i : Nat) : BufTy := match i / 128 with
  | 0 => hbmTy0_0 i
  | 1 => hbmTy0_1 i
  | _ => ⟨S16384x2816, .f32⟩

abbrev bufTy : (tb : Table) → Fin (tcTables nBuf tb) → BufTy
  | .hbm, ⟨i, _⟩ => hbmTy i
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_call2_v0 : Ref sig .tc := ⟨.hbm, 67, rfl⟩
abbrev main_v53_1 : Ref sig .tc := ⟨.hbm, 68, rfl⟩
abbrev main_call2_v2 : Ref sig .tc := ⟨.hbm, 69, rfl⟩
abbrev main_v53_0 : Ref sig .tc := ⟨.hbm, 70, rfl⟩
abbrev main_call2_cst : Ref sig .tc := ⟨.hbm, 71, rfl⟩
abbrev main_v53_2 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_16 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_17 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_18 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_19 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_20 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_21 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_22 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_23 : Ref sig .tc := ⟨.hbm, 174, rfl⟩
abbrev main_v139 : Ref sig .tc := ⟨.hbm, 175, rfl⟩
abbrev main_v140 : Ref sig .tc := ⟨.hbm, 176, rfl⟩
abbrev main_call3_cst : Ref sig .tc := ⟨.hbm, 177, rfl⟩
abbrev main_call3_v0 : Ref sig .tc := ⟨.hbm, 178, rfl⟩
abbrev main_v141 : Ref sig .tc := ⟨.hbm, 179, rfl⟩
abbrev main_cst_24 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_25 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_26 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩

abbrev nD : Nat := 1
abbrev τ : Topo := Topo.v7x

variable {F : FTy → Type} [FloatOps F]
-- ==== DwIn.lean ====
abbrev S16384x1024 : Shape := ⟨2, ![16384, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x1024, .f32⟩
  | .hbm, ⟨3, _⟩ => ⟨S16384x2816, .f32⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutReferenceIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwPu.lean ====
abbrev S16384x256 : Shape := ⟨2, ![16384, 256]⟩
abbrev S16384x1024 : Shape := ⟨2, ![16384, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwPuReferenceIdeal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S256x1024, .f32⟩
  | .hbm, ⟨5, _⟩ => ⟨S16384x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxDown.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxDownReferenceIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x1024, .f32⟩
  | .hbm, ⟨3, _⟩ => ⟨S2816x1024, .f32⟩
  | .hbm, ⟨4, _⟩ => ⟨S_, .f32⟩
  | .hbm, ⟨5, _⟩ => ⟨S16384x2816, .f32⟩
  | .hbm, ⟨6, _⟩ => ⟨S16384x1024, .f32⟩
  | .hbm, ⟨7, _⟩ => ⟨S16384x2816, .f32⟩
  | .hbm, ⟨8, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxOut.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxOutReferenceIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxUp.lean ====
abbrev S16384x2816 : Shape := ⟨2, ![16384, 2816]⟩
abbrev S1024x5632 : Shape := ⟨2, ![1024, 5632]⟩
abbrev S16384x1024 : Shape := ⟨2, ![16384, 1024]⟩
abbrev S1024 : Shape := ⟨1, ![1024]⟩
abbrev S1x1024 : Shape := ⟨2, ![1, 1024]⟩
abbrev S8x1024 : Shape := ⟨2, ![8, 1024]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .hbm, ⟨9, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== DxUpReferenceIdeal.lean ====
abbrev S16384x2816 : Shape := ⟨2, ![16384, 2816]⟩
abbrev S1024x5632 : Shape := ⟨2, ![1024, 5632]⟩
abbrev S16384x1024 : Shape := ⟨2, ![16384, 1024]⟩
abbrev S1024 : Shape := ⟨1, ![1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S16384x5632, .bf16⟩
  | .hbm, ⟨7, _⟩ => ⟨S16384x5632, .f32⟩
  | .hbm, ⟨8, _⟩ => ⟨S1024x5632, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x5632, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .bf16⟩
  | .hbm, ⟨58, _⟩ => ⟨S1x1024, .f32⟩
  | .hbm, ⟨59, _⟩ => ⟨S_, .i32⟩
  | .hbm, ⟨60, _⟩ => ⟨S_, .f32⟩
  | .hbm, ⟨61, _⟩ => ⟨S8x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_call0_v0 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== DxIn.lean ====
abbrev S16384x2816 : Shape := ⟨2, ![16384, 2816]⟩
abbrev S1024x2816 : Shape := ⟨2, ![1024, 2816]⟩
abbrev S16384x1024 : Shape := ⟨2, ![16384, 1024]⟩
abbrev S1024 : Shape := ⟨1, ![1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x2816, .bf16⟩
  | .hbm, ⟨1, _⟩ => ⟨S1024x2816, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DxInReferenceIdeal.lean ====
abbrev S16384x2816 : Shape := ⟨2, ![16384, 2816]⟩
abbrev S1024x2816 : Shape := ⟨2, ![1024, 2816]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S1024x2816, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x2816, .f32⟩
  | .hbm, ⟨6, _⟩ => ⟨S1024x2816, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2816, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | .hbm, ⟨56, _⟩ => ⟨S1x1024, .f32⟩
  | .hbm, ⟨57, _⟩ => ⟨S_, .i32⟩
  | .hbm, ⟨58, _⟩ => ⟨S_, .f32⟩
  | .hbm, ⟨59, _⟩ => ⟨S8x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_call0_v0 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== DxGate.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S8x1024 : Shape := ⟨2, ![8, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DxGateReferenceIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | .hbm, ⟨56, _⟩ => ⟨S1x1024, .f32⟩
  | .hbm, ⟨57, _⟩ => ⟨S_, .i32⟩
  | .hbm, ⟨58, _⟩ => ⟨S_, .f32⟩
  | .hbm, ⟨59, _⟩ => ⟨S8x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_call0_v0 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== FwdIn.lean ====
abbrev S16384x1024 : Shape := ⟨2, ![16384, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FwdInReferenceIdeal.lean ====
abbrev S16384x1024 : Shape := ⟨2, ![16384, 1024]⟩
abbrev S1024x2816 : Shape := ⟨2, ![1024, 2816]⟩
abbrev S16384x2816 : Shape := ⟨2, ![16384, 2816]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x1024, .f32⟩
  | .hbm, ⟨3, _⟩ => ⟨S1024x2816, .f32⟩
  | .hbm, ⟨4, _⟩ => ⟨S16384x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdUp.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FwdUpReferenceIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdGate.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FwdGateReferenceIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdOut.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S1x1024, .f32⟩
  | .hbm, ⟨5, _⟩ => ⟨S16384x1024, .f32⟩
  | .hbm, ⟨6, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdOutReferenceIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FwdDown.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1024, .f32⟩
  | .hbm, ⟨4, _⟩ => ⟨S1x1024, .f32⟩
  | .hbm, ⟨5, _⟩ => ⟨S16384x1024, .f32⟩
  | .hbm, ⟨6, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdDownReferenceIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1024, .f32⟩
  | .hbm, ⟨4, _⟩ => ⟨S16384x2816, .f32⟩
  | .hbm, ⟨5, _⟩ => ⟨S2816x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== BwdPle.lean ====
abbrev S16384x1024 : Shape := ⟨2, ![16384, 1024]⟩
abbrev S16384x256 : Shape := ⟨2, ![16384, 256]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S256x1024, .bf16⟩
  | .hbm, ⟨4, _⟩ => ⟨S16384x1024, .bf16⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BwdPleReferenceIdeal.lean ====
abbrev S16384x1024 : Shape := ⟨2, ![16384, 1024]⟩
abbrev S16384x256 : Shape := ⟨2, ![16384, 256]⟩
abbrev S256x1024 : Shape := ⟨2, ![256, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S256x1024, .bf16⟩
  | .hbm, ⟨4, _⟩ => ⟨S16384x1024, .f32⟩
  | .hbm, ⟨5, _⟩ => ⟨S256x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | .hbm, ⟨24, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FwdPle.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S256x1024, .bf16⟩
  | .hbm, ⟨4, _⟩ => ⟨S1024, .f32⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdPleReferenceIdeal.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S256x1024, .bf16⟩
  | .hbm, ⟨4, _⟩ => ⟨S1024, .f32⟩
  | .hbm, ⟨5, _⟩ => ⟨S16384x1024, .f32⟩
  | .hbm, ⟨6, _⟩ => ⟨S256x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== FwdNorm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FwdNormReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FwdSwa.lean ====
abbrev S16384x2816 : Shape := ⟨2, ![16384, 2816]⟩
abbrev S8 : Shape := ⟨1, ![8]⟩
abbrev S16384x1024 : Shape := ⟨2, ![16384, 1024]⟩
abbrev S2x256x512 : Shape := ⟨3, ![2, 256, 512]⟩
abbrev S_ : Shape := ⟨0, ![]⟩
abbrev S2x1x4 : Shape := ⟨3, ![2, 1, 4]⟩
abbrev S2x1x4x128 : Shape := ⟨4, ![2, 1, 4, 128]⟩
abbrev S2x1x512 : Shape := ⟨3, ![2, 1, 512]⟩
abbrev S2x8x512 : Shape := ⟨3, ![2, 8, 512]⟩
abbrev S16x512 : Shape := ⟨2, ![16, 512]⟩
abbrev S1024x512 : Shape := ⟨2, ![1024, 512]⟩
abbrev S128x128 : Shape := ⟨2, ![128, 128]⟩
abbrev S1024x128 : Shape := ⟨2, ![1024, 128]⟩
abbrev S1152x128 : Shape := ⟨2, ![1152, 128]⟩
abbrev S256x128 : Shape := ⟨2, ![256, 128]⟩
abbrev S1x256x512 : Shape := ⟨3, ![1, 256, 512]⟩
abbrev S256x512 : Shape := ⟨2, ![256, 512]⟩
abbrev S128x512 : Shape := ⟨2, ![128, 512]⟩
abbrev S512x128 : Shape := ⟨2, ![512, 128]⟩
abbrev S256x64 : Shape := ⟨2, ![256, 64]⟩
abbrev S64x128 : Shape := ⟨2, ![64, 128]⟩
abbrev S64x512 : Shape := ⟨2, ![64, 512]⟩
abbrev S1x512 : Shape := ⟨2, ![1, 512]⟩
abbrev S128x256 : Shape := ⟨2, ![128, 256]⟩
abbrev S512 : Shape := ⟨1, ![512]⟩
abbrev S64x256 : Shape := ⟨2, ![64, 256]⟩

abbrev nBuf : Space → Nat
  | .hbm => 43
  | .vmem => 14
  | .smem => 0
  | _ => 0

abbrev bufTy : (tb : Table) → Fin (tcTables nBuf tb) → BufTy
  | .hbm, ⟨0, _⟩ => ⟨S16384x2816, .f32⟩
  | .hbm, ⟨1, _⟩ => ⟨S8, .f32⟩
  | .hbm, ⟨2, _⟩ => ⟨S16384x1024, .bf16⟩
  | .hbm, ⟨3, _⟩ => ⟨S2x256x512, .i32⟩
  | .hbm, ⟨4, _⟩ => ⟨S2x256x512, .i32⟩
  | .hbm, ⟨5, _⟩ => ⟨S_, .i32⟩
  | .hbm, ⟨6, _⟩ => ⟨S2x256x512, .i32⟩
  | .hbm, ⟨7, _⟩ => ⟨S2x256x512, .i32⟩
  | .hbm, ⟨8, _⟩ => ⟨S_, .i32⟩
  | .hbm, ⟨9, _⟩ => ⟨S2x256x512, .i32⟩
  | .hbm, ⟨10, _⟩ => ⟨S2x256x512, .i32⟩
  | .hbm, ⟨11, _⟩ => ⟨S2x256x512, .i32⟩
  | .hbm, ⟨12, _⟩ => ⟨S_, .i32⟩
  | .hbm, ⟨13, _⟩ => ⟨S2x256x512, .i32⟩
  | .hbm, ⟨14, _⟩ => ⟨S2x256x512, .i1⟩
  | .hbm, ⟨15, _⟩ => ⟨S2x256x512, .i32⟩
  | .hbm, ⟨16, _⟩ => ⟨S_, .i32⟩
  | .hbm, ⟨17, _⟩ => ⟨S2x256x512, .i32⟩
  | .hbm, ⟨18, _⟩ => ⟨S2x256x512, .i1⟩
  | .hbm, ⟨19, _⟩ => ⟨S_, .i32⟩
  | .hbm, ⟨20, _⟩ => ⟨S2x256x512, .i32⟩
  | .hbm, ⟨21, _⟩ => ⟨S2x256x512, .i1⟩
  | .hbm, ⟨22, _⟩ => ⟨S2x256x512, .i1⟩
  | .hbm, ⟨23, _⟩ => ⟨S_, .i32⟩
  | .hbm, ⟨24, _⟩ => ⟨S2x256x512, .i32⟩
  | .hbm, ⟨25, _⟩ => ⟨S2x256x512, .i1⟩
  | .hbm, ⟨26, _⟩ => ⟨S2x256x512, .i1⟩
  | .hbm, ⟨27, _⟩ => ⟨S2x256x512, .i1⟩
  | .hbm, ⟨28, _⟩ => ⟨S2x256x512, .i1⟩
  | .hbm, ⟨29, _⟩ => ⟨S_, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S2x256x512, .f32⟩
  | .hbm, ⟨35, _⟩ => ⟨S2x1x4, .f32⟩
  | .hbm, ⟨36, _⟩ => ⟨S2x1x4x128, .f32⟩
  | .hbm, ⟨37, _⟩ => ⟨S2x1x512, .f32⟩
  | .hbm, ⟨38, _⟩ => ⟨S_, .i32⟩
  | .hbm, ⟨39, _⟩ => ⟨S_, .f32⟩
  | .hbm, ⟨40, _⟩ => ⟨S2x8x512, .f32⟩
  | .hbm, ⟨41, _⟩ => ⟨S16x512, .f32⟩
  | .hbm, ⟨42, _⟩ => ⟨S16384x1024, .bf16⟩
  | .local _ .vmem, ⟨0, _⟩ => ⟨S1024x512, .f32⟩
  | .local _ .vmem, ⟨1, _⟩ => ⟨S1024x512, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S16x512, .f32⟩
  | .local _ .vmem, ⟨11, _⟩ => ⟨S2x256x512, .f32⟩
  | .local _ .vmem, ⟨12, _⟩ => ⟨S1024x512, .bf16⟩
  | .local _ .vmem, ⟨13, _⟩ => ⟨S1024x512, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_call1_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v22 : BitVec 32 := Scalar.minsi arg0 c1_i32
  let v23 : Index := Scalar.indexCast v22
  let c0_7 : Index := 0#32
  let c0_8 : Index := 0#32
  ![v23.toNat, 0, 0]
def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let c0_i32_0 : BitVec 32 := 0#32
  ![v2.toNat, c21_i32.toNat]

def cc0_transform_4 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdSwaReferenceIdeal.lean ====
abbrev S16384x2816 : Shape := ⟨2, ![16384, 2816]⟩
abbrev S8 : Shape := ⟨1, ![8]⟩
abbrev S16384x1024 : Shape := ⟨2, ![16384, 1024]⟩
abbrev S1x16384x2816 : Shape := ⟨3, ![1, 16384, 2816]⟩
abbrev S1x16384x512 : Shape := ⟨3, ![1, 16384, 512]⟩
abbrev S1x16384x128 : Shape := ⟨3, ![1, 16384, 128]⟩
abbrev S1x128x128x2x4x64 : Shape := ⟨6, ![1, 128, 128, 2, 4, 64]⟩
abbrev S1x128x128x2x64 : Shape := ⟨5, ![1, 128, 128, 2, 64]⟩
abbrev S1x127x128x2x64 : Shape := ⟨5, ![1, 127, 128, 2, 64]⟩
abbrev S_ : Shape := ⟨0, ![]⟩
abbrev S1x128x256x2x64 : Shape := ⟨5, ![1, 128, 256, 2, 64]⟩
abbrev S8x128 : Shape := ⟨2, ![8, 128]⟩
abbrev S1024 : Shape := ⟨1, ![1024]⟩
abbrev S1x128x2x256x128x4 : Shape := ⟨6, ![1, 128, 2, 256, 128, 4]⟩
abbrev S1x128x2x4x128x256 : Shape := ⟨6, ![1, 128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S1x128x1x1x128x256 : Shape := ⟨6, ![1, 128, 1, 1, 128, 256]⟩
abbrev S2x4x128 : Shape := ⟨3, ![2, 4, 128]⟩
abbrev S1x1x2x4x128x1 : Shape := ⟨6, ![1, 1, 2, 4, 128, 1]⟩
abbrev S1x128x2x4x128 : Shape := ⟨5, ![1, 128, 2, 4, 128]⟩
abbrev S1x128x2x4x128x1 : Shape := ⟨6, ![1, 128, 2, 4, 128, 1]⟩
abbrev S1x128x2x64x4x128 : Shape := ⟨6, ![1, 128, 2, 64, 4, 128]⟩
abbrev S16384x512 : Shape := ⟨2, ![16384, 512]⟩

abbrev nBuf : Space → Nat
  | .hbm => 97
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S8, .f32⟩
  | .hbm, ⟨2, _⟩ => ⟨S16384x1024, .bf16⟩
  | .hbm, ⟨3, _⟩ => ⟨S1x16384x2816, .f32⟩
  | .hbm, ⟨4, _⟩ => ⟨S1x16384x512, .f32⟩
  | .hbm, ⟨5, _⟩ => ⟨S1x16384x512, .f32⟩
  | .hbm, ⟨6, _⟩ => ⟨S1x16384x512, .f32⟩
  | .hbm, ⟨7, _⟩ => ⟨S1x16384x512, .f32⟩
  | .hbm, ⟨8, _⟩ => ⟨S1x16384x512, .f32⟩
  | .hbm, ⟨9, _⟩ => ⟨S1x16384x128, .f32⟩
  | .hbm, ⟨10, _⟩ => ⟨S1x16384x128, .f32⟩
  | .hbm, ⟨11, _⟩ => ⟨S1x128x128x2x4x64, .f32⟩
  | .hbm, ⟨12, _⟩ => ⟨S1x128x128x2x64, .f32⟩
  | .hbm, ⟨13, _⟩ => ⟨S1x128x128x2x64, .f32⟩
  | .hbm, ⟨14, _⟩ => ⟨S1x127x128x2x64, .f32⟩
  | .hbm, ⟨15, _⟩ => ⟨S_, .i32⟩
  | .hbm, ⟨16, _⟩ => ⟨S_, .f32⟩
  | .hbm, ⟨17, _⟩ => ⟨S1x128x128x2x64, .f32⟩
  | .hbm, ⟨18, _⟩ => ⟨S1x128x256x2x64, .f32⟩
  | .hbm, ⟨19, _⟩ => ⟨S1x127x128x2x64, .f32⟩
  | .hbm, ⟨20, _⟩ => ⟨S_, .i32⟩
  | .hbm, ⟨21, _⟩ => ⟨S_, .f32⟩
  | .hbm, ⟨22, _⟩ => ⟨S1x128x128x2x64, .f32⟩
  | .hbm, ⟨23, _⟩ => ⟨S1x128x256x2x64, .f32⟩
  | .hbm, ⟨24, _⟩ => ⟨S8x128, .f32⟩
  | .hbm, ⟨25, _⟩ => ⟨S1024, .f32⟩
  | .hbm, ⟨26, _⟩ => ⟨S1x128x2x256x128x4, .f32⟩
  | .hbm, ⟨27, _⟩ => ⟨S1x128x2x4x128x256, .f32⟩
  | .hbm, ⟨28, _⟩ => ⟨S_, .f32⟩
  | .hbm, ⟨29, _⟩ => ⟨S1x128x2x4x128x256, .f32⟩
  | .hbm, ⟨30, _⟩ => ⟨S1x128x2x4x128x256, .f32⟩
  | .hbm, ⟨31, _⟩ => ⟨S128, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S256, .i32⟩
  | .hbm, ⟨37, _⟩ => ⟨S1x256, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S128x1x1, .i1⟩
  | .hbm, ⟨53, _⟩ => ⟨S1x128x256, .i1⟩
  | .hbm, ⟨54, _⟩ => ⟨S_, .i32⟩
  | .hbm, ⟨55, _⟩ => ⟨S1x256, .i32⟩
  | .hbm, ⟨56, _⟩ => ⟨S1x256, .i1⟩
  | .hbm, ⟨57, _⟩ => ⟨S1x1x256, .i1⟩
  | .hbm, ⟨58, _⟩ => ⟨S128x1x256, .i1⟩
  | .hbm, ⟨59, _⟩ => ⟨S128x1x256, .i1⟩
  | .hbm, ⟨60, _⟩ => ⟨S128x1x256, .i1⟩
  | .hbm, ⟨61, _⟩ => ⟨S128x1x256, .i1⟩
  | .hbm, ⟨62, _⟩ => ⟨S128x128x256, .i1⟩
  | .hbm, ⟨63, _⟩ => ⟨S128x128x256, .i1⟩
  | .hbm, ⟨64, _⟩ => ⟨S128x128x256, .i1⟩
  | .hbm, ⟨65, _⟩ => ⟨S1x128x1x1x128x256, .i1⟩
  | .hbm, ⟨66, _⟩ => ⟨S_, .f32⟩
  | .hbm, ⟨67, _⟩ => ⟨S_, .f32⟩
  | .hbm, ⟨68, _⟩ => ⟨S1x128x2x4x128x256, .i1⟩
  | .hbm, ⟨69, _⟩ => ⟨S1x128x2x4x128x256, .f32⟩
  | .hbm, ⟨70, _⟩ => ⟨S1x128x2x4x128x256, .f32⟩
  | .hbm, ⟨71, _⟩ => ⟨S2x4x128, .f32⟩
  | .hbm, ⟨72, _⟩ => ⟨S1x1x2x4x128x1, .f32⟩
  | .hbm, ⟨73, _⟩ => ⟨S_, .f32⟩
  | .hbm, ⟨74, _⟩ => ⟨S1x128x2x4x128, .f32⟩
  | .hbm, ⟨75, _⟩ => ⟨S1x128x2x4x128x1, .f32⟩
  | .hbm, ⟨76, _⟩ => ⟨S1x128x2x4x128x1, .f32⟩
  | .hbm, ⟨77, _⟩ => ⟨S1x128x2x4x128x1, .f32⟩
  | .hbm, ⟨78, _⟩ => ⟨S1x128x2x4x128x256, .f32⟩
  | .hbm, ⟨79, _⟩ => ⟨S1x128x2x4x128x256, .f32⟩
  | .hbm, ⟨80, _⟩ => ⟨S1x128x2x4x128x256, .f32⟩
  | .hbm, ⟨81, _⟩ => ⟨S_, .f32⟩
  | .hbm, ⟨82, _⟩ => ⟨S1x128x2x4x128, .f32⟩
  | .hbm, ⟨83, _⟩ => ⟨S1x128x2x4x128x1, .f32⟩
  | .hbm, ⟨84, _⟩ => ⟨S1x128x2x4x128x1, .f32⟩
  | .hbm, ⟨85, _⟩ => ⟨S1x128x2x4x128x1, .f32⟩
  | .hbm, ⟨86, _⟩ => ⟨S1x128x2x4x128x1, .f32⟩
  | .hbm, ⟨87, _⟩ => ⟨S1x128x2x4x128x1, .f32⟩
  | .hbm, ⟨88, _⟩ => ⟨S1x128x2x4x128x256, .f32⟩
  | .hbm, ⟨89, _⟩ => ⟨S1x128x2x4x128x256, .f32⟩
  | .hbm, ⟨90, _⟩ => ⟨S1x128x2x64x4x128, .f32⟩
  | .hbm, ⟨91, _⟩ => ⟨S1x128x128x2x4x64, .f32⟩
  | .hbm, ⟨92, _⟩ => ⟨S1x16384x512, .f32⟩
  | .hbm, ⟨93, _⟩ => ⟨S16384x512, .f32⟩
  | .hbm, ⟨94, _⟩ => ⟨S16384x512, .bf16⟩
  | .hbm, ⟨95, _⟩ => ⟨S16384x512, .bf16⟩
  | .hbm, ⟨96, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Proof.Frames.lean ====
/- The frames: each program runs to its end, leaves its arguments as they were, and leaves every counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs and keeps its arguments. -/
theorem frame_kernel : Cert.quiescent_Kernel := fun m ρ _ => Cert.Kernel.Gen.frame m ρ

/-- The kernel over the reals runs and keeps its arguments. -/
theorem frame_kernelIdeal : Cert.quiescent_KernelIdeal := fun m ρ _ => Cert.KernelIdeal.Gen.frame m ρ

/-- The reference over the reals runs and keeps its arguments: its run is the list of its host operations, none of
    which writes an argument, and it declares no semaphore. -/
theorem frame_referenceIdeal : Cert.quiescent_ReferenceIdeal := fun m ρ _ =>
  (θ_run Cert.ReferenceIdeal.defs _ _).mono (fun r h => ⟨fun c => (h c).2.2.2.2.2.2,
      sem_eq_zero_of_no_sems (by decide) r.2⟩)
    (Cert.ReferenceIdeal.Value.run (F := Ideal) m ρ)

/-- The two frames under the precondition of the value claim: the same runs. -/
theorem frame_kernelIdeal_finite [Cert.Pre_finite.Facts] : Cert.quiescent_KernelIdeal_pre_finite := fun m ρ _ =>
  frame_kernelIdeal m ρ trivial

@[inherit_doc frame_kernelIdeal_finite]
theorem frame_referenceIdeal_finite [Cert.Pre_finite.Facts] : Cert.quiescent_ReferenceIdeal_pre_finite := fun m ρ _ =>
  frame_referenceIdeal m ρ trivial

end Cert.Proof

end
-- ==== Proof.Rd.lean ====
/- Reading a table at natural numbers, so that two spellings of an index compare as numbers. -/
module

public import Idealize.ShloMosaic.Lib.Pointwise

@[expose] public section

noncomputable section

namespace Cert.Swa

open Idealize.ShloMosaic

/-- The table's element at row `r` and column `c`. -/
def rd {a b : ℕ} [NeZero a] [NeZero b] (A : (⟨2, ![a, b]⟩ : Shape).Idx → EReal) (r c : ℕ) : EReal :=
  A (ix2 (Fin.ofNat a r) (Fin.ofNat b c))

theorem rd_eq {a b : ℕ} [NeZero a] [NeZero b] (A : (⟨2, ![a, b]⟩ : Shape).Idx → EReal) (i : Fin a) (j : Fin b) :
    A (ix2 i j) = rd A i.val j.val := by
  unfold rd
  congr 2 <;> exact Fin.ext (by simp [Nat.mod_eq_of_lt])

theorem rd_at {a b : ℕ} [NeZero a] [NeZero b] (A : (⟨2, ![a, b]⟩ : Shape).Idx → EReal) (i : Fin a) (j : Fin b) {r c : ℕ}
    (hr : i.val = r) (hc : j.val = c) : A (ix2 i j) = rd A r c := by subst hr hc; exact rd_eq A i j

/-- … at any index. -/
theorem rd_of {a b : ℕ} [NeZero a] [NeZero b] (A : (⟨2, ![a, b]⟩ : Shape).Idx → EReal) (i : (⟨2, ![a, b]⟩ : Shape).Idx) {r c : ℕ}
    (hr : (i 0).val = r) (hc : (i 1).val = c) : A i = rd A r c := by
  rw [Idealize.ShloMosaic.eq_ix2 i]
  exact rd_at A (i 0) (i 1) hr hc

/-- Two tables equal at every pair of coordinates are equal. -/
theorem tbl_ext {a b : ℕ} {x y : (⟨2, ![a, b]⟩ : Shape).Idx → EReal} (h : ∀ (r : Fin a) (c : Fin b), x (ix2 r c) = y (ix2 r c)) : x = y :=
  funext fun i => by rw [Idealize.ShloMosaic.eq_ix2 i]; exact h _ _

end Cert.Swa

end
-- ==== Proof.Soft.lean ====
/- The softmax with a sink and its gradient over the reals, for one query: the weights of its keys, the sum that
   divides them, and the gradient of the scores. The two programs spell these differently; both spellings are here
   shown to be the real numbers defined first. -/
module

public import Idealize.ShloMosaic.PureOps.Ideal
public import Idealize.ShloMosaic.PureOps.Ideal.Laws
public import Idealize.ShloMosaic.Lib.IdealHost

@[expose] public section

noncomputable section

namespace Cert.Soft

open Idealize.ShloMosaic

/-! ## Sums and quotients of real numbers among the extended reals -/

/-- A finite sum of real numbers is a real number. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The quotient of two real numbers, the second not zero. -/
theorem div_real (x : ℝ) {y : ℝ} (h : y ≠ 0) : Ideal.div (x : EReal) (y : EReal) = ((x / y : ℝ) : EReal) := by
  rw [Ideal.div_coe h, ← EReal.coe_mul, mul_one_div]

/-- The word of minus infinity. -/
theorem ofBits_bot : Ideal.ofBits .f32 0xFF800000#32 = ⊥ := by simp [Ideal.ofBits, Ideal.ieee]

/-- The word of plus infinity. -/
theorem ofBits_top : Ideal.ofBits .f32 0x7F800000#32 = ⊤ := by simp [Ideal.ofBits, Ideal.ieee]

/-- The word of one eighth. -/
theorem ofBits_eighth : Ideal.ofBits .f32 0x3E000000#32 = ((1 / 8 : ℝ) : EReal) := by
  simp [Ideal.ofBits, Ideal.ieee, -EReal.coe_mul]; norm_num

/-! ## The real numbers -/

variable {ι : Type} [Fintype ι]

/-- The weight of key `k` before it is divided: the exponential of its score, or nothing where the key is masked. -/
def wt (s : ι → ℝ) (ok : ι → Prop) [DecidablePred ok] (k : ι) : ℝ := if ok k then Real.exp (s k) else 0

/-- What divides the weights: their sum and the sink's. -/
def den (s : ι → ℝ) (ok : ι → Prop) [DecidablePred ok] (a : ℝ) : ℝ := ∑ k, wt s ok k + Real.exp a

/-- The probability of key `k`. -/
def prob (s : ι → ℝ) (ok : ι → Prop) [DecidablePred ok] (a : ℝ) (k : ι) : ℝ := wt s ok k / den s ok a

/-- The mean over the keys of the gradient of their probabilities. -/
def delta (s : ι → ℝ) (ok : ι → Prop) [DecidablePred ok] (a : ℝ) (dp : ι → ℝ) : ℝ := ∑ k, dp k * prob s ok a k

/-- The gradient of the score of key `k`. -/
def dscore (s : ι → ℝ) (ok : ι → Prop) [DecidablePred ok] (a : ℝ) (dp : ι → ℝ) (k : ι) : ℝ :=
  prob s ok a k * (dp k - delta s ok a dp)

/-- The gradient of the sink. -/
def dsink (s : ι → ℝ) (ok : ι → Prop) [DecidablePred ok] (a : ℝ) (dp : ι → ℝ) : ℝ :=
  -(Real.exp a / den s ok a * delta s ok a dp)

/-- The score of key `k` as an extended real: minus infinity where the key is masked. -/
def score (s : ι → ℝ) (ok : ι → Prop) [DecidablePred ok] (k : ι) : EReal := if ok k then (s k : EReal) else ⊥

variable (s : ι → ℝ) (ok : ι → Prop) [DecidablePred ok] (a : ℝ) (dp : ι → ℝ)

theorem wt_nonneg (k : ι) : 0 ≤ wt s ok k := by
  unfold wt; split
  · exact (Real.exp_pos _).le
  · exact le_rfl

theorem den_pos : 0 < den s ok a :=
  add_pos_of_nonneg_of_pos (Finset.sum_nonneg fun k _ => wt_nonneg s ok k) (Real.exp_pos a)

theorem den_ne : den s ok a ≠ 0 := (den_pos s ok a).ne'

/-- A masked key has no probability. -/
theorem prob_masked {k : ι} (h : ¬ ok k) : prob s ok a k = 0 := by unfold prob wt; rw [if_neg h, zero_div]

theorem dscore_masked {k : ι} (h : ¬ ok k) : dscore s ok a dp k = 0 := by unfold dscore; rw [prob_masked s ok a h, zero_mul]

/-! Only the keys that are not masked count. -/

variable {s dp} {s' dp' : ι → ℝ}

theorem wt_congr (hs : ∀ k, ok k → s k = s' k) : wt s ok = wt s' ok := by
  funext k; unfold wt; split
  · next h => rw [hs k h]
  · rfl

theorem prob_congr (hs : ∀ k, ok k → s k = s' k) : prob s ok a = prob s' ok a := by
  funext k; unfold prob den; rw [wt_congr ok hs]

theorem delta_congr (hs : ∀ k, ok k → s k = s' k) (hd : ∀ k, ok k → dp k = dp' k) :
    delta s ok a dp = delta s' ok a dp' := by
  unfold delta; rw [prob_congr ok a hs]
  refine Finset.sum_congr rfl fun k _ => ?_
  by_cases h : ok k
  · rw [hd k h]
  · rw [prob_masked s' ok a h, mul_zero, mul_zero]

theorem dscore_congr (hs : ∀ k, ok k → s k = s' k) (hd : ∀ k, ok k → dp k = dp' k) :
    dscore s ok a dp = dscore s' ok a dp' := by
  funext k
  by_cases h : ok k
  · unfold dscore; rw [prob_congr ok a hs, delta_congr ok a hs hd, hd k h]
  · rw [dscore_masked s ok a dp h, dscore_masked s' ok a dp' h]

theorem dsink_congr (hs : ∀ k, ok k → s k = s' k) (hd : ∀ k, ok k → dp k = dp' k) :
    dsink s ok a dp = dsink s' ok a dp' := by
  unfold dsink den; rw [delta_congr ok a hs hd, wt_congr ok hs]

variable (s dp)

/-! ## The largest score -/

/-- The largest of the scores and the sink is a real number. -/
theorem top_real : ∃ μ : ℝ, max (Finset.univ.fold max ⊥ (score s ok)) (a : EReal) = μ := by
  have hlt : max (Finset.univ.fold max ⊥ (score s ok)) (a : EReal) < ⊤ :=
    max_lt ((Finset.fold_max_lt _).mpr ⟨bot_lt_top, fun k _ => by
      unfold score; split
      · exact EReal.coe_lt_top _
      · exact bot_lt_top⟩) (EReal.coe_lt_top a)
  have hgt : ⊥ < max (Finset.univ.fold max ⊥ (score s ok)) (a : EReal) := lt_max_of_lt_right (EReal.bot_lt_coe a)
  exact ⟨_, (EReal.coe_toReal hlt.ne hgt.ne').symm⟩

/-- Some score attains the largest of the scores. -/
theorem top_attained [Nonempty ι] (S : ι → EReal) : ∃ k, S k = Finset.univ.fold max ⊥ S := by
  classical
  obtain ⟨k, -, hk⟩ := Finset.exists_mem_eq_sup Finset.univ Finset.univ_nonempty S
  exact ⟨k, hk.symm⟩

/-- The exponential of a score less `μ`. -/
theorem exp_score (μ : ℝ) (k : ι) : Ideal.exp (score s ok k - (μ : EReal)) = ((wt s ok k * Real.exp (-μ) : ℝ) : EReal) := by
  unfold score wt; split
  · rw [← EReal.coe_sub, Ideal.exp_coe, sub_eq_add_neg, Real.exp_add]
  · rw [EReal.bot_sub, Ideal.exp_bot, zero_mul, EReal.coe_zero]

theorem exp_sink (μ : ℝ) : Ideal.exp ((a : EReal) - (μ : EReal)) = ((Real.exp a * Real.exp (-μ) : ℝ) : EReal) := by
  rw [← EReal.coe_sub, Ideal.exp_coe, sub_eq_add_neg, Real.exp_add]

/-- The sum that divides, as both programs write it. -/
theorem sum_exp (μ : ℝ) : (∑ k, Ideal.exp (score s ok k - (μ : EReal))) + Ideal.exp ((a : EReal) - (μ : EReal))
    = ((den s ok a * Real.exp (-μ) : ℝ) : EReal) := by
  rw [Finset.sum_congr rfl fun k _ => exp_score s ok μ k, exp_sink, coe_sum, ← EReal.coe_add, den, add_mul, Finset.sum_mul]

/-! ## The kernel's spelling -/

/-- The probability as a product with the reciprocal of the sum. -/
theorem prob_mul (μ : ℝ) (k : ι) :
    Ideal.exp (score s ok k - (μ : EReal)) * Ideal.div 1 ((∑ k, Ideal.exp (score s ok k - (μ : EReal))) + Ideal.exp ((a : EReal) - (μ : EReal)))
      = ((prob s ok a k : ℝ) : EReal) := by
  have hd := den_ne s ok a
  have he := (Real.exp_pos (-μ)).ne'
  rw [exp_score, sum_exp, ← EReal.coe_one, div_real 1 (mul_ne_zero hd he), ← EReal.coe_mul, prob]
  congr 1; field_simp

theorem psink_mul (μ : ℝ) :
    Ideal.exp ((a : EReal) - (μ : EReal)) * Ideal.div 1 ((∑ k, Ideal.exp (score s ok k - (μ : EReal))) + Ideal.exp ((a : EReal) - (μ : EReal)))
      = ((Real.exp a / den s ok a : ℝ) : EReal) := by
  have hd := den_ne s ok a
  have he := (Real.exp_pos (-μ)).ne'
  rw [sum_exp, exp_sink, ← EReal.coe_one, div_real 1 (mul_ne_zero hd he), ← EReal.coe_mul]
  congr 1; field_simp

/-! ## The reference's spelling: the gradient with the largest score's own share, which is zero -/

section Reference
variable (μ : ℝ)

/-- The sum that divides, the largest score taken off. -/
def zed : ℝ := den s ok a * Real.exp (-μ)
/-- A weight, the largest score taken off. -/
def ex (k : ι) : ℝ := wt s ok k * Real.exp (-μ)
/-- The gradient of the sum that divides. -/
def dz : ℝ := -∑ k, dp k * (1 / (zed s ok a μ * zed s ok a μ)) * ex s ok μ k

theorem zed_ne : zed s ok a μ ≠ 0 := mul_ne_zero (den_ne s ok a) (Real.exp_pos _).ne'

theorem prob_eq (k : ι) : ex s ok μ k / zed s ok a μ = prob s ok a k := by
  unfold ex zed prob
  rw [mul_div_mul_right _ _ (Real.exp_pos _).ne']

theorem dz_eq : dz s ok a dp μ = -(delta s ok a dp / zed s ok a μ) := by
  have h := zed_ne s ok a μ
  unfold dz delta
  rw [Finset.sum_div]
  congr 1
  refine Finset.sum_congr rfl fun k _ => ?_
  rw [← prob_eq s ok a μ k]; field_simp

/-- The reference's gradient of a score, before the mask. -/
theorem dscore_eq (k : ι) : (dp k / zed s ok a μ + dz s ok a dp μ) * ex s ok μ k = dscore s ok a dp k := by
  have h := zed_ne s ok a μ
  rw [dz_eq, dscore, ← prob_eq s ok a μ k]; field_simp; ring

/-- The reference's gradient of the sink. -/
theorem dsink_eq : dz s ok a dp μ * (Real.exp a * Real.exp (-μ)) = dsink s ok a dp := by
  have h := den_ne s ok a
  have he := (Real.exp_pos (-μ)).ne'
  rw [dz_eq, dsink, zed]; field_simp

/-- What the reference passes to the largest score is zero. -/
theorem dtop_eq : -(dz s ok a dp μ * (Real.exp a * Real.exp (-μ)))
    + ∑ k, -((dp k / zed s ok a μ + dz s ok a dp μ) * ex s ok μ k) = 0 := by
  have h := den_ne s ok a
  rw [dsink_eq, Finset.sum_neg_distrib, Finset.sum_congr rfl fun k _ => dscore_eq s ok a dp μ k]
  have e : ∑ k, dscore s ok a dp k = delta s ok a dp - (∑ k, prob s ok a k) * delta s ok a dp := by
    unfold dscore
    simp only [mul_sub]
    rw [Finset.sum_sub_distrib, ← Finset.sum_mul]
    congr 1
    exact Finset.sum_congr rfl fun k _ => mul_comm _ _
  have p : ∑ k, prob s ok a k = 1 - Real.exp a / den s ok a := by
    unfold prob
    rw [← Finset.sum_div, eq_sub_iff_add_eq, ← add_div]
    exact div_self h
  rw [e, p, dsink]; ring

end Reference

end Cert.Soft

end
-- ==== Proof.Spec.lean ====
/- What both programs compute: the gradients of sliding-window attention with sinks, over the real numbers, one
   query, one key or one sink at a time. `X` is the projection, `A` the sinks and `D` the gradient of the output. -/
module

public import proofs.«01_k».proof.Proof.Rd
public import proofs.«01_k».proof.Proof.Soft

@[expose] public section

noncomputable section

namespace Cert.Swa

open Idealize.ShloMosaic

/-- Key `t` of block `n` is seen by query `i`: not after it, in its window, and not before the first block. -/
def Sees (n i : ℕ) (t : Fin 256) : Prop := i < t.val ∧ t.val ≤ i + 128 ∧ ¬ (n = 0 ∧ t.val < 128)

instance (n i : ℕ) : DecidablePred (Sees n i) := fun t => by unfold Sees; infer_instance

/-- Tables of real numbers that are the projection's queries and keys and the sinks, from which the probabilities come. -/
structure Scores (x : (⟨2, ![16384, 2816]⟩ : Shape).Idx → EReal) (x1 : (⟨1, ![8]⟩ : Shape).Idx → EReal)
    (X : ℕ → ℕ → ℝ) (A : ℕ → ℝ) : Prop where
  proj : ∀ r c, 2048 ≤ c → c < 2688 → rd x r c = (X r c : EReal)
  sink : ∀ k : Fin 8, x1 (ix1 k) = (A k.val : EReal)

/-- Tables of real numbers that are the programs' arguments, where these are used. -/
structure Reals (x : (⟨2, ![16384, 2816]⟩ : Shape).Idx → EReal) (x1 : (⟨1, ![8]⟩ : Shape).Idx → EReal)
    (x2 : (⟨2, ![16384, 1024]⟩ : Shape).Idx → EReal) (X : ℕ → ℕ → ℝ) (A : ℕ → ℝ) (D : ℕ → ℕ → ℝ) : Prop where
  proj : ∀ r c, 2048 ≤ c → c < 2816 → rd x r c = (X r c : EReal)
  sink : ∀ k : Fin 8, x1 (ix1 k) = (A k.val : EReal)
  grad : ∀ r c, 512 ≤ c → c < 1024 → rd x2 r c = (D r c : EReal)

/-- Among them those of the scores. -/
theorem Reals.scores {x : (⟨2, ![16384, 2816]⟩ : Shape).Idx → EReal} {x1 : (⟨1, ![8]⟩ : Shape).Idx → EReal}
    {x2 : (⟨2, ![16384, 1024]⟩ : Shape).Idx → EReal} {X : ℕ → ℕ → ℝ} {A : ℕ → ℝ} {D : ℕ → ℕ → ℝ} (H : Reals x x1 x2 X A D) :
    Scores x x1 X A := ⟨fun r c h1 h2 => H.proj r c h1 (by omega), H.sink⟩

variable (X : ℕ → ℕ → ℝ) (A : ℕ → ℝ) (D : ℕ → ℕ → ℝ)

/-- Column `c` of row `t` of the window of block `n`: the block before it and the block itself, zeros before the first. -/
def win (n t c : ℕ) : ℝ := if n = 0 ∧ t < 128 then 0 else X (128 * n + t - 128) c

/-- The score of a key for query `i` of block `n`, head `j` of group `g`. -/
def sc (n i g j : ℕ) (t : Fin 256) : ℝ :=
  (∑ d : Fin 64, win X n t.val (2560 + (64 * g + d.val)) * X (128 * n + i) (2048 + (256 * g + 64 * j + d.val))) * (1 / 8)

/-- The gradient of a key's probability. -/
def dpr (n i g j : ℕ) (t : Fin 256) : ℝ :=
  ∑ d : Fin 64, D (128 * n + i) (512 + (256 * g + 64 * j + d.val)) * win X n t.val (2688 + (64 * g + d.val))

/-- A key's probability. -/
def pr (n i g j : ℕ) (t : Fin 256) : ℝ := Soft.prob (sc X n i g j) (Sees n i) (A (4 * g + j)) t

/-- The gradient of a key's score. -/
def dsc (n i g j : ℕ) (t : Fin 256) : ℝ := Soft.dscore (sc X n i g j) (Sees n i) (A (4 * g + j)) (dpr X D n i g j) t

/-- The gradient of the sink at one query. -/
def dsn (n i g j : ℕ) : ℝ := Soft.dsink (sc X n i g j) (Sees n i) (A (4 * g + j)) (dpr X D n i g j)

/-- The gradient of a query. -/
def gq (n i g j d : ℕ) : ℝ := ∑ t : Fin 256, dsc X A D n i g j t * (1 / 8) * win X n t.val (2560 + (64 * g + d))

/-- The gradient of a row of the window of keys. -/
def gk (n g : ℕ) (t : Fin 256) (d : ℕ) : ℝ :=
  ∑ i : Fin 128, ∑ j : Fin 4, dsc X A D n i.val g j.val t * (1 / 8) * X (128 * n + i.val) (2048 + (256 * g + 64 * j.val + d))

/-- The gradient of a row of the window of values. -/
def gv (n g : ℕ) (t : Fin 256) (d : ℕ) : ℝ :=
  ∑ j : Fin 4, ∑ i : Fin 128, D (128 * n + i.val) (512 + (256 * g + 64 * j.val + d)) * pr X A n i.val g j.val t

/-- The gradient of a sink at position `i` of every block. -/
def gs (g j i : ℕ) : ℝ := ∑ n : Fin 128, dsn X A D n.val i g j

/-- The table of the sinks' gradients: for each group the positions, the four heads' sums, and zeros. -/
def gsRow (r c : ℕ) : ℝ :=
  if r % 8 < 1 then gs X A D (r / 8) (c / 128) (c % 128)
  else if r % 8 - 1 < 4 then ∑ i : Fin 128, gs X A D (r / 8) (r % 8 - 1) i.val else 0

end Cert.Swa

end
-- ==== Proof.Finite.lean ====
/- What the precondition says of the arguments: the columns of the projection and of the output's gradient that the
   attention reads, and the sinks, are real numbers. -/
module

public import proofs.«01_k».proof.Defs
public import proofs.«01_k».proof.Proof.Spec
public import Idealize.ShloMosaic.Lib.ReduceAll

@[expose] public section

set_option maxRecDepth 16384

noncomputable section

namespace Cert.Swa

open Idealize.ShloMosaic

/-- The shapes the precondition's operations take fit. -/
theorem finite_facts : Cert.Pre_finite.Facts := by
  constructor <;> decide

/-- A value whose absolute value lies below infinity is a real number. -/
theorem real_of_abs_lt {x : EReal} (h : Ideal.cmp .olt (max x (-x)) (Ideal.ofBits .f32 0x7F800000#32) = 1#1) :
    x = (x.toReal : EReal) := by
  rw [Soft.ofBits_top] at h
  have h' : max x (-x) < ⊤ := by
    by_contra hc
    simp [Ideal.cmp, hc] at h
  refine (EReal.coe_toReal ?_ ?_).symm
  · rintro rfl; simp at h'
  · rintro rfl; simp at h'

attribute [local instance] finite_facts

/-- The bit of the precondition split into its three tests. -/
theorem finite_split {x : (⟨2, ![16384, 2816]⟩ : Shape).Idx → EReal} {x1 : (⟨1, ![8]⟩ : Shape).Idx → EReal}
    {x2 : (⟨2, ![16384, 1024]⟩ : Shape).Idx → EReal} (h : Cert.Pre_finite.fn (F := Ideal) x x1 x2 = fun _ => 1#1) :
    (∀ (r : Fin 16384) (c : Fin 768), x (ix2 r ⟨2048 + c.val, by omega⟩) = ((x (ix2 r ⟨2048 + c.val, by omega⟩)).toReal : EReal))
      ∧ (∀ k : Fin 8, x1 (ix1 k) = ((x1 (ix1 k)).toReal : EReal))
      ∧ ∀ (r : Fin 16384) (c : Fin 512), x2 (ix2 r ⟨512 + c.val, by omega⟩) = ((x2 (ix2 r ⟨512 + c.val, by omega⟩)).toReal : EReal) := by
  have h0 := congrFun h (fun a => a.elim0)
  unfold Cert.Pre_finite.fn at h0
  obtain ⟨h1, h3⟩ := IntOp.andi_eq_one.1 h0
  obtain ⟨h1, h2⟩ := IntOp.andi_eq_one.1 h1
  haveI : Subsingleton Cert.Pre_finite.S_.Idx := ⟨fun a b => funext fun k => k.elim0⟩
  refine ⟨fun r c => real_of_abs_lt ?_, fun k => real_of_abs_lt ?_, fun r c => real_of_abs_lt ?_⟩
  · have := Host.reduce_andi_all _ _ _ _ _ h1 (ix2 r c)
    pointwise at this
    exact this
  · have := Host.reduce_andi_all _ _ _ _ _ h2 (ix1 k)
    pointwise at this
    exact this
  · have := Host.reduce_andi_all _ _ _ _ _ h3 (ix2 r c)
    pointwise at this
    exact this

/-- Under the precondition the arguments are tables of real numbers where the attention reads them. -/
theorem reals_of_finite {x : (⟨2, ![16384, 2816]⟩ : Shape).Idx → EReal} {x1 : (⟨1, ![8]⟩ : Shape).Idx → EReal}
    {x2 : (⟨2, ![16384, 1024]⟩ : Shape).Idx → EReal} (h : Cert.Pre_finite.fn (F := Ideal) x x1 x2 = fun _ => 1#1) :
    ∃ X A D, Reals x x1 x2 X A D := by
  obtain ⟨h1, h2, h3⟩ := finite_split h
  refine ⟨fun r c => (rd x r c).toReal, fun k => (x1 (ix1 (Fin.ofNat 8 k))).toReal, fun r c => (rd x2 r c).toReal,
    fun r c hl hu => ?_, fun k => ?_, fun r c hl hu => ?_⟩
  · have := h1 (Fin.ofNat 16384 r) ⟨c - 2048, by omega⟩
    rwa [rd_at x (Fin.ofNat 16384 r) ⟨2048 + (c - 2048), by omega⟩ (r := r % 16384) (c := c) rfl (by dsimp only; omega),
      show rd x (r % 16384) c = rd x r c by unfold rd; congr 2; exact Fin.ext (Nat.mod_mod _ _)] at this
  · have e : Fin.ofNat 8 k.val = k := Fin.ext (Nat.mod_eq_of_lt k.isLt)
    rw [e]; exact h2 k
  · have := h3 (Fin.ofNat 16384 r) ⟨c - 512, by omega⟩
    rwa [rd_at x2 (Fin.ofNat 16384 r) ⟨512 + (c - 512), by omega⟩ (r := r % 16384) (c := c) rfl (by dsimp only; omega),
      show rd x2 (r % 16384) c = rd x2 r c by unfold rd; congr 2; exact Fin.ext (Nat.mod_mod _ _)] at this

end Cert.Swa

end
-- ==== Proof.Tile.lean ====
/- One block's gradients as the kernel computes them, group by group, on tiles with the keys down and the group's four
   heads side by side across. Each operation of the kernel appears once, with the block's place and the group as
   parameters. -/
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.Swa

open Cert.KernelIdeal Cert.KernelIdeal.Gen Cert.KernelIdeal.Facts Idealize.ShloMosaic

/-! ## The windows' places -/

theorem slices_window : ∀ b : Fin 8, S1152x128.Slices ![128 * b.val, 0] S256x128 := by decide +kernel
theorem slices_cols : ∀ g : Fin 2, S256x128.Slices ![0, 64 * g.val] S256x64 := by decide +kernel
theorem slices_rows : ∀ g : Fin 2, S128x256.Slices ![64 * g.val, 0] S64x256 := by decide +kernel
theorem slices_head : ∀ (g : Fin 2) (j : Fin 4), S512x128.Slices ![256 * g.val + 64 * j.val, 0] S64x128 := by decide +kernel
theorem slices_lanes : ∀ j : Fin 4, S64x512.Slices ![0, 128 * j.val] S64x128 := by decide +kernel
theorem slices_half : ∀ p : Fin 2, S256x128.Slices ![128 * p.val, 0] S128x128 := by decide +kernel

/-! ## The stages -/

variable {F : FTy → Type} [FloatOps F]

/-- Block `b`'s window: the block before it and the block itself. -/
def window (b : Fin 8) (p : Vec F S128x128 .f32) (k : Vec F S1024x128 .f32) : FVec F S256x128 .f32 :=
  extractStridedSlice S256x128 ![128 * b.val, 0] (concatenate S1152x128 0 [⟨S128x128, p⟩, ⟨S1024x128, k⟩] concatenates_S128x128_S1024x128_S1152x128_d0) (slices_window b)

/-- A group's columns of a window. -/
def cols (g : Fin 2) (w : FVec F S256x128 .f32) : FVec F S256x64 .f32 := extractStridedSlice S256x64 ![0, 64 * g.val] w (slices_cols g)

/-- A group's four heads side by side. -/
def heads (g : Fin 2) (z : FVec F S512x128 .f32) : FVec F S64x512 .f32 :=
  concatenate S64x512 1 [⟨S64x128, extractStridedSlice S64x128 ![256 * g.val + 64 * (0 : Fin 4).val, 0] z (slices_head g 0)⟩,
    ⟨S64x128, extractStridedSlice S64x128 ![256 * g.val + 64 * (1 : Fin 4).val, 0] z (slices_head g 1)⟩,
    ⟨S64x128, extractStridedSlice S64x128 ![256 * g.val + 64 * (2 : Fin 4).val, 0] z (slices_head g 2)⟩,
    ⟨S64x128, extractStridedSlice S64x128 ![256 * g.val + 64 * (3 : Fin 4).val, 0] z (slices_head g 3)⟩]
    concatenates_S64x128_S64x128_S64x128_S64x128_S64x512_d1

/-- The queries, scaled and turned. -/
def turned (q : Vec F S128x512 .f32) : FVec F S512x128 .f32 :=
  transpose S512x128 [1, 0] (mulf q (broadcast S128x512 (Scalar.ofBits .f32 0x3E000000#32))) transposes_S128x512_p1_0_S512x128

/-- A group's queries. -/
def tq (g : Fin 2) (q : Vec F S128x512 .f32) : FVec F S64x512 .f32 := heads g (turned q)

/-- A group's output gradients. -/
def tdo (g : Fin 2) (dy : Vec F S128x512 .f32) : FVec F S64x512 .f32 :=
  heads g (transpose S512x128 [1, 0] dy transposes_S128x512_p1_0_S512x128)

/-- The product of a group's columns of a window and its queries or output gradients. -/
def prod (w : FVec F S256x64 .f32) (z : FVec F S64x512 .f32) : FVec F S256x512 .f32 :=
  matmul dot_S256x64_S64x512_S256x512_1_0_0_1_n_n none (truncf .bf16 w bitsLt_bf16_f32) (truncf .bf16 z bitsLt_bf16_f32)
    (constant S256x512 .f32 0x00000000#32)

/-- The scores. -/
def ts (w : FVec F S256x64 .f32) (z : FVec F S64x512 .f32) (mk : FVec F S256x512 .f32) : FVec F S256x512 .f32 := addf (prod w z) mk

/-- The largest score and the sink. -/
def ttop (s : FVec F S256x512 .f32) (a : FVec F S1x512 .f32) : FVec F S1x512 .f32 :=
  maximumf (shapeCast S1x512 (multiReduction .maximumf [0] S512 s 0xFF800000#32 reduces_S256x512_S512 (.inl rfl) rfl) shapeCasts_S512_S1x512) a

/-- A row repeated for every key. -/
def down (r : FVec F S1x512 .f32) : FVec F S256x512 .f32 := broadcastTo S256x512 r broadcasts_S1x512_S256x512

/-- The sum of a column. -/
def total (s : FVec F S256x512 .f32) : FVec F S1x512 .f32 :=
  shapeCast S1x512 (multiReduction .add [0] S512 s 0x00000000#32 reduces_S256x512_S512 (.inl rfl) rfl) shapeCasts_S512_S1x512

/-- The exponentials. -/
def tex (s : FVec F S256x512 .f32) (a : FVec F S1x512 .f32) : FVec F S256x512 .f32 := exp (subf s (down (ttop s a)))
/-- The sinks' exponentials. -/
def texs (s : FVec F S256x512 .f32) (a : FVec F S1x512 .f32) : FVec F S1x512 .f32 := exp (subf a (ttop s a))
/-- One over the sum. -/
def tinv (s : FVec F S256x512 .f32) (a : FVec F S1x512 .f32) : FVec F S1x512 .f32 :=
  divf (broadcast S1x512 (Scalar.ofBits .f32 0x3F800000#32)) (addf (total (tex s a)) (texs s a))
/-- The probabilities. -/
def tp (s : FVec F S256x512 .f32) (a : FVec F S1x512 .f32) : FVec F S256x512 .f32 := mulf (tex s a) (down (tinv s a))
/-- The sinks' probabilities. -/
def tps (s : FVec F S256x512 .f32) (a : FVec F S1x512 .f32) : FVec F S1x512 .f32 := mulf (texs s a) (tinv s a)
/-- The mean of the probabilities' gradients. -/
def tdelta (dp p : FVec F S256x512 .f32) : FVec F S1x512 .f32 := total (mulf dp p)
/-- The scores' gradients. -/
def tds (dp p : FVec F S256x512 .f32) : FVec F S256x512 .f32 := mulf p (subf dp (down (tdelta dp p)))
/-- A group's query gradients, turned. -/
def tdq (g : Fin 2) (w : FVec F S256x128 .f32) (ds : FVec F S256x512 .f32) : FVec F S64x512 .f32 :=
  mulf (matmul dot_S64x256_S256x512_S64x512_1_0_0_1_n_n none
      (truncf .bf16 (extractStridedSlice S64x256 ![64 * g.val, 0] (transpose S128x256 [1, 0] w transposes_S256x128_p1_0_S128x256) (slices_rows g)) bitsLt_bf16_f32)
      (truncf .bf16 ds bitsLt_bf16_f32) (constant S64x512 .f32 0x00000000#32))
    (broadcast S64x512 (Scalar.ofBits .f32 0x3E000000#32))
/-- The product of scores' gradients and queries, or of probabilities and output gradients, over the group's lanes. -/
def tdk (ds : FVec F S256x512 .f32) (z : FVec F S64x512 .f32) : FVec F S256x64 .f32 :=
  matmul dot_S256x512_S64x512_S256x64_1_1_0_0_n_n none (truncf .bf16 ds bitsLt_bf16_f32) (truncf .bf16 z bitsLt_bf16_f32)
    (constant S256x64 .f32 0x00000000#32)
/-- A half of the window's rows, the two groups side by side. -/
def half (p : Fin 2) (u v : FVec F S256x64 .f32) : FVec F S128x128 .f32 :=
  extractStridedSlice S128x128 ![128 * p.val, 0] (concatenate S256x128 1 [⟨S256x64, u⟩, ⟨S256x64, v⟩] concatenates_S256x64_S256x64_S256x128_d1) (slices_half p)
/-- The eight heads' query gradients, turned back. -/
def back (u v : FVec F S64x512 .f32) : FVec F S128x512 .bf16 :=
  truncf .bf16 (transpose S128x512 [1, 0] (concatenate S512x128 0
    [⟨S64x128, extractStridedSlice S64x128 ![0, 128 * (0 : Fin 4).val] u (slices_lanes 0)⟩,
     ⟨S64x128, extractStridedSlice S64x128 ![0, 128 * (1 : Fin 4).val] u (slices_lanes 1)⟩,
     ⟨S64x128, extractStridedSlice S64x128 ![0, 128 * (2 : Fin 4).val] u (slices_lanes 2)⟩,
     ⟨S64x128, extractStridedSlice S64x128 ![0, 128 * (3 : Fin 4).val] u (slices_lanes 3)⟩,
     ⟨S64x128, extractStridedSlice S64x128 ![0, 128 * (0 : Fin 4).val] v (slices_lanes 0)⟩,
     ⟨S64x128, extractStridedSlice S64x128 ![0, 128 * (1 : Fin 4).val] v (slices_lanes 1)⟩,
     ⟨S64x128, extractStridedSlice S64x128 ![0, 128 * (2 : Fin 4).val] v (slices_lanes 2)⟩,
     ⟨S64x128, extractStridedSlice S64x128 ![0, 128 * (3 : Fin 4).val] v (slices_lanes 3)⟩]
    concatenates_S64x128_S64x128_S64x128_S64x128_S64x128_S64x128_S64x128_S64x128_S512x128_d0) transposes_S512x128_p1_0_S128x512) bitsLt_bf16_f32

/-! ## A block's tiles -/

/-- What a block's gradients are computed from: its windows of keys and values, its queries and output gradients, the
    mask, and each group's sinks. -/
structure Tiles (F : FTy → Type) where
  k : FVec F S256x128 .f32
  v : FVec F S256x128 .f32
  q : Vec F S128x512 .f32
  dy : Vec F S128x512 .f32
  mask : FVec F S256x512 .f32
  sk : Fin 2 → FVec F S1x512 .f32

variable (T : Tiles F)

def Tiles.s (g : Fin 2) : FVec F S256x512 .f32 := ts (cols g T.k) (tq g T.q) T.mask
def Tiles.dp (g : Fin 2) : FVec F S256x512 .f32 := prod (cols g T.v) (tdo g T.dy)
def Tiles.p (g : Fin 2) : FVec F S256x512 .f32 := tp (T.s g) (T.sk g)
def Tiles.ps (g : Fin 2) : FVec F S1x512 .f32 := tps (T.s g) (T.sk g)
def Tiles.delta (g : Fin 2) : FVec F S1x512 .f32 := tdelta (T.dp g) (T.p g)
def Tiles.ds (g : Fin 2) : FVec F S256x512 .f32 := tds (T.dp g) (T.p g)
def Tiles.dq : FVec F S128x512 .bf16 := back (tdq 0 T.k (T.ds 0)) (tdq 1 T.k (T.ds 1))
def Tiles.dk (p : Fin 2) : FVec F S128x128 .f32 := half p (tdk (T.ds 0) (tq 0 T.q)) (tdk (T.ds 1) (tq 1 T.q))
def Tiles.dv (p : Fin 2) : FVec F S128x128 .f32 := half p (tdk (T.p 0) (tdo 0 T.dy)) (tdk (T.p 1) (tdo 1 T.dy))
def Tiles.dsk (g : Fin 2) : FVec F S1x512 .f32 := mulf (T.ps g) (T.delta g)

/-- A group's sinks' gradients of eight blocks, added to what the row held. -/
def addRow (g : Fin 2) (B : Fin 8 → Tiles F) (acc : Vec F S1x512 .f32) : FVec F S1x512 .f32 :=
  addf (shapeCast S1x512 acc shapeCasts_S1x512_S1x512)
    (subf (subf (subf (subf (subf (subf (subf (subf (broadcast S1x512 (Scalar.ofBits .f32 0x00000000#32)) ((B 0).dsk g)) ((B 1).dsk g))
      ((B 2).dsk g)) ((B 3).dsk g)) ((B 4).dsk g)) ((B 5).dsk g)) ((B 6).dsk g)) ((B 7).dsk g))

/-- The sum of a head's positions, repeated. -/
def sumRow (z : Vec F S1x128 .f32) : FVec F S1x512 .f32 :=
  broadcastTo S1x512 (shapeCast S1x1 (shapeCast S1x1 (multiReduction .add [1] S1 (shapeCast S1x128 z shapeCasts_S1x128_S1x128)
    0x00000000#32 reduces_S1x128_S1 (.inl rfl) rfl) shapeCasts_S1_S1x1) shapeCasts_S1x1_S1x1) broadcasts_S1x1_S1x512

/-! ## The tiles in the fetched blocks -/

theorem inb_q : ∀ (b : Fin 8) a, (![128 * b.val, 0] : Fin 2 → ℕ) a + S128x512.size a ≤ S1024x512.size a := by decide +kernel
theorem inb_sk : ∀ (g : Fin 2) a, (![8 * g.val, 0] : Fin 2 → ℕ) a + S1x512.size a ≤ S16x512.size a := by decide +kernel

/-- The tiles of block `b` of a grid step's eight, `mk` being the first block's mask. -/
def tilesOf (b : Fin 8) (q : Vec F S1024x512 .f32) (kp : Vec F S128x128 .f32) (k : Vec F S1024x128 .f32) (vp : Vec F S128x128 .f32)
    (v : Vec F S1024x128 .f32) (sk : Vec F S16x512 .f32) (mk0 mk : Vec F S1x256x512 .f32) (dy : Vec F S1024x512 .f32) : Tiles F where
  k := window b kp k
  v := window b vp v
  q := View.ld q (Rect.unit ![128 * b.val, 0] S128x512.size (inb_q b))
  dy := View.ld dy (Rect.unit ![128 * b.val, 0] S128x512.size (inb_q b))
  mask := shapeCast S256x512 (if b.val = 0 then mk0 else mk) shapeCasts_S1x256x512_S256x512
  sk g := shapeCast S1x512 (View.ld sk (Rect.unit ![8 * g.val, 0] S1x512.size (inb_sk g))) shapeCasts_S1x512_S1x512

end Cert.Swa

end
-- ==== Proof.Steps.lean ====
/- What a grid step leaves in the blocks of the queries', keys' and values' gradients: eight tiles of 128 rows each. -/
module

public import proofs.«01_k».proof.Proof.Gen.KernelIdeal.Value
public import Idealize.ShloMosaic.Lib.Pipeline.ValueKit.Tiles
public import Idealize.ShloMosaic.Lib.Pipeline.ValueKit.Geometry
public import proofs.«01_k».proof.Proof.Tile

@[expose] public section

set_option maxRecDepth 16384

noncomputable section

namespace Cert.Swa

open Cert.KernelIdeal Cert.KernelIdeal.Facts Cert.KernelIdeal.Gen Idealize.ShloMosaic Idealize.ShloMosaic.TcCoe
open Idealize.ShloMosaic.Pipeline (Dat)

variable (m : (ℓ : Loc nD τ sig) → Buf (Elt Ideal) ℓ)

/-- The tiles of block `b` of grid step `t`. -/
def stepTiles (c : Dev nD) (t : Fin cfg0.N) (b : Fin 8) : Tiles Ideal :=
  tilesOf b (X0_0 m c t) (iblk m c 1 t) (iblk m c 2 t) (iblk m c 3 t) (iblk m c 4 t) (iblk m c 5 t)
    (View.ld (iblk m c 6 t) (Rect.unit (k0_off1 (grid0.coords t)) S1x256x512.size (k0_off1_inb (grid0.coords t))))
    (View.ld (iblk m c 6 t) (Rect.unit ![1, 0, 0] S1x256x512.size inb_S2x256x512_S1x256x512_1_0_0)) (iblk m c 7 t)

/-- Eight pieces of 128 rows of 128, read at a row and a column. -/
theorem rows_kv (P : Fin 8 → Vec Ideal S128x128 .f32) (y : S1024x128.Idx) (v : EReal)
    (hv : ∀ (b : Fin 8) (x : S128x128.Idx), (y 0).val = 128 * b.val + (x 0).val → (y 1).val = (x 1).val → P b x = v) :
    View.canon (Val := Elt Ideal) (s := S1024x128) (e := .f32)
      [⟨Rect.unit (s := S1024x128) ![896, 0] S128x128.size inb_S1024x128_S128x128_896_0, P 7⟩,
       ⟨Rect.unit (s := S1024x128) ![768, 0] S128x128.size inb_S1024x128_S128x128_768_0, P 6⟩,
       ⟨Rect.unit (s := S1024x128) ![640, 0] S128x128.size inb_S1024x128_S128x128_640_0, P 5⟩,
       ⟨Rect.unit (s := S1024x128) ![512, 0] S128x128.size inb_S1024x128_S128x128_512_0, P 4⟩,
       ⟨Rect.unit (s := S1024x128) ![384, 0] S128x128.size inb_S1024x128_S128x128_384_0, P 3⟩,
       ⟨Rect.unit (s := S1024x128) ![256, 0] S128x128.size inb_S1024x128_S128x128_256_0, P 2⟩,
       ⟨Rect.unit (s := S1024x128) ![128, 0] S128x128.size inb_S1024x128_S128x128_128_0, P 1⟩,
       ⟨Rect.unit (s := S1024x128) ![0, 0] S128x128.size inb_S1024x128_S128x128_0_0, P 0⟩] y = v := by
  canon_tiles x h
  · exact hv 7 x h0 h1
  · exact hv 6 x h0 h1
  · exact hv 5 x h0 h1
  · exact hv 4 x h0 h1
  · exact hv 3 x h0 h1
  · exact hv 2 x h0 h1
  · exact hv 1 x h0 h1
  · exact hv 0 x (h0.trans (Nat.zero_add _).symm) h1

/-- Eight pieces of 128 rows of 512, read at a row and a column. -/
theorem rows_q (P : Fin 8 → Vec Ideal S128x512 .bf16) (y : S1024x512.Idx) (v : EReal)
    (hv : ∀ (b : Fin 8) (x : S128x512.Idx), (y 0).val = 128 * b.val + (x 0).val → (y 1).val = (x 1).val → P b x = v) :
    View.canon (Val := Elt Ideal) (s := S1024x512) (e := .bf16)
      [⟨Rect.unit (s := S1024x512) ![896, 0] S128x512.size inb_S1024x512_S128x512_896_0, P 7⟩,
       ⟨Rect.unit (s := S1024x512) ![768, 0] S128x512.size inb_S1024x512_S128x512_768_0, P 6⟩,
       ⟨Rect.unit (s := S1024x512) ![640, 0] S128x512.size inb_S1024x512_S128x512_640_0, P 5⟩,
       ⟨Rect.unit (s := S1024x512) ![512, 0] S128x512.size inb_S1024x512_S128x512_512_0, P 4⟩,
       ⟨Rect.unit (s := S1024x512) ![384, 0] S128x512.size inb_S1024x512_S128x512_384_0, P 3⟩,
       ⟨Rect.unit (s := S1024x512) ![256, 0] S128x512.size inb_S1024x512_S128x512_256_0, P 2⟩,
       ⟨Rect.unit (s := S1024x512) ![128, 0] S128x512.size inb_S1024x512_S128x512_128_0, P 1⟩,
       ⟨Rect.unit (s := S1024x512) ![0, 0] S128x512.size inb_S1024x512_S128x512_0_0, P 0⟩] y = v := by
  canon_tiles x h
  · exact hv 7 x h0 h1
  · exact hv 6 x h0 h1
  · exact hv 5 x h0 h1
  · exact hv 4 x h0 h1
  · exact hv 3 x h0 h1
  · exact hv 2 x h0 h1
  · exact hv 1 x h0 h1
  · exact hv 0 x (h0.trans (Nat.zero_add _).symm) h1

/-- The first step, the last, and those between. -/
theorem step_cases (t : Fin cfg0.N) :
    (t.val % 16 = 0 ∧ ¬t.val % 16 = 15) ∨ (¬t.val % 16 = 0 ∧ ¬t.val % 16 = 15) ∨ (¬t.val % 16 = 0 ∧ t.val % 16 = 15) := by omega

/-- A step's block of the queries' gradients. -/
theorem step_dq (c : Dev nD) (t : Fin cfg0.N) (y : S1024x512.Idx) (v : EReal)
    (hv : ∀ (b : Fin 8) (x : S128x512.Idx), (y 0).val = 128 * b.val + (x 0).val → (y 1).val = (x 1).val →
      (stepTiles m c t b).dq x = v) :
    (outsAt0 m c t.val t.isLt).1 y = v := by
  have h := rows_q (fun b => (stepTiles m c t b).dq) y v hv
  dsimp only [stepTiles, tilesOf, Tiles.dq, Tiles.dk, Tiles.dv, Tiles.ds, Tiles.p, Tiles.dp, Tiles.s, half, back, tdq, tdk, tq, turned,
      heads, tds, tdelta, total, down, tp, tex, tinv, texs, ttop, ts, prod, cols, tdo, window] at h
  rcases step_cases t with ⟨h0, h1⟩ | ⟨h0, h1⟩ | ⟨h0, h1⟩
  · rw [outsAt0_A m c t h0 h1]; frame_out; open_payloads; exact h
  · rw [outsAt0_B m c t h0 h1]; frame_out; open_payloads; exact h
  · rw [outsAt0_C m c t h0 h1]; frame_out; open_payloads; exact h

/-- A step's block of the gradients of the keys of the blocks themselves. -/
theorem step_dko (c : Dev nD) (t : Fin cfg0.N) (y : S1024x128.Idx) (v : EReal)
    (hv : ∀ (b : Fin 8) (x : S128x128.Idx), (y 0).val = 128 * b.val + (x 0).val → (y 1).val = (x 1).val →
      (stepTiles m c t b).dk 1 x = v) :
    (outsAt0 m c t.val t.isLt).2.1 y = v := by
  have h := rows_kv (fun b => (stepTiles m c t b).dk 1) y v hv
  dsimp only [stepTiles, tilesOf, Tiles.dq, Tiles.dk, Tiles.dv, Tiles.ds, Tiles.p, Tiles.dp, Tiles.s, half, back, tdq, tdk, tq, turned,
      heads, tds, tdelta, total, down, tp, tex, tinv, texs, ttop, ts, prod, cols, tdo, window] at h
  rcases step_cases t with ⟨h0, h1⟩ | ⟨h0, h1⟩ | ⟨h0, h1⟩
  · rw [outsAt0_A m c t h0 h1]; frame_out; open_payloads; exact h
  · rw [outsAt0_B m c t h0 h1]; frame_out; open_payloads; exact h
  · rw [outsAt0_C m c t h0 h1]; frame_out; open_payloads; exact h

/-- … and of the keys of the blocks before. -/
theorem step_dkp (c : Dev nD) (t : Fin cfg0.N) (y : S1024x128.Idx) (v : EReal)
    (hv : ∀ (b : Fin 8) (x : S128x128.Idx), (y 0).val = 128 * b.val + (x 0).val → (y 1).val = (x 1).val →
      (stepTiles m c t b).dk 0 x = v) :
    (outsAt0 m c t.val t.isLt).2.2.1 y = v := by
  have h := rows_kv (fun b => (stepTiles m c t b).dk 0) y v hv
  dsimp only [stepTiles, tilesOf, Tiles.dq, Tiles.dk, Tiles.dv, Tiles.ds, Tiles.p, Tiles.dp, Tiles.s, half, back, tdq, tdk, tq, turned,
      heads, tds, tdelta, total, down, tp, tex, tinv, texs, ttop, ts, prod, cols, tdo, window] at h
  rcases step_cases t with ⟨h0, h1⟩ | ⟨h0, h1⟩ | ⟨h0, h1⟩
  · rw [outsAt0_A m c t h0 h1]; frame_out; open_payloads; exact h
  · rw [outsAt0_B m c t h0 h1]; frame_out; open_payloads; exact h
  · rw [outsAt0_C m c t h0 h1]; frame_out; open_payloads; exact h

/-- A step's block of the gradients of the values of the blocks themselves. -/
theorem step_dvo (c : Dev nD) (t : Fin cfg0.N) (y : S1024x128.Idx) (v : EReal)
    (hv : ∀ (b : Fin 8) (x : S128x128.Idx), (y 0).val = 128 * b.val + (x 0).val → (y 1).val = (x 1).val →
      (stepTiles m c t b).dv 1 x = v) :
    (outsAt0 m c t.val t.isLt).2.2.2.1 y = v := by
  have h := rows_kv (fun b => (stepTiles m c t b).dv 1) y v hv
  dsimp only [stepTiles, tilesOf, Tiles.dq, Tiles.dk, Tiles.dv, Tiles.ds, Tiles.p, Tiles.dp, Tiles.s, half, back, tdq, tdk, tq, turned,
      heads, tds, tdelta, total, down, tp, tex, tinv, texs, ttop, ts, prod, cols, tdo, window] at h
  rcases step_cases t with ⟨h0, h1⟩ | ⟨h0, h1⟩ | ⟨h0, h1⟩
  · rw [outsAt0_A m c t h0 h1]; frame_out; open_payloads; exact h
  · rw [outsAt0_B m c t h0 h1]; frame_out; open_payloads; exact h
  · rw [outsAt0_C m c t h0 h1]; frame_out; open_payloads; exact h

/-- … and of the values of the blocks before. -/
theorem step_dvp (c : Dev nD) (t : Fin cfg0.N) (y : S1024x128.Idx) (v : EReal)
    (hv : ∀ (b : Fin 8) (x : S128x128.Idx), (y 0).val = 128 * b.val + (x 0).val → (y 1).val = (x 1).val →
      (stepTiles m c t b).dv 0 x = v) :
    (outsAt0 m c t.val t.isLt).2.2.2.2.1 y = v := by
  have h := rows_kv (fun b => (stepTiles m c t b).dv 0) y v hv
  dsimp only [stepTiles, tilesOf, Tiles.dq, Tiles.dk, Tiles.dv, Tiles.ds, Tiles.p, Tiles.dp, Tiles.s, half, back, tdq, tdk, tq, turned,
      heads, tds, tdelta, total, down, tp, tex, tinv, texs, ttop, ts, prod, cols, tdo, window] at h
  rcases step_cases t with ⟨h0, h1⟩ | ⟨h0, h1⟩ | ⟨h0, h1⟩
  · rw [outsAt0_A m c t h0 h1]; frame_out; open_payloads; exact h
  · rw [outsAt0_B m c t h0 h1]; frame_out; open_payloads; exact h
  · rw [outsAt0_C m c t h0 h1]; frame_out; open_payloads; exact h

end Cert.Swa

end
-- ==== Proof.Words.lean ====
/- The words that decide whether a key is seen. -/
module

public import Idealize.ShloMosaic.PureOps.Ideal

@[expose] public section

set_option maxRecDepth 16384

namespace Cert.Swa.Words

open Idealize.ShloMosaic

/-- The window's test: after the query's row and not more than its length. -/
theorem band : ∀ (i : Fin 128) (t : Fin 256), IntOp.andi
    (IntOp.cmpi CmpIPredicate.sge (IntOp.subi (IntOp.addi (BitVec.ofNat 32 i.val) 128#32) (BitVec.ofNat 32 t.val)) 0#32)
    (IntOp.cmpi CmpIPredicate.slt (IntOp.subi (IntOp.addi (BitVec.ofNat 32 i.val) 128#32) (BitVec.ofNat 32 t.val)) 128#32)
      = if i.val < t.val ∧ t.val ≤ i.val + 128 then 1#1 else 0#1 := by decide +kernel

/-- The test of a row before the first block, turned. -/
theorem pad : ∀ (n : Fin 128) (t : Fin 256), ~~~IntOp.andi (IntOp.cmpi CmpIPredicate.eq (BitVec.ofNat 32 n.val) 0#32)
    (IntOp.cmpi CmpIPredicate.slt (BitVec.ofNat 32 t.val) 128#32)
      = if n.val = 0 ∧ t.val < 128 then 0#1 else 1#1 := by decide +kernel

/-- A lane's query. -/
theorem lane : ∀ (j : Fin 4) (i : Fin 128), IntOp.andi (BitVec.ofNat 32 (128 * j.val + i.val)) 127#32 = BitVec.ofNat 32 i.val := by decide +kernel

end Cert.Swa.Words

end
-- ==== Proof.Host.lean ====
/- What the kernel fetches: blocks of the projection and of the output's gradient, the sinks spread over the lanes, and
   the mask, at each grid step. -/
module

public import proofs.«01_k».proof.Proof.Steps
public import proofs.«01_k».proof.Proof.Rd
public import proofs.«01_k».proof.Proof.Words
public import proofs.«01_k».proof.Proof.Soft
public import Idealize.ShloMosaic.Lib.StableHlo.ReadAt

@[expose] public section

set_option maxRecDepth 16384

noncomputable section

namespace Cert.Swa

open Cert.KernelIdeal Cert.KernelIdeal.Facts Cert.KernelIdeal.Gen Idealize.ShloMosaic Idealize.ShloMosaic.TcCoe

variable (m : (ℓ : Loc nD τ sig) → Buf (Elt Ideal) ℓ)

theorem idx0 : ∀ t : Fin cfg0.N, win0_0.index t = ![t.val, 4] := (by decide +kernel : ∀ t : Fin grid0.N, _)
theorem idx1 : ∀ t : Fin cfg0.N, win0_1.index t = ![8 * t.val - 1, 20] := (by decide +kernel : ∀ t : Fin grid0.N, _)
theorem idx2 : ∀ t : Fin cfg0.N, win0_2.index t = ![t.val, 20] := (by decide +kernel : ∀ t : Fin grid0.N, _)
theorem idx3 : ∀ t : Fin cfg0.N, win0_3.index t = ![8 * t.val - 1, 21] := (by decide +kernel : ∀ t : Fin grid0.N, _)
theorem idx4 : ∀ t : Fin cfg0.N, win0_4.index t = ![t.val, 21] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![t.val, 1] := (by decide +kernel : ∀ t : Fin grid0.N, _)

/-- The projection and the output's gradient as launched. -/
abbrev arg0 (c : Dev nD) : S16384x2816.Idx → EReal := m ((c : Thread nD τ).loc main_arg0)
abbrev arg1 (c : Dev nD) : S8.Idx → EReal := m ((c : Thread nD τ).loc main_arg1)
abbrev arg2 (c : Dev nD) : S16384x1024.Idx → EReal := m ((c : Thread nD τ).loc main_arg2)

theorem in_q (c : Dev nD) (t : Fin cfg0.N) (i : Fin 1024) (j : Fin 512) :
    X0_0 m c t (ix2 i j) = rd (arg0 m c) (1024 * t.val + i.val) (2048 + j.val) := by
  have ht : t.val < 16 := t.isLt
  refine Eq.trans ?_ (rd_at (arg0 m c) ⟨1024 * t.val + i.val, by omega⟩ ⟨2048 + j.val, by omega⟩ rfl rfl)
  unfold X0_0 Pipeline.Window.fill
  rw [dif_pos (moved0_0 t _)]
  blk_ext [iblk, V, idx0 t]

theorem in_kp (c : Dev nD) (t : Fin cfg0.N) (i : Fin 128) (j : Fin 128) :
    iblk m c 1 t (ix2 i j) = rd (arg0 m c) (128 * (8 * t.val - 1) + i.val) (2560 + j.val) := by
  have ht : t.val < 16 := t.isLt
  refine Eq.trans ?_ (rd_at (arg0 m c) ⟨128 * (8 * t.val - 1) + i.val, by omega⟩ ⟨2560 + j.val, by omega⟩ rfl rfl)
  blk_ext [iblk, V, idx1 t]

theorem in_k (c : Dev nD) (t : Fin cfg0.N) (i : Fin 1024) (j : Fin 128) :
    iblk m c 2 t (ix2 i j) = rd (arg0 m c) (1024 * t.val + i.val) (2560 + j.val) := by
  have ht : t.val < 16 := t.isLt
  refine Eq.trans ?_ (rd_at (arg0 m c) ⟨1024 * t.val + i.val, by omega⟩ ⟨2560 + j.val, by omega⟩ rfl rfl)
  blk_ext [iblk, V, idx2 t]

theorem in_vp (c : Dev nD) (t : Fin cfg0.N) (i : Fin 128) (j : Fin 128) :
    iblk m c 3 t (ix2 i j) = rd (arg0 m c) (128 * (8 * t.val - 1) + i.val) (2688 + j.val) := by
  have ht : t.val < 16 := t.isLt
  refine Eq.trans ?_ (rd_at (arg0 m c) ⟨128 * (8 * t.val - 1) + i.val, by omega⟩ ⟨2688 + j.val, by omega⟩ rfl rfl)
  blk_ext [iblk, V, idx3 t]

theorem in_v (c : Dev nD) (t : Fin cfg0.N) (i : Fin 1024) (j : Fin 128) :
    iblk m c 4 t (ix2 i j) = rd (arg0 m c) (1024 * t.val + i.val) (2688 + j.val) := by
  have ht : t.val < 16 := t.isLt
  refine Eq.trans ?_ (rd_at (arg0 m c) ⟨1024 * t.val + i.val, by omega⟩ ⟨2688 + j.val, by omega⟩ rfl rfl)
  blk_ext [iblk, V, idx4 t]

theorem in_dy (c : Dev nD) (t : Fin cfg0.N) (i : Fin 1024) (j : Fin 512) :
    iblk m c 7 t (ix2 i j) = rd (arg2 m c) (1024 * t.val + i.val) (512 + j.val) := by
  have ht : t.val < 16 := t.isLt
  refine Eq.trans ?_ (rd_at (arg2 m c) ⟨1024 * t.val + i.val, by omega⟩ ⟨512 + j.val, by omega⟩ rfl rfl)
  blk_ext [iblk, V, idx7 t]

theorem in_sk (c : Dev nD) (t : Fin cfg0.N) (i : Fin 16) (j : Fin 512) : iblk m c 5 t (ix2 i j) = V m c main_v26 (ix2 i j) := by
  unfold iblk
  generalize V m c = W
  blk_ext [idx5 t]

theorem in_mask (c : Dev nD) (t : Fin cfg0.N) (g : Fin 2) (i : Fin 256) (j : Fin 512) :
    iblk m c 6 t (ix3 g i j) = V m c main_v21 (ix3 g i j) := by
  unfold iblk
  generalize V m c = W
  blk_ext [idx6 t]

theorem sink_rows (c : Dev nD) (g : Fin 2) (j : Fin 4) (i : Fin 128) :
    V m c main_v26 (ix2 ⟨8 * g.val, by omega⟩ ⟨128 * j.val + i.val, by omega⟩) = arg1 m c (ix1 ⟨4 * g.val + j.val, by omega⟩) := by
  unfold V
  simp only [hostOps0, hostOps0_1, hostOps0_2, hostOps0_3, hostOps0_4, List.flatten_cons, List.flatten_nil, List.append_nil, List.cons_append,
    List.nil_append]
  after_reads_at
  refine (dif_pos ⟨by omega, by omega⟩).trans ?_
  exact congrArg (arg1 m c) (congrArg ix1 (Fin.ext (by dsimp only; omega)))

theorem mask_rows (c : Dev nD) (g : Fin 2) (t : Fin 256) (j : Fin 4) (i : Fin 128) :
    V m c main_v21 (ix3 g t ⟨128 * j.val + i.val, by omega⟩) = if (i.val < t.val ∧ t.val ≤ i.val + 128 ∧ ¬ (g.val = 0 ∧ t.val < 128)) then (0 : EReal) else ⊥ := by
  unfold V
  simp only [hostOps0, hostOps0_1, hostOps0_2, hostOps0_3, hostOps0_4, List.flatten_cons, List.flatten_nil, List.append_nil, List.cons_append,
    List.nil_append]
  after_reads_at
  show select _ _ _ _ = _
  pointwise
  rw [Words.lane, Words.band, show ~~~IntOp.andi (IntOp.cmpi CmpIPredicate.eq (BitVec.ofNat 32 g.val) 0#32) (IntOp.cmpi CmpIPredicate.slt (BitVec.ofNat 32 t.val) 128#32)
    = _ from Words.pad ⟨g.val, by omega⟩ t, Soft.ofBits_bot]
  by_cases h1 : i.val < t.val ∧ t.val ≤ i.val + 128 <;> by_cases h2 : g.val = 0 ∧ t.val < 128
  · rw [if_pos h1, if_pos h2, if_neg fun e => e.2.2 h2]; rfl
  · rw [if_pos h1, if_neg h2, if_pos ⟨h1.1, h1.2, h2⟩]; rfl
  · rw [if_neg h1, if_pos h2, if_neg fun e => e.2.2 h2]; rfl
  · rw [if_neg h1, if_neg h2, if_neg fun e => h1 ⟨e.1, e.2.1⟩]; rfl

end Cert.Swa

end
-- ==== Proof.TileRead.lean ====
/- The stages of a block's gradients read at a key or a channel, and at a lane: head `j` of the group, query `i`. -/
module

public import proofs.«01_k».proof.Proof.Tile
public import proofs.«01_k».proof.Proof.Soft
public import Idealize.ShloMosaic.Lib.IdealHost

@[expose] public section

set_option maxRecDepth 16384

noncomputable section

namespace Cert.Swa

open Cert.KernelIdeal Cert.KernelIdeal.Gen Cert.KernelIdeal.Facts Idealize.ShloMosaic

/-- The lane of head `j` of a group and query `i`. -/
abbrev lane (j : Fin 4) (i : Fin 128) : Fin 512 := ⟨128 * j.val + i.val, by omega⟩

/-- The column of head `j` of group `g` and channel `d`. -/
abbrev chan (g : Fin 2) (j : Fin 4) (d : Fin 64) : Fin 512 := ⟨256 * g.val + 64 * j.val + d.val, by omega⟩

/-- The column of group `g` and channel `d`. -/
abbrev gcol (g : Fin 2) (d : Fin 64) : Fin 128 := ⟨64 * g.val + d.val, by omega⟩

theorem cols_at (g : Fin 2) (w : FVec Ideal S256x128 .f32) (t : Fin 256) (d : Fin 64) :
    cols g w (ix2 t d) = w (ix2 t (gcol g d)) := by
  unfold cols
  pointwise

/-- Two spellings of an index. -/
theorem at2 {a b : ℕ} {α : Type} (z : (⟨2, ![a, b]⟩ : Shape).Idx → α) {i i' : Fin a} {j j' : Fin b} (hi : i.val = i'.val) (hj : j.val = j'.val) :
    z (ix2 i j) = z (ix2 i' j') := by rw [Fin.ext hi, Fin.ext hj]

theorem heads_at (g : Fin 2) (z : FVec Ideal S512x128 .f32) (d : Fin 64) (j : Fin 4) (i : Fin 128) :
    heads g z (ix2 d (lane j i)) = z (ix2 (chan g j d) i) := by
  unfold heads
  pointwise
  split_ifs <;> exact at2 z (by dsimp only; omega) (by dsimp only; omega)

theorem tq_at (g : Fin 2) (q : Vec Ideal S128x512 .f32) (d : Fin 64) (j : Fin 4) (i : Fin 128) :
    tq g q (ix2 d (lane j i)) = q (ix2 i (chan g j d)) * ((1 / 8 : ℝ) : EReal) := by
  rw [← Soft.ofBits_eighth]
  refine (heads_at g _ d j i).trans ?_
  unfold turned
  pointwise

theorem tdo_at (g : Fin 2) (dy : Vec Ideal S128x512 .f32) (d : Fin 64) (j : Fin 4) (i : Fin 128) :
    tdo g dy (ix2 d (lane j i)) = dy (ix2 i (chan g j d)) := by
  refine (heads_at g _ d j i).trans ?_
  pointwise

theorem prod_at (w : FVec Ideal S256x64 .f32) (z : FVec Ideal S64x512 .f32) (t : Fin 256) (l : Fin 512) :
    prod w z (ix2 t l) = ∑ d : Fin 64, w (ix2 t d) * z (ix2 d l) := by
  unfold prod
  pointwise

theorem ttop_at (s : FVec Ideal S256x512 .f32) (a : FVec Ideal S1x512 .f32) (l : Fin 512) :
    ttop s a (ix2 0 l) = max (Finset.univ.fold max ⊥ fun t : Fin 256 => s (ix2 t l)) (a (ix2 0 l)) := by
  rw [← Soft.ofBits_bot]
  unfold ttop
  pointwise

theorem down_at (r : FVec Ideal S1x512 .f32) (t : Fin 256) (l : Fin 512) : down r (ix2 t l) = r (ix2 0 l) := by
  unfold down
  pointwise

theorem total_at (s : FVec Ideal S256x512 .f32) (l : Fin 512) : total s (ix2 0 l) = ∑ t : Fin 256, s (ix2 t l) := by
  unfold total
  pointwise

theorem tdk_at (ds : FVec Ideal S256x512 .f32) (z : FVec Ideal S64x512 .f32) (t : Fin 256) (d : Fin 64) :
    tdk ds z (ix2 t d) = ∑ l : Fin 512, ds (ix2 t l) * z (ix2 d l) := by
  unfold tdk
  pointwise

theorem tdq_at (g : Fin 2) (w : FVec Ideal S256x128 .f32) (ds : FVec Ideal S256x512 .f32) (d : Fin 64) (l : Fin 512) :
    tdq g w ds (ix2 d l) = (∑ t : Fin 256, w (ix2 t (gcol g d)) * ds (ix2 t l)) * ((1 / 8 : ℝ) : EReal) := by
  rw [← Soft.ofBits_eighth]
  unfold tdq
  pointwise

theorem half_at (p : Fin 2) (u v : FVec Ideal S256x64 .f32) (r : Fin 128) (g : Fin 2) (d : Fin 64) :
    half p u v (ix2 r (gcol g d)) = if g.val = 0 then u (ix2 ⟨128 * p.val + r.val, by omega⟩ d) else v (ix2 ⟨128 * p.val + r.val, by omega⟩ d) := by
  unfold half
  pointwise
  by_cases hg : g.val = 0
  · refine Eq.trans ?_ (if_pos hg).symm
    exact dite_eq_iff'.2 ⟨fun _ => at2 u rfl (by dsimp only; omega), fun h => absurd h (by omega)⟩
  · refine Eq.trans ?_ (if_neg hg).symm
    exact dite_eq_iff'.2 ⟨fun h => absurd h (by omega), fun _ => at2 v rfl (by dsimp only; omega)⟩

/-- Eight tables of 64 rows one above another. -/
theorem eight_at (P : Fin 8 → FVec Ideal S64x128 .f32) (k : Fin 8) (d : Fin 64) (i : Fin 128) :
    concatenate S512x128 0 [⟨S64x128, P 0⟩, ⟨S64x128, P 1⟩, ⟨S64x128, P 2⟩, ⟨S64x128, P 3⟩, ⟨S64x128, P 4⟩, ⟨S64x128, P 5⟩,
      ⟨S64x128, P 6⟩, ⟨S64x128, P 7⟩]
      concatenates_S64x128_S64x128_S64x128_S64x128_S64x128_S64x128_S64x128_S64x128_S512x128_d0 (ix2 ⟨64 * k.val + d.val, by omega⟩ i)
      = P k (ix2 d i) := by
  generalize h0 : P 0 = p0
  generalize h1 : P 1 = p1
  generalize h2 : P 2 = p2
  generalize h3 : P 3 = p3
  generalize h4 : P 4 = p4
  generalize h5 : P 5 = p5
  generalize h6 : P 6 = p6
  generalize h7 : P 7 = p7
  pointwise
  have pick : ∀ (n : Fin 8) (p : FVec Ideal S64x128 .f32) (c : ℕ) (hc : c < 64), P n = p → k.val = n.val → c = d.val →
      p (ix2 ⟨c, hc⟩ i) = P k (ix2 d i) := fun n p c hc hp hk e => by
    subst hp
    rw [show k = n from Fin.ext hk]
    exact at2 (P n) e rfl
  refine dite_eq_iff'.2 ⟨fun _ => pick 0 _ _ _ h0 (by change k.val = 0; omega) (by omega), fun _ => ?_⟩
  refine dite_eq_iff'.2 ⟨fun _ => pick 1 _ _ _ h1 (by change k.val = 1; omega) (by omega), fun _ => ?_⟩
  refine dite_eq_iff'.2 ⟨fun _ => pick 2 _ _ _ h2 (by change k.val = 2; omega) (by omega), fun _ => ?_⟩
  refine dite_eq_iff'.2 ⟨fun _ => pick 3 _ _ _ h3 (by change k.val = 3; omega) (by omega), fun _ => ?_⟩
  refine dite_eq_iff'.2 ⟨fun _ => pick 4 _ _ _ h4 (by change k.val = 4; omega) (by omega), fun _ => ?_⟩
  refine dite_eq_iff'.2 ⟨fun _ => pick 5 _ _ _ h5 (by change k.val = 5; omega) (by omega), fun _ => ?_⟩
  refine dite_eq_iff'.2 ⟨fun _ => pick 6 _ _ _ h6 (by change k.val = 6; omega) (by omega), fun _ => ?_⟩
  exact pick 7 _ _ _ h7 (by change k.val = 7; omega) (by omega)

theorem turn_at (z : FVec Ideal S512x128 .f32) (i : Fin 128) (c : Fin 512) :
    (truncf .bf16 (transpose S128x512 [1, 0] z transposes_S512x128_p1_0_S128x512) bitsLt_bf16_f32 : FVec Ideal S128x512 .bf16) (ix2 i c) = z (ix2 c i) := by
  pointwise

theorem back_at (u v : FVec Ideal S64x512 .f32) (i : Fin 128) (g : Fin 2) (j : Fin 4) (d : Fin 64) :
    back u v (ix2 i (chan g j d)) = if g.val = 0 then u (ix2 d (lane j i)) else v (ix2 d (lane j i)) := by
  have pick : ∀ (z : FVec Ideal S64x512 .f32) (n : Fin 4), j = n →
      extractStridedSlice S64x128 ![0, 128 * n.val] z (slices_lanes n) (ix2 d i) = z (ix2 d (lane j i)) := fun z n h => by
    subst h
    pointwise
  unfold back
  have h := eight_at ![extractStridedSlice S64x128 ![0, 128 * (0 : Fin 4).val] u (slices_lanes 0),
    extractStridedSlice S64x128 ![0, 128 * (1 : Fin 4).val] u (slices_lanes 1),
    extractStridedSlice S64x128 ![0, 128 * (2 : Fin 4).val] u (slices_lanes 2),
    extractStridedSlice S64x128 ![0, 128 * (3 : Fin 4).val] u (slices_lanes 3),
    extractStridedSlice S64x128 ![0, 128 * (0 : Fin 4).val] v (slices_lanes 0),
    extractStridedSlice S64x128 ![0, 128 * (1 : Fin 4).val] v (slices_lanes 1),
    extractStridedSlice S64x128 ![0, 128 * (2 : Fin 4).val] v (slices_lanes 2),
    extractStridedSlice S64x128 ![0, 128 * (3 : Fin 4).val] v (slices_lanes 3)] ⟨4 * g.val + j.val, by omega⟩ d i
  rw [show (⟨64 * (⟨4 * g.val + j.val, by omega⟩ : Fin 8).val + d.val, by omega⟩ : Fin 512) = chan g j d from Fin.ext (by simp only [chan]; omega)] at h
  refine (turn_at _ i _).trans (Eq.trans ?_ (h.trans ?_))
  · rfl
  · fin_cases g <;> fin_cases j
    · exact pick u 0 rfl
    · exact pick u 1 rfl
    · exact pick u 2 rfl
    · exact pick u 3 rfl
    · exact pick v 0 rfl
    · exact pick v 1 rfl
    · exact pick v 2 rfl
    · exact pick v 3 rfl

end Cert.Swa

end
-- ==== Proof.TileValue.lean ====
/- What a block's tiles hold, over the real numbers: the gradients of its queries, of its window of keys and values,
   and of the sinks at its queries. -/
module

public import proofs.«01_k».proof.Proof.TileRead
public import proofs.«01_k».proof.Proof.Spec

@[expose] public section

set_option maxRecDepth 16384

noncomputable section

namespace Cert.Swa

open Cert.KernelIdeal Cert.KernelIdeal.Gen Cert.KernelIdeal.Facts Idealize.ShloMosaic

variable (X : ℕ → ℕ → ℝ) (A : ℕ → ℝ) (D : ℕ → ℕ → ℝ)

/-- Column `c` of row `t` of the window the kernel fetches for block `n`: before the first block it takes the first. -/
def raw (n t c : ℕ) : ℝ := if n = 0 ∧ t < 128 then X t c else X (128 * n + t - 128) c

/-- The tiles of block `n`'s scores: its keys, queries, mask and sinks. -/
structure Keyed (n : ℕ) (T : Tiles Ideal) : Prop where
  k : ∀ (t : Fin 256) (c : Fin 128), T.k (ix2 t c) = (raw X n t.val (2560 + c.val) : EReal)
  q : ∀ (i : Fin 128) (c : Fin 512), T.q (ix2 i c) = (X (128 * n + i.val) (2048 + c.val) : EReal)
  mask : ∀ (t : Fin 256) (j : Fin 4) (i : Fin 128), T.mask (ix2 t (lane j i)) = if Sees n i.val t then 0 else ⊥
  sk : ∀ (g : Fin 2) (j : Fin 4) (i : Fin 128), T.sk g (ix2 0 (lane j i)) = (A (4 * g.val + j.val) : EReal)

/-- The tiles of block `n` of the arguments. -/
structure Blk (n : ℕ) (T : Tiles Ideal) : Prop extends Keyed X A n T where
  v : ∀ (t : Fin 256) (c : Fin 128), T.v (ix2 t c) = (raw X n t.val (2688 + c.val) : EReal)
  dy : ∀ (i : Fin 128) (c : Fin 512), T.dy (ix2 i c) = (D (128 * n + i.val) (512 + c.val) : EReal)

/-- The score as the kernel spells it. -/
def ksc (n i g j : ℕ) (t : Fin 256) : ℝ :=
  ∑ d : Fin 64, raw X n t.val (2560 + (64 * g + d.val)) * (X (128 * n + i) (2048 + (256 * g + 64 * j + d.val)) * (1 / 8))

/-- The probability's gradient as the kernel spells it. -/
def kdp (n i g j : ℕ) (t : Fin 256) : ℝ :=
  ∑ d : Fin 64, raw X n t.val (2688 + (64 * g + d.val)) * D (128 * n + i) (512 + (256 * g + 64 * j + d.val))

theorem raw_sees {n i : ℕ} {t : Fin 256} (h : Sees n i t) (c : ℕ) : raw X n t.val c = win X n t.val c := by
  unfold raw win; rw [if_neg h.2.2, if_neg h.2.2]

theorem ksc_sees {n i : ℕ} (g j : ℕ) (t : Fin 256) (h : Sees n i t) : ksc X n i g j t = sc X n i g j t := by
  unfold ksc sc
  rw [Finset.sum_mul]
  exact Finset.sum_congr rfl fun d _ => by rw [raw_sees X h, mul_assoc]

theorem kdp_sees {n i : ℕ} (g j : ℕ) (t : Fin 256) (h : Sees n i t) : kdp X D n i g j t = dpr X D n i g j t := by
  unfold kdp dpr
  exact Finset.sum_congr rfl fun d _ => by rw [raw_sees X h, mul_comm]

/-- A masked key's gradient is zero, whatever the window holds there. -/
theorem dsc_raw (n i g j : ℕ) (t : Fin 256) (c : ℕ) : dsc X A D n i g j t * raw X n t.val c = dsc X A D n i g j t * win X n t.val c := by
  by_cases h : Sees n i t
  · rw [raw_sees X h]
  · unfold dsc; rw [Soft.dscore_masked _ _ _ _ h, zero_mul, zero_mul]

/-! ## The exponentials at a lane -/

section
variable (s : FVec Ideal S256x512 .f32) (a : FVec Ideal S1x512 .f32) (t : Fin 256) (l : Fin 512)

theorem tex_at : tex s a (ix2 t l) = Ideal.exp (s (ix2 t l) - ttop s a (ix2 0 l)) :=
  congrArg (fun x => Ideal.exp (s (ix2 t l) - x)) (down_at _ t l)

theorem texs_at : texs s a (ix2 0 l) = Ideal.exp (a (ix2 0 l) - ttop s a (ix2 0 l)) := rfl

theorem tinv_at : tinv s a (ix2 0 l)
    = Ideal.div 1 ((∑ t : Fin 256, Ideal.exp (s (ix2 t l) - ttop s a (ix2 0 l))) + Ideal.exp (a (ix2 0 l) - ttop s a (ix2 0 l))) := by
  have h : total (tex s a) (ix2 0 l) = _ := (total_at _ l).trans (Finset.sum_congr rfl fun t _ => tex_at s a t l)
  rw [← h, ← texs_at, ← Ideal.ofBits_one_f32]
  rfl

theorem tp_at : tp s a (ix2 t l) = tex s a (ix2 t l) * tinv s a (ix2 0 l) :=
  congrArg (fun x => tex s a (ix2 t l) * x) (down_at _ t l)

end

/-! ## One block -/

variable {X A D} {n : ℕ} {T : Tiles Ideal}

section
variable (H : Keyed X A n T) (g : Fin 2) (j : Fin 4) (i : Fin 128) (t : Fin 256)
include H

theorem Keyed.s_at : T.s g (ix2 t (lane j i)) = Soft.score (ksc X n i.val g.val j.val) (Sees n i.val) t := by
  have h : prod (cols g T.k) (tq g T.q) (ix2 t (lane j i)) = (ksc X n i.val g.val j.val t : EReal) := by
    rw [prod_at, ksc, ← Soft.coe_sum]
    refine Finset.sum_congr rfl fun d _ => ?_
    rw [cols_at, tq_at, H.k, H.q, ← EReal.coe_mul, ← EReal.coe_mul]
  refine (congrArg₂ (· + ·) h (H.mask t j i)).trans ?_
  unfold Soft.score
  by_cases hs : Sees n i.val t
  · rw [if_pos hs, if_pos hs, add_zero]
  · rw [if_neg hs, if_neg hs, EReal.add_bot]

theorem Keyed.top_at : ∃ μ : ℝ, ttop (T.s g) (T.sk g) (ix2 0 (lane j i)) = (μ : EReal) := by
  obtain ⟨μ, h⟩ := Soft.top_real (ksc X n i.val g.val j.val) (Sees n i.val) (A (4 * g.val + j.val))
  refine ⟨μ, ?_⟩
  rw [ttop_at, H.sk, ← h]
  congr 2
  exact funext fun t => H.s_at g j i t

theorem Keyed.p_at : T.p g (ix2 t (lane j i)) = (pr X A n i.val g.val j.val t : EReal) := by
  obtain ⟨μ, h⟩ := H.top_at g j i
  unfold Tiles.p
  rw [tp_at, tex_at, tinv_at, h, H.s_at, H.sk, Finset.sum_congr rfl fun t _ => by rw [H.s_at g j i t], Soft.prob_mul,
    Soft.prob_congr _ _ (ksc_sees X g.val j.val)]
  rfl

theorem Keyed.ps_at : T.ps g (ix2 0 (lane j i))
    = ((Real.exp (A (4 * g.val + j.val)) / Soft.den (sc X n i.val g.val j.val) (Sees n i.val) (A (4 * g.val + j.val)) : ℝ) : EReal) := by
  obtain ⟨μ, h⟩ := H.top_at g j i
  have e : T.ps g (ix2 0 (lane j i)) = texs (T.s g) (T.sk g) (ix2 0 (lane j i)) * tinv (T.s g) (T.sk g) (ix2 0 (lane j i)) := rfl
  rw [e, texs_at, tinv_at, h, H.sk, Finset.sum_congr rfl fun t _ => by rw [H.s_at g j i t], Soft.psink_mul]
  unfold Soft.den
  rw [Soft.wt_congr _ (ksc_sees X g.val j.val)]

end

variable (H : Blk X A D n T) (g : Fin 2) (j : Fin 4) (i : Fin 128) (t : Fin 256)
include H

theorem Blk.dp_at : T.dp g (ix2 t (lane j i)) = (kdp X D n i.val g.val j.val t : EReal) := by
  unfold Tiles.dp
  rw [prod_at, kdp, ← Soft.coe_sum]
  refine Finset.sum_congr rfl fun d _ => ?_
  rw [cols_at, tdo_at, H.v, H.dy, ← EReal.coe_mul]

theorem Blk.delta_at : T.delta g (ix2 0 (lane j i))
    = (Soft.delta (sc X n i.val g.val j.val) (Sees n i.val) (A (4 * g.val + j.val)) (dpr X D n i.val g.val j.val) : EReal) := by
  unfold Tiles.delta tdelta
  rw [total_at, ← Soft.delta_congr (Sees n i.val) (A (4 * g.val + j.val)) (ksc_sees X g.val j.val) (kdp_sees X D g.val j.val), Soft.delta, ← Soft.coe_sum]
  refine Finset.sum_congr rfl fun t _ => ?_
  refine (congrArg₂ (· * ·) (H.dp_at g j i t) (H.p_at g j i t)).trans ?_
  rw [← EReal.coe_mul, pr, Soft.prob_congr _ _ (ksc_sees X g.val j.val)]

theorem Blk.ds_at : T.ds g (ix2 t (lane j i)) = (dsc X A D n i.val g.val j.val t : EReal) := by
  have e : T.ds g (ix2 t (lane j i)) = T.p g (ix2 t (lane j i)) * (T.dp g (ix2 t (lane j i)) - T.delta g (ix2 0 (lane j i))) :=
    congrArg (fun x => T.p g (ix2 t (lane j i)) * (T.dp g (ix2 t (lane j i)) - x)) (down_at _ t (lane j i))
  rw [e, H.p_at, H.dp_at, H.delta_at, ← EReal.coe_sub, ← EReal.coe_mul, dsc, Soft.dscore]
  by_cases hs : Sees n i.val t
  · rw [kdp_sees X D _ _ t hs]; rfl
  · rw [pr, Soft.prob_masked _ _ _ hs, zero_mul, zero_mul]

/-- The sink's gradient at a query, its sign turned. -/
theorem Blk.dsk_at : T.dsk g (ix2 0 (lane j i)) = ((-dsn X A D n i.val g.val j.val : ℝ) : EReal) := by
  refine (congrArg₂ (· * ·) (H.ps_at g j i) (H.delta_at g j i)).trans ?_
  rw [← EReal.coe_mul, dsn, Soft.dsink, neg_neg]

omit H in
/-- A sum over a group's lanes. -/
theorem sum_lanes (f : Fin 512 → EReal) : ∑ l : Fin 512, f l = ∑ j : Fin 4, ∑ i : Fin 128, f (lane j i) := by
  rw [← Fintype.sum_prod_type' (f := fun j i => f (lane j i))]
  exact (Fintype.sum_equiv (finProdFinEquiv (m := 4) (n := 128)) _ _ fun x => congrArg f (Fin.ext (Nat.add_comm _ _))).symm

omit H in
/-- One of two, by the group. -/
theorem two {α : Type} (f : Fin 2 → α) (g : Fin 2) : (if g.val = 0 then f 0 else f 1) = f g := by fin_cases g <;> rfl

theorem Blk.dq_at (d : Fin 64) : T.dq (ix2 i (chan g j d)) = (gq X A D n i.val g.val j.val d.val : EReal) := by
  unfold Tiles.dq
  rw [back_at, two (fun g => tdq g T.k (T.ds g) (ix2 d (lane j i))), tdq_at]
  have h : ∀ t : Fin 256, T.k (ix2 t (gcol g d)) * T.ds g (ix2 t (lane j i))
      = ((dsc X A D n i.val g.val j.val t * win X n t.val (2560 + (64 * g.val + d.val)) : ℝ) : EReal) := fun t => by
    rw [H.k, H.ds_at, ← EReal.coe_mul, mul_comm, dsc_raw]
  rw [Finset.sum_congr rfl fun t _ => h t, Soft.coe_sum, ← EReal.coe_mul, gq, Finset.sum_mul]
  congr 1
  exact Finset.sum_congr rfl fun t _ => by ring

theorem Blk.dk_at (p : Fin 2) (r : Fin 128) (d : Fin 64) :
    T.dk p (ix2 r (gcol g d)) = (gk X A D n g.val ⟨128 * p.val + r.val, by omega⟩ d.val : EReal) := by
  unfold Tiles.dk
  rw [half_at, two (fun g => tdk (T.ds g) (tq g T.q) (ix2 ⟨128 * p.val + r.val, by omega⟩ d)), tdk_at, sum_lanes, gk, Finset.sum_comm,
    ← Soft.coe_sum]
  refine Finset.sum_congr rfl fun i _ => ?_
  rw [← Soft.coe_sum]
  refine Finset.sum_congr rfl fun j _ => ?_
  rw [H.ds_at, tq_at, H.q, ← EReal.coe_mul, ← EReal.coe_mul]
  congr 1
  ring

theorem Blk.dv_at (p : Fin 2) (r : Fin 128) (d : Fin 64) :
    T.dv p (ix2 r (gcol g d)) = (gv X A D n g.val ⟨128 * p.val + r.val, by omega⟩ d.val : EReal) := by
  unfold Tiles.dv
  rw [half_at, two (fun g => tdk (T.p g) (tdo g T.dy) (ix2 ⟨128 * p.val + r.val, by omega⟩ d)), tdk_at, sum_lanes, gv, ← Soft.coe_sum]
  refine Finset.sum_congr rfl fun j _ => ?_
  rw [← Soft.coe_sum]
  refine Finset.sum_congr rfl fun i _ => ?_
  rw [H.p_at, tdo_at, H.dy, ← EReal.coe_mul, mul_comm]

omit H in
/-- A row of sinks' gradients with those of eight blocks added. -/
theorem addRow_at {B : Fin 8 → Tiles Ideal} {n : ℕ} (H : ∀ b : Fin 8, Blk X A D (8 * n + b.val) (B b)) {acc : Vec Ideal S1x512 .f32} {x : ℝ}
    (hx : acc (ix2 0 (lane j i)) = (x : EReal)) :
    addRow g B acc (ix2 0 (lane j i)) = ((x + ∑ b : Fin 8, dsn X A D (8 * n + b.val) i.val g.val j.val : ℝ) : EReal) := by
  have e : addRow g B acc (ix2 0 (lane j i)) = acc (ix2 0 (lane j i)) + (((((((((Ideal.ofBits .f32 0x00000000#32) - (B 0).dsk g (ix2 0 (lane j i)))
      - (B 1).dsk g (ix2 0 (lane j i))) - (B 2).dsk g (ix2 0 (lane j i))) - (B 3).dsk g (ix2 0 (lane j i))) - (B 4).dsk g (ix2 0 (lane j i)))
      - (B 5).dsk g (ix2 0 (lane j i))) - (B 6).dsk g (ix2 0 (lane j i))) - (B 7).dsk g (ix2 0 (lane j i))) := by
    have h : shapeCast S1x512 acc shapeCasts_S1x512_S1x512 (ix2 0 (lane j i)) = acc (ix2 0 (lane j i)) := by pointwise
    rw [← h]
    rfl
  rw [e, hx, Ideal.ofBits_zero_f32]
  simp only [(H _).dsk_at, ← EReal.coe_zero, ← EReal.coe_sub, ← EReal.coe_add, Fin.sum_univ_eight]
  congr 1
  ring

omit H in
/-- A row of a block's window: of the block before it, or of the block itself. -/
theorem window_at (b : Fin 8) (p : Vec Ideal S128x128 .f32) (k : Vec Ideal S1024x128 .f32) (c : Fin 128) :
    window b p k (ix2 t c) = if h : 128 * b.val + t.val < 128 then p (ix2 ⟨128 * b.val + t.val, h⟩ c)
      else k (ix2 ⟨128 * b.val + t.val - 128, by omega⟩ c) := by
  unfold window
  pointwise

omit H in
/-- … and where the blocks are rows of a table, a row of the table: before the first block the first one's. -/
theorem window_rows (f : ℕ → ℕ → EReal) {n : ℕ} (b : Fin 8) (p : Vec Ideal S128x128 .f32) (k : Vec Ideal S1024x128 .f32)
    (hp : ∀ i j : Fin 128, p (ix2 i j) = f (128 * (8 * n - 1) + i.val) j.val)
    (hk : ∀ (i : Fin 1024) (j : Fin 128), k (ix2 i j) = f (1024 * n + i.val) j.val) (c : Fin 128) :
    window b p k (ix2 t c) = if 8 * n + b.val = 0 ∧ t.val < 128 then f t.val c.val else f (128 * (8 * n + b.val) + t.val - 128) c.val := by
  refine (window_at t b p k c).trans (dite_eq_iff'.2 ⟨fun h => ?_, fun h => ?_⟩)
  · rw [hp]
    split
    · congr 1; dsimp only; omega
    · congr 1; dsimp only; omega
  · rw [hk, if_neg (by omega)]
    congr 1; dsimp only; omega

end Cert.Swa

end
-- ==== Proof.StepBlocks.lean ====
/- Each of a grid step's eight tiles is that of a block of the arguments. -/
module

public import proofs.«01_k».proof.Proof.Host
public import proofs.«01_k».proof.Proof.TileValue

@[expose] public section

set_option maxRecDepth 16384

noncomputable section

namespace Cert.Swa

open Cert.KernelIdeal Cert.KernelIdeal.Facts Cert.KernelIdeal.Gen Idealize.ShloMosaic Idealize.ShloMosaic.TcCoe

variable (m : (ℓ : Loc nD τ sig) → Buf (Elt Ideal) ℓ)

/-- A loaded piece of a table, at an index. -/
theorem ld2 {a b p q : ℕ} (z : (⟨2, ![a, b]⟩ : Shape).Idx → EReal) {o o' : ℕ}
    (inb : ∀ k, (![o, o'] : Fin 2 → ℕ) k + (![p, q] : Fin 2 → ℕ) k ≤ (⟨2, ![a, b]⟩ : Shape).size k) (i : Fin p) (j : Fin q) (i' : Fin a) (j' : Fin b)
    (hi : o + i.val = i'.val) (hj : o' + j.val = j'.val) :
    View.ld (Val := Elt Ideal) (e' := .f32) z (Rect.unit (s := ⟨2, ![a, b]⟩) ![o, o'] ![p, q] inb) (ix2 i j) = z (ix2 i' j') := by
  refine congrArg z ?_
  funext k
  match k with
  | ⟨0, _⟩ => exact Fin.ext ((Rect.idx_unit_val ..).trans hi)
  | ⟨1, _⟩ => exact Fin.ext ((Rect.idx_unit_val ..).trans hj)

/-- A mask loaded, at an index. -/
theorem ld3 (z : S2x256x512.Idx → EReal) (o : Fin 3 → ℕ)
    (inb : ∀ k, o k + S1x256x512.size k ≤ S2x256x512.size k) (i : Fin 256) (j : Fin 512) (g : Fin 2)
    (h0 : o 0 = g.val) (h1 : o 1 = 0) (h2 : o 2 = 0) :
    shapeCast S256x512 (View.ld (Val := Elt Ideal) (e' := .f32) z (Rect.unit (s := S2x256x512) o S1x256x512.size inb) : FVec Ideal S1x256x512 .f32)
      shapeCasts_S1x256x512_S256x512 (ix2 i j) = z (ix3 g i j) := by
  have h : ∀ w : FVec Ideal S1x256x512 .f32, shapeCast S256x512 w shapeCasts_S1x256x512_S256x512 (ix2 i j) = w (ix3 0 i j) := fun w => by pointwise
  refine (h _).trans (congrArg z ?_)
  funext k
  match k with
  | ⟨0, _⟩ => exact Fin.ext ((Rect.idx_unit_val ..).trans (by rw [Nat.add_comm]; exact (Nat.zero_add _).trans h0))
  | ⟨1, _⟩ => exact Fin.ext ((Rect.idx_unit_val ..).trans (by exact (congrArg (· + i.val) h1).trans (Nat.zero_add _)))
  | ⟨2, _⟩ => exact Fin.ext ((Rect.idx_unit_val ..).trans (by exact (congrArg (· + j.val) h2).trans (Nat.zero_add _)))

/-- What the masks hold: at the first block, at the others. -/
abbrev Masks (z : S2x256x512.Idx → EReal) : Prop := ∀ (g : Fin 2) (t : Fin 256) (j : Fin 4) (i : Fin 128),
  z (ix3 g t (lane j i)) = if (i.val < t.val ∧ t.val ≤ i.val + 128 ∧ ¬ (g.val = 0 ∧ t.val < 128)) then (0 : EReal) else ⊥

/-- The scores' tiles of block `b` of step `n`, from what the step fetches. -/
theorem keyed_of {X : ℕ → ℕ → ℝ} {A : ℕ → ℝ} {n : ℕ} (hn : n < 16) (b : Fin 8) {q : Vec Ideal S1024x512 .f32} {kp : Vec Ideal S128x128 .f32}
    {k : Vec Ideal S1024x128 .f32} (vp : Vec Ideal S128x128 .f32) (v : Vec Ideal S1024x128 .f32) {sk : Vec Ideal S16x512 .f32}
    {z : S2x256x512.Idx → EReal} {o : Fin 3 → ℕ} (inb : ∀ a, o a + S1x256x512.size a ≤ S2x256x512.size a) (dy : Vec Ideal S1024x512 .f32)
    (hq : ∀ (i : Fin 1024) (j : Fin 512), q (ix2 i j) = (X (1024 * n + i.val) (2048 + j.val) : EReal))
    (hkp : ∀ i j : Fin 128, kp (ix2 i j) = (X (128 * (8 * n - 1) + i.val) (2560 + j.val) : EReal))
    (hk : ∀ (i : Fin 1024) (j : Fin 128), k (ix2 i j) = (X (1024 * n + i.val) (2560 + j.val) : EReal))
    (hsk : ∀ (g : Fin 2) (j : Fin 4) (i : Fin 128), sk (ix2 ⟨8 * g.val, by omega⟩ (lane j i)) = (A (4 * g.val + j.val) : EReal))
    (hz : Masks z) (ho : o = ![min n 1, 0, 0]) :
    Keyed X A (8 * n + b.val) (tilesOf b q kp k vp v sk (View.ld (Val := Elt Ideal) (e' := .f32) z (Rect.unit (s := S2x256x512) o S1x256x512.size inb))
      (View.ld (Val := Elt Ideal) (e' := .f32) z (Rect.unit (s := S2x256x512) ![1, 0, 0] S1x256x512.size inb_S2x256x512_S1x256x512_1_0_0)) dy) where
  k r j := by
    refine (window_rows r (fun r c => (X r (2560 + c) : EReal)) b kp k hkp hk j).trans ?_
    unfold raw
    split <;> rfl
  q i j := by
    refine (ld2 q (inb_q b) i j ⟨128 * b.val + i.val, by omega⟩ j rfl (Nat.zero_add _)).trans ?_
    rw [hq]
    congr 2; dsimp only; omega
  mask r j i := by
    subst ho
    have h : (tilesOf b q kp k vp v sk (View.ld (Val := Elt Ideal) (e' := .f32) z (Rect.unit (s := S2x256x512) ![min n 1, 0, 0] S1x256x512.size inb))
        (View.ld (Val := Elt Ideal) (e' := .f32) z (Rect.unit (s := S2x256x512) ![1, 0, 0] S1x256x512.size inb_S2x256x512_S1x256x512_1_0_0)) dy).mask (ix2 r (lane j i))
        = z (ix3 (if 8 * n + b.val = 0 then 0 else 1) r (lane j i)) := by
      unfold tilesOf
      dsimp only
      by_cases hb : b.val = 0
      · rw [if_pos hb]
        refine ld3 _ _ _ r (lane j i) _ ?_ rfl rfl
        by_cases h0 : n = 0
        · rw [if_pos (by omega), h0]; rfl
        · rw [if_neg (by omega)]; exact Nat.min_eq_right (by omega)
      · rw [if_neg hb, if_neg (by omega)]
        exact ld3 _ _ _ r (lane j i) 1 rfl rfl rfl
    rw [h, hz]
    refine if_congr ?_ rfl rfl
    unfold Sees
    by_cases h0 : 8 * n + b.val = 0
    · rw [if_pos h0, h0]; exact Iff.rfl
    · rw [if_neg h0]
      exact and_congr_right fun _ => and_congr_right fun _ => not_congr (and_congr_left fun _ => ⟨fun h => absurd h (by decide), fun h => absurd h h0⟩)
  sk g j i := by
    have h : ∀ w : FVec Ideal S1x512 .f32, shapeCast S1x512 w shapeCasts_S1x512_S1x512 (ix2 0 (lane j i)) = w (ix2 0 (lane j i)) := fun w => by pointwise
    refine (h _).trans ((ld2 sk (inb_sk g) 0 (lane j i) ⟨8 * g.val, by omega⟩ (lane j i) rfl (Nat.zero_add _)).trans ?_)
    exact hsk g j i

/-- The mask the first block of a step takes: the padded one at the first step only. -/
theorem off1 : ∀ t : Fin cfg0.N, k0_off1 (grid0.coords t) = ![min t.val 1, 0, 0] := (by decide +kernel : ∀ t : Fin grid0.N, _)

variable {X : ℕ → ℕ → ℝ} {A : ℕ → ℝ} {D : ℕ → ℕ → ℝ} {c : Dev nD} (H : Reals (arg0 m c) (arg1 m c) (arg2 m c) X A D)
include H

/-- The tiles of a step's block. -/
theorem step_blk (t : Fin cfg0.N) (b : Fin 8) : Blk X A D (8 * t.val + b.val) (stepTiles m c t b) where
  toKeyed := by
    refine keyed_of t.isLt b _ _ _ _ (fun i j => ?_) (fun i j => ?_) (fun i j => ?_) (fun g j i => ?_) (z := iblk m c 6 t) (fun g r j i => ?_) (off1 t)
    · rw [in_q, H.proj _ _ (by omega) (by omega)]
    · rw [in_kp, H.proj _ _ (by omega) (by omega)]
    · rw [in_k, H.proj _ _ (by omega) (by omega)]
    · rw [in_sk, sink_rows]
      exact H.sink _
    · rw [in_mask, mask_rows]
  v r j := by
    refine (window_rows r (fun r c => (X r (2688 + c) : EReal)) (n := t.val) b (iblk m c 3 t) (iblk m c 4 t) (fun i j => ?_) (fun i j => ?_) j).trans ?_
    · rw [in_vp, H.proj _ _ (by omega) (by omega)]
    · rw [in_v, H.proj _ _ (by omega) (by omega)]
    · unfold raw
      split <;> rfl
  dy i j := by
    refine (ld2 (iblk m c 7 t) (inb_q b) i j ⟨128 * b.val + i.val, by omega⟩ j rfl (Nat.zero_add _)).trans ?_
    rw [in_dy, H.grad _ _ (by omega) (by omega)]
    congr 2; dsimp only; omega

end Cert.Swa

end
-- ==== Proof.Arrays.lean ====
/- The arrays the kernel leaves: the gradients of the queries, keys and values, block by block. -/
module

public import proofs.«01_k».proof.Proof.StepBlocks

@[expose] public section

set_option maxRecDepth 16384

noncomputable section

namespace Cert.Swa

open Cert.KernelIdeal Cert.KernelIdeal.Facts Cert.KernelIdeal.Gen Idealize.ShloMosaic Idealize.ShloMosaic.TcCoe
open Idealize.ShloMosaic.Pipeline (Dat)

variable (m : (ℓ : Loc nD τ sig) → Buf (Elt Ideal) ℓ)
variable (X : ℕ → ℕ → ℝ) (A : ℕ → ℝ) (D : ℕ → ℕ → ℝ)

/-- The queries' gradients, by row and column. -/
def rowQ (r c : ℕ) : ℝ := gq X A D (r / 128) (r % 128) (c / 256) (c / 64 % 4) (c % 64)

/-- The keys' gradients from a half of each window, by row and column. -/
def rowK (p : Fin 2) (r c : ℕ) : ℝ := gk X A D (r / 128) (c / 64) ⟨128 * p.val + r % 128, by omega⟩ (c % 64)

/-- The values' gradients from a half of each window, by row and column. -/
def rowV (p : Fin 2) (r c : ℕ) : ℝ := gv X A D (r / 128) (c / 64) ⟨128 * p.val + r % 128, by omega⟩ (c % 64)

theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

variable {X A D} {c : Dev nD} (H : Reals (arg0 m c) (arg1 m c) (arg2 m c) X A D)
include H

/-- A tile's queries' gradients are rows of the array. -/
theorem tile_q (t : Fin cfg0.N) (b : Fin 8) (x : S128x512.Idx) {r k : ℕ} (hr : r = 1024 * t.val + (128 * b.val + (x 0).val))
    (hk : k = (x 1).val) : (stepTiles m c t b).dq x = (rowQ X A D r k : EReal) := by
  have hx0 : (x 0).val < 128 := (x 0).isLt
  have hx1 : (x 1).val < 512 := (x 1).isLt
  have hx : x = ix2 ⟨(x 0).val, hx0⟩ (chan ⟨(x 1).val / 256, by omega⟩ ⟨(x 1).val / 64 % 4, by omega⟩ ⟨(x 1).val % 64, by omega⟩) := by
    funext a
    match a with
    | ⟨0, _⟩ => rfl
    | ⟨1, _⟩ => exact Fin.ext (by change (x 1).val = 256 * ((x 1).val / 256) + 64 * ((x 1).val / 64 % 4) + (x 1).val % 64; omega)
  rw [hx, (step_blk m H t b).dq_at, rowQ]
  subst hk
  rw [show r / 128 = 8 * t.val + b.val by omega, show r % 128 = (x 0).val by omega]

theorem tile_k (p : Fin 2) (t : Fin cfg0.N) (b : Fin 8) (x : S128x128.Idx) {r k : ℕ} (hr : r = 1024 * t.val + (128 * b.val + (x 0).val))
    (hk : k = (x 1).val) : (stepTiles m c t b).dk p x = (rowK X A D p r k : EReal) := by
  have hx0 : (x 0).val < 128 := (x 0).isLt
  have hx1 : (x 1).val < 128 := (x 1).isLt
  have hx : x = ix2 ⟨(x 0).val, hx0⟩ (gcol ⟨(x 1).val / 64, by omega⟩ ⟨(x 1).val % 64, by omega⟩) := by
    funext a
    match a with
    | ⟨0, _⟩ => rfl
    | ⟨1, _⟩ => exact Fin.ext (by change (x 1).val = 64 * ((x 1).val / 64) + (x 1).val % 64; omega)
  rw [hx, (step_blk m H t b).dk_at, rowK]
  subst hk
  congr 2
  · omega
  · exact Fin.ext (by dsimp only; omega)

theorem tile_v (p : Fin 2) (t : Fin cfg0.N) (b : Fin 8) (x : S128x128.Idx) {r k : ℕ} (hr : r = 1024 * t.val + (128 * b.val + (x 0).val))
    (hk : k = (x 1).val) : (stepTiles m c t b).dv p x = (rowV X A D p r k : EReal) := by
  have hx0 : (x 0).val < 128 := (x 0).isLt
  have hx1 : (x 1).val < 128 := (x 1).isLt
  have hx : x = ix2 ⟨(x 0).val, hx0⟩ (gcol ⟨(x 1).val / 64, by omega⟩ ⟨(x 1).val % 64, by omega⟩) := by
    funext a
    match a with
    | ⟨0, _⟩ => rfl
    | ⟨1, _⟩ => exact Fin.ext (by change (x 1).val = 64 * ((x 1).val / 64) + (x 1).val % 64; omega)
  rw [hx, (step_blk m H t b).dv_at, rowV]
  subst hk
  congr 2
  · omega
  · exact Fin.ext (by dsimp only; omega)

theorem out_q : (dats m 0 c).arrAt 8 cfg0.N = fun i : S16384x512.Idx => (rowQ X A D (i 0).val (i 1).val : EReal) := by
  refine (dats m 0 c).arrAt_eq_of_covers 8 _ (by decide +kernel) fun t hf y => ?_
  blk_simp
  rw [after0_8]
  refine step_dq m c t _ _ fun b x h0 h1 => tile_q m H t b x ?_ ?_
  · blk_simp [idx8 t] at h0 ⊢; omega
  · blk_simp [idx8 t] at h1 ⊢; omega

theorem out_ko : (dats m 0 c).arrAt 9 cfg0.N = fun i : S16384x128.Idx => (rowK X A D 1 (i 0).val (i 1).val : EReal) := by
  refine (dats m 0 c).arrAt_eq_of_covers 9 _ (by decide +kernel) fun t hf y => ?_
  blk_simp
  rw [after0_9]
  refine step_dko m c t _ _ fun b x h0 h1 => tile_k m H 1 t b x ?_ ?_
  · blk_simp [idx9 t] at h0 ⊢; omega
  · blk_simp [idx9 t] at h1 ⊢; omega

theorem out_kp : (dats m 0 c).arrAt 10 cfg0.N = fun i : S16384x128.Idx => (rowK X A D 0 (i 0).val (i 1).val : EReal) := by
  refine (dats m 0 c).arrAt_eq_of_covers 10 _ (by decide +kernel) fun t hf y => ?_
  blk_simp
  rw [after0_10]
  refine step_dkp m c t _ _ fun b x h0 h1 => tile_k m H 0 t b x ?_ ?_
  · blk_simp [idx10 t] at h0 ⊢; omega
  · blk_simp [idx10 t] at h1 ⊢; omega

theorem out_vo : (dats m 0 c).arrAt 11 cfg0.N = fun i : S16384x128.Idx => (rowV X A D 1 (i 0).val (i 1).val : EReal) := by
  refine (dats m 0 c).arrAt_eq_of_covers 11 _ (by decide +kernel) fun t hf y => ?_
  blk_simp
  rw [after0_11]
  refine step_dvo m c t _ _ fun b x h0 h1 => tile_v m H 1 t b x ?_ ?_
  · blk_simp [idx11 t] at h0 ⊢; omega
  · blk_simp [idx11 t] at h1 ⊢; omega

theorem out_vp : (dats m 0 c).arrAt 12 cfg0.N = fun i : S16384x128.Idx => (rowV X A D 0 (i 0).val (i 1).val : EReal) := by
  refine (dats m 0 c).arrAt_eq_of_covers 12 _ (by decide +kernel) fun t hf y => ?_
  blk_simp
  rw [after0_12]
  refine step_dvp m c t _ _ fun b x h0 h1 => tile_v m H 0 t b x ?_ ?_
  · blk_simp [idx12 t] at h0 ⊢; omega
  · blk_simp [idx12 t] at h1 ⊢; omega

end Cert.Swa

end
-- ==== Proof.SinkRows.lean ====
/- The table of the sinks' gradients as rows stored one by one: what is read back of a row, and what the last step's
   sums of a head's positions leave. -/
module

public import proofs.«01_k».proof.Proof.Gen.KernelIdeal.Value
public import Idealize.ShloMosaic.Lib.Pipeline.ValueKit.Tiles
public import Idealize.ShloMosaic.Lib.Pipeline.ValueKit.Geometry
public import proofs.«01_k».proof.Proof.Tile

@[expose] public section

set_option maxRecDepth 16384

noncomputable section

namespace Cert.Swa

open Cert.KernelIdeal Cert.KernelIdeal.Facts Cert.KernelIdeal.Gen Idealize.ShloMosaic Idealize.ShloMosaic.TcCoe

/-- The pieces of the table. -/
abbrev Pieces : Type := List (View.Piece (Elt Ideal) S16x512 EltTy.f32)

variable {sig : RefSig} {κ : Kind} {sp : Space} (v : View sig κ sp S16x512 .f32)

/-- A row of the table is stored whole. -/
theorem row_emb {o : ℕ} (inb : ∀ a, (![o, 0] : Fin 2 → ℕ) a + S1x512.size a ≤ S16x512.size a) (r : Fin 16) (l : Fin 512) (h : r.val = o) :
    (ix2 r l : S16x512.Idx) = (Rect.unit (s := S16x512) ![o, 0] S1x512.size inb).emb (ix2 (n0 := 1) (n1 := 512) 0 l) := by
  funext a
  apply Fin.ext
  rw [ValueKit.rect_emb_unit_val]
  match a with
  | ⟨0, _⟩ => exact h
  | ⟨1, _⟩ => exact (Nat.zero_add _).symm

theorem row_not_mem {o : ℕ} (inb : ∀ a, (![o, 0] : Fin 2 → ℕ) a + S1x512.size a ≤ S16x512.size a) (r : Fin 16) (l : Fin 512) (h : ¬ r.val = o) :
    (ix2 r l : S16x512.Idx) ∉ (Rect.unit (s := S16x512) ![o, 0] S1x512.size inb).set := by
  intro hm
  obtain ⟨x, hx⟩ := (Rect.unit (s := S16x512) ![o, 0] S1x512.size inb).exists_idx_of_mem hm
  have := congrArg (fun w : S16x512.Idx => (w 0).val) hx
  rw [Rect.idx_unit_val] at this
  have hx0 : (x 0).val < 1 := (x 0).isLt
  exact h (this.symm.trans (by show o + (x 0).val = o; omega))

/-- The table after a row is stored. -/
theorem canon_row {o : ℕ} (inb : ∀ a, (![o, 0] : Fin 2 → ℕ) a + S1x512.size a ≤ S16x512.size a) (w : Vec Ideal S1x512 .f32) (L : Pieces)
    (r : Fin 16) (l : Fin 512) :
    View.canon (⟨Rect.unit (s := S16x512) ![o, 0] S1x512.size inb, w⟩ :: L) (ix2 r l) = if r.val = o then w (ix2 0 l) else View.canon L (ix2 r l) := by
  by_cases h : r.val = o
  · rw [if_pos h, row_emb inb r l h]; exact View.canon_cons_emb (Rect.unit (s := S16x512) ![o, 0] S1x512.size inb) w L _
  · rw [if_neg h]; exact View.canon_cons_of_not_mem _ L (row_not_mem inb r l h)

theorem read_row (f : v.ty.Contents (Elt Ideal)) {o : ℕ} (inb : ∀ a, (![o, 0] : Fin 2 → ℕ) a + S1x512.size a ≤ S16x512.size a)
    (w : Vec Ideal S1x512 .f32) (L : Pieces) (r : Fin 16) (l : Fin 512) :
    v.read (Elt Ideal) (v.writes (Elt Ideal) f (⟨Rect.unit (s := S16x512) ![o, 0] S1x512.size inb, w⟩ :: L)) (ix2 r l)
      = if r.val = o then w (ix2 0 l) else v.read (Elt Ideal) (v.writes (Elt Ideal) f L) (ix2 r l) := by
  by_cases h : r.val = o
  · rw [if_pos h, row_emb inb r l h]; exact View.read_writes_cons_emb _ _ _ _ _ _
  · rw [if_neg h, View.writes_cons]
    exact View.read_slice_write_of_not_mem _ _ _ _ (by rw [Rect.map_emb_univ]; exact row_not_mem inb r l h)

/-- A load of a part of a row. -/
theorem load_row {o p n : ℕ} (inb : ∀ a, (![o, p] : Fin 2 → ℕ) a + (![1, n] : Fin 2 → ℕ) a ≤ S16x512.size a) (L : Pieces) (i : Fin n)
    (r : Fin 16) (l : Fin 512) (hr : r.val = o) (hl : l.val = p + i.val) :
    v.readCov L (Rect.unit (s := S16x512) ![o, p] ![1, n] inb).toLoadRect (ix2 (n0 := 1) (n1 := n) 0 i) = View.canon L (ix2 r l) := by
  rw [View.readCov_eq_canon']
  refine congrArg (View.canon L) ?_
  funext a
  apply Fin.ext
  match a with
  | ⟨0, _⟩ => show o + 1 * 0 = r.val; omega
  | ⟨1, _⟩ => show p + 1 * i.val = l.val; omega

/-- A head's sum, repeated. -/
theorem sumRow_at (z : Vec Ideal S1x128 .f32) (l : Fin 512) : sumRow z (ix2 0 l) = ∑ i : Fin 128, z (ix2 0 i) := by
  unfold sumRow
  pointwise

/-- Rows 0 and 8, the positions' gradients of the two groups. -/
def posRows (a0 a8 : Vec Ideal S1x512 .f32) : Pieces :=
  [⟨Rect.unit (s := S16x512) ![8, 0] S1x512.size inb_S16x512_S1x512_8_0, a8⟩,
   ⟨Rect.unit (s := S16x512) ![0, 0] S1x512.size inb_S16x512_S1x512_0_0, a0⟩]

theorem canon_pos (a0 a8 : Vec Ideal S1x512 .f32) (r : Fin 16) (l : Fin 512) : View.canon (posRows a0 a8) (ix2 r l)
    = if r.val = 8 then a8 (ix2 0 l) else if r.val = 0 then a0 (ix2 0 l) else View.canon ([] : Pieces) (ix2 r l) :=
  (canon_row _ _ _ r l).trans (congrArg (fun w => if r.val = 8 then a8 (ix2 0 l) else w) (canon_row _ _ _ r l))

theorem read_pos (f : v.ty.Contents (Elt Ideal)) (a0 a8 : Vec Ideal S1x512 .f32) (r : Fin 16) (l : Fin 512) :
    v.read (Elt Ideal) (v.writes (Elt Ideal) f (posRows a0 a8)) (ix2 r l)
      = if r.val = 8 then a8 (ix2 0 l) else if r.val = 0 then a0 (ix2 0 l) else v.read (Elt Ideal) f (ix2 r l) :=
  (read_row v f _ _ _ r l).trans (congrArg (fun w => if r.val = 8 then a8 (ix2 0 l) else w) (read_row v f _ _ _ r l))

theorem inb_head : ∀ (g : Fin 2) (j : Fin 4) a, (![8 * g.val + 1 + j.val, 0] : Fin 2 → ℕ) a + S1x512.size a ≤ S16x512.size a := by decide +kernel
theorem inb_pos : ∀ (g : Fin 2) (j : Fin 4) a, (![8 * g.val, 128 * j.val] : Fin 2 → ℕ) a + (![1, 128] : Fin 2 → ℕ) a ≤ S16x512.size a := by decide +kernel

/-- A head's row after its positions are summed. -/
def addHead (L : Pieces) (g : Fin 2) (j : Fin 4) : Pieces :=
  ⟨Rect.unit (s := S16x512) ![8 * g.val + 1 + j.val, 0] S1x512.size (inb_head g j),
    sumRow (v.readCov L (Rect.unit (s := S16x512) ![8 * g.val, 128 * j.val] ![1, 128] (inb_pos g j)).toLoadRect)⟩ :: L

theorem addHead_sum (L : Pieces) (g : Fin 2) (j : Fin 4) (l : Fin 512) :
    sumRow (v.readCov L (Rect.unit (s := S16x512) ![8 * g.val, 128 * j.val] ![1, 128] (inb_pos g j)).toLoadRect) (ix2 0 l)
      = ∑ i : Fin 128, View.canon L (ix2 ⟨8 * g.val, by omega⟩ ⟨128 * j.val + i.val, by omega⟩) :=
  (sumRow_at _ l).trans (Finset.sum_congr rfl fun i _ => load_row v (inb_pos g j) L i _ _ rfl rfl)

theorem canon_addHead (L : Pieces) (g : Fin 2) (j : Fin 4) (r : Fin 16) (l : Fin 512) :
    View.canon (addHead v L g j) (ix2 r l) = if r.val = 8 * g.val + 1 + j.val then
      ∑ i : Fin 128, View.canon L (ix2 ⟨8 * g.val, by omega⟩ ⟨128 * j.val + i.val, by omega⟩) else View.canon L (ix2 r l) := by
  rw [← addHead_sum v L g j l]
  exact canon_row _ _ L r l

theorem read_addHead (f : v.ty.Contents (Elt Ideal)) (L : Pieces) (g : Fin 2) (j : Fin 4) (r : Fin 16) (l : Fin 512) :
    v.read (Elt Ideal) (v.writes (Elt Ideal) f (addHead v L g j)) (ix2 r l) = if r.val = 8 * g.val + 1 + j.val then
      ∑ i : Fin 128, View.canon L (ix2 ⟨8 * g.val, by omega⟩ ⟨128 * j.val + i.val, by omega⟩)
      else v.read (Elt Ideal) (v.writes (Elt Ideal) f L) (ix2 r l) := by
  rw [← addHead_sum v L g j l]
  exact read_row v f _ _ L r l

/-- The last step's stores: the positions' rows, then a row for each head. -/
def lastRows (a0 a8 : Vec Ideal S1x512 .f32) : Pieces :=
  addHead v (addHead v (addHead v (addHead v (addHead v (addHead v (addHead v (addHead v (posRows a0 a8)
    0 0) 0 1) 0 2) 0 3) 1 0) 1 1) 1 2) 1 3

/-- What the last step leaves of the table that held `z`. -/
theorem last_rows (f : v.ty.Contents (Elt Ideal)) (a0 a8 : Vec Ideal S1x512 .f32) (r : Fin 16) (l : Fin 512) :
    v.read (Elt Ideal) (v.writes (Elt Ideal) f (lastRows v a0 a8)) (ix2 r l)
      = if r.val % 8 < 1 then (if r.val / 8 = 0 then a0 (ix2 0 l) else a8 (ix2 0 l))
        else if h : r.val % 8 - 1 < 4 then
          ∑ i : Fin 128, (if r.val / 8 = 0 then a0 (ix2 0 ⟨128 * (r.val % 8 - 1) + i.val, by omega⟩) else a8 (ix2 0 ⟨128 * (r.val % 8 - 1) + i.val, by omega⟩))
        else v.read (Elt Ideal) f (ix2 r l) := by
  unfold lastRows
  simp only [read_addHead, canon_addHead, read_pos, canon_pos]
  fin_cases r <;> simp

end Cert.Swa

end
-- ==== Proof.StepSinks.lean ====
/- What a grid step leaves in the table of the sinks' gradients: the first starts it, each adds its eight blocks to the
   two rows of positions, the last sums each head's positions. -/
module

public import proofs.«01_k».proof.Proof.Steps
public import proofs.«01_k».proof.Proof.SinkRows

@[expose] public section

set_option maxRecDepth 16384

noncomputable section

namespace Cert.Swa

open Cert.KernelIdeal Cert.KernelIdeal.Facts Cert.KernelIdeal.Gen Idealize.ShloMosaic Idealize.ShloMosaic.TcCoe

/-- The table before the first step's rows. -/
theorem zeros (y : S16x512.Idx) : k0_pay11 (F := Ideal) y = 0 := by
  unfold k0_pay11
  exact Ideal.ofBits_zero_f32

/-- The table's first store. -/
abbrev fill : View.Piece (Elt Ideal) S16x512 EltTy.f32 := ⟨Rect.unit (s := S16x512) ![0, 0] ![16, 512] inb_S16x512_S16x512_0_0, k0_pay11 (F := Ideal)⟩

theorem canon_fill (y : S16x512.Idx) : View.canon [fill] y = 0 := by
  refine Eq.trans ?_ (zeros y)
  exact congrFun (View.canon_cons_unit_zero (Val := Elt Ideal) (S := S16x512) (e := .f32) (by decide) inb_S16x512_S16x512_0_0 (k0_pay11 (F := Ideal)) []) y

section
variable {sig : RefSig} {κ : Kind} {sp : Space} (v : View sig κ sp S16x512 .f32)

/-- A row loaded whole. -/
theorem load_whole_row {o : ℕ} (inb : ∀ a, (![o, 0] : Fin 2 → ℕ) a + (![1, 512] : Fin 2 → ℕ) a ≤ S16x512.size a) (L : Pieces) (ho : o < 16)
    (hz : ∀ l : Fin 512, View.canon L (ix2 ⟨o, ho⟩ l) = 0) :
    v.readCov L (Rect.unit (s := S16x512) ![o, 0] ![1, 512] inb).toLoadRect = fun _ => (0 : EReal) := by
  funext x
  have hx : x = ix2 (n0 := 1) (n1 := 512) 0 (x 1) := by
    funext a
    match a with
    | ⟨0, _⟩ => exact Subsingleton.elim (α := Fin 1) _ _
    | ⟨1, _⟩ => rfl
  rw [hx]
  exact (load_row v inb L (x 1) ⟨o, ho⟩ (x 1) rfl (Nat.zero_add _).symm).trans (hz (x 1))

/-- The first step's stores, each row's contents a function of what it held. -/
theorem first_rows (A0 A8 : Vec Ideal S1x512 .f32 → Vec Ideal S1x512 .f32) (r : Fin 16) (l : Fin 512) :
    View.canon [⟨Rect.unit (s := S16x512) ![8, 0] ![1, 512] inb_S16x512_S1x512_8_0,
        A8 (v.readCov [⟨Rect.unit (s := S16x512) ![0, 0] ![1, 512] inb_S16x512_S1x512_0_0,
            A0 (v.readCov [fill] (Rect.unit (s := S16x512) ![0, 0] ![1, 512] inb_S16x512_S1x512_0_0).toLoadRect)⟩, fill]
          (Rect.unit (s := S16x512) ![8, 0] ![1, 512] inb_S16x512_S1x512_8_0).toLoadRect)⟩,
      ⟨Rect.unit (s := S16x512) ![0, 0] ![1, 512] inb_S16x512_S1x512_0_0,
        A0 (v.readCov [fill] (Rect.unit (s := S16x512) ![0, 0] ![1, 512] inb_S16x512_S1x512_0_0).toLoadRect)⟩, fill] (ix2 r l)
      = if r.val = 8 then A8 (fun _ => (0 : EReal)) (ix2 0 l) else if r.val = 0 then A0 (fun _ => (0 : EReal)) (ix2 0 l) else (0 : EReal) := by
  have e0 := load_whole_row v inb_S16x512_S1x512_0_0 [fill] (by omega) fun l => canon_fill _
  rw [e0]
  have e8 := load_whole_row v inb_S16x512_S1x512_8_0
    [⟨Rect.unit (s := S16x512) ![0, 0] S1x512.size inb_S16x512_S1x512_0_0, A0 (fun _ => (0 : EReal))⟩, fill] (by omega)
    fun l => (canon_row _ _ _ _ l).trans ((if_neg (by decide)).trans (canon_fill _))
  refine (canon_row _ _ _ r l).trans ?_
  refine if_congr Iff.rfl (congrArg (fun w => A8 w (ix2 0 l)) e8) ?_
  refine (canon_row _ _ _ r l).trans ?_
  exact if_congr Iff.rfl rfl (canon_fill _)

end

variable (m : (ℓ : Loc nD τ sig) → Buf (Elt Ideal) ℓ)

/-- What the step before left. -/
abbrev lastOuts (c : Dev nD) (t : Fin cfg0.N) : Vec Ideal S16x512 .f32 :=
  (outsAt0 m c (t.val - 1) (Nat.lt_of_le_of_lt (Nat.sub_le _ _) t.isLt)).2.2.2.2.2

/-- The first step's table. -/
theorem first_sinks (c : Dev nD) (t : Fin cfg0.N) (h0 : t.val % 16 = 0) (r : Fin 16) (l : Fin 512) :
    (outsAt0 m c t.val t.isLt).2.2.2.2.2 (ix2 r l)
      = if r.val = 8 then addRow 1 (stepTiles m c t) (fun _ => (0 : EReal)) (ix2 0 l)
        else if r.val = 0 then addRow 0 (stepTiles m c t) (fun _ => (0 : EReal)) (ix2 0 l) else 0 := by
  have h := first_rows (ms0_13 t).view (addRow 0 (stepTiles m c t)) (addRow 1 (stepTiles m c t)) r l
  generalize hv : (if r.val = 8 then addRow 1 (stepTiles m c t) (fun _ => (0 : EReal)) (ix2 0 l)
        else if r.val = 0 then addRow 0 (stepTiles m c t) (fun _ => (0 : EReal)) (ix2 0 l) else (0 : EReal)) = v at h ⊢
  dsimp only [stepTiles, tilesOf, addRow, Tiles.dsk, Tiles.ps, Tiles.delta, Tiles.p, Tiles.dp, Tiles.s, tps, texs, tdelta, tq, turned,
    heads, total, down, tp, tex, tinv, ttop, ts, prod, cols, tdo, window] at h
  rw [outsAt0_A m c t h0 (by omega)]
  frame_out
  open_payloads
  exact h

/-- A row of what the step before left. -/
abbrev held (c : Dev nD) (t : Fin cfg0.N) (g : Fin 2) : Vec Ideal S1x512 .f32 :=
  View.ld (lastOuts m c t) (Rect.unit (s := S16x512) ![8 * g.val, 0] S1x512.size (inb_sk g))

/-- A later step's table. -/
theorem next_sinks (c : Dev nD) (t : Fin cfg0.N) (h0 : ¬t.val % 16 = 0) (h1 : ¬t.val % 16 = 15) (r : Fin 16) (l : Fin 512) :
    (outsAt0 m c t.val t.isLt).2.2.2.2.2 (ix2 r l)
      = if r.val = 8 then addRow 1 (stepTiles m c t) (held m c t 1) (ix2 0 l)
        else if r.val = 0 then addRow 0 (stepTiles m c t) (held m c t 0) (ix2 0 l) else lastOuts m c t (ix2 r l) := by
  have h := read_pos (ms0_13 t).view ((hs0_13 t).unread (lastOuts m c t))
    (addRow 0 (stepTiles m c t) (held m c t 0)) (addRow 1 (stepTiles m c t) (held m c t 1)) r l
  rw [(hs0_13 t).read_unread] at h
  generalize hv : (if r.val = 8 then addRow 1 (stepTiles m c t) (held m c t 1) (ix2 0 l)
        else if r.val = 0 then addRow 0 (stepTiles m c t) (held m c t 0) (ix2 0 l) else lastOuts m c t (ix2 r l)) = v at h ⊢
  dsimp only [posRows, stepTiles, tilesOf, addRow, Tiles.dsk, Tiles.ps, Tiles.delta, Tiles.p, Tiles.dp, Tiles.s, tps, texs, tdelta, tq, turned,
    heads, total, down, tp, tex, tinv, ttop, ts, prod, cols, tdo, window] at h
  rw [outsAt0_B m c t h0 h1]
  frame_out
  open_payloads
  exact h

/-- The last step's table. -/
theorem last_sinks (c : Dev nD) (t : Fin cfg0.N) (h0 : ¬t.val % 16 = 0) (h1 : t.val % 16 = 15) (r : Fin 16) (l : Fin 512) (v : EReal)
    (hv : (if r.val % 8 < 1 then (if r.val / 8 = 0 then addRow 0 (stepTiles m c t) (held m c t 0) (ix2 0 l) else addRow 1 (stepTiles m c t) (held m c t 1) (ix2 0 l))
        else if h : r.val % 8 - 1 < 4 then
          ∑ i : Fin 128, (if r.val / 8 = 0 then addRow 0 (stepTiles m c t) (held m c t 0) (ix2 0 ⟨128 * (r.val % 8 - 1) + i.val, by omega⟩)
            else addRow 1 (stepTiles m c t) (held m c t 1) (ix2 0 ⟨128 * (r.val % 8 - 1) + i.val, by omega⟩))
        else lastOuts m c t (ix2 r l)) = v) :
    (outsAt0 m c t.val t.isLt).2.2.2.2.2 (ix2 r l) = v := by
  have h := last_rows (ms0_13 t).view ((hs0_13 t).unread (lastOuts m c t))
    (addRow 0 (stepTiles m c t) (held m c t 0)) (addRow 1 (stepTiles m c t) (held m c t 1)) r l
  rw [(hs0_13 t).read_unread] at h
  replace h := h.trans hv
  clear hv
  dsimp only [lastRows, addHead, sumRow, posRows, stepTiles, tilesOf, addRow, Tiles.dsk, Tiles.ps, Tiles.delta, Tiles.p, Tiles.dp, Tiles.s, tps, texs, tdelta, tq, turned,
    heads, total, down, tp, tex, tinv, ttop, ts, prod, cols, tdo, window] at h
  rw [outsAt0_C m c t h0 h1]
  frame_out
  open_payloads
  exact h

end Cert.Swa

end
-- ==== Proof.SinkArray.lean ====
/- The table of the sinks' gradients the kernel leaves: after each step the sums over the blocks done, after the last
   step those of every block, and each head's sum over its positions. -/
module

public import proofs.«01_k».proof.Proof.StepBlocks
public import proofs.«01_k».proof.Proof.StepSinks

@[expose] public section

set_option maxRecDepth 16384

noncomputable section

namespace Cert.Swa

open Cert.KernelIdeal Cert.KernelIdeal.Facts Cert.KernelIdeal.Gen Idealize.ShloMosaic Idealize.ShloMosaic.TcCoe
open Idealize.ShloMosaic.Pipeline (Dat)

variable (m : (ℓ : Loc nD τ sig) → Buf (Elt Ideal) ℓ)
variable (X : ℕ → ℕ → ℝ) (A : ℕ → ℝ) (D : ℕ → ℕ → ℝ)

/-- The sinks' gradients of the first `N` blocks, at lane `l` of group `g`. -/
def part (N g l : ℕ) : ℝ := ∑ n ∈ Finset.range N, dsn X A D n (l % 128) g (l / 128)

theorem part_next (t g l : ℕ) : part X A D (8 * t) g l + ∑ b : Fin 8, dsn X A D (8 * t + b.val) (l % 128) g (l / 128) = part X A D (8 * (t + 1)) g l := by
  unfold part
  rw [Nat.mul_succ, Finset.sum_range_add, Finset.sum_range fun b => dsn X A D (8 * t + b) (l % 128) g (l / 128)]

theorem part_all (g l : ℕ) : part X A D 128 g l = gs X A D g (l / 128) (l % 128) := by
  unfold part gs
  rw [Finset.sum_range]

variable {X A D} {c : Dev nD} (H : Reals (arg0 m c) (arg1 m c) (arg2 m c) X A D)
include H

/-- A row to which a step adds its eight blocks. -/
theorem add_step (t : Fin cfg0.N) (g : Fin 2) (l : Fin 512) {acc : Vec Ideal S1x512 .f32} (h : acc (ix2 0 l) = (part X A D (8 * t.val) g.val l.val : EReal)) :
    addRow g (stepTiles m c t) acc (ix2 0 l) = (part X A D (8 * (t.val + 1)) g.val l.val : EReal) := by
  have hl : l = lane ⟨l.val / 128, by omega⟩ ⟨l.val % 128, by omega⟩ := Fin.ext (by dsimp only [lane]; omega)
  rw [← part_next]
  have e := addRow_at (X := X) (A := A) (D := D) g ⟨l.val / 128, by omega⟩ ⟨l.val % 128, by omega⟩ (B := stepTiles m c t) (n := t.val)
    (fun b => step_blk m H t b) (acc := acc) (x := part X A D (8 * t.val) g.val l.val) (by rw [← hl]; exact h)
  rw [← hl] at e
  exact e

/-- The row a group's sums are held in. -/
theorem held_at (t : Fin cfg0.N) (g : Fin 2) (l : Fin 512) : held m c t g (ix2 0 l) = lastOuts m c t (ix2 ⟨8 * g.val, by omega⟩ l) :=
  ld2 (lastOuts m c t) (inb_sk g) 0 l ⟨8 * g.val, by omega⟩ l rfl (Nat.zero_add _)

/-- The table after a step that is not the last. -/
theorem sinks_at (t : ℕ) (ht : t < 15) (r : Fin 16) (l : Fin 512) :
    (outsAt0 m c t (Nat.lt_of_lt_of_le ht (by decide))).2.2.2.2.2 (ix2 r l)
      = if r.val % 8 = 0 then (part X A D (8 * (t + 1)) (r.val / 8) l.val : EReal) else 0 := by
  induction t generalizing r l with
  | zero =>
    rw [first_sinks m c ⟨0, by decide⟩ rfl r l]
    have h0 : ∀ g : Fin 2, addRow g (stepTiles m c ⟨0, by decide⟩) (fun _ => (0 : EReal)) (ix2 0 l) = (part X A D (8 * (0 + 1)) g.val l.val : EReal) :=
      fun g => add_step m H ⟨0, by decide⟩ g l (by simp [part])
    rw [h0, h0]
    split_ifs <;> first | rfl | omega | (congr 2; omega)
  | succ t ih =>
    have ih' := fun r l => ih (by omega) r l
    have hl : ∀ r l, lastOuts m c ⟨t + 1, Nat.lt_of_lt_of_le ht (by decide)⟩ (ix2 r l)
        = if r.val % 8 = 0 then (part X A D (8 * (t + 1)) (r.val / 8) l.val : EReal) else 0 := ih'
    have h0 : ∀ g : Fin 2, addRow g (stepTiles m c ⟨t + 1, Nat.lt_of_lt_of_le ht (by decide)⟩) (held m c ⟨t + 1, Nat.lt_of_lt_of_le ht (by decide)⟩ g) (ix2 0 l)
        = (part X A D (8 * (t + 1 + 1)) g.val l.val : EReal) := fun g => add_step m H ⟨t + 1, _⟩ g l (by
      rw [held_at m H, hl, if_pos (by dsimp only; omega)]
      congr 2
      dsimp only; omega)
    rw [next_sinks m c ⟨t + 1, Nat.lt_of_lt_of_le ht (by decide)⟩ (by dsimp only; omega) (by dsimp only; omega) r l, h0, h0, hl]
    split_ifs <;> first | rfl | omega | (congr 2; omega)

/-- The table before the last step. -/
theorem sinks_before (t : Fin cfg0.N) (ht : t.val = 15) (r : Fin 16) (l : Fin 512) :
    lastOuts m c t (ix2 r l) = if r.val % 8 = 0 then (part X A D (8 * t.val) (r.val / 8) l.val : EReal) else 0 := by
  have e : ∀ (n : ℕ) (h : n < cfg0.N), n = 14 → n + 1 = t.val → (outsAt0 m c n h).2.2.2.2.2 (ix2 r l)
      = if r.val % 8 = 0 then (part X A D (8 * t.val) (r.val / 8) l.val : EReal) else 0 := fun n h hn ht => by
    rw [← ht]
    exact sinks_at m H n (by omega) r l
  exact e (t.val - 1) _ (by omega) (by omega)

/-- A row of sums at the last step. -/
theorem add_last (t : Fin cfg0.N) (ht : t.val = 15) (g : Fin 2) (l : Fin 512) :
    addRow g (stepTiles m c t) (held m c t g) (ix2 0 l) = (gs X A D g.val (l.val / 128) (l.val % 128) : EReal) := by
  have h : held m c t g (ix2 0 l) = (part X A D (8 * t.val) g.val l.val : EReal) := by
    rw [held_at m H, sinks_before m H t ht, if_pos (by dsimp only; omega)]
    congr 2
    dsimp only; omega
  rw [add_step m H t g l h, ht, part_all]

/-- The table after the last step. -/
theorem sinks_last (t : Fin cfg0.N) (ht : t.val = 15) (r : Fin 16) (l : Fin 512) :
    (outsAt0 m c t.val t.isLt).2.2.2.2.2 (ix2 r l) = (gsRow X A D r.val l.val : EReal) := by
  refine last_sinks m c t (by omega) (by omega) r l _ ?_
  unfold gsRow
  have pick : ∀ l : Fin 512, (if r.val / 8 = 0 then addRow 0 (stepTiles m c t) (held m c t 0) (ix2 0 l) else addRow 1 (stepTiles m c t) (held m c t 1) (ix2 0 l))
      = (gs X A D (r.val / 8) (l.val / 128) (l.val % 128) : EReal) := fun l => by
    split
    · next h => rw [add_last m H t ht, h]; rfl
    · next h => rw [add_last m H t ht, show r.val / 8 = 1 by omega]; rfl
  by_cases h1 : r.val % 8 < 1
  · rw [if_pos h1, if_pos h1, pick]
  · rw [if_neg h1, if_neg h1]
    by_cases h2 : r.val % 8 - 1 < 4
    · rw [dif_pos h2, if_pos h2, ← Soft.coe_sum]
      refine Finset.sum_congr rfl fun i _ => ?_
      rw [pick]
      congr 2 <;> dsimp only <;> omega
    · rw [dif_neg h2, if_neg h2, sinks_before m H t ht, if_neg (by omega)]; rfl

theorem out_sinks : (dats m 0 c).arrAt 13 cfg0.N = fun i : S16x512.Idx => (gsRow X A D (i 0).val (i 1).val : EReal) := by
  obtain ⟨t, ht, hw⟩ : ∃ t : Fin cfg0.N, t.val = 15 ∧ (cfg0.win 13).WholeAt t := ⟨⟨15, by decide⟩, rfl, by decide +kernel⟩
  refine (dats m 0 c).arrAt_eq_of_after_last 13 t hw _ fun j => ?_
  blk_simp
  rw [after0_13]
  refine Eq.trans ?_ (sinks_last m H t ht (j 0) (j 1))
  refine congrArg _ ?_
  funext a
  match a with
  | ⟨0, _⟩ => rfl
  | ⟨1, _⟩ => rfl

end Cert.Swa

end
-- ==== Proof.RefRead.lean ====
/- The stages of the reference read at an index: queries, windows of keys and values, the mask, and the sums over
   axes of its tables of rank six. -/
module

public import proofs.«01_k».proof.Proof.Gen.ReferenceIdeal.Read
public import proofs.«01_k».proof.Proof.Spec
public import proofs.«01_k».proof.Proof.Words

@[expose] public section

set_option maxRecDepth 16384

noncomputable section

namespace Cert.Swa

open Idealize.ShloMosaic Cert.ReferenceIdeal Cert.ReferenceIdeal.Read Cert.ReferenceIdeal.Gen

/-! ## Reductions of the tables of rank six -/

/-- The indices that reduce along the last axis to the given one. -/
theorem fiber_keys {n0 n1 n2 n3 n4 n5 : ℕ} (h : (⟨6, ![n0, n1, n2, n3, n4, n5]⟩ : Shape).ReducesTo [5] ⟨5, ![n0, n1, n2, n3, n4]⟩)
    (a : Fin n0) (b : Fin n1) (c : Fin n2) (d : Fin n3) (e : Fin n4) (k : (⟨6, ![n0, n1, n2, n3, n4, n5]⟩ : Shape).Idx) :
    h.drop k = ix5 a b c d e ↔ ∃ t : Fin n5, ix6 a b c d e t = k := by
  constructor
  · intro q
    refine ⟨k 5, ?_⟩
    funext r; apply Fin.ext
    match r with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨t, rfl⟩
    funext r; apply Fin.ext
    match r with
    | ⟨0, _⟩ => rfl
    | ⟨1, _⟩ => rfl
    | ⟨2, _⟩ => rfl
    | ⟨3, _⟩ => rfl
    | ⟨4, _⟩ => rfl

variable (x : (⟨S16384x2816, .f32⟩ : BufTy).Contents (Elt Ideal))
variable (x1 : (⟨S8, .f32⟩ : BufTy).Contents (Elt Ideal))
variable (x2 : (⟨S16384x1024, .f32⟩ : BufTy).Contents (Elt Ideal))

/-- The queries. -/
theorem ref_q (n i : Fin 128) (g : Fin 2) (j : Fin 4) (d : Fin 64) :
    val_main_v8 (F := Ideal) x (ix6 0 n i g j d) = rd x (128 * n.val + i.val) (2048 + (256 * g.val + 64 * j.val + d.val)) := by
  pointwise [val_main_v8, val_main_v5, val_main_v0]
  exact rd_at x _ _ (by dsimp only; omega) (by dsimp only; omega)

/-- The mask. -/
theorem ref_ok (n i : Fin 128) (g : Fin 2) (j : Fin 4) (t : Fin 256) :
    val_main_v53_1 (F := Ideal) (ix6 0 n g j i t) = if Sees n.val i.val t then 1#1 else 0#1 := by
  pointwise [val_main_v53_1, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_c_1, val_main_c_2, val_main_c_3, val_main_c_4, val_main_c_5]
  rw [Words.band, Words.pad]
  by_cases h1 : i.val < t.val ∧ t.val ≤ i.val + 128 <;> by_cases h2 : n.val = 0 ∧ t.val < 128
  · have h : ¬ Sees n.val i.val t := fun e => e.2.2 h2
    rw [if_pos h1, if_pos h2, if_neg h]; rfl
  · have h : Sees n.val i.val t := ⟨h1.1, h1.2, h2⟩
    rw [if_pos h1, if_neg h2, if_pos h]; rfl
  · have h : ¬ Sees n.val i.val t := fun e => e.2.2 h2
    rw [if_neg h1, if_pos h2, if_neg h]; rfl
  · have h : ¬ Sees n.val i.val t := fun e => h1 ⟨e.1, e.2.1⟩
    rw [if_neg h1, if_neg h2, if_neg h]; rfl

/-- The scores, minus infinity where the key is not seen. -/
theorem ref_score (n i : Fin 128) (g : Fin 2) (j : Fin 4) (t : Fin 256) :
    val_main_v53_0 (F := Ideal) x (ix6 0 n g j i t) = if Sees n.val i.val t then
      (∑ d : Fin 64, val_main_v13 (F := Ideal) x (ix5 0 n t g d) * val_main_v8 (F := Ideal) x (ix6 0 n i g j d)) * ((1 / 8 : ℝ) : EReal)
      else ⊥ := by
  pointwise [val_main_v53_0, val_main_v22, val_main_v21, val_main_cst, val_main_v20, val_main_v19, val_main_call2_v2, val_main_call2_v0, val_main_cst_6]
  rw [ref_ok, Soft.ofBits_eighth]
  by_cases h : Sees n.val i.val t
  · rw [if_pos h, if_pos h]; rfl
  · rw [if_neg h, if_neg h]; exact Soft.ofBits_bot

/-- The largest score of a query. -/
theorem ref_max (n i : Fin 128) (g : Fin 2) (j : Fin 4) :
    val_main_v56 (F := Ideal) x (ix5 0 n g j i)
      = Finset.univ.fold max ⊥ (fun t : Fin 256 => val_main_v53_0 (F := Ideal) x (ix6 0 n g j i t)) := by
  unfold val_main_v56
  generalize val_main_v53_0 (F := Ideal) x = S
  pointwise [val_main_cst_7]
  rw [Soft.ofBits_bot]
  exact Finset.fold_filter_eq_fold_of_fiber max _ (fun t : Fin 256 => ix6 0 n g j i t) (fun a b e => Fin.ext (congrArg (fun q => (q 5).val) e))
    (fiber_keys reducesTo_S1x128x2x4x128x256_S1x128x2x4x128_d5 0 n g j i) ⊥ S

/-- The sink of a query. -/
theorem ref_sink (i : Fin 128) (g : Fin 2) (j : Fin 4) :
    val_main_v55 (F := Ideal) x1 (ix6 0 0 g j i 0) = x1 (ix1 ⟨4 * g.val + j.val, by omega⟩) := by
  pointwise [val_main_v55, val_main_v54, val_main_v18, val_main_v17]
  congr 2
  apply Fin.ext; dsimp only; omega

end Cert.Swa
end
-- ==== Proof.RefSum.lean ====
/- The sums over axes of the reference's tables of rank six. -/
module

public import proofs.«01_k».proof.Proof.RefRead

@[expose] public section

noncomputable section

namespace Cert.Swa

open Idealize.ShloMosaic

variable {n1 n2 n3 n4 n5 : ℕ}

/-- A sum over the last axis. -/
theorem sum_keys (h : (⟨6, ![1, n1, n2, n3, n4, n5]⟩ : Shape).ReducesTo [5] ⟨5, ![1, n1, n2, n3, n4]⟩)
    (v : (⟨6, ![1, n1, n2, n3, n4, n5]⟩ : Shape).Idx → EReal) (b : Fin n1) (c : Fin n2) (d : Fin n3) (e : Fin n4) :
    Ideal.hostReduceAdd h v 0 (ix5 0 b c d e) = ∑ t : Fin n5, v (ix6 0 b c d e t) :=
  (zero_add _).trans (Finset.sum_filter_eq_sum_of_fiber _ (fun t : Fin n5 => ix6 0 b c d e t)
    (fun _ _ q => Fin.ext (congrArg (fun w => (w 5).val) q)) (fiber_keys h 0 b c d e) v)

/-- A sum over the second axis. -/
theorem sum_blocks (h : (⟨6, ![1, n1, n2, n3, n4, 1]⟩ : Shape).ReducesTo [1] ⟨5, ![1, n2, n3, n4, 1]⟩)
    (v : (⟨6, ![1, n1, n2, n3, n4, 1]⟩ : Shape).Idx → EReal) (c : Fin n2) (d : Fin n3) (e : Fin n4) :
    Ideal.hostReduceAdd h v 0 (ix5 0 c d e 0) = ∑ b : Fin n1, v (ix6 0 b c d e 0) := by
  refine (zero_add _).trans (Finset.sum_filter_eq_sum_of_fiber _ (fun b : Fin n1 => ix6 0 b c d e 0)
    (fun _ _ q => Fin.ext (congrArg (fun w => (w 1).val) q)) (fun k => ?_) v)
  constructor
  · intro q
    refine ⟨k 1, ?_⟩
    funext r; apply Fin.ext
    match r with
    | ⟨0, _⟩ => exact (congrArg Fin.val (congrFun q 0)).symm
    | ⟨1, _⟩ => rfl
    | ⟨2, _⟩ => exact (congrArg Fin.val (congrFun q 1)).symm
    | ⟨3, _⟩ => exact (congrArg Fin.val (congrFun q 2)).symm
    | ⟨4, _⟩ => exact (congrArg Fin.val (congrFun q 3)).symm
    | ⟨5, _⟩ => exact (congrArg Fin.val (congrFun q 4)).symm
  · rintro ⟨t, rfl⟩
    funext r; apply Fin.ext
    match r with
    | ⟨0, _⟩ => rfl
    | ⟨1, _⟩ => rfl
    | ⟨2, _⟩ => rfl
    | ⟨3, _⟩ => rfl
    | ⟨4, _⟩ => rfl

/-- A sum over two axes of one element each is that element. -/
theorem sum_ends (h : (⟨6, ![1, n1, n2, n3, n4, 1]⟩ : Shape).ReducesTo [0, 5] ⟨4, ![n1, n2, n3, n4]⟩)
    (v : (⟨6, ![1, n1, n2, n3, n4, 1]⟩ : Shape).Idx → EReal) (b : Fin n1) (c : Fin n2) (d : Fin n3) (e : Fin n4) :
    Ideal.hostReduceAdd h v 0 (ix4 b c d e) = v (ix6 0 b c d e 0) := by
  refine (zero_add _).trans ((Finset.sum_filter_eq_sum_of_fiber _ (fun _ : Unit => ix6 0 b c d e 0)
    (fun _ _ _ => rfl) (fun k => ?_) v).trans (Fintype.sum_unique _))
  constructor
  · intro q
    refine ⟨(), ?_⟩
    funext r; apply Fin.ext
    match r with
    | ⟨0, _⟩ => exact (Nat.lt_one_iff.mp (k 0).isLt).symm
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => exact (congrArg Fin.val (congrFun q 3)).symm
    | ⟨5, _⟩ => exact (Nat.lt_one_iff.mp (k 5).isLt).symm
  · rintro ⟨t, rfl⟩
    funext r; apply Fin.ext
    match r with
    | ⟨0, _⟩ => rfl
    | ⟨1, _⟩ => rfl
    | ⟨2, _⟩ => rfl
    | ⟨3, _⟩ => rfl

/-- The same over three axes. -/
theorem sum_ends3 (h : (⟨6, ![1, 1, n2, n3, n4, 1]⟩ : Shape).ReducesTo [0, 1, 5] ⟨3, ![n2, n3, n4]⟩)
    (v : (⟨6, ![1, 1, n2, n3, n4, 1]⟩ : Shape).Idx → EReal) (c : Fin n2) (d : Fin n3) (e : Fin n4) :
    Ideal.hostReduceAdd h v 0 (ix3 c d e) = v (ix6 0 0 c d e 0) := by
  refine (zero_add _).trans ((Finset.sum_filter_eq_sum_of_fiber _ (fun _ : Unit => ix6 0 0 c d e 0)
    (fun _ _ _ => rfl) (fun k => ?_) v).trans (Fintype.sum_unique _))
  constructor
  · intro q
    refine ⟨(), ?_⟩
    funext r; apply Fin.ext
    match r with
    | ⟨0, _⟩ => exact (Nat.lt_one_iff.mp (k 0).isLt).symm
    | ⟨1, _⟩ => exact (Nat.lt_one_iff.mp (k 1).isLt).symm
    | ⟨2, _⟩ => exact (congrArg Fin.val (congrFun q 0)).symm
    | ⟨3, _⟩ => exact (congrArg Fin.val (congrFun q 1)).symm
    | ⟨4, _⟩ => exact (congrArg Fin.val (congrFun q 2)).symm
    | ⟨5, _⟩ => exact (Nat.lt_one_iff.mp (k 5).isLt).symm
  · rintro ⟨t, rfl⟩
    funext r; apply Fin.ext
    match r with
    | ⟨0, _⟩ => rfl
    | ⟨1, _⟩ => rfl
    | ⟨2, _⟩ => rfl

end Cert.Swa

end
-- ==== Proof.RefWindow.lean ====
/- The windows of keys and values of the reference, read at an index. -/
module

public import proofs.«01_k».proof.Proof.Gen.ReferenceIdeal.Read
public import proofs.«01_k».proof.Proof.Rd
public import proofs.«01_k».proof.Proof.Soft

@[expose] public section

set_option maxRecDepth 16384

noncomputable section

namespace Cert.Swa

open Idealize.ShloMosaic Cert.ReferenceIdeal Cert.ReferenceIdeal.Read Cert.ReferenceIdeal.Gen

variable (x : (⟨S16384x2816, .f32⟩ : BufTy).Contents (Elt Ideal))

theorem sitofp_zero : FloatOps.sitofp (F := Ideal) FTy.f32 (0#32) = (0 : EReal) := by
  show ((((0#32 : BitVec 32).toInt : ℤ) : ℝ) : EReal) = 0
  simp

/-- The keys of block `n`: those of the block before it and its own, zeros before the first block. -/
theorem ref_k (n : Fin 128) (t : Fin 256) (g : Fin 2) (d : Fin 64) :
    val_main_v13 (F := Ideal) x (ix5 0 n t g d)
      = if n.val = 0 ∧ t.val < 128 then 0 else rd x (128 * n.val + t.val - 128) (2560 + (64 * g.val + d.val)) := by
  pointwise [val_main_v13, val_main_v12, val_main_call0_v0, val_main_v11, val_main_v9, val_main_v6, val_main_v0, val_main_c]
  by_cases h : t.val < 128
  · refine (dif_pos h).trans ?_
    by_cases hn : n.val = 0
    · have ha : ¬ ((1 ≤ n.val ∧ n.val - 1 < 127) ∧ t.val < 128) := by omega
      exact ((dif_neg ha).trans sitofp_zero).trans (if_pos ⟨hn, h⟩).symm
    · have ha : (1 ≤ n.val ∧ n.val - 1 < 127) ∧ t.val < 128 := by omega
      have hb : ¬ (n.val = 0 ∧ t.val < 128) := by omega
      refine (dif_pos ha).trans (Eq.trans ?_ (if_neg hb).symm)
      exact rd_at x _ _ (by dsimp only; omega) (by dsimp only; omega)
  · have hb : ¬ (n.val = 0 ∧ t.val < 128) := by omega
    refine (dif_neg h).trans (Eq.trans ?_ (if_neg hb).symm)
    exact rd_at x _ _ (by dsimp only; omega) (by dsimp only; omega)

/-- The values of block `n`, like the keys. -/
theorem ref_v (n : Fin 128) (t : Fin 256) (g : Fin 2) (d : Fin 64) :
    val_main_v16 (F := Ideal) x (ix5 0 n t g d)
      = if n.val = 0 ∧ t.val < 128 then 0 else rd x (128 * n.val + t.val - 128) (2688 + (64 * g.val + d.val)) := by
  pointwise [val_main_v16, val_main_v15, val_main_call1_v0, val_main_v14, val_main_v10, val_main_v7, val_main_v0, val_main_c_0]
  by_cases h : t.val < 128
  · refine (dif_pos h).trans ?_
    by_cases hn : n.val = 0
    · have ha : ¬ ((1 ≤ n.val ∧ n.val - 1 < 127) ∧ t.val < 128) := by omega
      exact ((dif_neg ha).trans sitofp_zero).trans (if_pos ⟨hn, h⟩).symm
    · have ha : (1 ≤ n.val ∧ n.val - 1 < 127) ∧ t.val < 128 := by omega
      have hb : ¬ (n.val = 0 ∧ t.val < 128) := by omega
      refine (dif_pos ha).trans (Eq.trans ?_ (if_neg hb).symm)
      exact rd_at x _ _ (by dsimp only; omega) (by dsimp only; omega)
  · have hb : ¬ (n.val = 0 ∧ t.val < 128) := by omega
    refine (dif_neg h).trans (Eq.trans ?_ (if_neg hb).symm)
    exact rd_at x _ _ (by dsimp only; omega) (by dsimp only; omega)

end Cert.Swa
end
-- ==== Proof.RefValue.lean ====
/- The reference's stages as real numbers, up to the gradients of the scores and of the sinks. -/
module

public import proofs.«01_k».proof.Proof.RefSum
public import proofs.«01_k».proof.Proof.RefWindow

@[expose] public section

set_option maxRecDepth 16384

noncomputable section

namespace Cert.Swa

open Idealize.ShloMosaic Cert.ReferenceIdeal Cert.ReferenceIdeal.Read Cert.ReferenceIdeal.Gen

variable {x : (⟨S16384x2816, .f32⟩ : BufTy).Contents (Elt Ideal)}
variable {x1 : (⟨S8, .f32⟩ : BufTy).Contents (Elt Ideal)}
variable {x2 : (⟨S16384x1024, .f32⟩ : BufTy).Contents (Elt Ideal)}
variable {X : ℕ → ℕ → ℝ} {A : ℕ → ℝ} {D : ℕ → ℕ → ℝ}

/-! The maximum of the largest score and the sink, read at an index. -/

section
variable (x : (⟨S16384x2816, .f32⟩ : BufTy).Contents (Elt Ideal)) (x1 : (⟨S8, .f32⟩ : BufTy).Contents (Elt Ideal))

theorem max_scores (n i : Fin 128) (g : Fin 2) (j : Fin 4) :
    val_main_v62 (F := Ideal) x (ix6 0 n g j i 0) = val_main_v56 (F := Ideal) x (ix5 0 n g j i) := by
  unfold val_main_v62
  generalize val_main_v56 (F := Ideal) x = y0
  pointwise
theorem max_sink (n i : Fin 128) (g : Fin 2) (j : Fin 4) :
    val_main_v63 (F := Ideal) x1 (ix6 0 n g j i 0) = val_main_v55 (F := Ideal) x1 (ix6 0 0 g j i 0) := by
  unfold val_main_v63
  generalize val_main_v55 (F := Ideal) x1 = y0
  pointwise
theorem max_both (n i : Fin 128) (g : Fin 2) (j : Fin 4) :
    val_main_v64 (F := Ideal) x x1 (ix6 0 n g j i 0) = max (val_main_v62 (F := Ideal) x (ix6 0 n g j i 0)) (val_main_v63 (F := Ideal) x1 (ix6 0 n g j i 0)) := by
  rw [val_main_v64_apply]
  rfl

end

section Probabilities
variable (H : Scores x x1 X A)
include H

theorem st_k (n : Fin 128) (t : Fin 256) (g : Fin 2) (d : Fin 64) :
    val_main_v13 (F := Ideal) x (ix5 0 n t g d) = (win X n.val t.val (2560 + (64 * g.val + d.val)) : EReal) := by
  rw [ref_k]; unfold win; split
  · rfl
  · exact H.proj _ _ (by omega) (by omega)

theorem st_q (n i : Fin 128) (g : Fin 2) (j : Fin 4) (d : Fin 64) :
    val_main_v8 (F := Ideal) x (ix6 0 n i g j d)
      = (X (128 * n.val + i.val) (2048 + (256 * g.val + 64 * j.val + d.val)) : EReal) := by
  rw [ref_q]; exact H.proj _ _ (by omega) (by omega)

theorem st_score (n i : Fin 128) (g : Fin 2) (j : Fin 4) (t : Fin 256) :
    val_main_v53_0 (F := Ideal) x (ix6 0 n g j i t) = Soft.score (sc X n.val i.val g.val j.val) (Sees n.val i.val) t := by
  rw [ref_score]; unfold Soft.score
  by_cases h : Sees n.val i.val t
  · rw [if_pos h, if_pos h]
    unfold sc
    rw [EReal.coe_mul, ← Soft.coe_sum]
    congr 1
    refine Finset.sum_congr rfl fun d _ => ?_
    rw [st_k H, st_q H, EReal.coe_mul]
  · rw [if_neg h, if_neg h]

theorem st_sink (i : Fin 128) (g : Fin 2) (j : Fin 4) :
    val_main_v55 (F := Ideal) x1 (ix6 0 0 g j i 0) = (A (4 * g.val + j.val) : EReal) := by
  rw [ref_sink, H.sink]

theorem st_max (n i : Fin 128) (g : Fin 2) (j : Fin 4) :
    val_main_v64 (F := Ideal) x x1 (ix6 0 n g j i 0)
      = max (Finset.univ.fold max ⊥ (Soft.score (sc X n.val i.val g.val j.val) (Sees n.val i.val))) (A (4 * g.val + j.val) : EReal) := by
  have hs := st_sink H i g j
  have hm := ref_max x n i g j
  rw [show (fun t : Fin 256 => val_main_v53_0 (F := Ideal) x (ix6 0 n g j i t))
    = Soft.score (sc X n.val i.val g.val j.val) (Sees n.val i.val) from funext fun t => st_score H n i g j t] at hm
  rw [max_both, max_scores, max_sink, hm, hs]

/-- The largest of a query's scores and its sink is a real number. -/
theorem st_top (n i : Fin 128) (g : Fin 2) (j : Fin 4) : ∃ μ : ℝ, val_main_v64 (F := Ideal) x x1 (ix6 0 n g j i 0) = (μ : EReal) := by
  rw [st_max H]; exact Soft.top_real _ _ _

/-! The stages of one query, the largest of its scores and its sink being `μ`. -/

variable {n i : Fin 128} {g : Fin 2} {j : Fin 4} {μ : ℝ} (hμ : val_main_v64 (F := Ideal) x x1 (ix6 0 n g j i 0) = (μ : EReal))
include hμ

theorem st_e (t : Fin 256) : val_main_v85 (F := Ideal) x x1 (ix6 0 n g j i t)
    = (Soft.ex (sc X n.val i.val g.val j.val) (Sees n.val i.val) μ t : EReal) := by
  pointwise [val_main_v85, val_main_v84, val_main_v83]
  rw [hμ, st_score H]
  exact Soft.exp_score _ _ μ t

theorem st_es : val_main_v90 (F := Ideal) x x1 (ix6 0 n g j i 0)
    = ((Real.exp (A (4 * g.val + j.val)) * Real.exp (-μ) : ℝ) : EReal) := by
  pointwise [val_main_v90, val_main_v89, val_main_v88]
  rw [hμ, st_sink H]
  exact Soft.exp_sink _ μ

theorem st_z : val_main_v91 (F := Ideal) x x1 (ix6 0 n g j i 0)
    = (Soft.zed (sc X n.val i.val g.val j.val) (Sees n.val i.val) (A (4 * g.val + j.val)) μ : EReal) := by
  pointwise [val_main_v91, val_main_v87, val_main_v86, val_main_cst_15]
  rw [sum_keys, st_es H hμ, Finset.sum_congr rfl fun t _ => st_e H hμ t]
  unfold Soft.zed Soft.ex Soft.den
  rw [Soft.coe_sum, ← EReal.coe_add, add_mul, Finset.sum_mul]

theorem st_p (t : Fin 256) : val_main_v93 (F := Ideal) x x1 (ix6 0 n g j i t) = (pr X A n.val i.val g.val j.val t : EReal) := by
  pointwise [val_main_v93, val_main_v92]
  rw [st_e H hμ, st_z H hμ, Soft.div_real _ (Soft.zed_ne _ _ _ _), Soft.prob_eq]
  rfl

end Probabilities

section Stages
variable (H : Reals x x1 x2 X A D)
include H

theorem st_v (n : Fin 128) (t : Fin 256) (g : Fin 2) (d : Fin 64) :
    val_main_v16 (F := Ideal) x (ix5 0 n t g d) = (win X n.val t.val (2688 + (64 * g.val + d.val)) : EReal) := by
  rw [ref_v]; unfold win; split
  · rfl
  · exact H.proj _ _ (by omega) (by omega)

theorem st_do (n i : Fin 128) (g : Fin 2) (j : Fin 4) (d : Fin 64) :
    val_main_v102 (F := Ideal) x2 (ix6 0 n i g j d)
      = (D (128 * n.val + i.val) (512 + (256 * g.val + 64 * j.val + d.val)) : EReal) := by
  pointwise [val_main_v102, val_main_v101, val_main_v100]
  refine (rd_at x2 _ _ ?_ ?_).trans (H.grad _ _ (by omega) (by omega))
  · dsimp only; omega
  · dsimp only; omega

theorem st_dp (n i : Fin 128) (g : Fin 2) (j : Fin 4) (t : Fin 256) :
    val_main_v104 (F := Ideal) x x2 (ix6 0 n g j i t) = (dpr X D n.val i.val g.val j.val t : EReal) := by
  pointwise [val_main_v104, val_main_v103]
  unfold dpr
  rw [← Soft.coe_sum]
  refine Finset.sum_congr rfl fun d _ => ?_
  rw [st_do H, st_v H, EReal.coe_mul]

/-! The gradients at one query, the largest of its scores and its sink being `μ`. -/

variable {n i : Fin 128} {g : Fin 2} {j : Fin 4} {μ : ℝ} (hμ : val_main_v64 (F := Ideal) x x1 (ix6 0 n g j i 0) = (μ : EReal))
include hμ

theorem st_dz : val_main_v112 (F := Ideal) x x1 x2 (ix6 0 n g j i 0)
    = (Soft.dz (sc X n.val i.val g.val j.val) (Sees n.val i.val) (A (4 * g.val + j.val)) (dpr X D n.val i.val g.val j.val) μ : EReal) := by
  pointwise [val_main_v112, val_main_v111, val_main_v110, val_main_cst_17]
  rw [sum_keys]
  unfold Soft.dz
  rw [EReal.coe_neg, ← Soft.coe_sum]
  refine congrArg Neg.neg (Finset.sum_congr rfl fun t _ => ?_)
  pointwise [val_main_v109, val_main_v108, val_main_v107, val_main_v96, val_main_v95, val_main_v94, val_main_cst_16]
  rw [st_e H.scores hμ, st_z H.scores hμ, st_dp H, ← EReal.coe_mul, ← EReal.coe_one,
    Soft.div_real _ (mul_ne_zero (Soft.zed_ne _ _ _ _) (Soft.zed_ne _ _ _ _)), ← EReal.coe_mul, ← EReal.coe_mul]

theorem st_ds0 (t : Fin 256) : val_main_v123 (F := Ideal) x x1 x2 (ix6 0 n g j i t)
    = (dsc X A D n.val i.val g.val j.val t : EReal) := by
  pointwise [val_main_v123, val_main_v122, val_main_v121, val_main_v120, val_main_v119, val_main_cst_19, val_main_v114, val_main_v113]
  rw [sum_ends, st_e H.scores hμ, st_z H.scores hμ, st_dp H, st_dz H hμ, Soft.div_real _ (Soft.zed_ne _ _ _ _), ← EReal.coe_add,
    ← EReal.coe_mul, Soft.dscore_eq]
  rfl

theorem st_dsn : val_main_v115 (F := Ideal) x x1 x2 (ix6 0 n g j i 0) = (dsn X A D n.val i.val g.val j.val : EReal) := by
  pointwise [val_main_v115]
  rw [st_dz H hμ, st_es H.scores hμ, ← EReal.coe_mul, Soft.dsink_eq]
  rfl

/-- What is passed back to the largest score is zero. -/
theorem st_dtop : val_main_v127 (F := Ideal) x x1 x2 (ix6 0 n g j i 0) = 0 := by
  pointwise [val_main_v127, val_main_v126, val_main_v125, val_main_cst_20, val_main_v118, val_main_v115]
  rw [sum_keys, st_dz H hμ, st_es H.scores hμ]
  have e : ∀ t : Fin 256, val_main_v124 (F := Ideal) x x1 x2 (ix6 0 n g j i t)
      = ((-((dpr X D n.val i.val g.val j.val t / Soft.zed (sc X n.val i.val g.val j.val) (Sees n.val i.val) (A (4 * g.val + j.val)) μ
        + Soft.dz (sc X n.val i.val g.val j.val) (Sees n.val i.val) (A (4 * g.val + j.val)) (dpr X D n.val i.val g.val j.val) μ)
        * Soft.ex (sc X n.val i.val g.val j.val) (Sees n.val i.val) μ t) : ℝ) : EReal) := fun t => by
    pointwise [val_main_v124]
    rw [st_ds0 H hμ, Soft.dscore_eq, EReal.coe_neg]
    rfl
  rw [Finset.sum_congr rfl fun t _ => e t, Soft.coe_sum, ← EReal.coe_mul, ← EReal.coe_neg, ← EReal.coe_add, Soft.dtop_eq]
  rfl

end Stages

end Cert.Swa

end
-- ==== Proof.RefOut.lean ====
/- The reference's results: the gradients of the queries, of the windows of keys and values, and of the sinks. -/
module

public import proofs.«01_k».proof.Proof.RefValue

@[expose] public section

set_option maxRecDepth 16384

noncomputable section

namespace Cert.Swa

open Idealize.ShloMosaic Cert.ReferenceIdeal Cert.ReferenceIdeal.Read Cert.ReferenceIdeal.Gen

variable {x : (⟨S16384x2816, .f32⟩ : BufTy).Contents (Elt Ideal)}
variable {x1 : (⟨S8, .f32⟩ : BufTy).Contents (Elt Ideal)}
variable {x2 : (⟨S16384x1024, .f32⟩ : BufTy).Contents (Elt Ideal)}
variable {X : ℕ → ℕ → ℝ} {A : ℕ → ℝ} {D : ℕ → ℕ → ℝ}

/-- Which scores are a query's largest one. -/
theorem st_is_top (x : (⟨S16384x2816, .f32⟩ : BufTy).Contents (Elt Ideal)) (n i : Fin 128) (g : Fin 2) (j : Fin 4) (t : Fin 256) :
    val_main_v60 (F := Ideal) x (ix6 0 n g j i t)
      = FloatOps.uitofp (F := Ideal) FTy.f32 (BitVec.ofBool (decide (val_main_v53_0 (F := Ideal) x (ix6 0 n g j i t) = val_main_v56 (F := Ideal) x (ix5 0 n g j i)))) := by
  unfold val_main_v60 val_main_v59 val_main_v58 val_main_v57
  generalize val_main_v56 (F := Ideal) x = y0
  generalize val_main_v53_0 (F := Ideal) x = y1
  pointwise

theorem uitofp_bit (p : Prop) [Decidable p] :
    FloatOps.uitofp (F := Ideal) FTy.f32 (BitVec.ofBool (decide p)) = if p then (1 : EReal) else 0 := by
  show ((((BitVec.ofBool (decide p)).toNat : ℕ) : ℝ) : EReal) = _
  by_cases h : p <;> simp [h]

/-- A query has at least one largest score. -/
theorem st_count (x : (⟨S16384x2816, .f32⟩ : BufTy).Contents (Elt Ideal)) (n i : Fin 128) (g : Fin 2) (j : Fin 4) :
    ∑ t : Fin 256, val_main_v60 (F := Ideal) x (ix6 0 n g j i t) ≠ 0 := by
  obtain ⟨k, hk⟩ := Soft.top_attained (fun t : Fin 256 => val_main_v53_0 (F := Ideal) x (ix6 0 n g j i t))
  rw [← ref_max] at hk
  have h1 : val_main_v60 (F := Ideal) x (ix6 0 n g j i k) = 1 := by rw [st_is_top, uitofp_bit, if_pos hk]
  have h0 : ∀ t : Fin 256, 0 ≤ val_main_v60 (F := Ideal) x (ix6 0 n g j i t) := fun t => by
    rw [st_is_top, uitofp_bit]; split
    · exact zero_le_one
    · exact le_rfl
  have := Finset.single_le_sum (f := fun t : Fin 256 => val_main_v60 (F := Ideal) x (ix6 0 n g j i t)) (fun t _ => h0 t) (Finset.mem_univ k)
  rw [h1] at this
  exact (lt_of_lt_of_le zero_lt_one this).ne'

theorem div_zero_num {y : EReal} (h : y ≠ 0) : Ideal.div 0 y = 0 := by
  unfold Ideal.div; rw [if_neg h, zero_mul]

section Stages
variable (H : Reals x x1 x2 X A D)
include H

/-- The largest score's share is zero. -/
theorem st_tie (n i : Fin 128) (g : Fin 2) (j : Fin 4) (t : Fin 256) :
    val_main_v137 (F := Ideal) x x1 x2 (ix6 0 n g j i t) = 0 := by
  obtain ⟨μ, hμ⟩ := st_top H.scores n i g j
  have h0 : val_main_v132 (F := Ideal) x x1 x2 (ix6 0 n g j i 0) = 0 := by
    rw [val_main_v132_apply, st_dtop H hμ]; exact zero_mul _
  have hc := st_count x n i g j
  unfold val_main_v137 val_main_v136 val_main_v135 val_main_v134 val_main_v133 val_main_v61
  generalize val_main_v132 (F := Ideal) x x1 x2 = y0 at h0 ⊢
  generalize val_main_v60 (F := Ideal) x = y1 at hc ⊢
  pointwise [val_main_cst_22, val_main_cst_8]
  rw [sum_ends, sum_keys, h0, div_zero_num hc, zero_mul]

/-- The gradient of a score, scaled. -/
theorem st_ds (n i : Fin 128) (g : Fin 2) (j : Fin 4) (t : Fin 256) :
    val_main_v143 (F := Ideal) x x1 x2 (ix6 0 n g j i t) = ((dsc X A D n.val i.val g.val j.val t * (1 / 8) : ℝ) : EReal) := by
  obtain ⟨μ, hμ⟩ := st_top H.scores n i g j
  have e : val_main_v138 (F := Ideal) x x1 x2 (ix6 0 n g j i t) = (dsc X A D n.val i.val g.val j.val t : EReal) := by
    rw [val_main_v138_apply, st_ds0 H hμ, st_tie H]; exact add_zero _
  have ho := ref_ok n i g j t
  unfold val_main_v143 val_main_v142 val_main_v141
  generalize val_main_v138 (F := Ideal) x x1 x2 = y0 at e ⊢
  generalize val_main_v53_1 (F := Ideal) = y1 at ho ⊢
  pointwise [val_main_call3_v0, val_main_call3_cst, val_main_cst_24]
  rw [ho, e, Soft.ofBits_eighth, EReal.coe_mul]
  by_cases h : Sees n.val i.val t
  · rw [if_pos h]; rfl
  · rw [if_neg h, show dsc X A D n.val i.val g.val j.val t = 0 from Soft.dscore_masked _ _ _ _ h, EReal.coe_zero, zero_mul]
    rfl

theorem ref_dq (r : Fin 16384) (c : Fin 512) : val_main_v150 (F := Ideal) x x1 x2 (ix2 r c)
    = (gq X A D (r.val / 128) (r.val % 128) (c.val / 256) (c.val / 64 % 4) (c.val % 64) : EReal) := by
  pointwise [val_main_v150, val_main_v149, val_main_v146, val_main_v145, val_main_v144]
  unfold gq
  rw [← Soft.coe_sum]
  refine Finset.sum_congr rfl fun t _ => ?_
  rw [st_ds H, st_k H.scores, ← EReal.coe_mul]

theorem ref_gk (n : Fin 128) (g : Fin 2) (t : Fin 256) (d : Fin 64) :
    val_main_v148 (F := Ideal) x x1 x2 (ix5 0 n t g d) = (gk X A D n.val g.val t d.val : EReal) := by
  pointwise [val_main_v148, val_main_v147, val_main_v144]
  unfold gk
  rw [← Soft.coe_sum]
  refine Finset.sum_congr rfl fun i _ => ?_
  rw [← Soft.coe_sum]
  refine Finset.sum_congr rfl fun j _ => ?_
  rw [st_ds H, st_q H.scores, ← EReal.coe_mul]

theorem ref_gv (n : Fin 128) (g : Fin 2) (t : Fin 256) (d : Fin 64) :
    val_main_v106 (F := Ideal) x x1 x2 (ix5 0 n t g d) = (gv X A D n.val g.val t d.val : EReal) := by
  pointwise [val_main_v106, val_main_v105, val_main_v103]
  unfold gv
  rw [← Soft.coe_sum]
  refine Finset.sum_congr rfl fun j _ => ?_
  rw [← Soft.coe_sum]
  refine Finset.sum_congr rfl fun i _ => ?_
  obtain ⟨μ, hμ⟩ := st_top H.scores n i g j
  rw [st_do H, st_p H.scores hμ, EReal.coe_mul]

theorem ref_dko (r : Fin 16384) (c : Fin 128) : val_main_v152 (F := Ideal) x x1 x2 (ix2 r c)
    = (gk X A D (r.val / 128) (c.val / 64) ⟨128 + r.val % 128, by omega⟩ (c.val % 64) : EReal) := by
  pointwise [val_main_v152, val_main_v151]
  exact ref_gk H _ _ _ _

theorem ref_dkp (r : Fin 16384) (c : Fin 128) : val_main_v154 (F := Ideal) x x1 x2 (ix2 r c)
    = (gk X A D (r.val / 128) (c.val / 64) ⟨r.val % 128, by omega⟩ (c.val % 64) : EReal) := by
  pointwise [val_main_v154, val_main_v153]
  exact ref_gk H _ _ _ _

theorem ref_dvo (r : Fin 16384) (c : Fin 128) : val_main_v156 (F := Ideal) x x1 x2 (ix2 r c)
    = (gv X A D (r.val / 128) (c.val / 64) ⟨128 + r.val % 128, by omega⟩ (c.val % 64) : EReal) := by
  pointwise [val_main_v156, val_main_v155]
  exact ref_gv H _ _ _ _

theorem ref_dvp (r : Fin 16384) (c : Fin 128) : val_main_v158 (F := Ideal) x x1 x2 (ix2 r c)
    = (gv X A D (r.val / 128) (c.val / 64) ⟨r.val % 128, by omega⟩ (c.val % 64) : EReal) := by
  pointwise [val_main_v158, val_main_v157]
  exact ref_gv H _ _ _ _

/-- The gradient of the sinks, the blocks summed. -/
theorem ref_gs (g : Fin 2) (j : Fin 4) (i : Fin 128) :
    val_main_v159 (F := Ideal) x x1 x2 (ix3 g j i) = (gs X A D g.val j.val i.val : EReal) := by
  have e1 : ∀ n : Fin 128, val_main_v115 (F := Ideal) x x1 x2 (ix6 0 n g j i 0) = (dsn X A D n.val i.val g.val j.val : EReal) := fun n => by
    obtain ⟨μ, hμ⟩ := st_top H.scores n i g j
    exact st_dsn H hμ
  have e2 : ∀ n : Fin 128, val_main_v128 (F := Ideal) x x1 x2 (ix6 0 n g j i 0) = 0 := fun n => by
    obtain ⟨μ, hμ⟩ := st_top H.scores n i g j
    rw [val_main_v128_apply, st_dtop H hμ]; exact zero_mul _
  have f1 : val_main_v117 (F := Ideal) x x1 x2 (ix6 0 0 g j i 0) = (gs X A D g.val j.val i.val : EReal) := by
    unfold val_main_v117 val_main_v116
    generalize val_main_v115 (F := Ideal) x x1 x2 = y0 at e1 ⊢
    pointwise [val_main_cst_18]
    rw [sum_blocks, Finset.sum_congr rfl fun n _ => e1 n, Soft.coe_sum]
    rfl
  have f2 : val_main_v130 (F := Ideal) x x1 x2 (ix6 0 0 g j i 0) = 0 := by
    unfold val_main_v130 val_main_v129
    generalize val_main_v128 (F := Ideal) x x1 x2 = y0 at e2 ⊢
    pointwise [val_main_cst_21]
    rw [sum_blocks, Finset.sum_congr rfl fun n _ => e2 n, Finset.sum_const_zero]
  have f : val_main_v131 (F := Ideal) x x1 x2 (ix6 0 0 g j i 0) = (gs X A D g.val j.val i.val : EReal) := by
    rw [val_main_v131_apply, f1, f2]; exact add_zero _
  unfold val_main_v159 val_main_v140 val_main_v139
  generalize val_main_v131 (F := Ideal) x x1 x2 = y0 at f ⊢
  pointwise [val_main_cst_23]
  refine Eq.trans ?_ ((sum_ends3 reducesTo_S1x1x2x4x128x1_S2x4x128_d0_1_5 y0 g j i).trans f)
  rfl

theorem ref_dsk (r : Fin 16) (c : Fin 512) : val_main_v166 (F := Ideal) x x1 x2 (ix2 r c) = (gsRow X A D r.val c.val : EReal) := by
  have e := ref_gs H
  unfold val_main_v166 val_main_v165 val_main_v164 val_main_v163 val_main_v162 val_main_v161 val_main_v160
  generalize val_main_v159 (F := Ideal) x x1 x2 = y0 at e ⊢
  pointwise [val_main_cst_25, val_main_cst_26]
  unfold gsRow
  by_cases h : r.val % 8 < 1
  · exact (dif_pos h).trans ((e _ _ _).trans (congrArg _ (if_pos h).symm))
  · refine (dif_neg h).trans (Eq.trans ?_ (congrArg _ (if_neg h).symm))
    by_cases h' : r.val % 8 - 1 < 4
    · refine (dif_pos h').trans (Eq.trans ?_ (congrArg _ (if_pos h').symm))
      rw [← Soft.coe_sum]
      exact Finset.sum_congr rfl fun k _ => e _ _ _
    · refine (dif_neg h').trans ?_
      rw [if_neg h']; rfl

end Stages

end Cert.Swa

end
-- ==== Proof.Value.lean ====
/- The value claim: from the same arguments, real numbers where they are read, both programs end with the same six
   arrays, the gradients of the queries, of each block's own keys and values and of those of the block before it, and
   of the sinks. -/
module

public import proofs.«01_k».proof.Defs
public import proofs.«01_k».proof.Proof.Finite
public import proofs.«01_k».proof.Proof.Arrays
public import proofs.«01_k».proof.Proof.SinkArray
public import proofs.«01_k».proof.Proof.RefOut
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Swa

open Idealize.ShloMosaic Idealize.SL.Sem

attribute [local instance] finite_facts

section Reference
open Cert.ReferenceIdeal Cert.ReferenceIdeal.Read

variable {x : (⟨2, ![16384, 2816]⟩ : Shape).Idx → EReal} {x1 : (⟨1, ![8]⟩ : Shape).Idx → EReal}
  {x2 : (⟨2, ![16384, 1024]⟩ : Shape).Idx → EReal} {X : ℕ → ℕ → ℝ} {A : ℕ → ℝ} {D : ℕ → ℕ → ℝ} (H : Reals x x1 x2 X A D)
include H

/-- The reference's six results as the tables the kernel ends with. -/
theorem ref_tables :
    (val_main_v150 (F := Ideal) x x1 x2 : S16384x512.Idx → EReal) = (fun i => (rowQ X A D (i 0).val (i 1).val : EReal))
      ∧ (val_main_v152 (F := Ideal) x x1 x2 : S16384x128.Idx → EReal) = (fun i => (rowK X A D 1 (i 0).val (i 1).val : EReal))
      ∧ (val_main_v154 (F := Ideal) x x1 x2 : S16384x128.Idx → EReal) = (fun i => (rowK X A D 0 (i 0).val (i 1).val : EReal))
      ∧ (val_main_v156 (F := Ideal) x x1 x2 : S16384x128.Idx → EReal) = (fun i => (rowV X A D 1 (i 0).val (i 1).val : EReal))
      ∧ (val_main_v158 (F := Ideal) x x1 x2 : S16384x128.Idx → EReal) = (fun i => (rowV X A D 0 (i 0).val (i 1).val : EReal))
      ∧ (val_main_v166 (F := Ideal) x x1 x2 : S16x512.Idx → EReal) = (fun i => (gsRow X A D (i 0).val (i 1).val : EReal)) := by
  refine ⟨tbl_ext fun r c => ref_dq H r c, tbl_ext fun r c => ?_, tbl_ext fun r c => ?_, tbl_ext fun r c => ?_, tbl_ext fun r c => ?_,
    tbl_ext fun r c => ref_dsk H r c⟩
  · exact ref_dko H r c
  · rw [ref_dkp H r c]
    exact congrArg (fun t => ((gk X A D (r.val / 128) (c.val / 64) t (c.val % 64) : ℝ) : EReal)) (Fin.ext (by simp))
  · exact ref_dvo H r c
  · rw [ref_dvp H r c]
    exact congrArg (fun t => ((gv X A D (r.val / 128) (c.val / 64) t (c.val % 64) : ℝ) : EReal)) (Fin.ext (by simp))

end Reference

/-- The kernel's results are the reference's, under the precondition. -/
theorem values : Cert.algebraic_KernelIdeal_ReferenceIdeal_pre_finite := by
  intro m g m' g' hp ha
  choose X A D HK using fun c => reals_of_finite (hp c)
  refine ⟨fun c i => (rowQ (X c) (A c) (D c) (i 0).val (i 1).val : EReal), fun c i => (rowK (X c) (A c) (D c) 1 (i 0).val (i 1).val : EReal),
    fun c i => (rowK (X c) (A c) (D c) 0 (i 0).val (i 1).val : EReal), fun c i => (rowV (X c) (A c) (D c) 1 (i 0).val (i 1).val : EReal),
    fun c i => (rowV (X c) (A c) (D c) 0 (i 0).val (i 1).val : EReal), fun c i => (gsRow (X c) (A c) (D c) (i 0).val (i 1).val : EReal), ?_, ?_⟩
  · refine (θ_run _ _ _).mono (fun r h c => ?_) (Cert.KernelIdeal.Value.run_blocks (F := Ideal) m g)
    obtain ⟨h0, h1, h2, h3, h4, h5, h⟩ := h c
    exact ⟨h0.trans (out_q m (HK c)), h1.trans (out_ko m (HK c)), h2.trans (out_kp m (HK c)), h3.trans (out_vo m (HK c)),
      h4.trans (out_vp m (HK c)), h5.trans (out_sinks m (HK c)), h⟩
  · refine (θ_run _ _ _).mono (fun r h c => ?_) (Cert.ReferenceIdeal.Value.run (F := Ideal) m' g')
    obtain ⟨h0, h1, h2, h3, h4, h5, h⟩ := h c
    obtain ⟨e0, e1, e2⟩ := ha c
    have HR := HK c
    rw [← e0, ← e1, ← e2] at HR
    obtain ⟨r0, r1, r2, r3, r4, r5⟩ := ref_tables HR
    refine ⟨h0.trans ?_, h1.trans ?_, h2.trans ?_, h3.trans ?_, h4.trans ?_, h5.trans ?_, h⟩
    · exact (Cert.ReferenceIdeal.Read.val_main_v150_eq (StableHlo.launchContents m' c)).trans r0
    · exact (Cert.ReferenceIdeal.Read.val_main_v152_eq (StableHlo.launchContents m' c)).trans r1
    · exact (Cert.ReferenceIdeal.Read.val_main_v154_eq (StableHlo.launchContents m' c)).trans r2
    · exact (Cert.ReferenceIdeal.Read.val_main_v156_eq (StableHlo.launchContents m' c)).trans r3
    · exact (Cert.ReferenceIdeal.Read.val_main_v158_eq (StableHlo.launchContents m' c)).trans r4
    · exact (Cert.ReferenceIdeal.Read.val_main_v166_eq (StableHlo.launchContents m' c)).trans r5

end Cert.Swa

end
-- ==== Proof.Product.lean ====
/- Products of two matrices over their rows, summed block by block of rows: the sum a kernel keeps while it walks over the
   blocks is the sum over the rows met so far. -/
module

public import proofs.«01_k».proof.Proof.Rd

@[expose] public section

noncomputable section

namespace Cert.Product

open Idealize.ShloMosaic

/-- Column `k` of `A` times column `j` of `B`, over the first `n` rows. -/
def cols (A B : ℕ → ℕ → EReal) (n k j : ℕ) : EReal := ∑ r ∈ Finset.range n, A r k * B r j

/-- One more block of `b` rows. -/
theorem cols_add (A B : ℕ → ℕ → EReal) (b s k j : ℕ) :
    cols A B (b * s) k j + ∑ r : Fin b, A (b * s + r.val) k * B (b * s + r.val) j = cols A B (b * (s + 1)) k j := by
  unfold cols
  rw [Nat.mul_succ, Finset.sum_range_add, Finset.sum_range fun r => A (b * s + r) k * B (b * s + r) j]

/-- The sum over every row, with the factors in the other order. -/
theorem cols_swap (A B : ℕ → ℕ → EReal) (n k j : ℕ) : cols A B n k j = ∑ r : Fin n, B r.val j * A r.val k := by
  unfold cols
  rw [Finset.sum_range fun r => A r k * B r j]
  exact Finset.sum_congr rfl fun r _ => mul_comm _ _

/-- A number kept over the grid's points: every sweep of `n` points starts from zero, and each point adds the products of
    its own `b` rows, in the columns `k` and `j` of its sweep. After a sweep's last point it is the sum over all rows. -/
theorem kept (A B : ℕ → ℕ → EReal) {N : ℕ} (n b : ℕ) (k j : ℕ → ℕ) (S : (t : ℕ) → t < N → EReal)
    (hS : ∀ (t : ℕ) (h : t < N), S t h = (if t % n = 0 then 0 else S (t - 1) (Nat.lt_of_le_of_lt (Nat.sub_le _ _) h))
      + ∑ r : Fin b, A (b * (t % n) + r.val) (k (t / n)) * B (b * (t % n) + r.val) (j (t / n)))
    (t : ℕ) (h : t < N) (ht : t % n + 1 = n) : S t h = cols A B (b * n) (k (t / n)) (j (t / n)) := by
  have go : ∀ s t (h : t < N), t % n = s → S t h = cols A B (b * (s + 1)) (k (t / n)) (j (t / n)) := fun s => by
    induction s with
    | zero => intro t h e; rw [hS t h, if_pos e, ← cols_add, e]; simp [cols]
    | succ s ih =>
      intro t h e
      have hn : 0 < n := Nat.pos_of_ne_zero fun h0 => by rw [h0] at ht; omega
      have em : (t - 1) % n = s ∧ (t - 1) / n = t / n := by
        have hd := Nat.div_add_mod t n
        have hl := Nat.mod_lt t hn
        have e1 : t - 1 = s + n * (t / n) := by omega
        rw [e1, Nat.add_mul_mod_self_left, Nat.add_mul_div_left _ _ hn, Nat.mod_eq_of_lt (by omega), Nat.div_eq_of_lt (by omega)]
        exact ⟨rfl, Nat.zero_add _⟩
      rw [hS t h, if_neg (by omega), ← cols_add, ih (t - 1) _ em.1, em.2, e]
  rw [go (t % n) t h rfl, ht]

/-- A table kept over the grid's points, its blocks `x` and `y` read out of `A` and `B`: a sweep's first point leaves its
    blocks' product over zero, every other point adds its own to what the point before it left. After a sweep's last point
    the table is the product over all rows. -/
theorem swept {N b k j n : ℕ} {A B : ℕ → ℕ → EReal} {p : ℕ → Fin k → ℕ} {q : ℕ → Fin j → ℕ}
    {x : Fin N → Fin b → Fin k → EReal} {y : Fin N → Fin b → Fin j → EReal} {S : (t : ℕ) → t < N → Fin k → Fin j → EReal}
    (hx : ∀ t r i, x t r i = A (b * (t.val % n) + r.val) (p (t.val / n) i))
    (hy : ∀ t r i, y t r i = B (b * (t.val % n) + r.val) (q (t.val / n) i))
    (first : ∀ t : Fin N, t.val % n = 0 → ∀ u v, S t.val t.isLt u v = 0 + ∑ r, x t r u * y t r v)
    (next : ∀ t : Fin N, ¬t.val % n = 0 → ∀ u v, S t.val t.isLt u v
      = S (t.val - 1) (Nat.lt_of_le_of_lt (Nat.sub_le _ _) t.isLt) u v + ∑ r, x t r u * y t r v)
    (t : Fin N) (ht : t.val % n + 1 = n) (u : Fin k) (v : Fin j) :
    S t.val t.isLt u v = cols A B (b * n) (p (t.val / n) u) (q (t.val / n) v) :=
  kept A B n b (fun s => p s u) (fun s => q s v) (fun t h => S t h u v)
    (fun t h => by
      have e : ∑ r, x ⟨t, h⟩ r u * y ⟨t, h⟩ r v = ∑ r : Fin b, A (b * (t % n) + r.val) (p (t / n) u) * B (b * (t % n) + r.val) (q (t / n) v) :=
        Finset.sum_congr rfl fun r _ => congrArg₂ _ (hx ⟨t, h⟩ r u) (hy ⟨t, h⟩ r v)
      by_cases h0 : t % n = 0
      · rw [if_pos h0, ← e]; exact first ⟨t, h⟩ h0 u v
      · rw [if_neg h0, ← e]; exact next ⟨t, h⟩ h0 u v)
    t.val t.isLt ht

/-- Row `i` of `A` times row `j` of `B`, over the first `n` columns. -/
def rows (A B : ℕ → ℕ → EReal) (n i j : ℕ) : EReal := ∑ k : Fin n, A i k.val * B j k.val

/-- A table read by columns. -/
abbrev across (B : ℕ → ℕ → EReal) (j k : ℕ) : EReal := B k j

/-- Rows as long as two pieces. -/
theorem rows_two {A B : ℕ → ℕ → EReal} {n N i j : ℕ} (hN : n + n = N) (x y x' y' : Fin n → EReal) (hx : ∀ k, x k = A i k.val) (hy : ∀ k, y k = B j k.val)
    (hx' : ∀ k, x' k = A i (n + k.val)) (hy' : ∀ k, y' k = B j (n + k.val)) : ∑ k, x k * y k + ∑ k, x' k * y' k = rows A B N i j := by
  subst hN
  unfold rows
  rw [Fin.sum_univ_add]
  exact congrArg₂ (· + ·) (Finset.sum_congr rfl fun k _ => by rw [hx, hy]; rfl) (Finset.sum_congr rfl fun k _ => by rw [hx', hy']; rfl)

/-- … read out of two rows of numbers. -/
theorem rows_of {A B : ℕ → ℕ → EReal} {n i j : ℕ} (x y : Fin n → EReal) (hx : ∀ k, x k = A i k.val) (hy : ∀ k, y k = B j k.val) :
    ∑ k, x k * y k = rows A B n i j :=
  Finset.sum_congr rfl fun k _ => congrArg₂ _ (hx k) (hy k)

end Cert.Product

end
-- ==== Proof.DwIn.lean ====
/- The gradient of the projection's weights, `uᵀ · dproj`: the kernel adds up eight products of blocks of 2048 rows for each
   half of the columns. -/
module

public import proofs.«01_k».proof.Proof.Gen.DwInIdeal.Value
public import proofs.«01_k».proof.Defs
public import proofs.«01_k».proof.Proof.Gen.DwIn.Frame
public import proofs.«01_k».proof.Proof.Gen.DwInReferenceIdeal.Run
public import proofs.«01_k».proof.Proof.Gen.DwInReferenceIdeal.Read
public import Idealize.ShloMosaic.Adequacy
public import Idealize.ShloMosaic.Init
public import Idealize.ShloMosaic.Lib.Claim
public import Idealize.ShloMosaic.Lib.Pipeline.ReadBack
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.DwInProof

open Cert.DwInIdeal Cert.DwInIdeal.Facts Cert.DwInIdeal.Gen Idealize.ShloMosaic Idealize.ShloMosaic.TcCoe Idealize.SL.Sem
open Cert.Swa Cert.Product

variable (m : (ℓ : Loc nD τ sig) → Buf (Elt Ideal) ℓ)

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

/-- The layer's input and the projection's gradient as launched. -/
abbrev arg0 (c : Dev nD) : S16384x1024.Idx → EReal := m ((c : Thread nD τ).loc main_arg0)
abbrev arg1 (c : Dev nD) : S16384x2816.Idx → EReal := m ((c : Thread nD τ).loc main_arg1)

/-- The blocks a point reads. -/
abbrev blk0 (c : Dev nD) (t : Fin cfg0.N) (r : Fin 2048) (i : Fin 1024) : EReal := iblk m c 0 t (ix2 r i)
abbrev blk1 (c : Dev nD) (t : Fin cfg0.N) (r : Fin 2048) (j : Fin 1408) : EReal := iblk m c 1 t (ix2 r j)

/-- A point's rows of the input. -/
theorem in0 (c : Dev nD) (t : Fin cfg0.N) (r : Fin 2048) (i : Fin 1024) :
    blk0 m c t r i = rd (arg0 m c) (2048 * (t.val % 8) + r.val) i.val := by
  refine Eq.trans ?_ (rd_at (arg0 m c) ⟨2048 * (t.val % 8) + r.val, by omega⟩ i rfl rfl)
  unfold blk0; blk_ext [iblk, V, idx0 t]

/-- A point's rows of the gradient, in its half of the columns. -/
theorem in1 (c : Dev nD) (t : Fin cfg0.N) (r : Fin 2048) (j : Fin 1408) :
    blk1 m c t r j = rd (arg1 m c) (2048 * (t.val % 8) + r.val) (1408 * (t.val / 8) + j.val) := by
  have ht : t.val < 16 := t.isLt
  refine Eq.trans ?_ (rd_at (arg1 m c) ⟨2048 * (t.val % 8) + r.val, by omega⟩ ⟨1408 * (t.val / 8) + j.val, by omega⟩ rfl rfl)
  unfold blk1; blk_ext [iblk, V, idx1 t]

/-- What a point leaves over the table `a`: its blocks' product is added. -/
theorem added (a : Vec Ideal S1024x1408 .f32) (x : Vec Ideal S2048x1024 .bf16) (y : Vec Ideal S2048x1408 .bf16) (i : Fin 1024) (j : Fin 1408) :
    k0_pay2 a x y (ix2 i j) = a (ix2 i j) + ∑ r : Fin 2048, x (ix2 r i) * y (ix2 r j) := by
  unfold k0_pay2
  pointwise

/-- The table a sweep starts from. -/
theorem zeros_at {y : S1024x1408.Idx} : k0_pay1 (F := Ideal) y = 0 := by
  unfold k0_pay1
  exact Ideal.ofBits_zero_f32

/-- A sweep's first point starts from zero. -/
theorem first (c : Dev nD) (t : Fin cfg0.N) (h : t.val % 8 = 0) (i : Fin 1024) (j : Fin 1408) :
    (outsAt0 m c t.val t.isLt).2 (ix2 i j)
      = 0 + ∑ r : Fin 2048, blk0 m c t r i * blk1 m c t r j := by
  rw [outsAt0_A m c t h (by omega)]; frame_out
  rw [added]
  exact congrArg (· + _) zeros_at

/-- Every other point goes on from the table before it. -/
theorem next (c : Dev nD) (t : Fin cfg0.N) (h : ¬t.val % 8 = 0) (i : Fin 1024) (j : Fin 1408) :
    (outsAt0 m c t.val t.isLt).2 (ix2 i j)
      = (outsAt0 m c (t.val - 1) (Nat.lt_of_le_of_lt (Nat.sub_le _ _) t.isLt)).2 (ix2 i j)
        + ∑ r : Fin 2048, blk0 m c t r i * blk1 m c t r j := by
  by_cases h1 : t.val % 8 = 7
  · rw [outsAt0_C m c t h h1]; frame_out; rw [added, read_unread_whole]
  · rw [outsAt0_B m c t h h1]; frame_out; rw [added, read_unread_whole]

/-- The kernel's array: what a sweep's last point hands out is the kept table. -/
theorem out (c : Dev nD) : (dats m 0 c).arrAt 2 cfg0.N
    = fun i : S1024x2816.Idx => cols (rd (arg0 m c)) (rd (arg1 m c)) 16384 (i 0).val (i 1).val := by
  refine (dats m 0 c).arrAt_eq_of_covers 2 _ (by decide +kernel) fun t hf y => ?_
  blk_simp
  have h1 : t.val % 8 = 7 := (flush0_2 t).1 hf
  have e : (outsAt0 m c t.val t.isLt).1 y = (outsAt0 m c t.val t.isLt).2 y := by
    rw [outsAt0_C m c t (by omega) h1]; frame_out; rfl
  rw [after0_2, e, Idealize.ShloMosaic.eq_ix2 y]
  refine (swept (p := fun _ i => i.val) (q := fun s j => 1408 * s + j.val) (S := fun t h i j => (outsAt0 m c t h).2 (ix2 i j))
    (in0 m c) (in1 m c) (first m c) (next m c) t (by omega) (y 0) (y 1)).trans ?_
  blk_simp [idx2 t]
  rw [Nat.mul_comm 1408]

section Reference
open Cert.DwInReferenceIdeal.Read

/-- The reference's array: the same sums. -/
theorem ref (x : S16384x1024.Idx → EReal) (y : S16384x2816.Idx → EReal) :
    (val_main_v6 (F := Ideal) x y : S1024x2816.Idx → EReal) = fun i => cols (rd x) (rd y) 16384 (i 0).val (i 1).val :=
  tbl_ext fun r k => by
    rw [cols_swap, val_main_v6_apply, val_main_v5_apply]
    refine (val_main_v4_apply x y _).trans (Finset.sum_congr rfl fun l _ => congrArg₂ _ (rd_of y _ rfl rfl) (rd_of x _ rfl rfl))

end Reference

/-- The kernel runs and keeps its arguments. -/
theorem frame_kernel : Cert.quiescent_DwIn := fun m ρ _ => Cert.DwIn.Gen.frame m ρ

/-- The kernel over the reals runs and keeps its arguments. -/
theorem frame_kernelIdeal : Cert.quiescent_DwInIdeal := fun m ρ _ => Cert.DwInIdeal.Gen.frame m ρ

/-- The reference over the reals runs and keeps its arguments. -/
theorem frame_referenceIdeal : Cert.quiescent_DwInReferenceIdeal := fun m ρ _ =>
  (θ_run Cert.DwInReferenceIdeal.defs _ _).mono (fun r h => ⟨fun c => (h c).2, sem_eq_zero_of_no_sems (by decide) r.2⟩)
    (Cert.DwInReferenceIdeal.Value.run (F := Ideal) m ρ)

/-- The kernel's array is the reference's. -/
theorem values : Cert.algebraic_DwInIdeal_DwInReferenceIdeal := by
  intro m g m' g' _ ha
  refine ⟨fun c i => cols (rd (arg0 m c)) (rd (arg1 m c)) 16384 (i 0).val (i 1).val, ?_, ?_⟩
  · exact (θ_run _ _ _).mono (fun r h c => ⟨(h c).1.trans (out m c), (h c).2⟩) (Cert.DwInIdeal.Value.run_blocks (F := Ideal) m g)
  · refine (θ_run _ _ _).mono (fun r h c => ⟨(h c).1.trans ?_, (h c).2⟩) (Cert.DwInReferenceIdeal.Value.run (F := Ideal) m' g')
    rw [(ha c).1, (ha c).2]
    exact (Cert.DwInReferenceIdeal.Read.val_main_v6_eq _ _).trans (ref _ _)

end Cert.DwInProof

end
-- ==== Proof.DwDown.lean ====
/- The gradient of the gated layer's second weights, `actᵀ · dh2`: each half of the result's rows is one sweep of eight
   points over the rows of the two arguments. -/
module

public import proofs.«01_k».proof.Proof.Gen.DwDownIdeal.Value
public import proofs.«01_k».proof.Defs
public import proofs.«01_k».proof.Proof.Gen.DwDown.Frame
public import proofs.«01_k».proof.Proof.Gen.DwDownReferenceIdeal.Run
public import proofs.«01_k».proof.Proof.Gen.DwDownReferenceIdeal.Read
public import Idealize.ShloMosaic.Adequacy
public import Idealize.ShloMosaic.Init
public import Idealize.ShloMosaic.Lib.Claim
public import Idealize.ShloMosaic.Lib.Pipeline.ReadBack
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.DwDownProof

open Cert.DwDownIdeal Cert.DwDownIdeal.Facts Cert.DwDownIdeal.Gen Idealize.ShloMosaic Idealize.ShloMosaic.TcCoe Idealize.SL.Sem
open Cert.Swa Cert.Product

variable (m : (ℓ : Loc nD τ sig) → Buf (Elt Ideal) ℓ)

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

/-- The hidden rows and the gradient of the layer's result as launched. -/
abbrev act (c : Dev nD) : S16384x2816.Idx → EReal := m ((c : Thread nD τ).loc main_arg0)
abbrev ct (c : Dev nD) : S16384x1024.Idx → EReal := m ((c : Thread nD τ).loc main_arg1)

/-- The blocks of a point: rows of the hidden columns of its sweep, and rows of the gradient. -/
abbrev actBlk (c : Dev nD) (t : Fin cfg0.N) (r : Fin 2048) (i : Fin 1408) : EReal := iblk m c 0 t (ix2 r i)
abbrev ctBlk (c : Dev nD) (t : Fin cfg0.N) (r : Fin 2048) (j : Fin 1024) : EReal := iblk m c 1 t (ix2 r j)

theorem actBlk_eq (c : Dev nD) (t : Fin cfg0.N) (r : Fin 2048) (i : Fin 1408) :
    actBlk m c t r i = rd (act m c) (2048 * (t.val % 8) + r.val) (1408 * (t.val / 8) + i.val) := by
  have ht : t.val < 16 := t.isLt
  refine Eq.trans ?_ (rd_at (act m c) ⟨2048 * (t.val % 8) + r.val, by omega⟩ ⟨1408 * (t.val / 8) + i.val, by omega⟩ rfl rfl)
  unfold actBlk; blk_ext [iblk, V, idx0 t]

theorem ctBlk_eq (c : Dev nD) (t : Fin cfg0.N) (r : Fin 2048) (j : Fin 1024) :
    ctBlk m c t r j = rd (ct m c) (2048 * (t.val % 8) + r.val) j.val := by
  refine Eq.trans ?_ (rd_at (ct m c) ⟨2048 * (t.val % 8) + r.val, by omega⟩ j rfl rfl)
  unfold ctBlk; blk_ext [iblk, V, idx1 t]

/-- One point's step on the kept half of the result. -/
theorem step (a : Vec Ideal S1408x1024 .f32) (x : Vec Ideal S2048x1408 .bf16) (y : Vec Ideal S2048x1024 .bf16) (i : Fin 1408) (j : Fin 1024) :
    k0_pay2 a x y (ix2 i j) = a (ix2 i j) + ∑ r : Fin 2048, x (ix2 r i) * y (ix2 r j) := by
  unfold k0_pay2; pointwise

theorem start {y : S1408x1024.Idx} : k0_pay1 (F := Ideal) y = 0 := by
  unfold k0_pay1; exact Ideal.ofBits_zero_f32

theorem first (c : Dev nD) (t : Fin cfg0.N) (h : t.val % 8 = 0) (i : Fin 1408) (j : Fin 1024) :
    (outsAt0 m c t.val t.isLt).2 (ix2 i j) = 0 + ∑ r, actBlk m c t r i * ctBlk m c t r j := by
  rw [outsAt0_A m c t h (by omega)]; frame_out; rw [step]
  exact congrArg (· + _) start

theorem next (c : Dev nD) (t : Fin cfg0.N) (h : ¬t.val % 8 = 0) (i : Fin 1408) (j : Fin 1024) :
    (outsAt0 m c t.val t.isLt).2 (ix2 i j)
      = (outsAt0 m c (t.val - 1) (Nat.lt_of_le_of_lt (Nat.sub_le _ _) t.isLt)).2 (ix2 i j)
        + ∑ r, actBlk m c t r i * ctBlk m c t r j := by
  by_cases h1 : t.val % 8 = 7
  · rw [outsAt0_C m c t h h1]; frame_out; rw [step, read_unread_whole]
  · rw [outsAt0_B m c t h h1]; frame_out; rw [step, read_unread_whole]

/-- The kernel's array. -/
theorem out (c : Dev nD) : (dats m 0 c).arrAt 2 cfg0.N
    = fun i : S2816x1024.Idx => cols (rd (act m c)) (rd (ct m c)) 16384 (i 0).val (i 1).val := by
  refine (dats m 0 c).arrAt_eq_of_covers 2 _ (by decide +kernel) fun t hf y => ?_
  blk_simp
  have h1 : t.val % 8 = 7 := (flush0_2 t).1 hf
  have e : (outsAt0 m c t.val t.isLt).1 y = (outsAt0 m c t.val t.isLt).2 y := by
    rw [outsAt0_C m c t (by omega) h1]; frame_out; rfl
  rw [after0_2, e, Idealize.ShloMosaic.eq_ix2 y]
  refine (swept (p := fun s i => 1408 * s + i.val) (q := fun _ j => j.val) (S := fun t h i j => (outsAt0 m c t h).2 (ix2 i j))
    (actBlk_eq m c) (ctBlk_eq m c) (first m c) (next m c) t (by omega) (y 0) (y 1)).trans ?_
  blk_simp [idx2 t]
  rw [Nat.mul_comm 1408]

open Cert.DwDownReferenceIdeal.Read in
/-- The reference's array. -/
theorem ref (x : S16384x2816.Idx → EReal) (y : S16384x1024.Idx → EReal) :
    (val_main_v6 (F := Ideal) x y : S2816x1024.Idx → EReal) = fun i => cols (rd x) (rd y) 16384 (i 0).val (i 1).val :=
  tbl_ext fun r k => by
    rw [cols_swap, val_main_v6_apply, val_main_v5_apply]
    exact (val_main_v4_apply x y _).trans (Finset.sum_congr rfl fun l _ => congrArg₂ _ (rd_of y _ rfl rfl) (rd_of x _ rfl rfl))

/-- The kernel runs and keeps its arguments. -/
theorem frame_kernel : Cert.quiescent_DwDown := fun m ρ _ => Cert.DwDown.Gen.frame m ρ

/-- The kernel over the reals runs and keeps its arguments. -/
theorem frame_kernelIdeal : Cert.quiescent_DwDownIdeal := fun m ρ _ => Cert.DwDownIdeal.Gen.frame m ρ

/-- The reference over the reals runs and keeps its arguments. -/
theorem frame_referenceIdeal : Cert.quiescent_DwDownReferenceIdeal := fun m ρ _ =>
  (θ_run Cert.DwDownReferenceIdeal.defs _ _).mono (fun r h => ⟨fun c => (h c).2, sem_eq_zero_of_no_sems (by decide) r.2⟩)
    (Cert.DwDownReferenceIdeal.Value.run (F := Ideal) m ρ)

/-- The kernel's array is the reference's. -/
theorem values : Cert.algebraic_DwDownIdeal_DwDownReferenceIdeal := by
  intro m g m' g' _ ha
  refine ⟨fun c i => cols (rd (act m c)) (rd (ct m c)) 16384 (i 0).val (i 1).val,
    (θ_run _ _ _).mono (fun r h c => ⟨(h c).1.trans (out m c), (h c).2⟩) (Cert.DwDownIdeal.Value.run_blocks (F := Ideal) m g),
    (θ_run _ _ _).mono (fun r h c => ⟨(h c).1.trans ?_, (h c).2⟩) (Cert.DwDownReferenceIdeal.Value.run (F := Ideal) m' g')⟩
  rw [(ha c).1, (ha c).2]
  exact (Cert.DwDownReferenceIdeal.Read.val_main_v6_eq _ _).trans (ref _ _)

end Cert.DwDownProof

end
-- ==== Proof.DwOut.lean ====
/- The gradient of the mixer's output weights, `yᵀ · dh1`: the whole square result is kept over the grid's eight points. -/
module

public import proofs.«01_k».proof.Proof.Gen.DwOutIdeal.Value
public import proofs.«01_k».proof.Defs
public import proofs.«01_k».proof.Proof.Gen.DwOut.Frame
public import proofs.«01_k».proof.Proof.Gen.DwOutReferenceIdeal.Run
public import proofs.«01_k».proof.Proof.Gen.DwOutReferenceIdeal.Read
public import Idealize.ShloMosaic.Adequacy
public import Idealize.ShloMosaic.Init
public import Idealize.ShloMosaic.Lib.Claim
public import Idealize.ShloMosaic.Lib.Pipeline.ReadBack
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.DwOutProof

open Cert.DwOutIdeal Cert.DwOutIdeal.Facts Cert.DwOutIdeal.Gen Idealize.ShloMosaic Idealize.ShloMosaic.TcCoe Idealize.SL.Sem
open Cert.Swa Cert.Product

variable (m : (ℓ : Loc nD τ sig) → Buf (Elt Ideal) ℓ)

/-- Both inputs move down by one block of rows a point, and the result stays. -/
theorem idx (t : Fin cfg0.N) : win0_0.index t = ![t.val % 8, 0] ∧ win0_1.index t = ![t.val % 8, 0] ∧ win0_2.index t = ![0, 0] :=
  (by decide +kernel : ∀ t : Fin grid0.N, win0_0.index t = ![t.val % 8, 0] ∧ win0_1.index t = ![t.val % 8, 0] ∧ win0_2.index t = ![0, 0]) t

/-- The mixer's rows and the gradient of its result as launched. -/
abbrev mix (c : Dev nD) : S16384x1024.Idx → EReal := m ((c : Thread nD τ).loc main_arg0)
abbrev ct (c : Dev nD) : S16384x1024.Idx → EReal := m ((c : Thread nD τ).loc main_arg1)

/-- Their blocks at a point. -/
abbrev mixBlk (c : Dev nD) (t : Fin cfg0.N) (r : Fin 2048) (i : Fin 1024) : EReal := iblk m c 0 t (ix2 r i)
abbrev ctBlk (c : Dev nD) (t : Fin cfg0.N) (r : Fin 2048) (j : Fin 1024) : EReal := iblk m c 1 t (ix2 r j)

theorem mixBlk_eq (c : Dev nD) (t : Fin cfg0.N) (r : Fin 2048) (i : Fin 1024) :
    mixBlk m c t r i = rd (mix m c) (2048 * (t.val % 8) + r.val) i.val := by
  refine Eq.trans ?_ (rd_at (mix m c) ⟨2048 * (t.val % 8) + r.val, by omega⟩ i rfl rfl)
  unfold mixBlk; blk_ext [iblk, V, (idx t).1]

theorem ctBlk_eq (c : Dev nD) (t : Fin cfg0.N) (r : Fin 2048) (j : Fin 1024) :
    ctBlk m c t r j = rd (ct m c) (2048 * (t.val % 8) + r.val) j.val := by
  refine Eq.trans ?_ (rd_at (ct m c) ⟨2048 * (t.val % 8) + r.val, by omega⟩ j rfl rfl)
  unfold ctBlk; blk_ext [iblk, V, (idx t).2.1]

/-- What a point leaves over the table `a`. -/
theorem step (a : Vec Ideal S1024x1024 .f32) (x y : Vec Ideal S2048x1024 .bf16) (i j : Fin 1024) :
    k0_pay2 a x y (ix2 i j) = a (ix2 i j) + ∑ r : Fin 2048, x (ix2 r i) * y (ix2 r j) := by
  unfold k0_pay2; pointwise

theorem start {y : S1024x1024.Idx} : k0_pay1 (F := Ideal) y = 0 := by
  unfold k0_pay1; exact Ideal.ofBits_zero_f32

theorem first (c : Dev nD) (t : Fin cfg0.N) (h : t.val % 8 = 0) (i j : Fin 1024) :
    (outsAt0 m c t.val t.isLt).2 (ix2 i j) = 0 + ∑ r, mixBlk m c t r i * ctBlk m c t r j := by
  rw [outsAt0_A m c t h (by omega)]; frame_out; rw [step]
  exact congrArg (· + _) start

theorem next (c : Dev nD) (t : Fin cfg0.N) (h : ¬t.val % 8 = 0) (i j : Fin 1024) :
    (outsAt0 m c t.val t.isLt).2 (ix2 i j)
      = (outsAt0 m c (t.val - 1) (Nat.lt_of_le_of_lt (Nat.sub_le _ _) t.isLt)).2 (ix2 i j)
        + ∑ r, mixBlk m c t r i * ctBlk m c t r j := by
  by_cases h1 : t.val % 8 = 7
  · rw [outsAt0_C m c t h h1]; frame_out; rw [step, read_unread_whole]
  · rw [outsAt0_B m c t h h1]; frame_out; rw [step, read_unread_whole]

/-- The kernel's array, handed out by the last point. -/
theorem out (c : Dev nD) : (dats m 0 c).arrAt 2 cfg0.N
    = fun i : S1024x1024.Idx => cols (rd (mix m c)) (rd (ct m c)) 16384 (i 0).val (i 1).val := by
  refine (dats m 0 c).arrAt_eq_of_covers 2 _ (by decide +kernel) fun t hf y => ?_
  blk_simp
  have h1 : t.val % 8 = 7 := by have := (flush0_2 t).1 hf; omega
  have e : (outsAt0 m c t.val t.isLt).1 y = (outsAt0 m c t.val t.isLt).2 y := by
    rw [outsAt0_C m c t (by omega) h1]; frame_out; rfl
  rw [after0_2, e, Idealize.ShloMosaic.eq_ix2 y]
  refine (swept (p := fun _ i => i.val) (q := fun _ j => j.val) (S := fun t h i j => (outsAt0 m c t h).2 (ix2 i j))
    (mixBlk_eq m c) (ctBlk_eq m c) (first m c) (next m c) t (by omega) (y 0) (y 1)).trans ?_
  blk_simp [(idx t).2.2]

open Cert.DwOutReferenceIdeal.Read in
/-- The reference's array. -/
theorem ref (x y : S16384x1024.Idx → EReal) :
    (val_main_v6 (F := Ideal) x y : S1024x1024.Idx → EReal) = fun i => cols (rd x) (rd y) 16384 (i 0).val (i 1).val :=
  tbl_ext fun r k => by
    rw [cols_swap, val_main_v6_apply, val_main_v5_apply]
    exact (val_main_v4_apply x y _).trans (Finset.sum_congr rfl fun l _ => congrArg₂ _ (rd_of y _ rfl rfl) (rd_of x _ rfl rfl))

/-- The kernel runs and keeps its arguments. -/
theorem frame_kernel : Cert.quiescent_DwOut := fun m ρ _ => Cert.DwOut.Gen.frame m ρ

/-- The kernel over the reals runs and keeps its arguments. -/
theorem frame_kernelIdeal : Cert.quiescent_DwOutIdeal := fun m ρ _ => Cert.DwOutIdeal.Gen.frame m ρ

/-- The reference over the reals runs and keeps its arguments. -/
theorem frame_referenceIdeal : Cert.quiescent_DwOutReferenceIdeal := fun m ρ _ =>
  (θ_run Cert.DwOutReferenceIdeal.defs _ _).mono (fun r h => ⟨fun c => (h c).2, sem_eq_zero_of_no_sems (by decide) r.2⟩)
    (Cert.DwOutReferenceIdeal.Value.run (F := Ideal) m ρ)

/-- The kernel's array is the reference's. -/
theorem values : Cert.algebraic_DwOutIdeal_DwOutReferenceIdeal := by
  intro m g m' g' _ ha
  refine ⟨fun c i => cols (rd (mix m c)) (rd (ct m c)) 16384 (i 0).val (i 1).val,
    (θ_run _ _ _).mono (fun r h c => ⟨(h c).1.trans (out m c), (h c).2⟩) (Cert.DwOutIdeal.Value.run_blocks (F := Ideal) m g),
    (θ_run _ _ _).mono (fun r h c => ⟨(h c).1.trans ?_, (h c).2⟩) (Cert.DwOutReferenceIdeal.Value.run (F := Ideal) m' g')⟩
  rw [(ha c).1, (ha c).2]
  exact (Cert.DwOutReferenceIdeal.Read.val_main_v6_eq _ _).trans (ref _ _)

end Cert.DwOutProof

end
-- ==== Proof.DwPu.lean ====
/- The gradient of the layer embedding's weights, `pᵀ · dpu`: the embeddings come in full precision, and the kernel casts
   each block before it multiplies. -/
module

public import proofs.«01_k».proof.Proof.Gen.DwPuIdeal.Value
public import proofs.«01_k».proof.Defs
public import proofs.«01_k».proof.Proof.Gen.DwPu.Frame
public import proofs.«01_k».proof.Proof.Gen.DwPuReferenceIdeal.Run
public import proofs.«01_k».proof.Proof.Gen.DwPuReferenceIdeal.Read
public import Idealize.ShloMosaic.Adequacy
public import Idealize.ShloMosaic.Init
public import Idealize.ShloMosaic.Lib.Claim
public import Idealize.ShloMosaic.Lib.Pipeline.ReadBack
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.DwPuProof

open Cert.DwPuIdeal Cert.DwPuIdeal.Facts Cert.DwPuIdeal.Gen Idealize.ShloMosaic Idealize.ShloMosaic.TcCoe Idealize.SL.Sem
open Cert.Swa Cert.Product

variable (m : (ℓ : Loc nD τ sig) → Buf (Elt Ideal) ℓ)

/-- Both inputs move down by one block of rows a point, and the result stays. -/
theorem idx (t : Fin cfg0.N) : win0_0.index t = ![t.val % 8, 0] ∧ win0_1.index t = ![t.val % 8, 0] ∧ win0_2.index t = ![0, 0] :=
  (by decide +kernel : ∀ t : Fin grid0.N, win0_0.index t = ![t.val % 8, 0] ∧ win0_1.index t = ![t.val % 8, 0] ∧ win0_2.index t = ![0, 0]) t

/-- The layer's embeddings and the gradient of their projection as launched. -/
abbrev emb (c : Dev nD) : S16384x256.Idx → EReal := m ((c : Thread nD τ).loc main_arg0)
abbrev ct (c : Dev nD) : S16384x1024.Idx → EReal := m ((c : Thread nD τ).loc main_arg1)

/-- Their blocks at a point. -/
abbrev embBlk (c : Dev nD) (t : Fin cfg0.N) (r : Fin 2048) (i : Fin 256) : EReal := iblk m c 0 t (ix2 r i)
abbrev ctBlk (c : Dev nD) (t : Fin cfg0.N) (r : Fin 2048) (j : Fin 1024) : EReal := iblk m c 1 t (ix2 r j)

theorem embBlk_eq (c : Dev nD) (t : Fin cfg0.N) (r : Fin 2048) (i : Fin 256) :
    embBlk m c t r i = rd (emb m c) (2048 * (t.val % 8) + r.val) i.val := by
  refine Eq.trans ?_ (rd_at (emb m c) ⟨2048 * (t.val % 8) + r.val, by omega⟩ i rfl rfl)
  unfold embBlk; blk_ext [iblk, V, (idx t).1]

theorem ctBlk_eq (c : Dev nD) (t : Fin cfg0.N) (r : Fin 2048) (j : Fin 1024) :
    ctBlk m c t r j = rd (ct m c) (2048 * (t.val % 8) + r.val) j.val := by
  refine Eq.trans ?_ (rd_at (ct m c) ⟨2048 * (t.val % 8) + r.val, by omega⟩ j rfl rfl)
  unfold ctBlk; blk_ext [iblk, V, (idx t).2.1]

/-- What a point leaves over the table `a`; the cast of the embeddings is the identity over the reals. -/
theorem step (a : Vec Ideal S256x1024 .f32) (x : Vec Ideal S2048x256 .f32) (y : Vec Ideal S2048x1024 .bf16) (i : Fin 256) (j : Fin 1024) :
    k0_pay2 a x y (ix2 i j) = a (ix2 i j) + ∑ r : Fin 2048, x (ix2 r i) * y (ix2 r j) := by
  unfold k0_pay2; pointwise

theorem start {y : S256x1024.Idx} : k0_pay1 (F := Ideal) y = 0 := by
  unfold k0_pay1; exact Ideal.ofBits_zero_f32

theorem first (c : Dev nD) (t : Fin cfg0.N) (h : t.val % 8 = 0) (i : Fin 256) (j : Fin 1024) :
    (outsAt0 m c t.val t.isLt).2 (ix2 i j) = 0 + ∑ r, embBlk m c t r i * ctBlk m c t r j := by
  rw [outsAt0_A m c t h (by omega)]; frame_out; rw [step]
  exact congrArg (· + _) start

theorem next (c : Dev nD) (t : Fin cfg0.N) (h : ¬t.val % 8 = 0) (i : Fin 256) (j : Fin 1024) :
    (outsAt0 m c t.val t.isLt).2 (ix2 i j)
      = (outsAt0 m c (t.val - 1) (Nat.lt_of_le_of_lt (Nat.sub_le _ _) t.isLt)).2 (ix2 i j)
        + ∑ r, embBlk m c t r i * ctBlk m c t r j := by
  by_cases h1 : t.val % 8 = 7
  · rw [outsAt0_C m c t h h1]; frame_out; rw [step, read_unread_whole]
  · rw [outsAt0_B m c t h h1]; frame_out; rw [step, read_unread_whole]

/-- The kernel's array, handed out by the last point. -/
theorem out (c : Dev nD) : (dats m 0 c).arrAt 2 cfg0.N
    = fun i : S256x1024.Idx => cols (rd (emb m c)) (rd (ct m c)) 16384 (i 0).val (i 1).val := by
  refine (dats m 0 c).arrAt_eq_of_covers 2 _ (by decide +kernel) fun t hf y => ?_
  blk_simp
  have h1 : t.val % 8 = 7 := by have := (flush0_2 t).1 hf; omega
  have e : (outsAt0 m c t.val t.isLt).1 y = (outsAt0 m c t.val t.isLt).2 y := by
    rw [outsAt0_C m c t (by omega) h1]; frame_out; rfl
  rw [after0_2, e, Idealize.ShloMosaic.eq_ix2 y]
  refine (swept (p := fun _ i => i.val) (q := fun _ j => j.val) (S := fun t h i j => (outsAt0 m c t h).2 (ix2 i j))
    (embBlk_eq m c) (ctBlk_eq m c) (first m c) (next m c) t (by omega) (y 0) (y 1)).trans ?_
  blk_simp [(idx t).2.2]

open Cert.DwPuReferenceIdeal.Read in
/-- The reference's array. -/
theorem ref (x : S16384x256.Idx → EReal) (y : S16384x1024.Idx → EReal) :
    (val_main_v5 (F := Ideal) x y : S256x1024.Idx → EReal) = fun i => cols (rd x) (rd y) 16384 (i 0).val (i 1).val :=
  tbl_ext fun r k => by
    rw [cols_swap, val_main_v5_apply, val_main_v4_apply]
    exact (val_main_v3_apply x y _).trans (Finset.sum_congr rfl fun l _ => congrArg₂ _ (rd_of y _ rfl rfl) (rd_of x _ rfl rfl))

/-- The kernel runs and keeps its arguments. -/
theorem frame_kernel : Cert.quiescent_DwPu := fun m ρ _ => Cert.DwPu.Gen.frame m ρ

/-- The kernel over the reals runs and keeps its arguments. -/
theorem frame_kernelIdeal : Cert.quiescent_DwPuIdeal := fun m ρ _ => Cert.DwPuIdeal.Gen.frame m ρ

/-- The reference over the reals runs and keeps its arguments. -/
theorem frame_referenceIdeal : Cert.quiescent_DwPuReferenceIdeal := fun m ρ _ =>
  (θ_run Cert.DwPuReferenceIdeal.defs _ _).mono (fun r h => ⟨fun c => (h c).2, sem_eq_zero_of_no_sems (by decide) r.2⟩)
    (Cert.DwPuReferenceIdeal.Value.run (F := Ideal) m ρ)

/-- The kernel's array is the reference's. -/
theorem values : Cert.algebraic_DwPuIdeal_DwPuReferenceIdeal := by
  intro m g m' g' _ ha
  refine ⟨fun c i => cols (rd (emb m c)) (rd (ct m c)) 16384 (i 0).val (i 1).val,
    (θ_run _ _ _).mono (fun r h c => ⟨(h c).1.trans (out m c), (h c).2⟩) (Cert.DwPuIdeal.Value.run_blocks (F := Ideal) m g),
    (θ_run _ _ _).mono (fun r h c => ⟨(h c).1.trans ?_, (h c).2⟩) (Cert.DwPuReferenceIdeal.Value.run (F := Ideal) m' g')⟩
  rw [(ha c).1, (ha c).2]
  exact (Cert.DwPuReferenceIdeal.Read.val_main_v5_eq _ _).trans (ref _ _)

end Cert.DwPuProof

end
-- ==== Proof.DxDown.lean ====
/- The gradient of the gated layer's hidden rows, `dh2 · w_downᵀ`: a point of the grid makes one tile of the result out of
   whole rows of the two arguments. -/
module

public import proofs.«01_k».proof.Proof.Gen.DxDownIdeal.Value
public import proofs.«01_k».proof.Defs
public import proofs.«01_k».proof.Proof.Gen.DxDown.Frame
public import proofs.«01_k».proof.Proof.Gen.DxDownReferenceIdeal.Run
public import proofs.«01_k».proof.Proof.Gen.DxDownReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.DxDownProof

open Cert.DxDownIdeal Cert.DxDownIdeal.Facts Cert.DxDownIdeal.Gen Idealize.ShloMosaic Idealize.ShloMosaic.TcCoe Idealize.SL.Sem
open Cert.Swa Cert.Product

variable (m : (ℓ : Loc nD τ sig) → Buf (Elt Ideal) ℓ)

theorem idx0 : ∀ t : Fin cfg0.N, win0_0.index t = ![t.val % 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val % 16, t.val / 16] := (by decide +kernel : ∀ t : Fin grid0.N, _)

/-- The gradient and the weights as launched. -/
abbrev ct (c : Dev nD) : S16384x1024.Idx → EReal := m ((c : Thread nD τ).loc main_arg0)
abbrev wt (c : Dev nD) : S2816x1024.Idx → EReal := m ((c : Thread nD τ).loc main_arg1)

theorem ctBlk_eq (c : Dev nD) (t : Fin cfg0.N) (i k : Fin 1024) :
    iblk m c 0 t (ix2 i k) = rd (ct m c) (1024 * (t.val % 16) + i.val) k.val := by
  refine Eq.trans ?_ (rd_at (ct m c) ⟨1024 * (t.val % 16) + i.val, by omega⟩ k rfl rfl)
  blk_ext [iblk, V, idx0 t]

theorem wtBlk_eq (c : Dev nD) (t : Fin cfg0.N) (j : Fin 1408) (k : Fin 1024) :
    iblk m c 1 t (ix2 j k) = rd (wt m c) (1408 * (t.val / 16) + j.val) k.val := by
  have ht : t.val < 32 := t.isLt
  refine Eq.trans ?_ (rd_at (wt m c) ⟨1408 * (t.val / 16) + j.val, by omega⟩ k rfl rfl)
  blk_ext [iblk, V, idx1 t]

/-- A tile: rows times rows. -/
theorem tile (x : Vec Ideal S1024x1024 .bf16) (y : Vec Ideal S1408x1024 .bf16) (i : Fin 1024) (j : Fin 1408) :
    k0_pay1 x y (ix2 i j) = ∑ k : Fin 1024, x (ix2 i k) * y (ix2 j k) := by
  unfold k0_pay1; pointwise

/-- The kernel's array. -/
theorem out (c : Dev nD) : (dats m 0 c).arrAt 2 cfg0.N
    = fun i : S16384x2816.Idx => rows (rd (ct m c)) (rd (wt m c)) 1024 (i 0).val (i 1).val := by
  refine (dats m 0 c).arrAt_eq_of_covers 2 _ (by decide +kernel) fun t hf y => ?_
  blk_simp
  rw [after0_2]; frame_out
  rw [Idealize.ShloMosaic.eq_ix2 y]
  refine (tile _ _ (y 0) (y 1)).trans ((rows_of _ _ (ctBlk_eq m c t (y 0)) (wtBlk_eq m c t (y 1))).trans ?_)
  blk_simp [idx2 t]
  rw [Nat.mul_comm 1408, Nat.mul_comm 1024]

open Cert.DxDownReferenceIdeal.Read in
/-- The reference's array. -/
theorem ref (x : S16384x1024.Idx → EReal) (y : S2816x1024.Idx → EReal) :
    (val_main_v5 (F := Ideal) x y : S16384x2816.Idx → EReal) = fun i => rows (rd x) (rd y) 1024 (i 0).val (i 1).val :=
  tbl_ext fun r k => by
    rw [val_main_v5_apply]
    exact (val_main_v4_apply x y _).trans (rows_of _ _ (fun l => rd_of x _ rfl rfl) fun l => rd_of y _ rfl rfl)

/-- The kernel runs and keeps its arguments. -/
theorem frame_kernel : Cert.quiescent_DxDown := fun m ρ _ => Cert.DxDown.Gen.frame m ρ

/-- The kernel over the reals runs and keeps its arguments. -/
theorem frame_kernelIdeal : Cert.quiescent_DxDownIdeal := fun m ρ _ => Cert.DxDownIdeal.Gen.frame m ρ

/-- The reference over the reals runs and keeps its arguments. -/
theorem frame_referenceIdeal : Cert.quiescent_DxDownReferenceIdeal := fun m ρ _ =>
  (θ_run Cert.DxDownReferenceIdeal.defs _ _).mono (fun r h => ⟨fun c => (h c).2, sem_eq_zero_of_no_sems (by decide) r.2⟩)
    (Cert.DxDownReferenceIdeal.Value.run (F := Ideal) m ρ)

/-- The kernel's array is the reference's. -/
theorem values : Cert.algebraic_DxDownIdeal_DxDownReferenceIdeal := by
  intro m g m' g' _ ha
  refine ⟨fun c i => rows (rd (ct m c)) (rd (wt m c)) 1024 (i 0).val (i 1).val,
    (θ_run _ _ _).mono (fun r h c => ⟨(h c).1.trans (out m c), (h c).2⟩) (Cert.DxDownIdeal.Value.run_blocks (F := Ideal) m g),
    (θ_run _ _ _).mono (fun r h c => ⟨(h c).1.trans ?_, (h c).2⟩) (Cert.DxDownReferenceIdeal.Value.run (F := Ideal) m' g')⟩
  rw [(ha c).1, (ha c).2]
  exact (Cert.DxDownReferenceIdeal.Read.val_main_v5_eq _ _).trans (ref _ _)

end Cert.DxDownProof

end
-- ==== Proof.DxOut.lean ====
/- The gradient of the mixer's rows, `dh1 · w_outᵀ`: each point of the grid makes 1024 rows of the result. -/
module

public import proofs.«01_k».proof.Proof.Gen.DxOutIdeal.Value
public import proofs.«01_k».proof.Defs
public import proofs.«01_k».proof.Proof.Gen.DxOut.Frame
public import proofs.«01_k».proof.Proof.Gen.DxOutReferenceIdeal.Run
public import proofs.«01_k».proof.Proof.Gen.DxOutReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.DxOutProof

open Cert.DxOutIdeal Cert.DxOutIdeal.Facts Cert.DxOutIdeal.Gen Idealize.ShloMosaic Idealize.ShloMosaic.TcCoe Idealize.SL.Sem
open Cert.Swa Cert.Product

variable (m : (ℓ : Loc nD τ sig) → Buf (Elt Ideal) ℓ)

/-- The gradient and the result move down together, and the weights stay. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- The gradient and the weights as launched. -/
abbrev ct (c : Dev nD) : S16384x1024.Idx → EReal := m ((c : Thread nD τ).loc main_arg0)
abbrev wt (c : Dev nD) : S1024x1024.Idx → EReal := m ((c : Thread nD τ).loc main_arg1)

theorem ctBlk_eq (c : Dev nD) (t : Fin cfg0.N) (i k : Fin 1024) :
    iblk m c 0 t (ix2 i k) = rd (ct m c) (1024 * t.val + i.val) k.val := by
  have ht : t.val < 16 := t.isLt
  refine Eq.trans ?_ (rd_at (ct m c) ⟨1024 * t.val + i.val, by omega⟩ k rfl rfl)
  blk_ext [iblk, V, (idx t).1]

theorem wtBlk_eq (c : Dev nD) (t : Fin cfg0.N) (j k : Fin 1024) : iblk m c 1 t (ix2 j k) = rd (wt m c) j.val k.val := by
  refine Eq.trans ?_ (rd_at (wt m c) j k rfl rfl)
  blk_ext [iblk, V, (idx t).2.1]

/-- A tile: rows times rows. -/
theorem tile (x y : Vec Ideal S1024x1024 .bf16) (i j : Fin 1024) :
    k0_pay1 x y (ix2 i j) = ∑ k : Fin 1024, x (ix2 i k) * y (ix2 j k) := by
  unfold k0_pay1; pointwise

/-- The kernel's array. -/
theorem out (c : Dev nD) : (dats m 0 c).arrAt 2 cfg0.N
    = fun i : S16384x1024.Idx => rows (rd (ct m c)) (rd (wt m c)) 1024 (i 0).val (i 1).val := by
  refine (dats m 0 c).arrAt_eq_of_covers 2 _ (by decide +kernel) fun t hf y => ?_
  blk_simp
  rw [after0_2]; frame_out
  rw [Idealize.ShloMosaic.eq_ix2 y]
  refine (tile _ _ (y 0) (y 1)).trans ((rows_of _ _ (ctBlk_eq m c t (y 0)) (wtBlk_eq m c t (y 1))).trans ?_)
  blk_simp [(idx t).2.2]
  rw [Nat.mul_comm 1024]

open Cert.DxOutReferenceIdeal.Read in
/-- The reference's array. -/
theorem ref (x : S16384x1024.Idx → EReal) (y : S1024x1024.Idx → EReal) :
    (val_main_v4 (F := Ideal) x y : S16384x1024.Idx → EReal) = fun i => rows (rd x) (rd y) 1024 (i 0).val (i 1).val :=
  tbl_ext fun r k =>
    (val_main_v4_apply x y _).trans (rows_of _ _ (fun l => rd_of x _ rfl rfl) fun l => rd_of y _ rfl rfl)

/-- The kernel runs and keeps its arguments. -/
theorem frame_kernel : Cert.quiescent_DxOut := fun m ρ _ => Cert.DxOut.Gen.frame m ρ

/-- The kernel over the reals runs and keeps its arguments. -/
theorem frame_kernelIdeal : Cert.quiescent_DxOutIdeal := fun m ρ _ => Cert.DxOutIdeal.Gen.frame m ρ

/-- The reference over the reals runs and keeps its arguments. -/
theorem frame_referenceIdeal : Cert.quiescent_DxOutReferenceIdeal := fun m ρ _ =>
  (θ_run Cert.DxOutReferenceIdeal.defs _ _).mono (fun r h => ⟨fun c => (h c).2, sem_eq_zero_of_no_sems (by decide) r.2⟩)
    (Cert.DxOutReferenceIdeal.Value.run (F := Ideal) m ρ)

/-- The kernel's array is the reference's. -/
theorem values : Cert.algebraic_DxOutIdeal_DxOutReferenceIdeal := by
  intro m g m' g' _ ha
  refine ⟨fun c i => rows (rd (ct m c)) (rd (wt m c)) 1024 (i 0).val (i 1).val,
    (θ_run _ _ _).mono (fun r h c => ⟨(h c).1.trans (out m c), (h c).2⟩) (Cert.DxOutIdeal.Value.run_blocks (F := Ideal) m g),
    (θ_run _ _ _).mono (fun r h c => ⟨(h c).1.trans ?_, (h c).2⟩) (Cert.DxOutReferenceIdeal.Value.run (F := Ideal) m' g')⟩
  rw [(ha c).1, (ha c).2]
  exact (Cert.DxOutReferenceIdeal.Read.val_main_v4_eq _ _).trans (ref _ _)

end Cert.DxOutProof

end
-- ==== Proof.Norm.lean ====
/- The gradient of a row through its norm, in the kernels' spelling and in the reference's. A row with an infinite entry has an
   infinite mean square, so its scale is zero and both spellings give zero; in every other row the scale is a real number,
   which moves through the sums whatever the other operands are. -/
module

public import proofs.«01_k».proof.Proof.Product

@[expose] public section

noncomputable section

namespace Cert.Norm

open Idealize.ShloMosaic

/-- The length of a row, what is added to its mean square, and the factor of the derivative of a root. -/
abbrev len : EReal := Ideal.ofBits .f32 0x44800000#32
abbrev eps : EReal := Ideal.ofBits .f32 0x358637BD#32
abbrev mhalf : EReal := Ideal.ofBits .f32 0xBF000000#32

theorem len_eq : len = ((1024 : ℝ) : EReal) := by
  simp [Ideal.ofBits, Ideal.ieee, -EReal.coe_mul]; norm_num

theorem mhalf_eq : mhalf = ((-(1 / 2) : ℝ) : EReal) := by
  simp [Ideal.ofBits, Ideal.ieee, -EReal.coe_mul]; norm_num

theorem eps_eq : ∃ e : ℝ, 0 < e ∧ eps = (e : EReal) := by
  refine ⟨8796093 / 2 ^ 43, by positivity, ?_⟩
  simp [Ideal.ofBits, Ideal.ieee, -EReal.coe_mul]; norm_num

theorem mul_self_nonneg (x : EReal) : 0 ≤ x * x := by
  induction x with
  | bot => simp
  | top => simp
  | coe r => exact_mod_cast _root_.mul_self_nonneg r

variable {n : ℕ}

/-- A row's mean square, with `eps`, and its scale. -/
def meanSq (h : Fin n → EReal) : EReal := Ideal.div (∑ k, h k * h k) len + eps
def scale (h : Fin n → EReal) : EReal := Ideal.rsqrt (meanSq h)

/-- The kernels' gradient of entry `j` of the row `h`, whose normed entries have the gradients `d`. -/
def grad (d h : Fin n → EReal) (j : Fin n) : EReal :=
  scale h * (d j - h j * scale h * Ideal.div (∑ k, d k * (h k * scale h)) len)

/-- The reference's: through the factor, and through the square twice. -/
def coef (d h : Fin n → EReal) : EReal :=
  Ideal.div ((∑ k, h k * d k) * (mhalf * Ideal.div (scale h) (meanSq h))) len
def grad' (d h : Fin n → EReal) (j : Fin n) : EReal := d j * scale h + h j * coef d h + coef d h * h j

/-- A real factor that is not negative moves out of a sum. -/
theorem sum_mul_real (f : Fin n → EReal) {r : ℝ} (hr : 0 ≤ r) : ∑ k, f k * (r : EReal) = (∑ k, f k) * r := by
  induction (Finset.univ : Finset (Fin n)) using Finset.induction_on with
  | empty => simp
  | insert a s ha ih =>
    rw [Finset.sum_insert ha, Finset.sum_insert ha, ih, EReal.right_distrib_of_nonneg_of_ne_top (by exact_mod_cast hr) (EReal.coe_ne_top r)]

/-- The mean square is a positive real number or infinite. -/
theorem meanSq_cases (h : Fin n → EReal) : meanSq h = ⊤ ∨ ∃ v : ℝ, 0 < v ∧ meanSq h = (v : EReal) := by
  obtain ⟨e, he, ee⟩ := eps_eq
  have hs : 0 ≤ ∑ k, h k * h k := Finset.sum_nonneg fun k _ => mul_self_nonneg _
  unfold meanSq
  rw [ee, len_eq, Ideal.div_coe (by norm_num)]
  generalize (∑ k, h k * h k) = s at hs
  induction s with
  | bot => simp at hs
  | top =>
    left
    rw [EReal.top_mul_of_pos (by exact_mod_cast (by norm_num : (0 : ℝ) < 1 / 1024))]
    exact EReal.top_add_coe e
  | coe s =>
    right
    have h0 : 0 ≤ s := by exact_mod_cast hs
    exact ⟨s * (1 / 1024) + e, by positivity, by push_cast; rfl⟩

/-- The two spellings are equal, whatever the numbers are. -/
theorem grad_eq (d h : Fin n → EReal) (j : Fin n) : grad d h j = grad' d h j := by
  unfold grad grad' coef scale
  rcases meanSq_cases h with e | ⟨v, hv, e⟩
  · rw [e]
    simp [Ideal.div, len_eq]
  · have hs : Real.sqrt v ≠ 0 := (Real.sqrt_pos.2 hv).ne'
    rw [e, Ideal.rsqrt_coe, if_neg (not_lt.2 hv.le), if_neg hv.ne', len_eq, mhalf_eq, Ideal.div_coe (by norm_num), Ideal.div_coe (by norm_num),
      Ideal.div_coe hv.ne']
    have hr : (0 : ℝ) ≤ (Real.sqrt v)⁻¹ := inv_nonneg.2 (Real.sqrt_nonneg v)
    have hc : (Real.sqrt v)⁻¹ * (1 / v) = (Real.sqrt v)⁻¹ * (Real.sqrt v)⁻¹ * (Real.sqrt v)⁻¹ := by
      rw [mul_assoc]; congr 1; rw [← mul_inv, Real.mul_self_sqrt hv.le, one_div]
    have hd : ((Real.sqrt v)⁻¹ : ℝ) * ((1 / v : ℝ) : EReal) = (((Real.sqrt v)⁻¹ * (Real.sqrt v)⁻¹ * (Real.sqrt v)⁻¹ : ℝ) : EReal) := by
      rw [← EReal.coe_mul, hc]
    rw [hd]
    generalize (Real.sqrt v)⁻¹ = r at hr
    have e1 : ∑ k, d k * (h k * (r : EReal)) = (∑ k, h k * d k) * r := by
      rw [← sum_mul_real _ hr]; exact Finset.sum_congr rfl fun k _ => by rw [← mul_assoc, mul_comm (d k)]
    rw [e1]
    generalize (∑ k, h k * d k) = s
    have e2 : h j * (s * (((-(1 / 2) : ℝ) : EReal) * ((r * r * r : ℝ) : EReal)) * ((1 / 1024 : ℝ) : EReal))
        = h j * s * ((-(1 / 2) * (r * r * r * (1 / 1024)) : ℝ) : EReal) := by
      rw [← EReal.coe_mul, mul_assoc s, ← EReal.coe_mul, ← mul_assoc (h j), mul_assoc (-(1 / 2) : ℝ)]
    have e3 : (r : EReal) * (h j * r * (s * r * ((1 / 1024 : ℝ) : EReal))) = h j * s * ((r * r * r * (1 / 1024) : ℝ) : EReal) := by
      push_cast; ac_rfl
    have twice : ∀ x : EReal, x + x = x * ((2 : ℝ) : EReal) := fun x => by
      rw [show (2 : ℝ) = 1 + 1 by norm_num, EReal.coe_add, EReal.left_distrib_of_nonneg (by simp) (by simp), EReal.coe_one, mul_one]
    rw [sub_eq_add_neg, EReal.left_distrib_of_nonneg_of_ne_top (by exact_mod_cast hr) (EReal.coe_ne_top r), mul_neg, e3, mul_comm _ (h j), e2,
      add_assoc, twice, mul_assoc (h j * s), ← EReal.coe_mul, mul_comm (r : EReal) (d j), ← mul_neg, ← EReal.coe_neg]
    congr 3
    ring

/-- Rows added to rows. -/
abbrev added (X H : ℕ → ℕ → EReal) (i j : ℕ) : EReal := X i j + H i j

/-- Rows times their scales. -/
def normed (H : ℕ → ℕ → EReal) (i j : ℕ) : EReal := H i j * scale fun k : Fin 1024 => H i k.val

/-- … times the gains. -/
def gained (H : ℕ → ℕ → EReal) (G : Fin 1024 → EReal) (i : ℕ) (j : Fin 1024) : EReal := normed H i j.val * G j

/-- … read out of a row of numbers. -/
theorem gained_of {H : ℕ → ℕ → EReal} {G : Fin 1024 → EReal} {i : ℕ} {j : Fin 1024} {h g : Fin 1024 → EReal}
    (hh : ∀ k, h k = H i k.val) (hg : ∀ k, g k = G k) : h j * scale h * g j = gained H G i j := by
  rw [hg, show h = (fun k => H i k.val) from funext hh]; rfl

/-- The gradient that comes back to entry `j` of row `i` of `H`, when the rows `X` come back to its normed rows times the gains `G`,
    with `R` added. -/
def back (X H : ℕ → ℕ → EReal) (G : Fin 1024 → EReal) (R : ℕ → ℕ → EReal) (i : ℕ) (j : Fin 1024) : EReal :=
  R i j.val + grad (fun k => X i k.val * G k) (fun k => H i k.val) j

/-- … read out of rows of numbers, in the kernels' spelling. -/
theorem back_of {X H : ℕ → ℕ → EReal} {G : Fin 1024 → EReal} {R : ℕ → ℕ → EReal} {i : ℕ} {j : Fin 1024} {x h g : Fin 1024 → EReal} {r : EReal}
    (hx : ∀ k, x k = X i k.val) (hh : ∀ k, h k = H i k.val) (hg : ∀ k, g k = G k) (hr : r = R i j.val) :
    r + grad (fun k => x k * g k) h j = back X H G R i j := by
  unfold back
  rw [hr, show h = (fun k => H i k.val) from funext hh, show (fun k => x k * g k) = (fun k => X i k.val * G k) from funext fun k => by rw [hx, hg]]

/-- The gradient of gain `j` is kept in one row of a table of eight, over the grid's `N` points of `b` rows each; the other rows
    stay zero. -/
theorem gains {N b : ℕ} {X H : ℕ → ℕ → EReal} {x h : Fin N → Fin b → Fin 1024 → EReal} {s : Fin N → Fin b → EReal} {S : (t : ℕ) → t < N → Fin 8 → Fin 1024 → EReal}
    (hx : ∀ t r j, x t r j = X (b * t.val + r.val) j.val) (hh : ∀ t r j, h t r j = H (b * t.val + r.val) j.val)
    (hs : ∀ t r, s t r = scale (h t r))
    (first : ∀ t : Fin N, t.val % N = 0 → ∀ u j, S t.val t.isLt u j = if u.val = 0 then 0 + ∑ r, x t r j * (h t r j * s t r) else 0)
    (next : ∀ t : Fin N, ¬t.val % N = 0 → ∀ u j, S t.val t.isLt u j = if u.val = 0 then
      S (t.val - 1) (Nat.lt_of_le_of_lt (Nat.sub_le _ _) t.isLt) 0 j + ∑ r, x t r j * (h t r j * s t r)
      else S (t.val - 1) (Nat.lt_of_le_of_lt (Nat.sub_le _ _) t.isLt) u j)
    (t : Fin N) (ht : t.val + 1 = N) (u : Fin 8) (j : Fin 1024) :
    S t.val t.isLt u j = if u.val = 0 then Product.cols X (normed H) (b * N) j.val j.val else 0 := by
  have hy : ∀ t r (j : Fin 1024), h t r j * s t r = normed H (b * t.val + r.val) j.val := fun t r j => by
    rw [hs, hh, show h t r = _ from funext (hh t r)]; rfl
  by_cases hu : u.val = 0
  · obtain rfl : u = 0 := Fin.ext hu
    rw [if_pos hu]
    refine Product.kept X (normed H) N b (fun _ => j.val) (fun _ => j.val) (fun t h => S t h 0 j) (fun t h => ?_) t.val t.isLt
      (by rw [Nat.mod_eq_of_lt t.isLt]; exact ht)
    have e : ∑ r, x ⟨t, h⟩ r j * (_ * s ⟨t, h⟩ r) = ∑ r : Fin b, X (b * (t % N) + r.val) j.val * normed H (b * (t % N) + r.val) j.val :=
      Finset.sum_congr rfl fun r _ => by rw [hx, hy, Nat.mod_eq_of_lt h]
    by_cases h0 : t % N = 0
    · rw [if_pos h0, ← e]; exact (first ⟨t, h⟩ h0 0 j).trans (if_pos rfl)
    · rw [if_neg h0, ← e]; exact (next ⟨t, h⟩ h0 0 j).trans (if_pos rfl)
  · rw [if_neg hu]
    have go : ∀ t (h : t < N), S t h u j = 0 := fun t => by
      induction t with
      | zero => intro h; exact (first ⟨0, h⟩ (Nat.zero_mod N) u j).trans (if_neg hu)
      | succ t ih => intro h; exact ((next ⟨t + 1, h⟩ (by rw [Nat.mod_eq_of_lt h]; omega) u j).trans (if_neg hu)).trans (ih _)
    exact go t.val t.isLt

end Cert.Norm

end
-- ==== Proof.NormRef.lean ====
/- A norm, and the gradient through it from the rows that come back to the normed rows, as the references write them out over
   whole tables. -/
module

public import proofs.«01_k».proof.Proof.Gen.DxInReferenceIdeal.Read
public import Idealize.ShloMosaic.Lib.Pointwise
public import proofs.«01_k».proof.Proof.Rd
public import proofs.«01_k».proof.Proof.Norm

@[expose] public section

set_option maxRecDepth 16384

noncomputable section

namespace Cert.Norm

open Cert.DxInReferenceIdeal Cert.DxInReferenceIdeal.Gen Cert.DxInReferenceIdeal.Read Idealize.ShloMosaic Idealize.ShloMosaic.TcCoe Idealize.ShloMosaic.StableHlo
open Cert.Swa Cert.Product

variable (D H R : FVec Ideal S16384x1024 .f32) (G : FVec Ideal S1024 .f32)

/-- The rows times the gains. -/
def tblD : FVec Ideal S16384x1024 .f32 := mulf D (val_main_v23 (F := Ideal) G)

/-- What each row's mean square takes. -/
def tblCoef : FVec Ideal S16384 .f32 :=
  Host.reduceAdd (Host.divf (mulf (shapeCast _ (Host.reduceAdd (mulf H (tblD D G)) (val_main_cst (F := Ideal)) reducesTo_S16384x1024_S16384_d1 h_S_)
    shapeCasts_S16384_S16384x1) (val_main_v12 (F := Ideal) H)) (val_main_v5 (F := Ideal))) (val_main_cst (F := Ideal)) reducesTo_S16384x1_S16384_d1 h_S_

/-- The gradient of the rows. -/
def tblBack : FVec Ideal S16384x1024 .f32 :=
  addf R (addf (addf (mulf (tblD D G) (val_main_v13 (F := Ideal) H))
    (mulf H (broadcastInDim S16384x1024 ![0] bcast_S16384_S16384x1024_0 (tblCoef D H G))))
    (mulf (broadcastInDim S16384x1024 ![0] bcast_S16384_S16384x1024_0 (tblCoef D H G)) H))

/-- The gradient of the gains, one row of eight. -/
def tblGain : FVec Ideal S8x1024 .f32 :=
  pad S8x1024 ![0, 0] ![7, 0] ![0, 0] (broadcastInDim S1x1024 ![1] bcast_S1024_S1x1024_1
    (Host.reduceAdd (shapeCast S1x1024 (Host.reduceAdd (mulf (val_main_v14 (F := Ideal) H) D) (val_main_cst (F := Ideal)) reducesTo_S16384x1024_S1024_d0 h_S_)
      shapeCasts_S1024_S1x1024) (val_main_cst (F := Ideal)) reducesTo_S1x1024_S1024_d0 h_S_)) (val_main_call0_v0 (F := Ideal)) pads_S1x1024_S8x1024_070_000 h_S_

/-- The rows' norm. -/
def tblNorm : FVec Ideal S16384x1024 .f32 := mulf (val_main_v14 (F := Ideal) H) (val_main_v23 (F := Ideal) G)

variable {D H R G} {X : ℕ → ℕ → EReal}

theorem tblBack_eq (hD : ∀ (i : Fin 16384) (j : Fin 1024), D (ix2 i j) = X i.val j.val) :
    (tblBack D H R G : S16384x1024.Idx → EReal) = fun i => back X (rd H) (fun k => G (ix1 k)) (rd R) (i 0).val (i 1) := by
  refine tbl_ext fun i j => ?_
  unfold tblBack tblCoef tblD val_main_v23 val_main_v15 val_main_v13 val_main_v12 val_main_v10 val_main_v11 val_main_v9 val_main_v8 val_main_v7
    val_main_v6 val_main_v5 val_main_v4 val_main_v3 val_main_v2 val_main_cst val_main_cst_0 val_main_cst_1 val_main_cst_2
  pointwise
  simp only [hD, rd_eq H, rd_eq R, Ideal.ofBits_zero_f32, zero_add, Fin.sum_univ_one]
  exact congrArg (rd R i.val j.val + ·) (grad_eq (fun k => X i.val k.val * G (ix1 k)) (fun k => rd H i.val k.val) j).symm

theorem tblGain_eq (hD : ∀ (i : Fin 16384) (j : Fin 1024), D (ix2 i j) = X i.val j.val) :
    (tblGain D H : S8x1024.Idx → EReal) = fun i => if (i 0).val = 0 then cols X (normed (rd H)) 16384 (i 1).val (i 1).val else 0 := by
  refine tbl_ext fun u j => ?_
  unfold tblGain val_main_v14 val_main_v13 val_main_v9 val_main_v8 val_main_v7
    val_main_v6 val_main_v5 val_main_v4 val_main_v3 val_main_v2 val_main_cst val_main_cst_0 val_main_cst_1 val_main_call0_v0 val_main_c
  pointwise
  simp only [hD, rd_eq H, Ideal.ofBits_zero_f32, zero_add, Fin.sum_univ_one]
  by_cases hu : u.val = 0
  · rw [dif_pos (by omega)]
    refine Eq.trans ?_ (if_pos hu).symm
    rw [cols_swap]
    rfl
  · rw [dif_neg (by omega)]
    refine Eq.trans ?_ (if_neg hu).symm
    show ((((0#32 : BitVec 32).toInt : ℤ) : ℝ) : EReal) = 0
    simp

theorem tblNorm_eq (hH : ∀ (i : Fin 16384) (j : Fin 1024), H (ix2 i j) = X i.val j.val) :
    (tblNorm H G : S16384x1024.Idx → EReal) = fun i => gained X (fun k => G (ix1 k)) (i 0).val (i 1) := by
  refine tbl_ext fun i j => ?_
  unfold tblNorm val_main_v23 val_main_v15 val_main_v14 val_main_v13 val_main_v9 val_main_v8 val_main_v7
    val_main_v6 val_main_v5 val_main_v4 val_main_v3 val_main_v2 val_main_cst val_main_cst_0 val_main_cst_1
  pointwise
  simp only [hH, Ideal.ofBits_zero_f32, zero_add]
  rfl

end Cert.Norm

end
-- ==== Proof.NormStore.lean ====
/- A table of eight rows whose first row is stored over the whole of it. -/
module

public import Idealize.ShloMosaic.PureOps.Ideal
public import Idealize.ShloMosaic.Lib.Pipeline.ValueKit.Tiles
public import Idealize.ShloMosaic.Lib.Pipeline.ValueKit.Geometry
public import Idealize.ShloMosaic.Lib.Pipeline.ReadBack
public import proofs.«01_k».proof.Proof.Rd

@[expose] public section

set_option maxRecDepth 16384

noncomputable section

namespace Cert.Norm

open Idealize.ShloMosaic

/-- The table, and one row of it. -/
abbrev Eight : Shape := ⟨2, ![8, 1024]⟩
abbrev One : Shape := ⟨2, ![1, 1024]⟩

variable {sig : RefSig} {κ : Kind} {sp : Space} (v : View sig κ sp Eight .f32)
variable (inb : ∀ a, (![0, 0] : Fin 2 → ℕ) a + (![1, 1024] : Fin 2 → ℕ) a ≤ Eight.size a)
  (inb' : ∀ a, (![0, 0] : Fin 2 → ℕ) a + (![8, 1024] : Fin 2 → ℕ) a ≤ Eight.size a)

theorem top_emb (u : Fin 8) (j : Fin 1024) (h : u.val = 0) :
    (ix2 u j : Eight.Idx) = (Rect.unit (s := Eight) ![0, 0] ![1, 1024] inb).emb (ix2 (n0 := 1) (n1 := 1024) 0 j) := by
  funext a
  apply Fin.ext
  rw [ValueKit.rect_emb_unit_val]
  match a with
  | ⟨0, _⟩ => exact h
  | ⟨1, _⟩ => exact (Nat.zero_add _).symm

theorem top_not_mem (u : Fin 8) (j : Fin 1024) (h : ¬u.val = 0) : (ix2 u j : Eight.Idx) ∉ (Rect.unit (s := Eight) ![0, 0] ![1, 1024] inb).set := by
  intro hm
  obtain ⟨x, hx⟩ := (Rect.unit (s := Eight) ![0, 0] ![1, 1024] inb).exists_idx_of_mem hm
  have := congrArg (fun w : Eight.Idx => (w 0).val) hx
  rw [Rect.idx_unit_val] at this
  have hx0 : (x 0).val < 1 := (x 0).isLt
  exact h (this.symm.trans (by show 0 + (x 0).val = 0; omega))

/-- The table filled at once. -/
abbrev filled (z : Vec Ideal Eight .f32) : View.Piece (Elt Ideal) Eight EltTy.f32 := ⟨Rect.unit (s := Eight) ![0, 0] ![8, 1024] inb', z⟩

theorem canon_filled (z : Vec Ideal Eight .f32) (hz : ∀ y, z y = (0 : EReal)) (y : Eight.Idx) : View.canon [filled inb' z] y = (0 : EReal) := by
  refine Eq.trans ?_ (hz y)
  exact congrFun (View.canon_cons_unit_zero (Val := Elt Ideal) (S := Eight) (e := .f32) (by decide) inb' z []) y

theorem canon_top (w : Vec Ideal One .f32) (L : List (View.Piece (Elt Ideal) Eight EltTy.f32)) (u : Fin 8) (j : Fin 1024) :
    View.canon (⟨Rect.unit (s := Eight) ![0, 0] ![1, 1024] inb, w⟩ :: L) (ix2 u j) = if u.val = 0 then w (ix2 0 j) else View.canon L (ix2 u j) := by
  by_cases h : u.val = 0
  · rw [if_pos h, top_emb inb u j h]; exact View.canon_cons_emb (Rect.unit (s := Eight) ![0, 0] ![1, 1024] inb) w L _
  · rw [if_neg h]; exact View.canon_cons_of_not_mem _ L (top_not_mem inb u j h)

/-- The first point: the table is filled with zeros, and its top row replaced by a function of what it held. -/
theorem first_top (z : Vec Ideal Eight .f32) (hz : ∀ y, z y = (0 : EReal)) (A : Vec Ideal One .f32 → Vec Ideal One .f32) (u : Fin 8) (j : Fin 1024) :
    View.canon [⟨Rect.unit (s := Eight) ![0, 0] ![1, 1024] inb,
        A (v.readCov [filled inb' z] (Rect.unit (s := Eight) ![0, 0] ![1, 1024] inb).toLoadRect)⟩,
      filled inb' z] (ix2 u j)
      = if u.val = 0 then A (fun _ => (0 : EReal)) (ix2 0 j) else (0 : EReal) := by
  have hc := canon_filled inb' z hz
  have e : v.readCov [filled inb' z] (Rect.unit (s := Eight) ![0, 0] ![1, 1024] inb).toLoadRect
      = fun _ => (0 : EReal) := by
    rw [View.readCov_eq_canon']
    exact funext fun x => hc _
  rw [e]
  exact (canon_top inb _ _ u j).trans (if_congr Iff.rfl rfl (hc _))

/-- Every other point: the top row is replaced by a function of what it held. -/
theorem next_top {κ' : Kind} {sp' : Space} (v : View sig κ' sp' Eight .f32) (f : v.ty.Contents (Elt Ideal)) (o : Vec Ideal Eight .f32)
    (hf : v.read (Elt Ideal) f = o) (A : Vec Ideal One .f32 → Vec Ideal One .f32) (u : Fin 8) (j : Fin 1024) :
    v.read (Elt Ideal) (v.writes (Elt Ideal) f [⟨Rect.unit (s := Eight) ![0, 0] ![1, 1024] inb,
        A (View.ld o (Rect.unit (s := Eight) ![0, 0] ![1, 1024] inb))⟩]) (ix2 u j)
      = if u.val = 0 then A (View.ld o (Rect.unit (s := Eight) ![0, 0] ![1, 1024] inb)) (ix2 0 j) else o (ix2 u j) := by
  by_cases h : u.val = 0
  · rw [if_pos h, top_emb inb u j h]; exact View.read_writes_cons_emb _ _ _ _ _ _
  · rw [if_neg h, View.writes_cons]
    refine (View.read_slice_write_of_not_mem _ _ _ _ (by rw [Rect.map_emb_univ]; exact top_not_mem inb u j h)).trans ?_
    exact congrFun hf _

/-- The top row as it is loaded. -/
theorem ld_top (o : Vec Ideal Eight .f32) (j : Fin 1024) :
    View.ld (Val := Elt Ideal) (e' := .f32) o (Rect.unit (s := Eight) ![0, 0] ![1, 1024] inb) (ix2 (n0 := 1) (n1 := 1024) 0 j) = o (ix2 0 j) := by
  refine congrArg o ?_
  exact (top_emb inb 0 j rfl).symm

end Cert.Norm

end
-- ==== Proof.DxUp.lean ====
/- The gradient that the gated layer's two first weights bring back through the norm of its input rows: the two gradients of the
   hidden rows against the two halves of the weights' columns, as one product with the gradients side by side. -/
module

public import proofs.«01_k».proof.Proof.Gen.DxUpIdeal.Value
public import proofs.«01_k».proof.Defs
public import proofs.«01_k».proof.Proof.Gen.DxUp.Frame
public import proofs.«01_k».proof.Proof.Gen.DxUpReferenceIdeal.Run
public import proofs.«01_k».proof.Proof.Gen.DxUpReferenceIdeal.Read
public import Idealize.ShloMosaic.Adequacy
public import Idealize.ShloMosaic.Init
public import Idealize.ShloMosaic.Lib.Claim
public import Idealize.ShloMosaic.Lib.StableHlo.ReadAt
public import Idealize.ShloMosaic.Lib.Pipeline.ReadBack
public import Idealize.ShloMosaic.Lib.Pipeline.ValueKit.Tiles
public import Idealize.ShloMosaic.Lib.Pipeline.ValueKit.Geometry
public import proofs.«01_k».proof.Proof.NormRef
public import proofs.«01_k».proof.Proof.NormStore

@[expose] public section

set_option maxRecDepth 16384

noncomputable section

namespace Cert.DxUpProof

open Cert.DxUpIdeal Cert.DxUpIdeal.Facts Cert.DxUpIdeal.Gen Idealize.ShloMosaic Idealize.ShloMosaic.TcCoe Idealize.SL.Sem
open Cert.Swa Cert.Product Cert.Norm

variable (m : (ℓ : Loc nD τ sig) → Buf (Elt Ideal) ℓ)

/-- The arrays of 16384 rows move down together. -/
theorem idx (t : Fin cfg0.N) : win0_0.index t = ![t.val, 0] ∧ win0_1.index t = ![t.val, 0] ∧ win0_4.index t = ![t.val, 0] ∧ win0_6.index t = ![t.val, 0] :=
  (by decide +kernel : ∀ t : Fin grid0.N,
    win0_0.index t = ![t.val, 0] ∧ win0_1.index t = ![t.val, 0] ∧ win0_4.index t = ![t.val, 0] ∧ win0_6.index t = ![t.val, 0]) t
theorem idxOut (t : Fin cfg0.N) : win0_7.index t = ![t.val, 0] ∧ win0_8.index t = ![t.val, 0] :=
  (by decide +kernel : ∀ t : Fin grid0.N, win0_7.index t = ![t.val, 0] ∧ win0_8.index t = ![t.val, 0]) t

/-- The halves of the weights and the gains stay. -/
theorem stay (t : Fin cfg0.N) : win0_2.index t = ![0, 0] ∧ win0_3.index t = ![0, 1] ∧ win0_5.index t = ![0, 0] :=
  (by decide +kernel : ∀ t : Fin grid0.N, win0_2.index t = ![0, 0] ∧ win0_3.index t = ![0, 1] ∧ win0_5.index t = ![0, 0]) t

/-- The two gradients, the weights, the rows, the gains and what is added, as launched. -/
abbrev da (c : Dev nD) : S16384x2816.Idx → EReal := m ((c : Thread nD τ).loc main_arg0)
abbrev db (c : Dev nD) : S16384x2816.Idx → EReal := m ((c : Thread nD τ).loc main_arg1)
abbrev wt (c : Dev nD) : S1024x5632.Idx → EReal := m ((c : Thread nD τ).loc main_arg2)
abbrev h (c : Dev nD) : S16384x1024.Idx → EReal := m ((c : Thread nD τ).loc main_arg3)
abbrev g (c : Dev nD) : S1024.Idx → EReal := m ((c : Thread nD τ).loc main_arg4)
abbrev res (c : Dev nD) : S16384x1024.Idx → EReal := m ((c : Thread nD τ).loc main_arg5)

/-- Two tables side by side. -/
def joined (x y : S16384x2816.Idx → EReal) (i k : ℕ) : EReal := if k < 2816 then rd x i k else rd y i (k - 2816)

theorem joined_left (x y : S16384x2816.Idx → EReal) (i : ℕ) (k : Fin 2816) : joined x y i k.val = rd x i k.val := if_pos k.isLt
theorem joined_right (x y : S16384x2816.Idx → EReal) (i : ℕ) (k : Fin 2816) : joined x y i (2816 + k.val) = rd y i k.val :=
  (if_neg (by omega)).trans (congrArg (rd y i) (by omega))

/-- The blocks of a point. -/
abbrev daBlk (c : Dev nD) (t : Fin cfg0.N) (r : Fin 512) (k : Fin 2816) : EReal := iblk m c 0 t (ix2 r k)
abbrev dbBlk (c : Dev nD) (t : Fin cfg0.N) (r : Fin 512) (k : Fin 2816) : EReal := iblk m c 1 t (ix2 r k)
abbrev waBlk (c : Dev nD) (t : Fin cfg0.N) (j : Fin 1024) (k : Fin 2816) : EReal := iblk m c 2 t (ix2 j k)
abbrev wbBlk (c : Dev nD) (t : Fin cfg0.N) (j : Fin 1024) (k : Fin 2816) : EReal := iblk m c 3 t (ix2 j k)
abbrev hBlk (c : Dev nD) (t : Fin cfg0.N) (r : Fin 512) (j : Fin 1024) : EReal := iblk m c 4 t (ix2 r j)
abbrev gBlk (c : Dev nD) (t : Fin cfg0.N) (j : Fin 1024) : EReal := iblk m c 5 t (ix2 0 j)
abbrev resBlk (c : Dev nD) (t : Fin cfg0.N) (r : Fin 512) (j : Fin 1024) : EReal := iblk m c 6 t (ix2 r j)

theorem row_lt (t : Fin cfg0.N) (r : Fin 512) : 512 * t.val + r.val < 16384 := by
  have ht : t.val < 32 := t.isLt
  omega

theorem daBlk_eq (c : Dev nD) (t : Fin cfg0.N) (r : Fin 512) (k : Fin 2816) :
    daBlk m c t r k = joined (da m c) (db m c) (512 * t.val + r.val) k.val := by
  refine Eq.trans ?_ ((rd_at (da m c) ⟨_, row_lt t r⟩ k rfl rfl).trans (joined_left _ _ _ k).symm)
  unfold daBlk; blk_ext [iblk, V, (idx t).1]

theorem dbBlk_eq (c : Dev nD) (t : Fin cfg0.N) (r : Fin 512) (k : Fin 2816) :
    dbBlk m c t r k = joined (da m c) (db m c) (512 * t.val + r.val) (2816 + k.val) := by
  refine Eq.trans ?_ ((rd_at (db m c) ⟨_, row_lt t r⟩ k rfl rfl).trans (joined_right _ _ _ k).symm)
  unfold dbBlk; blk_ext [iblk, V, (idx t).2.1]

theorem waBlk_eq (c : Dev nD) (t : Fin cfg0.N) (j : Fin 1024) (k : Fin 2816) : waBlk m c t j k = rd (wt m c) j.val k.val := by
  refine Eq.trans ?_ (rd_at (wt m c) j ⟨k.val, by omega⟩ rfl rfl)
  unfold waBlk; blk_ext [iblk, V, (stay t).1]

theorem wbBlk_eq (c : Dev nD) (t : Fin cfg0.N) (j : Fin 1024) (k : Fin 2816) : wbBlk m c t j k = rd (wt m c) j.val (2816 + k.val) := by
  refine Eq.trans ?_ (rd_at (wt m c) j ⟨2816 + k.val, by omega⟩ rfl rfl)
  unfold wbBlk; blk_ext [iblk, V, (stay t).2.1]

theorem hBlk_eq (c : Dev nD) (t : Fin cfg0.N) (r : Fin 512) (j : Fin 1024) : hBlk m c t r j = rd (h m c) (512 * t.val + r.val) j.val := by
  refine Eq.trans ?_ (rd_at (h m c) ⟨_, row_lt t r⟩ j rfl rfl)
  unfold hBlk; blk_ext [iblk, V, (idx t).2.2.1]

theorem gains_laid (c : Dev nD) (j : Fin 1024) : V m c main_v0 (ix2 0 j) = g m c (ix1 j) := by
  unfold V
  simp only [hostOps0]
  after_reads_at

theorem gBlk_eq (c : Dev nD) (t : Fin cfg0.N) (j : Fin 1024) : gBlk m c t j = g m c (ix1 j) := by
  refine Eq.trans ?_ (gains_laid m c j)
  unfold gBlk iblk
  generalize V m c = W
  blk_ext [(stay t).2.2]

theorem resBlk_eq (c : Dev nD) (t : Fin cfg0.N) (r : Fin 512) (j : Fin 1024) : resBlk m c t r j = rd (res m c) (512 * t.val + r.val) j.val := by
  refine Eq.trans ?_ (rd_at (res m c) ⟨_, row_lt t r⟩ j rfl rfl)
  unfold resBlk; blk_ext [iblk, V, (idx t).2.2.2]

/-- The rows that come back through the weights, and what the rows of the input get. -/
abbrev backRows (c : Dev nD) : ℕ → ℕ → EReal := rows (joined (da m c) (db m c)) (rd (wt m c)) 5632
abbrev grads (c : Dev nD) : ℕ → Fin 1024 → EReal := back (backRows m c) (rd (h m c)) (fun k => g m c (ix1 k)) (rd (res m c))

/-- The product of a point. -/
abbrev prod (x x' : Vec Ideal S512x2816 .bf16) (w w' : Vec Ideal S1024x2816 .bf16) (i : Fin 512) (j : Fin 1024) : EReal :=
  ∑ l : Fin 2816, x (ix2 i l) * w (ix2 j l) + ∑ l : Fin 2816, x' (ix2 i l) * w' (ix2 j l)

abbrev dx (c : Dev nD) (t : Fin cfg0.N) : Fin 512 → Fin 1024 → EReal := prod (iblk m c 0 t) (iblk m c 1 t) (iblk m c 2 t) (iblk m c 3 t)

theorem dx_eq (c : Dev nD) (t : Fin cfg0.N) (r : Fin 512) (j : Fin 1024) : dx m c t r j = backRows m c (512 * t.val + r.val) j.val :=
  rows_two rfl _ _ _ _ (daBlk_eq m c t r) (waBlk_eq m c t j) (dbBlk_eq m c t r) (wbBlk_eq m c t j)

/-- A tile. -/
theorem tile (x x' : Vec Ideal S512x2816 .bf16) (w w' : Vec Ideal S1024x2816 .bf16) (y : Vec Ideal S512x1024 .f32) (z : Vec Ideal S1x1024 .f32)
    (r : Vec Ideal S512x1024 .f32) (i : Fin 512) (j : Fin 1024) :
    k0_pay2 (k0_pay8 x w x' w' y z) r (ix2 i j)
      = r (ix2 i j) + grad (fun k => prod x x' w w' i k * z (ix2 0 k)) (fun k => y (ix2 i k)) j := by
  unfold k0_pay2 k0_pay8 k0_pay7 k0_pay6 k0_pay4; pointwise; rfl

theorem tile_eq (c : Dev nD) (t : Fin cfg0.N) (i : Fin 512) (j : Fin 1024) :
    k0_pay2 (k0_pay8 (iblk m c 0 t) (iblk m c 2 t) (iblk m c 1 t) (iblk m c 3 t) (iblk m c 4 t) (iblk m c 5 t)) (iblk m c 6 t) (ix2 i j)
      = grads m c (512 * t.val + i.val) j :=
  (tile _ _ _ _ _ _ _ i j).trans (back_of (dx_eq m c t i) (hBlk_eq m c t i) (gBlk_eq m c t) (resBlk_eq m c t i j))

/-- One point's part of the gains' gradient. -/
theorem part (x x' : Vec Ideal S512x2816 .bf16) (w w' : Vec Ideal S1024x2816 .bf16) (y : Vec Ideal S512x1024 .f32) (a : Vec Ideal S1x1024 .f32) (j : Fin 1024) :
    k0_pay1 (k0_pay9 x w x' w' y) a (ix2 0 j)
      = a (ix2 0 j) + ∑ r : Fin 512, prod x x' w w' r j * (y (ix2 r j) * scale fun k => y (ix2 r k)) := by
  unfold k0_pay1 k0_pay9 k0_pay7 k0_pay6 k0_pay4; pointwise; rfl

theorem start (y : S8x1024.Idx) : k0_pay5 (F := Ideal) y = (0 : EReal) := by
  unfold k0_pay5; exact Ideal.ofBits_zero_f32

theorem first (c : Dev nD) (t : Fin cfg0.N) (h0 : t.val % 32 = 0) (u : Fin 8) (j : Fin 1024) :
    (outsAt0 m c t.val t.isLt).2.2 (ix2 u j)
      = if u.val = 0 then 0 + ∑ r, dx m c t r j * (hBlk m c t r j * scale (hBlk m c t r)) else 0 := by
  rw [outsAt0_A m c t h0]; frame_out
  refine (first_top _ _ _ _ start (k0_pay1 (k0_pay9 (iblk m c 0 t) (iblk m c 2 t) (iblk m c 1 t) (iblk m c 3 t) (iblk m c 4 t))) u j).trans ?_
  exact if_congr Iff.rfl (part _ _ _ _ _ _ j) rfl

theorem next (c : Dev nD) (t : Fin cfg0.N) (h0 : ¬t.val % 32 = 0) (u : Fin 8) (j : Fin 1024) :
    (outsAt0 m c t.val t.isLt).2.2 (ix2 u j)
      = if u.val = 0 then (outsAt0 m c (t.val - 1) (Nat.lt_of_le_of_lt (Nat.sub_le _ _) t.isLt)).2.2 (ix2 0 j)
          + ∑ r, dx m c t r j * (hBlk m c t r j * scale (hBlk m c t r))
        else (outsAt0 m c (t.val - 1) (Nat.lt_of_le_of_lt (Nat.sub_le _ _) t.isLt)).2.2 (ix2 u j) := by
  rw [outsAt0_B m c t h0]; frame_out
  refine (next_top _ _ _ _ ((hs0_9 t).read_unread _)
    (k0_pay1 (k0_pay9 (iblk m c 0 t) (iblk m c 2 t) (iblk m c 1 t) (iblk m c 3 t) (iblk m c 4 t))) u j).trans ?_
  exact if_congr Iff.rfl ((part _ _ _ _ _ _ j).trans (congrArg (· + _) (ld_top _ _ j))) rfl

/-- What a point leaves in the two outputs of rows. -/
theorem left (c : Dev nD) (t : Fin cfg0.N) (i : Fin 512) (j : Fin 1024) :
    (outsAt0 m c t.val t.isLt).1 (ix2 i j) = grads m c (512 * t.val + i.val) j
    ∧ (outsAt0 m c t.val t.isLt).2.1 (ix2 i j) = grads m c (512 * t.val + i.val) j := by
  by_cases h0 : t.val % 32 = 0
  · rw [outsAt0_A m c t h0]; frame_out; exact ⟨tile_eq m c t i j, tile_eq m c t i j⟩
  · rw [outsAt0_B m c t h0]; frame_out; exact ⟨tile_eq m c t i j, tile_eq m c t i j⟩

/-- The kernel's arrays. -/
theorem out (c : Dev nD) : (dats m 0 c).arrAt 7 cfg0.N = fun i : S16384x1024.Idx => grads m c (i 0).val (i 1) := by
  refine (dats m 0 c).arrAt_eq_of_covers 7 _ (by decide +kernel) fun t hf y => ?_
  blk_simp
  rw [after0_7, Idealize.ShloMosaic.eq_ix2 y]
  refine (left m c t (y 0) (y 1)).1.trans ?_
  blk_simp [(idxOut t).1]
  rw [Nat.mul_comm 512]
  exact congrArg (grads m c _) (Fin.ext (by blk_simp [(idxOut t).1]))

theorem outB (c : Dev nD) : (dats m 0 c).arrAt 8 cfg0.N = fun i : S16384x1024.Idx => grads m c (i 0).val (i 1) := by
  refine (dats m 0 c).arrAt_eq_of_covers 8 _ (by decide +kernel) fun t hf y => ?_
  blk_simp
  rw [after0_8, Idealize.ShloMosaic.eq_ix2 y]
  refine (left m c t (y 0) (y 1)).2.trans ?_
  blk_simp [(idxOut t).2]
  rw [Nat.mul_comm 512]
  exact congrArg (grads m c _) (Fin.ext (by blk_simp [(idxOut t).2]))

theorem outG (c : Dev nD) : (dats m 0 c).arrAt 9 cfg0.N
    = fun i : S8x1024.Idx => if (i 0).val = 0 then cols (backRows m c) (normed (rd (h m c))) 16384 (i 1).val (i 1).val else 0 := by
  obtain ⟨t, ht, hw⟩ : ∃ t : Fin cfg0.N, t.val = 31 ∧ (cfg0.win 9).WholeAt t := ⟨⟨31, by decide⟩, rfl, by decide +kernel⟩
  refine (dats m 0 c).arrAt_eq_of_after_last 9 t hw _ fun j => ?_
  blk_simp
  rw [after0_9]
  refine Eq.trans ?_ (gains (x := dx m c) (h := hBlk m c) (S := fun t ht u j => (outsAt0 m c t ht).2.2 (ix2 u j))
    (dx_eq m c) (hBlk_eq m c) (fun _ _ => rfl) (first m c) (next m c) t (by rw [ht]; rfl) (j 0) (j 1))
  refine congrArg _ ?_
  funext a
  match a with
  | ⟨0, _⟩ => rfl
  | ⟨1, _⟩ => rfl

section
open Cert.DxUpReferenceIdeal.Read

theorem side_by_side (x x' : S16384x2816.Idx → EReal) (i : Fin 16384) (k : Fin 5632) :
    val_main_v1 (F := Ideal) x x' (ix2 i k) = joined x x' i.val k.val := by
  unfold val_main_v1 val_main_v0 joined
  pointwise
  by_cases hk : k.val < 2816
  · rw [dif_pos hk, if_pos hk]; exact rd_at x i ⟨k.val, hk⟩ rfl rfl
  · rw [dif_neg hk, if_neg hk]; exact rd_at x' i ⟨k.val - 2816, by omega⟩ rfl rfl

/-- The reference's product. -/
theorem ref (x x' : S16384x2816.Idx → EReal) (y : S1024x5632.Idx → EReal) (i : Fin 16384) (j : Fin 1024) :
    val_main_v20 (F := Ideal) x x' y (ix2 i j) = rows (joined x x') (rd y) 5632 i.val j.val :=
  (val_main_v20_apply x x' y _).trans (rows_of _ _
    (fun l => (congrArg _ (Idealize.ShloMosaic.eq_ix2 _)).trans (side_by_side x x' i l)) fun l => rd_of y _ rfl rfl)

end

/-- The kernel runs and keeps its arguments. -/
theorem frame_kernel : Cert.quiescent_DxUp := fun m ρ _ => Cert.DxUp.Gen.frame m ρ

/-- The kernel over the reals runs and keeps its arguments. -/
theorem frame_kernelIdeal : Cert.quiescent_DxUpIdeal := fun m ρ _ => Cert.DxUpIdeal.Gen.frame m ρ

/-- The reference over the reals runs and keeps its arguments. -/
theorem frame_referenceIdeal : Cert.quiescent_DxUpReferenceIdeal := fun m ρ _ =>
  (θ_run Cert.DxUpReferenceIdeal.defs _ _).mono (fun r h => ⟨fun c => (h c).2.2.2, sem_eq_zero_of_no_sems (by decide) r.2⟩)
    (Cert.DxUpReferenceIdeal.Value.run (F := Ideal) m ρ)

/-- The kernel's three arrays are the reference's. -/
theorem values : Cert.algebraic_DxUpIdeal_DxUpReferenceIdeal := by
  intro m g m' g' _ ha
  refine ⟨_, _, _,
    (θ_run _ _ _).mono (fun r h c => ⟨(h c).1.trans (out m c), (h c).2.1.trans (outB m c), (h c).2.2.1.trans (outG m c), (h c).2.2.2⟩)
      (Cert.DxUpIdeal.Value.run_blocks (F := Ideal) m g),
    (θ_run _ _ _).mono (fun r h c => ⟨(h c).1.trans ?_, (h c).2.1.trans ?_, (h c).2.2.1.trans ?_, (h c).2.2.2⟩)
      (Cert.DxUpReferenceIdeal.Value.run (F := Ideal) m' g')⟩
  · refine (Cert.DxUpReferenceIdeal.Read.val_main_v41_eq _ _).trans ?_
    rw [(ha c).1, (ha c).2.1, (ha c).2.2.1, (ha c).2.2.2.1, (ha c).2.2.2.2.1, (ha c).2.2.2.2.2]
    exact tblBack_eq (ref _ _ _)
  · refine (Cert.DxUpReferenceIdeal.Read.val_main_v42_eq _ _).trans ?_
    rw [(ha c).1, (ha c).2.1, (ha c).2.2.1, (ha c).2.2.2.1, (ha c).2.2.2.2.1, (ha c).2.2.2.2.2]
    exact tblBack_eq (ref _ _ _)
  · refine (Cert.DxUpReferenceIdeal.Read.val_main_v44_eq _ _ _ _).trans ?_
    rw [(ha c).1, (ha c).2.1, (ha c).2.2.1, (ha c).2.2.2.1]
    exact tblGain_eq (ref _ _ _)

end Cert.DxUpProof

end
-- ==== Proof.DxIn.lean ====
/- The gradient that the mixer's weights bring back through the norm of its input rows, `dproj · w_inᵀ`: each point of the grid
   makes 512 rows of it, in both precisions, and adds their part of the gains' gradient. -/
module

public import proofs.«01_k».proof.Proof.Gen.DxInIdeal.Value
public import proofs.«01_k».proof.Defs
public import proofs.«01_k».proof.Proof.Gen.DxIn.Frame
public import proofs.«01_k».proof.Proof.Gen.DxInReferenceIdeal.Run
public import proofs.«01_k».proof.Proof.Gen.DxInReferenceIdeal.Read
public import Idealize.ShloMosaic.Adequacy
public import Idealize.ShloMosaic.Init
public import Idealize.ShloMosaic.Lib.Claim
public import Idealize.ShloMosaic.Lib.StableHlo.ReadAt
public import Idealize.ShloMosaic.Lib.Pipeline.ReadBack
public import Idealize.ShloMosaic.Lib.Pipeline.ValueKit.Tiles
public import Idealize.ShloMosaic.Lib.Pipeline.ValueKit.Geometry
public import proofs.«01_k».proof.Proof.Product
public import proofs.«01_k».proof.Proof.Norm
public import proofs.«01_k».proof.Proof.NormRef
public import proofs.«01_k».proof.Proof.NormStore

@[expose] public section

set_option maxRecDepth 16384

noncomputable section

namespace Cert.DxInProof

open Cert.DxInIdeal Cert.DxInIdeal.Facts Cert.DxInIdeal.Gen Idealize.ShloMosaic Idealize.ShloMosaic.TcCoe Idealize.SL.Sem
open Cert.Swa Cert.Product Cert.Norm

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- The gradient, the weights, the rows, the gains and what is added, as launched. -/
abbrev ct (c : Dev nD) : S16384x2816.Idx → EReal := m ((c : Thread nD τ).loc main_arg0)
abbrev wt (c : Dev nD) : S1024x2816.Idx → EReal := m ((c : Thread nD τ).loc main_arg1)
abbrev h (c : Dev nD) : S16384x1024.Idx → EReal := m ((c : Thread nD τ).loc main_arg2)
abbrev g (c : Dev nD) : S1024.Idx → EReal := m ((c : Thread nD τ).loc main_arg3)
abbrev res (c : Dev nD) : S16384x1024.Idx → EReal := m ((c : Thread nD τ).loc main_arg4)

/-- The blocks of a point. -/
abbrev ctBlk (c : Dev nD) (t : Fin cfg0.N) (r : Fin 512) (k : Fin 2816) : EReal := iblk m c 0 t (ix2 r k)
abbrev wtBlk (c : Dev nD) (t : Fin cfg0.N) (j : Fin 1024) (k : Fin 2816) : EReal := iblk m c 1 t (ix2 j k)
abbrev hBlk (c : Dev nD) (t : Fin cfg0.N) (r : Fin 512) (j : Fin 1024) : EReal := iblk m c 2 t (ix2 r j)
abbrev gBlk (c : Dev nD) (t : Fin cfg0.N) (j : Fin 1024) : EReal := iblk m c 3 t (ix2 0 j)
abbrev resBlk (c : Dev nD) (t : Fin cfg0.N) (r : Fin 512) (j : Fin 1024) : EReal := iblk m c 4 t (ix2 r j)

theorem ctBlk_eq (c : Dev nD) (t : Fin cfg0.N) (r : Fin 512) (k : Fin 2816) : ctBlk m c t r k = rd (ct m c) (512 * t.val + r.val) k.val := by
  have ht : t.val < 32 := t.isLt
  refine Eq.trans ?_ (rd_at (ct m c) ⟨512 * t.val + r.val, by omega⟩ k rfl rfl)
  unfold ctBlk; blk_ext [iblk, V, idx0 t]

theorem wtBlk_eq (c : Dev nD) (t : Fin cfg0.N) (j : Fin 1024) (k : Fin 2816) : wtBlk m c t j k = rd (wt m c) j.val k.val := by
  refine Eq.trans ?_ (rd_at (wt m c) j k rfl rfl)
  unfold wtBlk; blk_ext [iblk, V, idx1 t]

theorem hBlk_eq (c : Dev nD) (t : Fin cfg0.N) (r : Fin 512) (j : Fin 1024) : hBlk m c t r j = rd (h m c) (512 * t.val + r.val) j.val := by
  have ht : t.val < 32 := t.isLt
  refine Eq.trans ?_ (rd_at (h m c) ⟨512 * t.val + r.val, by omega⟩ j rfl rfl)
  unfold hBlk; blk_ext [iblk, V, idx2 t]

theorem gains_laid (c : Dev nD) (j : Fin 1024) : V m c main_v0 (ix2 0 j) = g m c (ix1 j) := by
  unfold V
  simp only [hostOps0]
  after_reads_at

theorem gBlk_eq (c : Dev nD) (t : Fin cfg0.N) (j : Fin 1024) : gBlk m c t j = g m c (ix1 j) := by
  refine Eq.trans ?_ (gains_laid m c j)
  unfold gBlk iblk
  generalize V m c = W
  blk_ext [idx3 t]

theorem resBlk_eq (c : Dev nD) (t : Fin cfg0.N) (r : Fin 512) (j : Fin 1024) : resBlk m c t r j = rd (res m c) (512 * t.val + r.val) j.val := by
  have ht : t.val < 32 := t.isLt
  refine Eq.trans ?_ (rd_at (res m c) ⟨512 * t.val + r.val, by omega⟩ j rfl rfl)
  unfold resBlk; blk_ext [iblk, V, idx4 t]

/-- The rows that come back through the weights. -/
abbrev backRows (c : Dev nD) : ℕ → ℕ → EReal := rows (rd (ct m c)) (rd (wt m c)) 2816

/-- A tile. -/
theorem tile (x : Vec Ideal S512x2816 .bf16) (w : Vec Ideal S1024x2816 .bf16) (y : Vec Ideal S512x1024 .f32) (z : Vec Ideal S1x1024 .f32)
    (r : Vec Ideal S512x1024 .f32) (i : Fin 512) (j : Fin 1024) :
    k0_pay1 (k0_pay7 x w y z) r (ix2 i j)
      = r (ix2 i j) + grad (fun k => (∑ l : Fin 2816, x (ix2 i l) * w (ix2 k l)) * z (ix2 0 k)) (fun k => y (ix2 i k)) j := by
  unfold k0_pay1 k0_pay7 k0_pay6 k0_pay5 k0_pay3; pointwise; rfl

theorem tile_eq (c : Dev nD) (t : Fin cfg0.N) (i : Fin 512) (j : Fin 1024) :
    k0_pay1 (k0_pay7 (iblk m c 0 t) (iblk m c 1 t) (iblk m c 2 t) (iblk m c 3 t)) (iblk m c 4 t) (ix2 i j)
      = back (backRows m c) (rd (h m c)) (fun k => g m c (ix1 k)) (rd (res m c)) (512 * t.val + i.val) j :=
  (tile _ _ _ _ _ i j).trans (back_of (fun k => rows_of _ _ (ctBlk_eq m c t i) (wtBlk_eq m c t k)) (hBlk_eq m c t i) (gBlk_eq m c t) (resBlk_eq m c t i j))

/-- One point's part of the gains' gradient. -/
theorem part (x : Vec Ideal S512x2816 .bf16) (w : Vec Ideal S1024x2816 .bf16) (y : Vec Ideal S512x1024 .f32) (a : Vec Ideal S1x1024 .f32) (j : Fin 1024) :
    k0_pay8 x w y a (ix2 0 j)
      = a (ix2 0 j) + ∑ r : Fin 512, (∑ l : Fin 2816, x (ix2 r l) * w (ix2 j l)) * (y (ix2 r j) * scale fun k => y (ix2 r k)) := by
  unfold k0_pay8 k0_pay6 k0_pay5 k0_pay3; pointwise; rfl

theorem start (y : S8x1024.Idx) : k0_pay4 (F := Ideal) y = (0 : EReal) := by
  unfold k0_pay4; exact Ideal.ofBits_zero_f32

abbrev dx (c : Dev nD) (t : Fin cfg0.N) (r : Fin 512) (j : Fin 1024) : EReal := ∑ l : Fin 2816, ctBlk m c t r l * wtBlk m c t j l

theorem first (c : Dev nD) (t : Fin cfg0.N) (h0 : t.val % 32 = 0) (u : Fin 8) (j : Fin 1024) :
    (outsAt0 m c t.val t.isLt).2.2 (ix2 u j)
      = if u.val = 0 then 0 + ∑ r, dx m c t r j * (hBlk m c t r j * scale (hBlk m c t r)) else 0 := by
  rw [outsAt0_A m c t h0]; frame_out
  refine (first_top _ _ _ _ start (k0_pay8 (iblk m c 0 t) (iblk m c 1 t) (iblk m c 2 t)) u j).trans ?_
  exact if_congr Iff.rfl (part _ _ _ _ j) rfl

theorem next (c : Dev nD) (t : Fin cfg0.N) (h0 : ¬t.val % 32 = 0) (u : Fin 8) (j : Fin 1024) :
    (outsAt0 m c t.val t.isLt).2.2 (ix2 u j)
      = if u.val = 0 then (outsAt0 m c (t.val - 1) (Nat.lt_of_le_of_lt (Nat.sub_le _ _) t.isLt)).2.2 (ix2 0 j)
          + ∑ r, dx m c t r j * (hBlk m c t r j * scale (hBlk m c t r))
        else (outsAt0 m c (t.val - 1) (Nat.lt_of_le_of_lt (Nat.sub_le _ _) t.isLt)).2.2 (ix2 u j) := by
  rw [outsAt0_B m c t h0]; frame_out
  refine (next_top _ _ _ _ ((hs0_7 t).read_unread _) (k0_pay8 (iblk m c 0 t) (iblk m c 1 t) (iblk m c 2 t)) u j).trans ?_
  refine if_congr Iff.rfl ((part _ _ _ _ j).trans ?_) rfl
  exact congrArg (· + _) (ld_top _ _ j)

/-- The kernel's arrays. -/
theorem out (c : Dev nD) : (dats m 0 c).arrAt 5 cfg0.N
    = fun i : S16384x1024.Idx => back (backRows m c) (rd (h m c)) (fun k => g m c (ix1 k)) (rd (res m c)) (i 0).val (i 1) := by
  refine (dats m 0 c).arrAt_eq_of_covers 5 _ (by decide +kernel) fun t hf y => ?_
  blk_simp
  have e : (outsAt0 m c t.val t.isLt).1 = k0_pay1 (k0_pay7 (iblk m c 0 t) (iblk m c 1 t) (iblk m c 2 t) (iblk m c 3 t)) (iblk m c 4 t) := by
    by_cases h0 : t.val % 32 = 0
    · rw [outsAt0_A m c t h0]; frame_out
    · rw [outsAt0_B m c t h0]; frame_out
  rw [after0_5, e, Idealize.ShloMosaic.eq_ix2 y]
  refine (tile_eq m c t (y 0) (y 1)).trans ?_
  blk_simp [idx5 t]
  rw [Nat.mul_comm 512]
  exact congrArg (back _ _ _ _ _) (Fin.ext (by blk_simp [idx5 t]))

theorem outB (c : Dev nD) : (dats m 0 c).arrAt 6 cfg0.N
    = fun i : S16384x1024.Idx => back (backRows m c) (rd (h m c)) (fun k => g m c (ix1 k)) (rd (res m c)) (i 0).val (i 1) := by
  refine (dats m 0 c).arrAt_eq_of_covers 6 _ (by decide +kernel) fun t hf y => ?_
  blk_simp
  have e : (outsAt0 m c t.val t.isLt).2.1 = k0_pay2 (k0_pay7 (iblk m c 0 t) (iblk m c 1 t) (iblk m c 2 t) (iblk m c 3 t)) (iblk m c 4 t) := by
    by_cases h0 : t.val % 32 = 0
    · rw [outsAt0_A m c t h0]; frame_out
    · rw [outsAt0_B m c t h0]; frame_out
  rw [after0_6, e, Idealize.ShloMosaic.eq_ix2 y]
  refine (tile_eq m c t (y 0) (y 1)).trans ?_
  blk_simp [idx6 t]
  rw [Nat.mul_comm 512]
  exact congrArg (back _ _ _ _ _) (Fin.ext (by blk_simp [idx6 t]))

theorem outG (c : Dev nD) : (dats m 0 c).arrAt 7 cfg0.N
    = fun i : S8x1024.Idx => if (i 0).val = 0 then cols (backRows m c) (normed (rd (h m c))) 16384 (i 1).val (i 1).val else 0 := by
  obtain ⟨t, ht, hw⟩ : ∃ t : Fin cfg0.N, t.val = 31 ∧ (cfg0.win 7).WholeAt t := ⟨⟨31, by decide⟩, rfl, by decide +kernel⟩
  refine (dats m 0 c).arrAt_eq_of_after_last 7 t hw _ fun j => ?_
  blk_simp
  rw [after0_7]
  refine Eq.trans ?_ (gains (x := dx m c) (h := hBlk m c) (S := fun t ht u j => (outsAt0 m c t ht).2.2 (ix2 u j))
    (fun t r j => rows_of _ _ (ctBlk_eq m c t r) (wtBlk_eq m c t j)) (hBlk_eq m c) (fun _ _ => rfl) (first m c) (next m c) t (by rw [ht]; rfl) (j 0) (j 1))
  refine congrArg _ ?_
  funext a
  match a with
  | ⟨0, _⟩ => rfl
  | ⟨1, _⟩ => rfl

open Cert.DxInReferenceIdeal.Read in
/-- The reference's product. -/
theorem ref (x : S16384x2816.Idx → EReal) (y : S1024x2816.Idx → EReal) (i : Fin 16384) (j : Fin 1024) :
    val_main_v19 (F := Ideal) x y (ix2 i j) = rows (rd x) (rd y) 2816 i.val j.val :=
  (val_main_v19_apply x y _).trans (rows_of _ _ (fun l => rd_of x _ rfl rfl) fun l => rd_of y _ rfl rfl)

/-- The kernel runs and keeps its arguments. -/
theorem frame_kernel : Cert.quiescent_DxIn := fun m ρ _ => Cert.DxIn.Gen.frame m ρ

/-- The kernel over the reals runs and keeps its arguments. -/
theorem frame_kernelIdeal : Cert.quiescent_DxInIdeal := fun m ρ _ => Cert.DxInIdeal.Gen.frame m ρ

/-- The reference over the reals runs and keeps its arguments. -/
theorem frame_referenceIdeal : Cert.quiescent_DxInReferenceIdeal := fun m ρ _ =>
  (θ_run Cert.DxInReferenceIdeal.defs _ _).mono (fun r h => ⟨fun c => (h c).2.2.2, sem_eq_zero_of_no_sems (by decide) r.2⟩)
    (Cert.DxInReferenceIdeal.Value.run (F := Ideal) m ρ)

/-- The kernel's three arrays are the reference's. -/
theorem values : Cert.algebraic_DxInIdeal_DxInReferenceIdeal := by
  intro m g m' g' _ ha
  refine ⟨_, _, _,
    (θ_run _ _ _).mono (fun r h c => ⟨(h c).1.trans (out m c), (h c).2.1.trans (outB m c), (h c).2.2.1.trans (outG m c), (h c).2.2.2⟩)
      (Cert.DxInIdeal.Value.run_blocks (F := Ideal) m g),
    (θ_run _ _ _).mono (fun r h c => ⟨(h c).1.trans ?_, (h c).2.1.trans ?_, (h c).2.2.1.trans ?_, (h c).2.2.2⟩)
      (Cert.DxInReferenceIdeal.Value.run (F := Ideal) m' g')⟩
  · refine (Cert.DxInReferenceIdeal.Read.val_main_v40_eq _ _).trans ?_
    rw [(ha c).1, (ha c).2.1, (ha c).2.2.1, (ha c).2.2.2.1, (ha c).2.2.2.2]
    exact tblBack_eq (ref _ _)
  · refine (Cert.DxInReferenceIdeal.Read.val_main_v41_eq _ _).trans ?_
    rw [(ha c).1, (ha c).2.1, (ha c).2.2.1, (ha c).2.2.2.1, (ha c).2.2.2.2]
    exact tblBack_eq (ref _ _)
  · refine (Cert.DxInReferenceIdeal.Read.val_main_v43_eq _ _ _).trans ?_
    rw [(ha c).1, (ha c).2.1, (ha c).2.2.1]
    exact tblGain_eq (ref _ _)

end Cert.DxInProof

end
-- ==== Proof.DxGate.lean ====
/- The gradient that the gate's weights bring back through the norm of the gate's input rows: like the mixer's input, with square
   weights and 1024 rows for each of the sixteen points. -/
module

public import proofs.«01_k».proof.Proof.Gen.DxGateIdeal.Value
public import proofs.«01_k».proof.Defs
public import proofs.«01_k».proof.Proof.Gen.DxGate.Frame
public import proofs.«01_k».proof.Proof.Gen.DxGateReferenceIdeal.Run
public import proofs.«01_k».proof.Proof.Gen.DxGateReferenceIdeal.Read
public import Idealize.ShloMosaic.Adequacy
public import Idealize.ShloMosaic.Init
public import Idealize.ShloMosaic.Lib.Claim
public import Idealize.ShloMosaic.Lib.StableHlo.ReadAt
public import Idealize.ShloMosaic.Lib.Pipeline.ReadBack
public import Idealize.ShloMosaic.Lib.Pipeline.ValueKit.Tiles
public import Idealize.ShloMosaic.Lib.Pipeline.ValueKit.Geometry
public import proofs.«01_k».proof.Proof.NormRef
public import proofs.«01_k».proof.Proof.NormStore

@[expose] public section

set_option maxRecDepth 16384

noncomputable section

namespace Cert.DxGateProof

open Cert.DxGateIdeal Cert.DxGateIdeal.Facts Cert.DxGateIdeal.Gen Idealize.ShloMosaic Idealize.ShloMosaic.TcCoe Idealize.SL.Sem
open Cert.Swa Cert.Product Cert.Norm

variable (m : (ℓ : Loc nD τ sig) → Buf (Elt Ideal) ℓ)

/-- The arrays of 16384 rows move down together. -/
theorem idx (t : Fin cfg0.N) : win0_0.index t = ![t.val, 0] ∧ win0_2.index t = ![t.val, 0] ∧ win0_4.index t = ![t.val, 0]
    ∧ win0_5.index t = ![t.val, 0] ∧ win0_6.index t = ![t.val, 0] :=
  (by decide +kernel : ∀ t : Fin grid0.N, win0_0.index t = ![t.val, 0] ∧ win0_2.index t = ![t.val, 0] ∧ win0_4.index t = ![t.val, 0]
    ∧ win0_5.index t = ![t.val, 0] ∧ win0_6.index t = ![t.val, 0]) t

/-- The weights and the gains stay. -/
theorem stay (t : Fin cfg0.N) : win0_1.index t = ![0, 0] ∧ win0_3.index t = ![0, 0] :=
  (by decide +kernel : ∀ t : Fin grid0.N, win0_1.index t = ![0, 0] ∧ win0_3.index t = ![0, 0]) t

/-- The gradient, the weights, the rows, the gains and what is added, as launched. -/
abbrev ct (c : Dev nD) : S16384x1024.Idx → EReal := m ((c : Thread nD τ).loc main_arg0)
abbrev wt (c : Dev nD) : S1024x1024.Idx → EReal := m ((c : Thread nD τ).loc main_arg1)
abbrev h (c : Dev nD) : S16384x1024.Idx → EReal := m ((c : Thread nD τ).loc main_arg2)
abbrev g (c : Dev nD) : S1024.Idx → EReal := m ((c : Thread nD τ).loc main_arg3)
abbrev res (c : Dev nD) : S16384x1024.Idx → EReal := m ((c : Thread nD τ).loc main_arg4)

/-- The blocks of a point. -/
abbrev ctBlk (c : Dev nD) (t : Fin cfg0.N) (r k : Fin 1024) : EReal := iblk m c 0 t (ix2 r k)
abbrev wtBlk (c : Dev nD) (t : Fin cfg0.N) (j k : Fin 1024) : EReal := iblk m c 1 t (ix2 j k)
abbrev hBlk (c : Dev nD) (t : Fin cfg0.N) (r j : Fin 1024) : EReal := iblk m c 2 t (ix2 r j)
abbrev gBlk (c : Dev nD) (t : Fin cfg0.N) (j : Fin 1024) : EReal := iblk m c 3 t (ix2 0 j)
abbrev resBlk (c : Dev nD) (t : Fin cfg0.N) (r j : Fin 1024) : EReal := iblk m c 4 t (ix2 r j)

theorem row_lt (t : Fin cfg0.N) (r : Fin 1024) : 1024 * t.val + r.val < 16384 := by
  have ht : t.val < 16 := t.isLt
  omega

theorem ctBlk_eq (c : Dev nD) (t : Fin cfg0.N) (r k : Fin 1024) : ctBlk m c t r k = rd (ct m c) (1024 * t.val + r.val) k.val := by
  refine Eq.trans ?_ (rd_at (ct m c) ⟨_, row_lt t r⟩ k rfl rfl)
  unfold ctBlk; blk_ext [iblk, V, (idx t).1]

theorem wtBlk_eq (c : Dev nD) (t : Fin cfg0.N) (j k : Fin 1024) : wtBlk m c t j k = rd (wt m c) j.val k.val := by
  refine Eq.trans ?_ (rd_at (wt m c) j k rfl rfl)
  unfold wtBlk; blk_ext [iblk, V, (stay t).1]

theorem hBlk_eq (c : Dev nD) (t : Fin cfg0.N) (r j : Fin 1024) : hBlk m c t r j = rd (h m c) (1024 * t.val + r.val) j.val := by
  refine Eq.trans ?_ (rd_at (h m c) ⟨_, row_lt t r⟩ j rfl rfl)
  unfold hBlk; blk_ext [iblk, V, (idx t).2.1]

theorem gains_laid (c : Dev nD) (j : Fin 1024) : V m c main_v0 (ix2 0 j) = g m c (ix1 j) := by
  unfold V
  simp only [hostOps0]
  after_reads_at

theorem gBlk_eq (c : Dev nD) (t : Fin cfg0.N) (j : Fin 1024) : gBlk m c t j = g m c (ix1 j) := by
  refine Eq.trans ?_ (gains_laid m c j)
  unfold gBlk iblk
  generalize V m c = W
  blk_ext [(stay t).2]

theorem resBlk_eq (c : Dev nD) (t : Fin cfg0.N) (r j : Fin 1024) : resBlk m c t r j = rd (res m c) (1024 * t.val + r.val) j.val := by
  refine Eq.trans ?_ (rd_at (res m c) ⟨_, row_lt t r⟩ j rfl rfl)
  unfold resBlk; blk_ext [iblk, V, (idx t).2.2.1]

/-- The rows that come back through the weights, and what the rows of the input get. -/
abbrev backRows (c : Dev nD) : ℕ → ℕ → EReal := rows (rd (ct m c)) (rd (wt m c)) 1024
abbrev grads (c : Dev nD) : ℕ → Fin 1024 → EReal := back (backRows m c) (rd (h m c)) (fun k => g m c (ix1 k)) (rd (res m c))

/-- A tile. -/
theorem tile (x w : Vec Ideal S1024x1024 .bf16) (y : Vec Ideal S1024x1024 .f32) (z : Vec Ideal S1x1024 .f32) (r : Vec Ideal S1024x1024 .f32) (i j : Fin 1024) :
    k0_pay1 (k0_pay7 x w y z) r (ix2 i j)
      = r (ix2 i j) + grad (fun k => (∑ l : Fin 1024, x (ix2 i l) * w (ix2 k l)) * z (ix2 0 k)) (fun k => y (ix2 i k)) j := by
  unfold k0_pay1 k0_pay7 k0_pay6 k0_pay5 k0_pay3; pointwise; rfl

theorem tile_eq (c : Dev nD) (t : Fin cfg0.N) (i j : Fin 1024) :
    k0_pay1 (k0_pay7 (iblk m c 0 t) (iblk m c 1 t) (iblk m c 2 t) (iblk m c 3 t)) (iblk m c 4 t) (ix2 i j) = grads m c (1024 * t.val + i.val) j :=
  (tile _ _ _ _ _ i j).trans (back_of (fun k => rows_of _ _ (ctBlk_eq m c t i) (wtBlk_eq m c t k)) (hBlk_eq m c t i) (gBlk_eq m c t) (resBlk_eq m c t i j))

/-- One point's part of the gains' gradient. -/
theorem part (x w : Vec Ideal S1024x1024 .bf16) (y : Vec Ideal S1024x1024 .f32) (a : Vec Ideal S1x1024 .f32) (j : Fin 1024) :
    k0_pay8 x w y a (ix2 0 j)
      = a (ix2 0 j) + ∑ r : Fin 1024, (∑ l : Fin 1024, x (ix2 r l) * w (ix2 j l)) * (y (ix2 r j) * scale fun k => y (ix2 r k)) := by
  unfold k0_pay8 k0_pay6 k0_pay5 k0_pay3; pointwise; rfl

theorem start (y : S8x1024.Idx) : k0_pay4 (F := Ideal) y = (0 : EReal) := by
  unfold k0_pay4; exact Ideal.ofBits_zero_f32

abbrev dx (c : Dev nD) (t : Fin cfg0.N) (r j : Fin 1024) : EReal := ∑ l : Fin 1024, ctBlk m c t r l * wtBlk m c t j l

theorem first (c : Dev nD) (t : Fin cfg0.N) (h0 : t.val % 16 = 0) (u : Fin 8) (j : Fin 1024) :
    (outsAt0 m c t.val t.isLt).2.2 (ix2 u j)
      = if u.val = 0 then 0 + ∑ r, dx m c t r j * (hBlk m c t r j * scale (hBlk m c t r)) else 0 := by
  rw [outsAt0_A m c t h0]; frame_out
  refine (first_top _ _ _ _ start (k0_pay8 (iblk m c 0 t) (iblk m c 1 t) (iblk m c 2 t)) u j).trans ?_
  exact if_congr Iff.rfl (part _ _ _ _ j) rfl

theorem next (c : Dev nD) (t : Fin cfg0.N) (h0 : ¬t.val % 16 = 0) (u : Fin 8) (j : Fin 1024) :
    (outsAt0 m c t.val t.isLt).2.2 (ix2 u j)
      = if u.val = 0 then (outsAt0 m c (t.val - 1) (Nat.lt_of_le_of_lt (Nat.sub_le _ _) t.isLt)).2.2 (ix2 0 j)
          + ∑ r, dx m c t r j * (hBlk m c t r j * scale (hBlk m c t r))
        else (outsAt0 m c (t.val - 1) (Nat.lt_of_le_of_lt (Nat.sub_le _ _) t.isLt)).2.2 (ix2 u j) := by
  rw [outsAt0_B m c t h0]; frame_out
  refine (next_top _ _ _ _ ((hs0_7 t).read_unread _) (k0_pay8 (iblk m c 0 t) (iblk m c 1 t) (iblk m c 2 t)) u j).trans ?_
  exact if_congr Iff.rfl ((part _ _ _ _ j).trans (congrArg (· + _) (ld_top _ _ j))) rfl

/-- What a point leaves in the two outputs of rows. -/
theorem left (c : Dev nD) (t : Fin cfg0.N) (i j : Fin 1024) :
    (outsAt0 m c t.val t.isLt).1 (ix2 i j) = grads m c (1024 * t.val + i.val) j
    ∧ (outsAt0 m c t.val t.isLt).2.1 (ix2 i j) = grads m c (1024 * t.val + i.val) j := by
  by_cases h0 : t.val % 16 = 0
  · rw [outsAt0_A m c t h0]; frame_out; exact ⟨tile_eq m c t i j, tile_eq m c t i j⟩
  · rw [outsAt0_B m c t h0]; frame_out; exact ⟨tile_eq m c t i j, tile_eq m c t i j⟩

/-- The kernel's arrays. -/
theorem out (c : Dev nD) : (dats m 0 c).arrAt 5 cfg0.N = fun i : S16384x1024.Idx => grads m c (i 0).val (i 1) := by
  refine (dats m 0 c).arrAt_eq_of_covers 5 _ (by decide +kernel) fun t hf y => ?_
  blk_simp
  rw [after0_5, Idealize.ShloMosaic.eq_ix2 y]
  refine (left m c t (y 0) (y 1)).1.trans ?_
  blk_simp [(idx t).2.2.2.1]
  rw [Nat.mul_comm 1024]
  exact congrArg (grads m c _) (Fin.ext (by blk_simp [(idx t).2.2.2.1]))

theorem outB (c : Dev nD) : (dats m 0 c).arrAt 6 cfg0.N = fun i : S16384x1024.Idx => grads m c (i 0).val (i 1) := by
  refine (dats m 0 c).arrAt_eq_of_covers 6 _ (by decide +kernel) fun t hf y => ?_
  blk_simp
  rw [after0_6, Idealize.ShloMosaic.eq_ix2 y]
  refine (left m c t (y 0) (y 1)).2.trans ?_
  blk_simp [(idx t).2.2.2.2]
  rw [Nat.mul_comm 1024]
  exact congrArg (grads m c _) (Fin.ext (by blk_simp [(idx t).2.2.2.2]))

theorem outG (c : Dev nD) : (dats m 0 c).arrAt 7 cfg0.N
    = fun i : S8x1024.Idx => if (i 0).val = 0 then cols (backRows m c) (normed (rd (h m c))) 16384 (i 1).val (i 1).val else 0 := by
  obtain ⟨t, ht, hw⟩ : ∃ t : Fin cfg0.N, t.val = 15 ∧ (cfg0.win 7).WholeAt t := ⟨⟨15, by decide⟩, rfl, by decide +kernel⟩
  refine (dats m 0 c).arrAt_eq_of_after_last 7 t hw _ fun j => ?_
  blk_simp
  rw [after0_7]
  refine Eq.trans ?_ (gains (x := dx m c) (h := hBlk m c) (S := fun t ht u j => (outsAt0 m c t ht).2.2 (ix2 u j))
    (fun t r j => rows_of _ _ (ctBlk_eq m c t r) (wtBlk_eq m c t j)) (hBlk_eq m c) (fun _ _ => rfl) (first m c) (next m c) t (by rw [ht]; rfl) (j 0) (j 1))
  refine congrArg _ ?_
  funext a
  match a with
  | ⟨0, _⟩ => rfl
  | ⟨1, _⟩ => rfl

open Cert.DxGateReferenceIdeal.Read in
/-- The reference's product. -/
theorem ref (x : S16384x1024.Idx → EReal) (y : S1024x1024.Idx → EReal) (i : Fin 16384) (j : Fin 1024) :
    val_main_v19 (F := Ideal) x y (ix2 i j) = rows (rd x) (rd y) 1024 i.val j.val :=
  (val_main_v19_apply x y _).trans (rows_of _ _ (fun l => rd_of x _ rfl rfl) fun l => rd_of y _ rfl rfl)

/-- The kernel runs and keeps its arguments. -/
theorem frame_kernel : Cert.quiescent_DxGate := fun m ρ _ => Cert.DxGate.Gen.frame m ρ

/-- The kernel over the reals runs and keeps its arguments. -/
theorem frame_kernelIdeal : Cert.quiescent_DxGateIdeal := fun m ρ _ => Cert.DxGateIdeal.Gen.frame m ρ

/-- The reference over the reals runs and keeps its arguments. -/
theorem frame_referenceIdeal : Cert.quiescent_DxGateReferenceIdeal := fun m ρ _ =>
  (θ_run Cert.DxGateReferenceIdeal.defs _ _).mono (fun r h => ⟨fun c => (h c).2.2.2, sem_eq_zero_of_no_sems (by decide) r.2⟩)
    (Cert.DxGateReferenceIdeal.Value.run (F := Ideal) m ρ)

/-- The kernel's three arrays are the reference's. -/
theorem values : Cert.algebraic_DxGateIdeal_DxGateReferenceIdeal := by
  intro m g m' g' _ ha
  refine ⟨_, _, _,
    (θ_run _ _ _).mono (fun r h c => ⟨(h c).1.trans (out m c), (h c).2.1.trans (outB m c), (h c).2.2.1.trans (outG m c), (h c).2.2.2⟩)
      (Cert.DxGateIdeal.Value.run_blocks (F := Ideal) m g),
    (θ_run _ _ _).mono (fun r h c => ⟨(h c).1.trans ?_, (h c).2.1.trans ?_, (h c).2.2.1.trans ?_, (h c).2.2.2⟩)
      (Cert.DxGateReferenceIdeal.Value.run (F := Ideal) m' g')⟩
  · refine (Cert.DxGateReferenceIdeal.Read.val_main_v40_eq _ _).trans ?_
    rw [(ha c).1, (ha c).2.1, (ha c).2.2.1, (ha c).2.2.2.1, (ha c).2.2.2.2]
    exact tblBack_eq (ref _ _)
  · refine (Cert.DxGateReferenceIdeal.Read.val_main_v41_eq _ _).trans ?_
    rw [(ha c).1, (ha c).2.1, (ha c).2.2.1, (ha c).2.2.2.1, (ha c).2.2.2.2]
    exact tblBack_eq (ref _ _)
  · refine (Cert.DxGateReferenceIdeal.Read.val_main_v43_eq _ _ _).trans ?_
    rw [(ha c).1, (ha c).2.1, (ha c).2.2.1]
    exact tblGain_eq (ref _ _)

end Cert.DxGateProof

end
-- ==== Proof.FwdIn.lean ====
/- The mixer's projections of the normed rows: each point of the grid makes 1024 rows of half the columns. -/
module

public import proofs.«01_k».proof.Proof.Gen.FwdInIdeal.Value
public import proofs.«01_k».proof.Defs
public import proofs.«01_k».proof.Proof.Gen.FwdIn.Frame
public import proofs.«01_k».proof.Proof.Gen.FwdInReferenceIdeal.Run
public import proofs.«01_k».proof.Proof.Gen.FwdInReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.FwdInProof

open Cert.FwdInIdeal Cert.FwdInIdeal.Facts Cert.FwdInIdeal.Gen Idealize.ShloMosaic Idealize.ShloMosaic.TcCoe Idealize.SL.Sem
open Cert.Swa Cert.Product

variable (m : (ℓ : Loc nD τ sig) → Buf (Elt Ideal) ℓ)

theorem idx0 : ∀ t : Fin cfg0.N, win0_0.index t = ![t.val % 16, 0] := (by decide +kernel : ∀ t : Fin grid0.N, _)
theorem idx1 : ∀ t : Fin cfg0.N, win0_1.index t = ![0, t.val / 16] := (by decide +kernel : ∀ t : Fin grid0.N, _)
theorem idx2 : ∀ t : Fin cfg0.N, win0_2.index t = ![t.val % 16, t.val / 16] := (by decide +kernel : ∀ t : Fin grid0.N, _)

/-- The rows and the weights as launched. -/
abbrev x (c : Dev nD) : S16384x1024.Idx → EReal := m ((c : Thread nD τ).loc main_arg0)
abbrev wt (c : Dev nD) : S1024x2816.Idx → EReal := m ((c : Thread nD τ).loc main_arg1)

theorem xBlk_eq (c : Dev nD) (t : Fin cfg0.N) (i k : Fin 1024) : iblk m c 0 t (ix2 i k) = rd (x m c) (1024 * (t.val % 16) + i.val) k.val := by
  refine Eq.trans ?_ (rd_at (x m c) ⟨1024 * (t.val % 16) + i.val, by omega⟩ k rfl rfl)
  blk_ext [iblk, V, idx0 t]

theorem wtBlk_eq (c : Dev nD) (t : Fin cfg0.N) (j : Fin 1408) (k : Fin 1024) :
    iblk m c 1 t (ix2 k j) = across (rd (wt m c)) (1408 * (t.val / 16) + j.val) k.val := by
  have ht : t.val < 32 := t.isLt
  refine Eq.trans ?_ (rd_at (wt m c) k ⟨1408 * (t.val / 16) + j.val, by omega⟩ rfl rfl)
  blk_ext [iblk, V, idx1 t]

/-- A tile: rows times columns. -/
theorem tile (x : Vec Ideal S1024x1024 .bf16) (y : Vec Ideal S1024x1408 .bf16) (i : Fin 1024) (j : Fin 1408) :
    k0_pay1 x y (ix2 i j) = ∑ k : Fin 1024, x (ix2 i k) * y (ix2 k j) := by
  unfold k0_pay1; pointwise

/-- The kernel's array. -/
theorem out (c : Dev nD) : (dats m 0 c).arrAt 2 cfg0.N
    = fun i : S16384x2816.Idx => rows (rd (x m c)) (across (rd (wt m c))) 1024 (i 0).val (i 1).val := by
  refine (dats m 0 c).arrAt_eq_of_covers 2 _ (by decide +kernel) fun t hf y => ?_
  blk_simp
  rw [after0_2]; frame_out
  rw [Idealize.ShloMosaic.eq_ix2 y]
  refine (tile _ _ (y 0) (y 1)).trans ((rows_of _ _ (xBlk_eq m c t (y 0)) (wtBlk_eq m c t (y 1))).trans ?_)
  blk_simp [idx2 t]
  rw [Nat.mul_comm 1408, Nat.mul_comm 1024]

open Cert.FwdInReferenceIdeal.Read in
/-- The reference's array. -/
theorem ref (x : S16384x1024.Idx → EReal) (y : S1024x2816.Idx → EReal) :
    (val_main_v2 (F := Ideal) x y : S16384x2816.Idx → EReal) = fun i => rows (rd x) (across (rd y)) 1024 (i 0).val (i 1).val :=
  tbl_ext fun r k =>
    (val_main_v2_apply x y _).trans (rows_of _ _ (fun l => rd_of x _ rfl rfl) fun l => rd_of y _ rfl rfl)

/-- The kernel runs and keeps its arguments. -/
theorem frame_kernel : Cert.quiescent_FwdIn := fun m ρ _ => Cert.FwdIn.Gen.frame m ρ

/-- The kernel over the reals runs and keeps its arguments. -/
theorem frame_kernelIdeal : Cert.quiescent_FwdInIdeal := fun m ρ _ => Cert.FwdInIdeal.Gen.frame m ρ

/-- The reference over the reals runs and keeps its arguments. -/
theorem frame_referenceIdeal : Cert.quiescent_FwdInReferenceIdeal := fun m ρ _ =>
  (θ_run Cert.FwdInReferenceIdeal.defs _ _).mono (fun r h => ⟨fun c => (h c).2, sem_eq_zero_of_no_sems (by decide) r.2⟩)
    (Cert.FwdInReferenceIdeal.Value.run (F := Ideal) m ρ)

/-- The kernel's array is the reference's. -/
theorem values : Cert.algebraic_FwdInIdeal_FwdInReferenceIdeal := by
  intro m g m' g' _ ha
  refine ⟨_,
    (θ_run _ _ _).mono (fun r h c => ⟨(h c).1.trans (out m c), (h c).2⟩) (Cert.FwdInIdeal.Value.run_blocks (F := Ideal) m g),
    (θ_run _ _ _).mono (fun r h c => ⟨(h c).1.trans ?_, (h c).2⟩) (Cert.FwdInReferenceIdeal.Value.run (F := Ideal) m' g')⟩
  rw [(ha c).1, (ha c).2]
  exact (Cert.FwdInReferenceIdeal.Read.val_main_v2_eq _ _).trans (ref _ _)

end Cert.FwdInProof

end
-- ==== Proof.FwdUp.lean ====
/- The gated layer's two first products as one: each point of the grid makes 1024 rows of a quarter of the columns. -/
module

public import proofs.«01_k».proof.Proof.Gen.FwdUpIdeal.Value
public import proofs.«01_k».proof.Defs
public import proofs.«01_k».proof.Proof.Gen.FwdUp.Frame
public import proofs.«01_k».proof.Proof.Gen.FwdUpReferenceIdeal.Run
public import proofs.«01_k».proof.Proof.Gen.FwdUpReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.FwdUpProof

open Cert.FwdUpIdeal Cert.FwdUpIdeal.Facts Cert.FwdUpIdeal.Gen Idealize.ShloMosaic Idealize.ShloMosaic.TcCoe Idealize.SL.Sem
open Cert.Swa Cert.Product

variable (m : (ℓ : Loc nD τ sig) → Buf (Elt Ideal) ℓ)

/-- The rows start again for every quarter of the columns. -/
theorem idx (t : Fin cfg0.N) : win0_0.index t = ![t.val % 16, 0] ∧ win0_1.index t = ![0, t.val / 16] ∧ win0_2.index t = ![t.val % 16, t.val / 16] :=
  (by decide +kernel : ∀ t : Fin grid0.N,
    win0_0.index t = ![t.val % 16, 0] ∧ win0_1.index t = ![0, t.val / 16] ∧ win0_2.index t = ![t.val % 16, t.val / 16]) t

/-- The rows and the weights as launched. -/
abbrev x (c : Dev nD) : S16384x1024.Idx → EReal := m ((c : Thread nD τ).loc main_arg0)
abbrev wt (c : Dev nD) : S1024x5632.Idx → EReal := m ((c : Thread nD τ).loc main_arg1)

theorem xBlk_eq (c : Dev nD) (t : Fin cfg0.N) (i k : Fin 1024) : iblk m c 0 t (ix2 i k) = rd (x m c) (1024 * (t.val % 16) + i.val) k.val := by
  refine Eq.trans ?_ (rd_at (x m c) ⟨1024 * (t.val % 16) + i.val, by omega⟩ k rfl rfl)
  blk_ext [iblk, V, (idx t).1]

theorem wtBlk_eq (c : Dev nD) (t : Fin cfg0.N) (j : Fin 1408) (k : Fin 1024) :
    iblk m c 1 t (ix2 k j) = across (rd (wt m c)) (1408 * (t.val / 16) + j.val) k.val := by
  have ht : t.val < 64 := t.isLt
  refine Eq.trans ?_ (rd_at (wt m c) k ⟨1408 * (t.val / 16) + j.val, by omega⟩ rfl rfl)
  blk_ext [iblk, V, (idx t).2.1]

/-- A tile: rows times columns. -/
theorem tile (x : Vec Ideal S1024x1024 .bf16) (y : Vec Ideal S1024x1408 .bf16) (i : Fin 1024) (j : Fin 1408) :
    k0_pay1 x y (ix2 i j) = ∑ k : Fin 1024, x (ix2 i k) * y (ix2 k j) := by
  unfold k0_pay1; pointwise

/-- The kernel's array. -/
theorem out (c : Dev nD) : (dats m 0 c).arrAt 2 cfg0.N
    = fun i : S16384x5632.Idx => rows (rd (x m c)) (across (rd (wt m c))) 1024 (i 0).val (i 1).val := by
  refine (dats m 0 c).arrAt_eq_of_covers 2 _ (by decide +kernel) fun t hf y => ?_
  blk_simp
  rw [after0_2]; frame_out
  rw [Idealize.ShloMosaic.eq_ix2 y]
  refine (tile _ _ (y 0) (y 1)).trans ((rows_of _ _ (xBlk_eq m c t (y 0)) (wtBlk_eq m c t (y 1))).trans ?_)
  blk_simp [(idx t).2.2]
  rw [Nat.mul_comm 1408, Nat.mul_comm 1024]

open Cert.FwdUpReferenceIdeal.Read in
/-- The reference's array. -/
theorem ref (x : S16384x1024.Idx → EReal) (y : S1024x5632.Idx → EReal) :
    (val_main_v3 (F := Ideal) x y : S16384x5632.Idx → EReal) = fun i => rows (rd x) (across (rd y)) 1024 (i 0).val (i 1).val :=
  tbl_ext fun r k => by
    rw [val_main_v3_apply]
    exact (val_main_v2_apply x y _).trans (rows_of _ _ (fun l => rd_of x _ rfl rfl) fun l => rd_of y _ rfl rfl)

/-- The kernel runs and keeps its arguments. -/
theorem frame_kernel : Cert.quiescent_FwdUp := fun m ρ _ => Cert.FwdUp.Gen.frame m ρ

/-- The kernel over the reals runs and keeps its arguments. -/
theorem frame_kernelIdeal : Cert.quiescent_FwdUpIdeal := fun m ρ _ => Cert.FwdUpIdeal.Gen.frame m ρ

/-- The reference over the reals runs and keeps its arguments. -/
theorem frame_referenceIdeal : Cert.quiescent_FwdUpReferenceIdeal := fun m ρ _ =>
  (θ_run Cert.FwdUpReferenceIdeal.defs _ _).mono (fun r h => ⟨fun c => (h c).2, sem_eq_zero_of_no_sems (by decide) r.2⟩)
    (Cert.FwdUpReferenceIdeal.Value.run (F := Ideal) m ρ)

/-- The kernel's array is the reference's. -/
theorem values : Cert.algebraic_FwdUpIdeal_FwdUpReferenceIdeal := by
  intro m g m' g' _ ha
  refine ⟨_,
    (θ_run _ _ _).mono (fun r h c => ⟨(h c).1.trans (out m c), (h c).2⟩) (Cert.FwdUpIdeal.Value.run_blocks (F := Ideal) m g),
    (θ_run _ _ _).mono (fun r h c => ⟨(h c).1.trans ?_, (h c).2⟩) (Cert.FwdUpReferenceIdeal.Value.run (F := Ideal) m' g')⟩
  rw [(ha c).1, (ha c).2]
  exact (Cert.FwdUpReferenceIdeal.Read.val_main_v3_eq _ _).trans (ref _ _)

end Cert.FwdUpProof

end
-- ==== Proof.FwdGate.lean ====
/- The gate's product: each point of the grid makes 1024 rows of it. -/
module

public import proofs.«01_k».proof.Proof.Gen.FwdGateIdeal.Value
public import proofs.«01_k».proof.Defs
public import proofs.«01_k».proof.Proof.Gen.FwdGate.Frame
public import proofs.«01_k».proof.Proof.Gen.FwdGateReferenceIdeal.Run
public import proofs.«01_k».proof.Proof.Gen.FwdGateReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import proofs.«01_k».proof.Proof.Product

@[expose] public section

set_option maxRecDepth 16384

noncomputable section

namespace Cert.FwdGateProof

open Cert.FwdGateIdeal Cert.FwdGateIdeal.Facts Cert.FwdGateIdeal.Gen Idealize.ShloMosaic Idealize.ShloMosaic.TcCoe Idealize.SL.Sem
open Cert.Swa Cert.Product

variable (m : (ℓ : Loc nD τ sig) → Buf (Elt Ideal) ℓ)

/-- The rows and the result move down together, and the weights stay. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- The rows and the weights as launched. -/
abbrev x (c : Dev nD) : S16384x1024.Idx → EReal := m ((c : Thread nD τ).loc main_arg0)
abbrev wt (c : Dev nD) : S1024x1024.Idx → EReal := m ((c : Thread nD τ).loc main_arg1)

theorem xBlk_eq (c : Dev nD) (t : Fin cfg0.N) (i k : Fin 1024) : iblk m c 0 t (ix2 i k) = rd (x m c) (1024 * t.val + i.val) k.val := by
  have ht : t.val < 16 := t.isLt
  refine Eq.trans ?_ (rd_at (x m c) ⟨1024 * t.val + i.val, by omega⟩ k rfl rfl)
  blk_ext [iblk, V, (idx t).1]

theorem wtBlk_eq (c : Dev nD) (t : Fin cfg0.N) (j k : Fin 1024) : iblk m c 1 t (ix2 k j) = across (rd (wt m c)) j.val k.val := by
  refine Eq.trans ?_ (rd_at (wt m c) k j rfl rfl)
  blk_ext [iblk, V, (idx t).2.1]

/-- A tile: rows times columns. -/
theorem tile (x y : Vec Ideal S1024x1024 .bf16) (i j : Fin 1024) :
    k0_pay1 x y (ix2 i j) = ∑ k : Fin 1024, x (ix2 i k) * y (ix2 k j) := by
  unfold k0_pay1; pointwise

/-- The kernel's array. -/
theorem out (c : Dev nD) : (dats m 0 c).arrAt 2 cfg0.N
    = fun i : S16384x1024.Idx => rows (rd (x m c)) (across (rd (wt m c))) 1024 (i 0).val (i 1).val := by
  refine (dats m 0 c).arrAt_eq_of_covers 2 _ (by decide +kernel) fun t hf y => ?_
  blk_simp
  rw [after0_2]; frame_out
  rw [Idealize.ShloMosaic.eq_ix2 y]
  refine (tile _ _ (y 0) (y 1)).trans ((rows_of _ _ (xBlk_eq m c t (y 0)) (wtBlk_eq m c t (y 1))).trans ?_)
  blk_simp [(idx t).2.2]
  rw [Nat.mul_comm 1024]

open Cert.FwdGateReferenceIdeal.Read in
/-- The reference's array. -/
theorem ref (x : S16384x1024.Idx → EReal) (y : S1024x1024.Idx → EReal) :
    (val_main_v3 (F := Ideal) x y : S16384x1024.Idx → EReal) = fun i => rows (rd x) (across (rd y)) 1024 (i 0).val (i 1).val :=
  tbl_ext fun r k => by
    rw [val_main_v3_apply]
    exact (val_main_v2_apply x y _).trans (rows_of _ _ (fun l => rd_of x _ rfl rfl) fun l => rd_of y _ rfl rfl)

/-- The kernel runs and keeps its arguments. -/
theorem frame_kernel : Cert.quiescent_FwdGate := fun m ρ _ => Cert.FwdGate.Gen.frame m ρ

/-- The kernel over the reals runs and keeps its arguments. -/
theorem frame_kernelIdeal : Cert.quiescent_FwdGateIdeal := fun m ρ _ => Cert.FwdGateIdeal.Gen.frame m ρ

/-- The reference over the reals runs and keeps its arguments. -/
theorem frame_referenceIdeal : Cert.quiescent_FwdGateReferenceIdeal := fun m ρ _ =>
  (θ_run Cert.FwdGateReferenceIdeal.defs _ _).mono (fun r h => ⟨fun c => (h c).2, sem_eq_zero_of_no_sems (by decide) r.2⟩)
    (Cert.FwdGateReferenceIdeal.Value.run (F := Ideal) m ρ)

/-- The kernel's array is the reference's. -/
theorem values : Cert.algebraic_FwdGateIdeal_FwdGateReferenceIdeal := by
  intro m g m' g' _ ha
  refine ⟨_,
    (θ_run _ _ _).mono (fun r h c => ⟨(h c).1.trans (out m c), (h c).2⟩) (Cert.FwdGateIdeal.Value.run_blocks (F := Ideal) m g),
    (θ_run _ _ _).mono (fun r h c => ⟨(h c).1.trans ?_, (h c).2⟩) (Cert.FwdGateReferenceIdeal.Value.run (F := Ideal) m' g')⟩
  rw [(ha c).1, (ha c).2]
  exact (Cert.FwdGateReferenceIdeal.Read.val_main_v3_eq _ _).trans (ref _ _)

end Cert.FwdGateProof

end
-- ==== Proof.FwdOut.lean ====
/- The output projection with what it is added to, and the norm of the sum: each point of the grid makes 1024 rows of both. -/
module

public import proofs.«01_k».proof.Proof.Gen.FwdOutIdeal.Value
public import proofs.«01_k».proof.Defs
public import proofs.«01_k».proof.Proof.Gen.FwdOut.Frame
public import proofs.«01_k».proof.Proof.Gen.FwdOutReferenceIdeal.Run
public import proofs.«01_k».proof.Proof.Gen.FwdOutReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import Idealize.ShloMosaic.Lib.StableHlo.ReadAt
public import proofs.«01_k».proof.Proof.NormRef

@[expose] public section

set_option maxRecDepth 16384

noncomputable section

namespace Cert.FwdOutProof

open Cert.FwdOutIdeal Cert.FwdOutIdeal.Facts Cert.FwdOutIdeal.Gen Idealize.ShloMosaic Idealize.ShloMosaic.TcCoe Idealize.SL.Sem
open Cert.Swa Cert.Product Cert.Norm

variable (m : (ℓ : Loc nD τ sig) → Buf (Elt Ideal) ℓ)

/-- The arrays of 16384 rows move down together. -/
theorem idx (t : Fin cfg0.N) : win0_0.index t = ![t.val, 0] ∧ win0_2.index t = ![t.val, 0] ∧ win0_4.index t = ![t.val, 0] ∧ win0_5.index t = ![t.val, 0] :=
  (by decide +kernel : ∀ t : Fin grid0.N,
    win0_0.index t = ![t.val, 0] ∧ win0_2.index t = ![t.val, 0] ∧ win0_4.index t = ![t.val, 0] ∧ win0_5.index t = ![t.val, 0]) t

/-- The weights and the gains stay. -/
theorem stay (t : Fin cfg0.N) : win0_1.index t = ![0, 0] ∧ win0_3.index t = ![0, 0] :=
  (by decide +kernel : ∀ t : Fin grid0.N, win0_1.index t = ![0, 0] ∧ win0_3.index t = ![0, 0]) t

/-- The rows, the weights, what is added and the gains, as launched. -/
abbrev y (c : Dev nD) : S16384x1024.Idx → EReal := m ((c : Thread nD τ).loc main_arg0)
abbrev wt (c : Dev nD) : S1024x1024.Idx → EReal := m ((c : Thread nD τ).loc main_arg1)
abbrev h (c : Dev nD) : S16384x1024.Idx → EReal := m ((c : Thread nD τ).loc main_arg2)
abbrev g (c : Dev nD) : S1024.Idx → EReal := m ((c : Thread nD τ).loc main_arg3)

/-- The blocks of a point. -/
abbrev yBlk (c : Dev nD) (t : Fin cfg0.N) (r k : Fin 1024) : EReal := iblk m c 0 t (ix2 r k)
abbrev wtBlk (c : Dev nD) (t : Fin cfg0.N) (j k : Fin 1024) : EReal := iblk m c 1 t (ix2 k j)
abbrev hBlk (c : Dev nD) (t : Fin cfg0.N) (r j : Fin 1024) : EReal := iblk m c 2 t (ix2 r j)
abbrev gBlk (c : Dev nD) (t : Fin cfg0.N) (j : Fin 1024) : EReal := iblk m c 3 t (ix2 0 j)

theorem row_lt (t : Fin cfg0.N) (r : Fin 1024) : 1024 * t.val + r.val < 16384 := by
  have ht : t.val < 16 := t.isLt
  omega

theorem yBlk_eq (c : Dev nD) (t : Fin cfg0.N) (r k : Fin 1024) : yBlk m c t r k = rd (y m c) (1024 * t.val + r.val) k.val := by
  refine Eq.trans ?_ (rd_at (y m c) ⟨_, row_lt t r⟩ k rfl rfl)
  unfold yBlk; blk_ext [iblk, V, (idx t).1]

theorem wtBlk_eq (c : Dev nD) (t : Fin cfg0.N) (j k : Fin 1024) : wtBlk m c t j k = across (rd (wt m c)) j.val k.val := by
  refine Eq.trans ?_ (rd_at (wt m c) k j rfl rfl)
  unfold wtBlk; blk_ext [iblk, V, (stay t).1]

theorem hBlk_eq (c : Dev nD) (t : Fin cfg0.N) (r j : Fin 1024) : hBlk m c t r j = rd (h m c) (1024 * t.val + r.val) j.val := by
  refine Eq.trans ?_ (rd_at (h m c) ⟨_, row_lt t r⟩ j rfl rfl)
  unfold hBlk; blk_ext [iblk, V, (idx t).2.1]

theorem gains_laid (c : Dev nD) (j : Fin 1024) : V m c main_v0 (ix2 0 j) = g m c (ix1 j) := by
  unfold V
  simp only [hostOps0]
  after_reads_at

theorem gBlk_eq (c : Dev nD) (t : Fin cfg0.N) (j : Fin 1024) : gBlk m c t j = g m c (ix1 j) := by
  refine Eq.trans ?_ (gains_laid m c j)
  unfold gBlk iblk
  generalize V m c = W
  blk_ext [(stay t).2]

/-- The rows of the sum. -/
abbrev sums (c : Dev nD) : ℕ → ℕ → EReal := added (rows (rd (y m c)) (across (rd (wt m c))) 1024) (rd (h m c))

/-- A tile of the sum. -/
theorem tile (x w : Vec Ideal S1024x1024 .bf16) (z : Vec Ideal S1024x1024 .f32) (i j : Fin 1024) :
    k0_pay1 x w z (ix2 i j) = (∑ k : Fin 1024, x (ix2 i k) * w (ix2 k j)) + z (ix2 i j) := by
  unfold k0_pay1; pointwise

theorem tile_eq (c : Dev nD) (t : Fin cfg0.N) (i j : Fin 1024) :
    k0_pay1 (iblk m c 0 t) (iblk m c 1 t) (iblk m c 2 t) (ix2 i j) = sums m c (1024 * t.val + i.val) j.val :=
  (tile _ _ _ i j).trans (congrArg₂ (· + ·) (rows_of _ _ (yBlk_eq m c t i) (wtBlk_eq m c t j)) (hBlk_eq m c t i j))

/-- A tile of its norm. -/
theorem normTile (x w : Vec Ideal S1024x1024 .bf16) (z : Vec Ideal S1024x1024 .f32) (a : Vec Ideal S1x1024 .f32) (i j : Fin 1024) :
    k0_pay2 x w z a (ix2 i j)
      = k0_pay1 x w z (ix2 i j) * scale (fun k => k0_pay1 x w z (ix2 i k)) * a (ix2 0 j) := by
  unfold k0_pay2; generalize k0_pay1 x w z = s; pointwise; rfl

/-- The kernel's arrays. -/
theorem out (c : Dev nD) : (dats m 0 c).arrAt 4 cfg0.N = fun i : S16384x1024.Idx => sums m c (i 0).val (i 1).val := by
  refine (dats m 0 c).arrAt_eq_of_covers 4 _ (by decide +kernel) fun t hf y => ?_
  blk_simp
  rw [after0_4]; frame_out
  rw [Idealize.ShloMosaic.eq_ix2 y]
  refine (tile_eq m c t (y 0) (y 1)).trans ?_
  blk_simp [(idx t).2.2.1]
  rw [Nat.mul_comm 1024]

theorem outN (c : Dev nD) : (dats m 0 c).arrAt 5 cfg0.N
    = fun i : S16384x1024.Idx => gained (sums m c) (fun k => g m c (ix1 k)) (i 0).val (i 1) := by
  refine (dats m 0 c).arrAt_eq_of_covers 5 _ (by decide +kernel) fun t hf y => ?_
  blk_simp
  rw [after0_5]; frame_out
  rw [Idealize.ShloMosaic.eq_ix2 y]
  refine (normTile _ _ _ _ (y 0) (y 1)).trans ((gained_of (tile_eq m c t (y 0)) (gBlk_eq m c t)).trans ?_)
  blk_simp [(idx t).2.2.2]
  rw [Nat.mul_comm 1024]
  exact congrArg (gained (sums m c) _ _) (Fin.ext (by blk_simp [(idx t).2.2.2]))

open Cert.FwdOutReferenceIdeal.Read in
/-- The reference's sum. -/
theorem ref (x : S16384x1024.Idx → EReal) (w : S1024x1024.Idx → EReal) (z : S16384x1024.Idx → EReal) (i : Fin 16384) (j : Fin 1024) :
    val_main_v3 (F := Ideal) x w z (ix2 i j) = added (rows (rd x) (across (rd w)) 1024) (rd z) i.val j.val := by
  refine (val_main_v3_apply (F := Ideal) x w z _).trans (Eq.trans ?_ (add_comm _ _))
  exact congrArg₂ (· + ·) (rd_of z _ rfl rfl)
    ((val_main_v2_apply x w _).trans (rows_of _ _ (fun l => rd_of x _ rfl rfl) fun l => rd_of w _ rfl rfl))

/-- The kernel runs and keeps its arguments. -/
theorem frame_kernel : Cert.quiescent_FwdOut := fun m ρ _ => Cert.FwdOut.Gen.frame m ρ

/-- The kernel over the reals runs and keeps its arguments. -/
theorem frame_kernelIdeal : Cert.quiescent_FwdOutIdeal := fun m ρ _ => Cert.FwdOutIdeal.Gen.frame m ρ

/-- The reference over the reals runs and keeps its arguments. -/
theorem frame_referenceIdeal : Cert.quiescent_FwdOutReferenceIdeal := fun m ρ _ =>
  (θ_run Cert.FwdOutReferenceIdeal.defs _ _).mono (fun r h => ⟨fun c => (h c).2.2, sem_eq_zero_of_no_sems (by decide) r.2⟩)
    (Cert.FwdOutReferenceIdeal.Value.run (F := Ideal) m ρ)

/-- The kernel's arrays are the reference's. -/
theorem values : Cert.algebraic_FwdOutIdeal_FwdOutReferenceIdeal := by
  intro m g m' g' _ ha
  refine ⟨_, _,
    (θ_run _ _ _).mono (fun r h c => ⟨(h c).1.trans (out m c), (h c).2.1.trans (outN m c), (h c).2.2⟩)
      (Cert.FwdOutIdeal.Value.run_blocks (F := Ideal) m g),
    (θ_run _ _ _).mono (fun r h c => ⟨(h c).1.trans ?_, (h c).2.1.trans ?_, (h c).2.2⟩)
      (Cert.FwdOutReferenceIdeal.Value.run (F := Ideal) m' g')⟩
  · refine (Cert.FwdOutReferenceIdeal.Read.val_main_v3_eq _ _ _).trans ?_
    rw [(ha c).1, (ha c).2.1, (ha c).2.2.1]
    exact tbl_ext (ref _ _ _)
  · refine (Cert.FwdOutReferenceIdeal.Read.val_main_v17_eq _ _ _ _).trans ?_
    rw [(ha c).1, (ha c).2.1, (ha c).2.2.1, (ha c).2.2.2]
    exact tblNorm_eq (ref _ _ _)

end Cert.FwdOutProof

end
-- ==== Proof.FwdDown.lean ====
/- The gated layer's last product with what it is added to, and the norm of the sum: each point of the grid makes 512 rows of both. -/
module

public import proofs.«01_k».proof.Proof.Gen.FwdDownIdeal.Value
public import proofs.«01_k».proof.Defs
public import proofs.«01_k».proof.Proof.Gen.FwdDown.Frame
public import proofs.«01_k».proof.Proof.Gen.FwdDownReferenceIdeal.Run
public import proofs.«01_k».proof.Proof.Gen.FwdDownReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import Idealize.ShloMosaic.Lib.StableHlo.ReadAt
public import proofs.«01_k».proof.Proof.NormRef

@[expose] public section

set_option maxRecDepth 16384

noncomputable section

namespace Cert.FwdDownProof

open Cert.FwdDownIdeal Cert.FwdDownIdeal.Facts Cert.FwdDownIdeal.Gen Idealize.ShloMosaic Idealize.ShloMosaic.TcCoe Idealize.SL.Sem
open Cert.Swa Cert.Product Cert.Norm

variable (m : (ℓ : Loc nD τ sig) → Buf (Elt Ideal) ℓ)

/-- The arrays of 16384 rows move down together; the weights and the gains stay. -/
theorem idx (t : Fin cfg0.N) : win0_0.index t = ![t.val, 0] ∧ win0_1.index t = ![0, 0] ∧ win0_2.index t = ![t.val, 0] ∧ win0_3.index t = ![0, 0] :=
  (by decide +kernel : ∀ t : Fin grid0.N,
    win0_0.index t = ![t.val, 0] ∧ win0_1.index t = ![0, 0] ∧ win0_2.index t = ![t.val, 0] ∧ win0_3.index t = ![0, 0]) t

theorem idxOut (t : Fin cfg0.N) : win0_4.index t = ![t.val, 0] ∧ win0_5.index t = ![t.val, 0] :=
  (by decide +kernel : ∀ t : Fin grid0.N, win0_4.index t = ![t.val, 0] ∧ win0_5.index t = ![t.val, 0]) t

/-- The rows, the weights, what is added and the gains, as launched. -/
abbrev x (c : Dev nD) : S16384x2816.Idx → EReal := m ((c : Thread nD τ).loc main_arg0)
abbrev wt (c : Dev nD) : S2816x1024.Idx → EReal := m ((c : Thread nD τ).loc main_arg1)
abbrev h (c : Dev nD) : S16384x1024.Idx → EReal := m ((c : Thread nD τ).loc main_arg2)
abbrev g (c : Dev nD) : S1024.Idx → EReal := m ((c : Thread nD τ).loc main_arg3)

/-- The blocks of a point. -/
abbrev xBlk (c : Dev nD) (t : Fin cfg0.N) (r : Fin 512) (k : Fin 2816) : EReal := iblk m c 0 t (ix2 r k)
abbrev wtBlk (c : Dev nD) (t : Fin cfg0.N) (j : Fin 1024) (k : Fin 2816) : EReal := iblk m c 1 t (ix2 k j)
abbrev hBlk (c : Dev nD) (t : Fin cfg0.N) (r : Fin 512) (j : Fin 1024) : EReal := iblk m c 2 t (ix2 r j)
abbrev gBlk (c : Dev nD) (t : Fin cfg0.N) (j : Fin 1024) : EReal := iblk m c 3 t (ix2 0 j)

theorem row_lt (t : Fin cfg0.N) (r : Fin 512) : 512 * t.val + r.val < 16384 := by
  have ht : t.val < 32 := t.isLt
  omega

theorem xBlk_eq (c : Dev nD) (t : Fin cfg0.N) (r : Fin 512) (k : Fin 2816) : xBlk m c t r k = rd (x m c) (512 * t.val + r.val) k.val := by
  refine Eq.trans ?_ (rd_at (x m c) ⟨_, row_lt t r⟩ k rfl rfl)
  unfold xBlk; blk_ext [iblk, V, (idx t).1]

theorem wtBlk_eq (c : Dev nD) (t : Fin cfg0.N) (j : Fin 1024) (k : Fin 2816) : wtBlk m c t j k = across (rd (wt m c)) j.val k.val := by
  refine Eq.trans ?_ (rd_at (wt m c) k j rfl rfl)
  unfold wtBlk; blk_ext [iblk, V, (idx t).2.1]

theorem hBlk_eq (c : Dev nD) (t : Fin cfg0.N) (r : Fin 512) (j : Fin 1024) : hBlk m c t r j = rd (h m c) (512 * t.val + r.val) j.val := by
  refine Eq.trans ?_ (rd_at (h m c) ⟨_, row_lt t r⟩ j rfl rfl)
  unfold hBlk; blk_ext [iblk, V, (idx t).2.2.1]

theorem gains_laid (c : Dev nD) (j : Fin 1024) : V m c main_v0 (ix2 0 j) = g m c (ix1 j) := by
  unfold V
  simp only [hostOps0]
  after_reads_at

theorem gBlk_eq (c : Dev nD) (t : Fin cfg0.N) (j : Fin 1024) : gBlk m c t j = g m c (ix1 j) := by
  refine Eq.trans ?_ (gains_laid m c j)
  unfold gBlk iblk
  generalize V m c = W
  blk_ext [(idx t).2.2.2]

/-- The rows of the sum. -/
abbrev sums (c : Dev nD) : ℕ → ℕ → EReal := added (rows (rd (x m c)) (across (rd (wt m c))) 2816) (rd (h m c))

/-- A tile of the sum. -/
theorem tile (x : Vec Ideal S512x2816 .bf16) (w : Vec Ideal S2816x1024 .bf16) (z : Vec Ideal S512x1024 .f32) (i : Fin 512) (j : Fin 1024) :
    k0_pay1 x w z (ix2 i j) = (∑ k : Fin 2816, x (ix2 i k) * w (ix2 k j)) + z (ix2 i j) := by
  unfold k0_pay1; pointwise

theorem tile_eq (c : Dev nD) (t : Fin cfg0.N) (i : Fin 512) (j : Fin 1024) :
    k0_pay1 (iblk m c 0 t) (iblk m c 1 t) (iblk m c 2 t) (ix2 i j) = sums m c (512 * t.val + i.val) j.val :=
  (tile _ _ _ i j).trans (congrArg₂ (· + ·) (rows_of _ _ (xBlk_eq m c t i) (wtBlk_eq m c t j)) (hBlk_eq m c t i j))

/-- A tile of its norm. -/
theorem normTile (x : Vec Ideal S512x2816 .bf16) (w : Vec Ideal S2816x1024 .bf16) (z : Vec Ideal S512x1024 .f32) (a : Vec Ideal S1x1024 .f32)
    (i : Fin 512) (j : Fin 1024) :
    k0_pay2 x w z a (ix2 i j) = k0_pay1 x w z (ix2 i j) * scale (fun k => k0_pay1 x w z (ix2 i k)) * a (ix2 0 j) := by
  unfold k0_pay2; generalize k0_pay1 x w z = s; pointwise; rfl

/-- The kernel's arrays. -/
theorem out (c : Dev nD) : (dats m 0 c).arrAt 4 cfg0.N = fun i : S16384x1024.Idx => sums m c (i 0).val (i 1).val := by
  refine (dats m 0 c).arrAt_eq_of_covers 4 _ (by decide +kernel) fun t hf y => ?_
  blk_simp
  rw [after0_4]; frame_out
  rw [Idealize.ShloMosaic.eq_ix2 y]
  refine (tile_eq m c t (y 0) (y 1)).trans ?_
  blk_simp [(idxOut t).1]
  rw [Nat.mul_comm 512]

theorem outN (c : Dev nD) : (dats m 0 c).arrAt 5 cfg0.N
    = fun i : S16384x1024.Idx => gained (sums m c) (fun k => g m c (ix1 k)) (i 0).val (i 1) := by
  refine (dats m 0 c).arrAt_eq_of_covers 5 _ (by decide +kernel) fun t hf y => ?_
  blk_simp
  rw [after0_5]; frame_out
  rw [Idealize.ShloMosaic.eq_ix2 y]
  refine (normTile _ _ _ _ (y 0) (y 1)).trans ((gained_of (tile_eq m c t (y 0)) (gBlk_eq m c t)).trans ?_)
  blk_simp [(idxOut t).2]
  rw [Nat.mul_comm 512]
  exact congrArg (gained (sums m c) _ _) (Fin.ext (by blk_simp [(idxOut t).2]))

open Cert.FwdDownReferenceIdeal.Read in
/-- The reference's sum. -/
theorem ref (x : S16384x2816.Idx → EReal) (w : S2816x1024.Idx → EReal) (z : S16384x1024.Idx → EReal) (i : Fin 16384) (j : Fin 1024) :
    val_main_v3 (F := Ideal) x w z (ix2 i j) = added (rows (rd x) (across (rd w)) 2816) (rd z) i.val j.val := by
  refine (val_main_v3_apply (F := Ideal) x w z _).trans (Eq.trans ?_ (add_comm _ _))
  exact congrArg₂ (· + ·) (rd_of z _ rfl rfl)
    ((val_main_v2_apply x w _).trans (rows_of _ _ (fun l => rd_of x _ rfl rfl) fun l => rd_of w _ rfl rfl))

/-- The kernel runs and keeps its arguments. -/
theorem frame_kernel : Cert.quiescent_FwdDown := fun m ρ _ => Cert.FwdDown.Gen.frame m ρ

/-- The kernel over the reals runs and keeps its arguments. -/
theorem frame_kernelIdeal : Cert.quiescent_FwdDownIdeal := fun m ρ _ => Cert.FwdDownIdeal.Gen.frame m ρ

/-- The reference over the reals runs and keeps its arguments. -/
theorem frame_referenceIdeal : Cert.quiescent_FwdDownReferenceIdeal := fun m ρ _ =>
  (θ_run Cert.FwdDownReferenceIdeal.defs _ _).mono (fun r h => ⟨fun c => (h c).2.2, sem_eq_zero_of_no_sems (by decide) r.2⟩)
    (Cert.FwdDownReferenceIdeal.Value.run (F := Ideal) m ρ)

/-- The kernel's arrays are the reference's. -/
theorem values : Cert.algebraic_FwdDownIdeal_FwdDownReferenceIdeal := by
  intro m g m' g' _ ha
  refine ⟨_, _,
    (θ_run _ _ _).mono (fun r h c => ⟨(h c).1.trans (out m c), (h c).2.1.trans (outN m c), (h c).2.2⟩)
      (Cert.FwdDownIdeal.Value.run_blocks (F := Ideal) m g),
    (θ_run _ _ _).mono (fun r h c => ⟨(h c).1.trans ?_, (h c).2.1.trans ?_, (h c).2.2⟩)
      (Cert.FwdDownReferenceIdeal.Value.run (F := Ideal) m' g')⟩
  · refine (Cert.FwdDownReferenceIdeal.Read.val_main_v3_eq _ _ _).trans ?_
    rw [(ha c).1, (ha c).2.1, (ha c).2.2.1]
    exact tbl_ext (ref _ _ _)
  · refine (Cert.FwdDownReferenceIdeal.Read.val_main_v17_eq _ _ _ _).trans ?_
    rw [(ha c).1, (ha c).2.1, (ha c).2.2.1, (ha c).2.2.2]
    exact tblNorm_eq (ref _ _ _)

end Cert.FwdDownProof

end
-- ==== Proof.Gate.lean ====
/- The sigmoid of a gate, in the kernels' spelling and in the reference's, and the gradient through it. -/
module

public import proofs.«01_k».proof.Proof.Product

@[expose] public section

noncomputable section

namespace Cert.Gate

open Idealize.ShloMosaic

abbrev half : EReal := Ideal.ofBits .f32 0x3F000000#32
abbrev one : EReal := Ideal.ofBits .f32 0x3F800000#32

theorem half_eq : half = ((1 / 2 : ℝ) : EReal) := by
  simp [Ideal.ofBits, Ideal.ieee, -EReal.coe_mul]; norm_num

theorem one_eq : one = 1 := by
  simp [Ideal.ofBits, Ideal.ieee, -EReal.coe_mul]

/-- The reference's sigmoid, and the kernels'. -/
def gate (x : EReal) : EReal := Ideal.div one (one + Ideal.exp (-x))
def gate' (x : EReal) : EReal := half * Ideal.tanh (half * x) + half

theorem real_gate (r : ℝ) : 1 / 2 * Real.tanh (1 / 2 * r) + 1 / 2 = 1 / (1 + Real.exp (-r)) := by
  have e : Real.exp (-r) = Real.exp (-(1 / 2 * r)) * Real.exp (-(1 / 2 * r)) := by rw [← Real.exp_add]; congr 1; ring
  have p : Real.exp (1 / 2 * r) * Real.exp (-(1 / 2 * r)) = 1 := by rw [← Real.exp_add]; simp
  rw [Real.tanh_eq_sinh_div_cosh, Real.sinh_eq, Real.cosh_eq, e]
  have ha := Real.exp_pos (1 / 2 * r)
  have hb := Real.exp_pos (-(1 / 2 * r))
  generalize Real.exp (1 / 2 * r) = a at p ha
  generalize Real.exp (-(1 / 2 * r)) = b at p hb
  have h1 : a + b ≠ 0 := by positivity
  have h2 : 1 + b * b ≠ 0 := by positivity
  field_simp
  linear_combination (2 * b) * p

/-- The two are equal everywhere. -/
theorem gate_eq (x : EReal) : gate' x = gate x := by
  unfold gate gate'
  rw [half_eq, one_eq]
  induction x with
  | bot =>
    rw [EReal.coe_mul_bot_of_pos (by norm_num), EReal.neg_bot]
    show ((1 / 2 : ℝ) : EReal) * (-1) + ((1 / 2 : ℝ) : EReal) = Ideal.div 1 (1 + ⊤)
    have h : (1 : EReal) + ⊤ = ⊤ := EReal.coe_add_top 1
    rw [h]
    simp only [Ideal.div, EReal.top_ne_zero, if_false, EReal.inv_top, mul_zero]
    rw [mul_neg, mul_one, ← EReal.coe_neg, ← EReal.coe_add]
    norm_num
  | top =>
    rw [EReal.coe_mul_top_of_pos (by norm_num), EReal.neg_top]
    show ((1 / 2 : ℝ) : EReal) * 1 + ((1 / 2 : ℝ) : EReal) = Ideal.div 1 (1 + 0)
    rw [mul_one, add_zero, ← EReal.coe_add]
    simp only [Ideal.div, one_ne_zero, if_false, inv_one, mul_one]
    norm_num
  | coe r =>
    have hp : (1 + Real.exp (-r)) ≠ 0 := by positivity
    show ((1 / 2 : ℝ) : EReal) * Ideal.tanh (((1 / 2 : ℝ) : EReal) * r) + _ = Ideal.div 1 (1 + ((Real.exp (-r) : ℝ) : EReal))
    rw [← EReal.coe_mul]
    show ((1 / 2 : ℝ) : EReal) * ((Real.tanh (1 / 2 * r) : ℝ) : EReal) + _ = _
    rw [← EReal.coe_mul, ← EReal.coe_add, real_gate, ← EReal.coe_one, ← EReal.coe_add, Ideal.div_coe hp, ← EReal.coe_mul, one_mul]

/-- The gradient of the gate's argument: what comes back, times what is gated, times the sigmoid's derivative. -/
def gateBack (d x g : EReal) : EReal := d * x * gate g * (one - gate g)

end Cert.Gate

end
-- ==== Proof.BwdPle.lean ====
/- The gradient of the layer's gated input embedding: each point of the grid makes 512 rows. -/
module

public import proofs.«01_k».proof.Proof.Gen.BwdPleIdeal.Value
public import proofs.«01_k».proof.Defs
public import proofs.«01_k».proof.Proof.Gen.BwdPle.Frame
public import proofs.«01_k».proof.Proof.Gen.BwdPleReferenceIdeal.Run
public import proofs.«01_k».proof.Proof.Gen.BwdPleReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import proofs.«01_k».proof.Proof.Product
public import proofs.«01_k».proof.Proof.Gate

@[expose] public section

set_option maxRecDepth 16384

noncomputable section

namespace Cert.BwdPleProof

open Cert.BwdPleIdeal Cert.BwdPleIdeal.Facts Cert.BwdPleIdeal.Gen Idealize.ShloMosaic Idealize.ShloMosaic.TcCoe Idealize.SL.Sem
open Cert.Swa Cert.Product Cert.Gate

variable (m : (ℓ : Loc nD τ sig) → Buf (Elt Ideal) ℓ)

/-- The arrays of 16384 rows move down together, and the weights stay. -/
theorem idx (t : Fin cfg0.N) : win0_0.index t = ![t.val, 0] ∧ win0_1.index t = ![t.val, 0] ∧ win0_2.index t = ![t.val, 0] ∧ win0_3.index t = ![0, 0] :=
  (by decide +kernel : ∀ t : Fin grid0.N,
    win0_0.index t = ![t.val, 0] ∧ win0_1.index t = ![t.val, 0] ∧ win0_2.index t = ![t.val, 0] ∧ win0_3.index t = ![0, 0]) t

theorem idxOut (t : Fin cfg0.N) : win0_4.index t = ![t.val, 0] ∧ win0_5.index t = ![t.val, 0] :=
  (by decide +kernel : ∀ t : Fin grid0.N, win0_4.index t = ![t.val, 0] ∧ win0_5.index t = ![t.val, 0]) t

/-- The gradient, the gate's argument, the embedding and the weights as launched. -/
abbrev d (c : Dev nD) : S16384x1024.Idx → EReal := m ((c : Thread nD τ).loc main_arg0)
abbrev g (c : Dev nD) : S16384x1024.Idx → EReal := m ((c : Thread nD τ).loc main_arg1)
abbrev p (c : Dev nD) : S16384x256.Idx → EReal := m ((c : Thread nD τ).loc main_arg2)
abbrev wt (c : Dev nD) : S256x1024.Idx → EReal := m ((c : Thread nD τ).loc main_arg3)

theorem row_lt (t : Fin cfg0.N) (r : Fin 512) : 512 * t.val + r.val < 16384 := by
  have ht : t.val < 32 := t.isLt
  omega

theorem dBlk_eq (c : Dev nD) (t : Fin cfg0.N) (r : Fin 512) (j : Fin 1024) :
    iblk m c 0 t (ix2 r j) = rd (d m c) (512 * t.val + r.val) j.val := by
  refine Eq.trans ?_ (rd_at (d m c) ⟨_, row_lt t r⟩ j rfl rfl)
  blk_ext [iblk, V, (idx t).1]

theorem gBlk_eq (c : Dev nD) (t : Fin cfg0.N) (r : Fin 512) (j : Fin 1024) :
    iblk m c 1 t (ix2 r j) = rd (g m c) (512 * t.val + r.val) j.val := by
  refine Eq.trans ?_ (rd_at (g m c) ⟨_, row_lt t r⟩ j rfl rfl)
  blk_ext [iblk, V, (idx t).2.1]

theorem pBlk_eq (c : Dev nD) (t : Fin cfg0.N) (r : Fin 512) (k : Fin 256) :
    iblk m c 2 t (ix2 r k) = rd (p m c) (512 * t.val + r.val) k.val := by
  refine Eq.trans ?_ (rd_at (p m c) ⟨_, row_lt t r⟩ k rfl rfl)
  blk_ext [iblk, V, (idx t).2.2.1]

theorem wtBlk_eq (c : Dev nD) (t : Fin cfg0.N) (j : Fin 1024) (k : Fin 256) : iblk m c 3 t (ix2 k j) = across (rd (wt m c)) j.val k.val := by
  refine Eq.trans ?_ (rd_at (wt m c) k j rfl rfl)
  blk_ext [iblk, V, (idx t).2.2.2]

/-- The gated rows. -/
abbrev gated (P W : ℕ → ℕ → EReal) : ℕ → ℕ → EReal := rows P (across W) 256

/-- Tiles of the two gradients. -/
theorem tile (x : Vec Ideal S512x1024 .f32) (y : Vec Ideal S512x1024 .bf16) (i : Fin 512) (j : Fin 1024) :
    k0_pay2 x y (ix2 i j) = x (ix2 i j) * gate (y (ix2 i j)) := by
  rw [← gate_eq]; unfold k0_pay2 k0_pay1; pointwise; rfl

theorem tileG (x : Vec Ideal S512x1024 .f32) (y : Vec Ideal S512x1024 .bf16) (u : Vec Ideal S512x256 .f32) (v : Vec Ideal S256x1024 .bf16)
    (i : Fin 512) (j : Fin 1024) :
    k0_pay3 x y u v (ix2 i j) = gateBack (x (ix2 i j)) (∑ k : Fin 256, u (ix2 i k) * v (ix2 k j)) (y (ix2 i j)) := by
  unfold gateBack; rw [← gate_eq]; unfold k0_pay3 k0_pay1; pointwise; rfl

/-- The kernel's arrays. -/
theorem out (c : Dev nD) : (dats m 0 c).arrAt 4 cfg0.N
    = fun i : S16384x1024.Idx => rd (d m c) (i 0).val (i 1).val * gate (rd (g m c) (i 0).val (i 1).val) := by
  refine (dats m 0 c).arrAt_eq_of_covers 4 _ (by decide +kernel) fun t hf y => ?_
  blk_simp
  rw [after0_4]; frame_out
  rw [Idealize.ShloMosaic.eq_ix2 y]
  refine (tile _ _ (y 0) (y 1)).trans ((congrArg₂ (fun a b => a * gate b) (dBlk_eq m c t (y 0) (y 1)) (gBlk_eq m c t (y 0) (y 1))).trans ?_)
  blk_simp [(idxOut t).1]
  rw [Nat.mul_comm 512]

theorem outG (c : Dev nD) : (dats m 0 c).arrAt 5 cfg0.N
    = fun i : S16384x1024.Idx => gateBack (rd (d m c) (i 0).val (i 1).val) (gated (rd (p m c)) (rd (wt m c)) (i 0).val (i 1).val)
      (rd (g m c) (i 0).val (i 1).val) := by
  refine (dats m 0 c).arrAt_eq_of_covers 5 _ (by decide +kernel) fun t hf y => ?_
  blk_simp
  rw [after0_5]; frame_out
  rw [Idealize.ShloMosaic.eq_ix2 y]
  refine (tileG _ _ _ _ (y 0) (y 1)).trans ?_
  rw [rows_of _ _ (pBlk_eq m c t (y 0)) (wtBlk_eq m c t (y 1)), dBlk_eq m c t (y 0) (y 1), gBlk_eq m c t (y 0) (y 1)]
  blk_simp [(idxOut t).2]
  rw [Nat.mul_comm 512]

open Cert.BwdPleReferenceIdeal.Read in
/-- The reference's sigmoid. -/
theorem refGate (y : S16384x1024.Idx → EReal) (i : Fin 16384) (j : Fin 1024) :
    val_main_v8 (F := Ideal) y (ix2 i j) = gate (rd y i.val j.val) := by
  unfold val_main_v8 val_main_v7 val_main_v6 val_main_v5 val_main_v4 val_main_v3 val_main_v0 val_main_cst val_main_cst_0
  pointwise
  rw [rd_eq y, gate, one_eq]

open Cert.BwdPleReferenceIdeal.Read in
/-- The reference's arrays. -/
theorem ref (x y : S16384x1024.Idx → EReal) :
    (val_main_v16 (F := Ideal) x y : S16384x1024.Idx → EReal) = fun i => rd x (i 0).val (i 1).val * gate (rd y (i 0).val (i 1).val) :=
  tbl_ext fun i j => by
    rw [mul_comm, val_main_v16_apply, val_main_v13_apply]
    exact congrArg₂ (· * ·) (refGate y i j) (rd_eq x i j)

open Cert.BwdPleReferenceIdeal.Read in
theorem refG (x y : S16384x1024.Idx → EReal) (u : S16384x256.Idx → EReal) (v : S256x1024.Idx → EReal) :
    (val_main_v17 (F := Ideal) x y u v : S16384x1024.Idx → EReal)
      = fun i => gateBack (rd x (i 0).val (i 1).val) (gated (rd u) (rd v) (i 0).val (i 1).val) (rd y (i 0).val (i 1).val) :=
  tbl_ext fun i j => by
    have e : val_main_v2 (F := Ideal) u v (ix2 i j) = gated (rd u) (rd v) i.val j.val :=
      (val_main_v2_apply u v _).trans (rows_of _ _ (fun l => rd_of u _ rfl rfl) fun l => rd_of v _ rfl rfl)
    unfold gateBack
    rw [val_main_v17_apply, val_main_v15_apply, mul_assoc]
    refine congrArg₂ (· * ·) (congrArg₂ (· * ·) (rd_eq x i j) e) ?_
    rw [val_main_v11_apply, val_main_v10_apply, refGate, val_main_v9_apply]
    rfl

/-- The kernel runs and keeps its arguments. -/
theorem frame_kernel : Cert.quiescent_BwdPle := fun m ρ _ => Cert.BwdPle.Gen.frame m ρ

/-- The kernel over the reals runs and keeps its arguments. -/
theorem frame_kernelIdeal : Cert.quiescent_BwdPleIdeal := fun m ρ _ => Cert.BwdPleIdeal.Gen.frame m ρ

/-- The reference over the reals runs and keeps its arguments. -/
theorem frame_referenceIdeal : Cert.quiescent_BwdPleReferenceIdeal := fun m ρ _ =>
  (θ_run Cert.BwdPleReferenceIdeal.defs _ _).mono (fun r h => ⟨fun c => (h c).2.2, sem_eq_zero_of_no_sems (by decide) r.2⟩)
    (Cert.BwdPleReferenceIdeal.Value.run (F := Ideal) m ρ)

/-- The kernel's arrays are the reference's. -/
theorem values : Cert.algebraic_BwdPleIdeal_BwdPleReferenceIdeal := by
  intro m g m' g' _ ha
  refine ⟨_, _,
    (θ_run _ _ _).mono (fun r h c => ⟨(h c).1.trans (out m c), (h c).2.1.trans (outG m c), (h c).2.2⟩)
      (Cert.BwdPleIdeal.Value.run_blocks (F := Ideal) m g),
    (θ_run _ _ _).mono (fun r h c => ⟨(h c).1.trans ?_, (h c).2.1.trans ?_, (h c).2.2⟩)
      (Cert.BwdPleReferenceIdeal.Value.run (F := Ideal) m' g')⟩
  · refine (Cert.BwdPleReferenceIdeal.Read.val_main_v16_eq _ _).trans ?_
    rw [(ha c).1, (ha c).2.1]
    exact ref _ _
  · refine (Cert.BwdPleReferenceIdeal.Read.val_main_v17_eq _ _ _ _).trans ?_
    rw [(ha c).1, (ha c).2.1, (ha c).2.2.1, (ha c).2.2.2]
    exact refG _ _ _ _

end Cert.BwdPleProof

end
-- ==== Proof.FwdPle.lean ====
/- The layer's gated input embedding with what it is added to, and the norm of the sum: each point of the grid makes 512 rows of both. -/
module

public import proofs.«01_k».proof.Proof.Gen.FwdPleIdeal.Value
public import proofs.«01_k».proof.Defs
public import proofs.«01_k».proof.Proof.Gen.FwdPle.Frame
public import proofs.«01_k».proof.Proof.Gen.FwdPleReferenceIdeal.Run
public import proofs.«01_k».proof.Proof.Gen.FwdPleReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import Idealize.ShloMosaic.Lib.StableHlo.ReadAt
public import proofs.«01_k».proof.Proof.NormRef
public import proofs.«01_k».proof.Proof.Gate

@[expose] public section

set_option maxRecDepth 16384

noncomputable section

namespace Cert.FwdPleProof

open Cert.FwdPleIdeal Cert.FwdPleIdeal.Facts Cert.FwdPleIdeal.Gen Idealize.ShloMosaic Idealize.ShloMosaic.TcCoe Idealize.SL.Sem
open Cert.Swa Cert.Product Cert.Norm Cert.Gate

variable (m : (ℓ : Loc nD τ sig) → Buf (Elt Ideal) ℓ)

/-- The arrays of 16384 rows move down together. -/
theorem idx (t : Fin cfg0.N) : win0_0.index t = ![t.val, 0] ∧ win0_1.index t = ![t.val, 0] ∧ win0_2.index t = ![t.val, 0]
    ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
    ∧ win0_5.index t = ![t.val, 0] ∧ win0_6.index t = ![t.val, 0]) t

/-- The weights and the gains stay. -/
theorem stay (t : Fin cfg0.N) : win0_3.index t = ![0, 0] ∧ win0_4.index t = ![0, 0] :=
  (by decide +kernel : ∀ t : Fin grid0.N, win0_3.index t = ![0, 0] ∧ win0_4.index t = ![0, 0]) t

/-- What is added, the gate's argument, the embedding, the weights and the gains, as launched. -/
abbrev h (c : Dev nD) : S16384x1024.Idx → EReal := m ((c : Thread nD τ).loc main_arg0)
abbrev z (c : Dev nD) : S16384x1024.Idx → EReal := m ((c : Thread nD τ).loc main_arg1)
abbrev p (c : Dev nD) : S16384x256.Idx → EReal := m ((c : Thread nD τ).loc main_arg2)
abbrev wt (c : Dev nD) : S256x1024.Idx → EReal := m ((c : Thread nD τ).loc main_arg3)
abbrev g (c : Dev nD) : S1024.Idx → EReal := m ((c : Thread nD τ).loc main_arg4)

/-- The gains' block of a point. -/
abbrev gBlk (c : Dev nD) (t : Fin cfg0.N) (j : Fin 1024) : EReal := iblk m c 4 t (ix2 0 j)

theorem row_lt (t : Fin cfg0.N) (r : Fin 512) : 512 * t.val + r.val < 16384 := by
  have ht : t.val < 32 := t.isLt
  omega

theorem hBlk_eq (c : Dev nD) (t : Fin cfg0.N) (r : Fin 512) (j : Fin 1024) :
    iblk m c 0 t (ix2 r j) = rd (h m c) (512 * t.val + r.val) j.val := by
  refine Eq.trans ?_ (rd_at (h m c) ⟨_, row_lt t r⟩ j rfl rfl)
  blk_ext [iblk, V, (idx t).1]

theorem zBlk_eq (c : Dev nD) (t : Fin cfg0.N) (r : Fin 512) (j : Fin 1024) :
    iblk m c 1 t (ix2 r j) = rd (z m c) (512 * t.val + r.val) j.val := by
  refine Eq.trans ?_ (rd_at (z m c) ⟨_, row_lt t r⟩ j rfl rfl)
  blk_ext [iblk, V, (idx t).2.1]

theorem pBlk_eq (c : Dev nD) (t : Fin cfg0.N) (r : Fin 512) (k : Fin 256) :
    iblk m c 2 t (ix2 r k) = rd (p m c) (512 * t.val + r.val) k.val := by
  refine Eq.trans ?_ (rd_at (p m c) ⟨_, row_lt t r⟩ k rfl rfl)
  blk_ext [iblk, V, (idx t).2.2.1]

theorem wtBlk_eq (c : Dev nD) (t : Fin cfg0.N) (j : Fin 1024) (k : Fin 256) : iblk m c 3 t (ix2 k j) = across (rd (wt m c)) j.val k.val := by
  refine Eq.trans ?_ (rd_at (wt m c) k j rfl rfl)
  blk_ext [iblk, V, (stay t).1]

theorem gains_laid (c : Dev nD) (j : Fin 1024) : V m c main_v0 (ix2 0 j) = g m c (ix1 j) := by
  unfold V
  simp only [hostOps0]
  after_reads_at

theorem gBlk_eq (c : Dev nD) (t : Fin cfg0.N) (j : Fin 1024) : gBlk m c t j = g m c (ix1 j) := by
  refine Eq.trans ?_ (gains_laid m c j)
  unfold gBlk iblk
  generalize V m c = W
  blk_ext [(stay t).2]

/-- The rows of the sum. -/
abbrev embedded (H Z P W : ℕ → ℕ → EReal) (i j : ℕ) : EReal := H i j + gate (Z i j) * rows P (across W) 256 i j
abbrev sums (c : Dev nD) : ℕ → ℕ → EReal := embedded (rd (h m c)) (rd (z m c)) (rd (p m c)) (rd (wt m c))

/-- A tile of the sum. -/
theorem tile (x : Vec Ideal S512x1024 .f32) (y : Vec Ideal S512x1024 .bf16) (u : Vec Ideal S512x256 .f32) (v : Vec Ideal S256x1024 .bf16)
    (i : Fin 512) (j : Fin 1024) :
    k0_pay1 x y u v (ix2 i j) = x (ix2 i j) + gate (y (ix2 i j)) * ∑ k : Fin 256, u (ix2 i k) * v (ix2 k j) := by
  rw [← gate_eq]; unfold k0_pay1; pointwise; rfl

theorem tile_eq (c : Dev nD) (t : Fin cfg0.N) (i : Fin 512) (j : Fin 1024) :
    k0_pay1 (iblk m c 0 t) (iblk m c 1 t) (iblk m c 2 t) (iblk m c 3 t) (ix2 i j) = sums m c (512 * t.val + i.val) j.val := by
  refine (tile _ _ _ _ i j).trans ?_
  rw [rows_of _ _ (pBlk_eq m c t i) (wtBlk_eq m c t j), hBlk_eq m c t i j, zBlk_eq m c t i j]

/-- A tile of its norm. -/
theorem normTile (x : Vec Ideal S512x1024 .f32) (y : Vec Ideal S512x1024 .bf16) (u : Vec Ideal S512x256 .f32) (v : Vec Ideal S256x1024 .bf16)
    (a : Vec Ideal S1x1024 .f32) (i : Fin 512) (j : Fin 1024) :
    k0_pay2 x y u v a (ix2 i j) = k0_pay1 x y u v (ix2 i j) * scale (fun k => k0_pay1 x y u v (ix2 i k)) * a (ix2 0 j) := by
  unfold k0_pay2; generalize k0_pay1 x y u v = s; pointwise; rfl

/-- The kernel's arrays. -/
theorem out (c : Dev nD) : (dats m 0 c).arrAt 5 cfg0.N = fun i : S16384x1024.Idx => sums m c (i 0).val (i 1).val := by
  refine (dats m 0 c).arrAt_eq_of_covers 5 _ (by decide +kernel) fun t hf y => ?_
  blk_simp
  rw [after0_5]; frame_out
  rw [Idealize.ShloMosaic.eq_ix2 y]
  refine (tile_eq m c t (y 0) (y 1)).trans ?_
  blk_simp [(idx t).2.2.2.1]
  rw [Nat.mul_comm 512]

theorem outN (c : Dev nD) : (dats m 0 c).arrAt 6 cfg0.N
    = fun i : S16384x1024.Idx => gained (sums m c) (fun k => g m c (ix1 k)) (i 0).val (i 1) := by
  refine (dats m 0 c).arrAt_eq_of_covers 6 _ (by decide +kernel) fun t hf y => ?_
  blk_simp
  rw [after0_6]; frame_out
  rw [Idealize.ShloMosaic.eq_ix2 y]
  refine (normTile _ _ _ _ _ (y 0) (y 1)).trans ((gained_of (tile_eq m c t (y 0)) (gBlk_eq m c t)).trans ?_)
  blk_simp [(idx t).2.2.2.2]
  rw [Nat.mul_comm 512]
  exact congrArg (gained (sums m c) _ _) (Fin.ext (by blk_simp [(idx t).2.2.2.2]))

open Cert.FwdPleReferenceIdeal.Read in
/-- The reference's sigmoid. -/
theorem refGate (y : S16384x1024.Idx → EReal) (i : Fin 16384) (j : Fin 1024) :
    val_main_v8 (F := Ideal) y (ix2 i j) = gate (rd y i.val j.val) := by
  unfold val_main_v8 val_main_v7 val_main_v6 val_main_v5 val_main_v4 val_main_v3 val_main_v0 val_main_cst val_main_cst_0
  pointwise
  rw [rd_eq y, gate, one_eq]

open Cert.FwdPleReferenceIdeal.Read in
/-- The reference's sum. -/
theorem ref (x y : S16384x1024.Idx → EReal) (u : S16384x256.Idx → EReal) (v : S256x1024.Idx → EReal) (i : Fin 16384) (j : Fin 1024) :
    val_main_v10 (F := Ideal) x y u v (ix2 i j) = embedded (rd x) (rd y) (rd u) (rd v) i.val j.val := by
  have e : val_main_v2 (F := Ideal) u v (ix2 i j) = rows (rd u) (across (rd v)) 256 i.val j.val :=
    (val_main_v2_apply u v _).trans (rows_of _ _ (fun l => rd_of u _ rfl rfl) fun l => rd_of v _ rfl rfl)
  rw [val_main_v10_apply, val_main_v9_apply]
  exact congrArg₂ (· + ·) (rd_eq x i j) (congrArg₂ (· * ·) (refGate y i j) e)

/-- The kernel runs and keeps its arguments. -/
theorem frame_kernel : Cert.quiescent_FwdPle := fun m ρ _ => Cert.FwdPle.Gen.frame m ρ

/-- The kernel over the reals runs and keeps its arguments. -/
theorem frame_kernelIdeal : Cert.quiescent_FwdPleIdeal := fun m ρ _ => Cert.FwdPleIdeal.Gen.frame m ρ

/-- The reference over the reals runs and keeps its arguments. -/
theorem frame_referenceIdeal : Cert.quiescent_FwdPleReferenceIdeal := fun m ρ _ =>
  (θ_run Cert.FwdPleReferenceIdeal.defs _ _).mono (fun r h => ⟨fun c => (h c).2.2, sem_eq_zero_of_no_sems (by decide) r.2⟩)
    (Cert.FwdPleReferenceIdeal.Value.run (F := Ideal) m ρ)

/-- The kernel's arrays are the reference's. -/
theorem values : Cert.algebraic_FwdPleIdeal_FwdPleReferenceIdeal := by
  intro m g m' g' _ ha
  refine ⟨_, _,
    (θ_run _ _ _).mono (fun r h c => ⟨(h c).1.trans (out m c), (h c).2.1.trans (outN m c), (h c).2.2⟩)
      (Cert.FwdPleIdeal.Value.run_blocks (F := Ideal) m g),
    (θ_run _ _ _).mono (fun r h c => ⟨(h c).1.trans ?_, (h c).2.1.trans ?_, (h c).2.2⟩)
      (Cert.FwdPleReferenceIdeal.Value.run (F := Ideal) m' g')⟩
  · refine (Cert.FwdPleReferenceIdeal.Read.val_main_v10_eq _ _ _ _).trans ?_
    rw [(ha c).1, (ha c).2.1, (ha c).2.2.1, (ha c).2.2.2.1]
    exact tbl_ext (ref _ _ _ _)
  · refine (Cert.FwdPleReferenceIdeal.Read.val_main_v24_eq _ _ _ _ _).trans ?_
    rw [(ha c).1, (ha c).2.1, (ha c).2.2.1, (ha c).2.2.2.1, (ha c).2.2.2.2]
    exact tblNorm_eq (ref _ _ _ _)

end Cert.FwdPleProof

end
-- ==== Proof.FwdNorm.lean ====
/- The first norm of the step: each point of the grid makes 512 rows. -/
module

public import proofs.«01_k».proof.Proof.Gen.FwdNormIdeal.Value
public import proofs.«01_k».proof.Defs
public import proofs.«01_k».proof.Proof.Gen.FwdNorm.Frame
public import proofs.«01_k».proof.Proof.Gen.FwdNormReferenceIdeal.Run
public import proofs.«01_k».proof.Proof.Gen.FwdNormReferenceIdeal.Read
public import Idealize.ShloMosaic.Adequacy
public import Idealize.ShloMosaic.Init
public import Idealize.ShloMosaic.Lib.Claim
public import Idealize.ShloMosaic.Lib.Pipeline.ValueKit.Tiles
public import Idealize.ShloMosaic.Lib.Pipeline.ValueKit.Geometry
public import Idealize.ShloMosaic.Lib.StableHlo.ReadAt
public import proofs.«01_k».proof.Proof.NormRef

@[expose] public section

set_option maxRecDepth 16384

noncomputable section

namespace Cert.FwdNormProof

open Cert.FwdNormIdeal Cert.FwdNormIdeal.Facts Cert.FwdNormIdeal.Gen Idealize.ShloMosaic Idealize.ShloMosaic.TcCoe Idealize.SL.Sem
open Cert.Swa Cert.Product Cert.Norm

variable (m : (ℓ : Loc nD τ sig) → Buf (Elt Ideal) ℓ)

/-- The rows move down, and the gains stay. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- The rows and the gains as launched. -/
abbrev x (c : Dev nD) : S16384x1024.Idx → EReal := m ((c : Thread nD τ).loc main_arg0)
abbrev g (c : Dev nD) : S1024.Idx → EReal := m ((c : Thread nD τ).loc main_arg1)

/-- The blocks of a point. -/
abbrev xBlk (c : Dev nD) (t : Fin cfg0.N) (r : Fin 512) (j : Fin 1024) : EReal := iblk m c 0 t (ix2 r j)
abbrev gBlk (c : Dev nD) (t : Fin cfg0.N) (j : Fin 1024) : EReal := iblk m c 1 t (ix2 0 j)

theorem xBlk_eq (c : Dev nD) (t : Fin cfg0.N) (r : Fin 512) (j : Fin 1024) : xBlk m c t r j = rd (x m c) (512 * t.val + r.val) j.val := by
  have ht : t.val < 32 := t.isLt
  refine Eq.trans ?_ (rd_at (x m c) ⟨512 * t.val + r.val, by omega⟩ j rfl rfl)
  unfold xBlk; blk_ext [iblk, V, (idx t).1]

theorem gains_laid (c : Dev nD) (j : Fin 1024) : V m c main_v0 (ix2 0 j) = g m c (ix1 j) := by
  unfold V
  simp only [hostOps0]
  after_reads_at

theorem gBlk_eq (c : Dev nD) (t : Fin cfg0.N) (j : Fin 1024) : gBlk m c t j = g m c (ix1 j) := by
  refine Eq.trans ?_ (gains_laid m c j)
  unfold gBlk iblk
  generalize V m c = W
  blk_ext [(idx t).2.1]

/-- A tile. -/
theorem tile (x : Vec Ideal S512x1024 .f32) (a : Vec Ideal S1x1024 .f32) (i : Fin 512) (j : Fin 1024) :
    k0_pay1 x a (ix2 i j) = x (ix2 i j) * scale (fun k => x (ix2 i k)) * a (ix2 0 j) := by
  unfold k0_pay1; pointwise; rfl

/-- The kernel's array. -/
theorem out (c : Dev nD) : (dats m 0 c).arrAt 2 cfg0.N
    = fun i : S16384x1024.Idx => gained (rd (x m c)) (fun k => g m c (ix1 k)) (i 0).val (i 1) := by
  refine (dats m 0 c).arrAt_eq_of_covers 2 _ (by decide +kernel) fun t hf y => ?_
  blk_simp
  rw [after0_2]; frame_out
  rw [Idealize.ShloMosaic.eq_ix2 y]
  refine (tile _ _ (y 0) (y 1)).trans ((gained_of (xBlk_eq m c t (y 0)) (gBlk_eq m c t)).trans ?_)
  blk_simp [(idx t).2.2]
  rw [Nat.mul_comm 512]
  exact congrArg (gained (rd (x m c)) _ _) (Fin.ext (by blk_simp [(idx t).2.2]))

/-- The kernel runs and keeps its arguments. -/
theorem frame_kernel : Cert.quiescent_FwdNorm := fun m ρ _ => Cert.FwdNorm.Gen.frame m ρ

/-- The kernel over the reals runs and keeps its arguments. -/
theorem frame_kernelIdeal : Cert.quiescent_FwdNormIdeal := fun m ρ _ => Cert.FwdNormIdeal.Gen.frame m ρ

/-- The reference over the reals runs and keeps its arguments. -/
theorem frame_referenceIdeal : Cert.quiescent_FwdNormReferenceIdeal := fun m ρ _ =>
  (θ_run Cert.FwdNormReferenceIdeal.defs _ _).mono (fun r h => ⟨fun c => (h c).2, sem_eq_zero_of_no_sems (by decide) r.2⟩)
    (Cert.FwdNormReferenceIdeal.Value.run (F := Ideal) m ρ)

/-- The kernel's array is the reference's. -/
theorem values : Cert.algebraic_FwdNormIdeal_FwdNormReferenceIdeal := by
  intro m g m' g' _ ha
  refine ⟨_,
    (θ_run _ _ _).mono (fun r h c => ⟨(h c).1.trans (out m c), (h c).2⟩) (Cert.FwdNormIdeal.Value.run_blocks (F := Ideal) m g),
    (θ_run _ _ _).mono (fun r h c => ⟨(h c).1.trans ?_, (h c).2⟩) (Cert.FwdNormReferenceIdeal.Value.run (F := Ideal) m' g')⟩
  refine (Cert.FwdNormReferenceIdeal.Read.val_main_v13_eq _ _).trans ?_
  rw [(ha c).1, (ha c).2]
  exact tblNorm_eq (rd_eq _)

end Cert.FwdNormProof

end
-- ==== Proof.SwaOut.lean ====
/- One block's output of the attention as the kernel computes it: each group's values, turned, times its probabilities. -/
module

public import proofs.«01_k».proof.Proof.TileValue

@[expose] public section

set_option maxRecDepth 16384

noncomputable section

namespace Cert.Swa

open Cert.KernelIdeal Cert.KernelIdeal.Gen Cert.KernelIdeal.Facts Idealize.ShloMosaic

section
variable {F : FTy → Type} [FloatOps F]

/-- A group's output, turned. -/
def tout (g : Fin 2) (w : FVec F S256x128 .f32) (p : FVec F S256x512 .f32) : FVec F S64x512 .f32 :=
  matmul dot_S64x256_S256x512_S64x512_1_0_0_1_n_n none
    (truncf .bf16 (extractStridedSlice S64x256 ![64 * g.val, 0] (transpose S128x256 [1, 0] w transposes_S256x128_p1_0_S128x256) (slices_rows g)) bitsLt_bf16_f32)
    (truncf .bf16 p bitsLt_bf16_f32) (constant S64x512 .f32 0x00000000#32)

/-- The block's output, its eight heads side by side. -/
def Tiles.out (T : Tiles F) : FVec F S128x512 .bf16 := back (tout 0 T.v (T.p 0)) (tout 1 T.v (T.p 1))

end

theorem tout_at (g : Fin 2) (w : FVec Ideal S256x128 .f32) (p : FVec Ideal S256x512 .f32) (d : Fin 64) (l : Fin 512) :
    tout g w p (ix2 d l) = ∑ t : Fin 256, w (ix2 t (gcol g d)) * p (ix2 t l) := by
  unfold tout
  pointwise

/-- An element of the output: the values weighted with the probabilities. -/
theorem Keyed.out_at {X : ℕ → ℕ → ℝ} {A : ℕ → ℝ} {n : ℕ} {T : Tiles Ideal} (H : Keyed X A n T) (g : Fin 2) (j : Fin 4) (i : Fin 128) (d : Fin 64) :
    T.out (ix2 i (chan g j d)) = ∑ t : Fin 256, T.v (ix2 t (gcol g d)) * (pr X A n i.val g.val j.val t : EReal) := by
  unfold Tiles.out
  rw [back_at, two (fun g => tout g T.v (T.p g) (ix2 d (lane j i))), tout_at]
  exact Finset.sum_congr rfl fun t _ => by rw [H.p_at]

/-- A masked value has no weight: two tables of values give one output when they agree on the keys seen. -/
theorem weigh_congr (X : ℕ → ℕ → ℝ) (A : ℕ → ℝ) (n i g j : ℕ) {u w : Fin 256 → EReal} (h : ∀ t, Sees n i t → u t = w t) :
    ∑ t : Fin 256, u t * (pr X A n i g j t : EReal) = ∑ t : Fin 256, w t * (pr X A n i g j t : EReal) := by
  refine Finset.sum_congr rfl fun t _ => ?_
  by_cases hs : Sees n i t
  · rw [h t hs]
  · rw [pr, Soft.prob_masked _ _ _ hs, EReal.coe_zero, mul_zero, mul_zero]

/-- The output at a row and a column of the array, `x` being the projection. -/
def rowO (x : (⟨2, ![16384, 2816]⟩ : Shape).Idx → EReal) (X : ℕ → ℕ → ℝ) (A : ℕ → ℝ) (r c : ℕ) : EReal :=
  ∑ t : Fin 256, rd x (128 * (r / 128) + t.val - 128) (2688 + (64 * (c / 256) + c % 64))
    * (pr X A (r / 128) (r % 128) (c / 256) (c / 64 % 4) t : EReal)

end Cert.Swa

end
-- ==== Proof.SwaStep.lean ====
/- What a grid step of the attention's forward pass fetches, and what it leaves: eight tiles of 128 rows. -/
module

public import proofs.«01_k».proof.Proof.Gen.FwdSwaIdeal.Value
public import proofs.«01_k».proof.Proof.SwaOut
public import proofs.«01_k».proof.Proof.StepBlocks

@[expose] public section

set_option maxRecDepth 16384

noncomputable section

namespace Cert.FwdSwaProof

open Cert.FwdSwaIdeal Cert.FwdSwaIdeal.Facts Cert.FwdSwaIdeal.Gen Idealize.ShloMosaic Idealize.ShloMosaic.TcCoe
open Cert.Swa (rd rd_at lane Tiles tilesOf Keyed rows_q Masks)

variable (m : (ℓ : Loc nD τ sig) → Buf (Elt Ideal) ℓ)

/-- The tiles of block `b` of grid step `t`; no output gradient is among them. -/
def stepTiles (c : Dev nD) (t : Fin cfg0.N) (b : Fin 8) : Tiles Ideal :=
  tilesOf b (X0_0 m c t) (iblk m c 1 t) (iblk m c 2 t) (iblk m c 3 t) (iblk m c 4 t) (iblk m c 5 t)
    (View.ld (iblk m c 6 t) (Rect.unit (k0_off1 (grid0.coords t)) S1x256x512.size (k0_off1_inb (grid0.coords t))))
    (View.ld (iblk m c 6 t) (Rect.unit ![1, 0, 0] S1x256x512.size inb_S2x256x512_S1x256x512_1_0_0)) (fun _ => (0 : EReal))

set_option maxHeartbeats 1600000 in
/-- A step's block of the output. -/
theorem step_out (c : Dev nD) (t : Fin cfg0.N) (y : S1024x512.Idx) (v : EReal)
    (hv : ∀ (b : Fin 8) (x : S128x512.Idx), (y 0).val = 128 * b.val + (x 0).val → (y 1).val = (x 1).val →
      (stepTiles m c t b).out x = v) :
    outsAt0 m c t y = v := by
  have h := rows_q (fun b => (stepTiles m c t b).out) y v hv
  unfold outsAt0
  frame_out
  rw [(hs0_0 t).read_unread (X0_0 m c t)]
  open_payloads
  exact h

/-! ## The blocks fetched -/

theorem idx0 : ∀ t : Fin cfg0.N, win0_0.index t = ![t.val, 4] := (by decide +kernel : ∀ t : Fin grid0.N, _)
theorem idx1 : ∀ t : Fin cfg0.N, win0_1.index t = ![8 * t.val - 1, 20] := (by decide +kernel : ∀ t : Fin grid0.N, _)
theorem idx2 : ∀ t : Fin cfg0.N, win0_2.index t = ![t.val, 20] := (by decide +kernel : ∀ t : Fin grid0.N, _)
theorem idx3 : ∀ t : Fin cfg0.N, win0_3.index t = ![8 * t.val - 1, 21] := (by decide +kernel : ∀ t : Fin grid0.N, _)
theorem idx4 : ∀ t : Fin cfg0.N, win0_4.index t = ![t.val, 21] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![t.val, 1] := (by decide +kernel : ∀ t : Fin grid0.N, _)
theorem off1 : ∀ t : Fin cfg0.N, k0_off1 (grid0.coords t) = ![min t.val 1, 0, 0] := (by decide +kernel : ∀ t : Fin grid0.N, _)

/-- The projection, the sinks and the buffer of the result as launched. -/
abbrev arg0 (c : Dev nD) : S16384x2816.Idx → EReal := m ((c : Thread nD τ).loc main_arg0)
abbrev arg1 (c : Dev nD) : S8.Idx → EReal := m ((c : Thread nD τ).loc main_arg1)
abbrev arg2 (c : Dev nD) : S16384x1024.Idx → EReal := m ((c : Thread nD τ).loc main_arg2)

variable (c : Dev nD) (t : Fin cfg0.N)

theorem in_q (i : Fin 1024) (j : Fin 512) : X0_0 m c t (ix2 i j) = rd (arg0 m c) (1024 * t.val + i.val) (2048 + j.val) := by
  have ht : t.val < 16 := t.isLt
  refine Eq.trans ?_ (rd_at (arg0 m c) ⟨1024 * t.val + i.val, by omega⟩ ⟨2048 + j.val, by omega⟩ rfl rfl)
  unfold X0_0 Pipeline.Window.fill
  rw [dif_pos (moved0_0 t _)]
  blk_ext [iblk, V, idx0 t]

theorem in_kp (i j : Fin 128) : iblk m c 1 t (ix2 i j) = rd (arg0 m c) (128 * (8 * t.val - 1) + i.val) (2560 + j.val) := by
  have ht : t.val < 16 := t.isLt
  refine Eq.trans ?_ (rd_at (arg0 m c) ⟨128 * (8 * t.val - 1) + i.val, by omega⟩ ⟨2560 + j.val, by omega⟩ rfl rfl)
  blk_ext [iblk, V, idx1 t]

theorem in_k (i : Fin 1024) (j : Fin 128) : iblk m c 2 t (ix2 i j) = rd (arg0 m c) (1024 * t.val + i.val) (2560 + j.val) := by
  have ht : t.val < 16 := t.isLt
  refine Eq.trans ?_ (rd_at (arg0 m c) ⟨1024 * t.val + i.val, by omega⟩ ⟨2560 + j.val, by omega⟩ rfl rfl)
  blk_ext [iblk, V, idx2 t]

theorem in_vp (i j : Fin 128) : iblk m c 3 t (ix2 i j) = rd (arg0 m c) (128 * (8 * t.val - 1) + i.val) (2688 + j.val) := by
  have ht : t.val < 16 := t.isLt
  refine Eq.trans ?_ (rd_at (arg0 m c) ⟨128 * (8 * t.val - 1) + i.val, by omega⟩ ⟨2688 + j.val, by omega⟩ rfl rfl)
  blk_ext [iblk, V, idx3 t]

theorem in_v (i : Fin 1024) (j : Fin 128) : iblk m c 4 t (ix2 i j) = rd (arg0 m c) (1024 * t.val + i.val) (2688 + j.val) := by
  have ht : t.val < 16 := t.isLt
  refine Eq.trans ?_ (rd_at (arg0 m c) ⟨1024 * t.val + i.val, by omega⟩ ⟨2688 + j.val, by omega⟩ rfl rfl)
  blk_ext [iblk, V, idx4 t]

theorem in_sk (i : Fin 16) (j : Fin 512) : iblk m c 5 t (ix2 i j) = V m c main_v26 (ix2 i j) := by
  unfold iblk
  generalize V m c = W
  blk_ext [idx5 t]

theorem in_mask (g : Fin 2) (i : Fin 256) (j : Fin 512) : iblk m c 6 t (ix3 g i j) = V m c main_v21 (ix3 g i j) := by
  unfold iblk
  generalize V m c = W
  blk_ext [idx6 t]

theorem sink_rows (g : Fin 2) (j : Fin 4) (i : Fin 128) :
    V m c main_v26 (ix2 ⟨8 * g.val, by omega⟩ (lane j i)) = arg1 m c (ix1 ⟨4 * g.val + j.val, by omega⟩) := by
  unfold V
  simp only [hostOps0, hostOps0_1, hostOps0_2, hostOps0_3, hostOps0_4, List.flatten_cons, List.flatten_nil, List.append_nil, List.cons_append,
    List.nil_append]
  after_reads_at
  refine (dif_pos ⟨by omega, by omega⟩).trans ?_
  exact congrArg (arg1 m c) (congrArg ix1 (Fin.ext (by dsimp only; omega)))

end Cert.FwdSwaProof

end
-- ==== Proof.SwaArray.lean ====
/- The array the attention's forward pass leaves: its second half of columns, block by block, and the first as launched. -/
module

public import proofs.«01_k».proof.Proof.SwaStep
public import Idealize.ShloMosaic.Lib.Pipeline.ValueKit.Partial

@[expose] public section

set_option maxRecDepth 16384

noncomputable section

namespace Cert.FwdSwaProof

open Cert.FwdSwaIdeal Cert.FwdSwaIdeal.Facts Cert.FwdSwaIdeal.Gen Idealize.ShloMosaic Idealize.ShloMosaic.TcCoe
open Cert.Swa

variable (m : (ℓ : Loc nD τ sig) → Buf (Elt Ideal) ℓ)

/-- The two masks the host lays out: of the first block, and of every other. -/
theorem mask_rows (c : Dev nD) (g : Fin 2) (t : Fin 256) (j : Fin 4) (i : Fin 128) :
    V m c main_v21 (ix3 g t (lane j i)) = if (i.val < t.val ∧ t.val ≤ i.val + 128 ∧ ¬ (g.val = 0 ∧ t.val < 128)) then (0 : EReal) else ⊥ := by
  unfold V
  simp only [hostOps0, hostOps0_1, hostOps0_2, hostOps0_3, hostOps0_4, List.flatten_cons, List.flatten_nil, List.append_nil, List.cons_append,
    List.nil_append]
  after_reads_at
  show select _ _ _ _ = _
  pointwise
  rw [Words.lane, Words.band, show ~~~IntOp.andi (IntOp.cmpi CmpIPredicate.eq (BitVec.ofNat 32 g.val) 0#32) (IntOp.cmpi CmpIPredicate.slt (BitVec.ofNat 32 t.val) 128#32)
    = _ from Words.pad ⟨g.val, by omega⟩ t, Soft.ofBits_bot]
  by_cases h1 : i.val < t.val ∧ t.val ≤ i.val + 128 <;> by_cases h2 : g.val = 0 ∧ t.val < 128
  · rw [if_pos h1, if_pos h2, if_neg fun e => e.2.2 h2]; rfl
  · rw [if_pos h1, if_neg h2, if_pos ⟨h1.1, h1.2, h2⟩]; rfl
  · rw [if_neg h1, if_pos h2, if_neg fun e => e.2.2 h2]; rfl
  · rw [if_neg h1, if_neg h2, if_neg fun e => h1 ⟨e.1, e.2.1⟩]; rfl

/-- The result's buffer starts as the third argument. -/
theorem entry_out (c : Dev nD) : V m c main_v27 = arg2 m c := by
  unfold V
  simp only [hostOps0, hostOps0_1, hostOps0_2, hostOps0_3, hostOps0_4, List.flatten_cons, List.flatten_nil, List.append_nil, List.cons_append,
    List.nil_append]
  after_reads_at
  rfl

variable {X : ℕ → ℕ → ℝ} {A : ℕ → ℝ} {c : Dev nD}

/-- The values of a block's window on the keys a query sees. -/
theorem values_at (t : Fin cfg0.N) (b : Fin 8) (i : ℕ) (r : Fin 256) (j : Fin 128) (hs : Sees (8 * t.val + b.val) i r) :
    (stepTiles m c t b).v (ix2 r j) = rd (arg0 m c) (128 * (8 * t.val + b.val) + r.val - 128) (2688 + j.val) := by
  refine (window_rows r (fun r c' => rd (arg0 m c) r (2688 + c')) (n := t.val) b (iblk m c 3 t) (iblk m c 4 t)
    (fun i j => in_vp m c t i j) (fun i j => in_v m c t i j) j).trans ?_
  exact if_neg hs.2.2

variable (H : Scores (arg0 m c) (arg1 m c) X A)
include H

/-- The scores' tiles of a block of a step. -/
theorem step_keyed (t : Fin cfg0.N) (b : Fin 8) : Keyed X A (8 * t.val + b.val) (stepTiles m c t b) := by
  refine keyed_of t.isLt b _ _ _ _ (fun i j => ?_) (fun i j => ?_) (fun i j => ?_) (fun g j i => ?_) (z := iblk m c 6 t) (fun g r j i => ?_) (off1 t)
  · rw [in_q, H.proj _ _ (by omega) (by omega)]
  · rw [in_kp, H.proj _ _ (by omega) (by omega)]
  · rw [in_k, H.proj _ _ (by omega) (by omega)]
  · rw [in_sk, sink_rows]
    exact H.sink _
  · rw [in_mask, mask_rows]

/-- A tile's output is rows of the array. -/
theorem tile_out (t : Fin cfg0.N) (b : Fin 8) (x : S128x512.Idx) {r k : ℕ} (hr : r = 1024 * t.val + (128 * b.val + (x 0).val))
    (hk : k = (x 1).val) : (stepTiles m c t b).out x = rowO (arg0 m c) X A r k := by
  have hx0 : (x 0).val < 128 := (x 0).isLt
  have hx1 : (x 1).val < 512 := (x 1).isLt
  have hx : x = ix2 ⟨(x 0).val, hx0⟩ (chan ⟨(x 1).val / 256, by omega⟩ ⟨(x 1).val / 64 % 4, by omega⟩ ⟨(x 1).val % 64, by omega⟩) := by
    funext a
    match a with
    | ⟨0, _⟩ => rfl
    | ⟨1, _⟩ => exact Fin.ext (by change (x 1).val = 256 * ((x 1).val / 256) + 64 * ((x 1).val / 64 % 4) + (x 1).val % 64; omega)
  rw [hx, (step_keyed m H t b).out_at, rowO]
  subst hk
  rw [show r / 128 = 8 * t.val + b.val by omega, show r % 128 = (x 0).val by omega]
  exact weigh_congr X A _ _ _ _ fun s hs => values_at m t b _ s _ hs

/-- The kernel's array. -/
theorem out : (dats m 0 c).arrAt 7 cfg0.N
    = fun i : S16384x1024.Idx => if 512 ≤ (i 1).val then rowO (arg0 m c) X A (i 0).val ((i 1).val - 512) else arg2 m c i := by
  rw [← entry_out]
  refine (dats m 0 c).arrAt_eq_of_coversWhere 7 (fun i : S16384x1024.Idx => rowO (arg0 m c) X A (i 0).val ((i 1).val - 512))
    (fun β => 1 ≤ β (1 : Fin 2)) (by decide +kernel)
    (fun t hf y => ?_) (fun j => by blk_simp [Pipeline.Window.cell_apply]; omega)
  blk_simp
  rw [after0_7]
  refine step_out m c t _ _ fun b x h0 h1 => tile_out m H t b x ?_ ?_
  · blk_simp [idx7 t] at h0 ⊢; omega
  · blk_simp [idx7 t] at h1 ⊢; omega

end Cert.FwdSwaProof

end
-- ==== Proof.SwaRef.lean ====
/- The reference of the attention's forward pass, and what its precondition says. -/
module

public import proofs.«01_k».proof.Proof.Gen.FwdSwaReferenceIdeal.Read
public import proofs.«01_k».proof.Proof.RefValue
public import proofs.«01_k».proof.Proof.SwaOut
public import proofs.«01_k».proof.Proof.Finite

@[expose] public section

set_option maxRecDepth 16384

noncomputable section

namespace Cert.FwdSwaProof

open Idealize.ShloMosaic Cert.FwdSwaReferenceIdeal Cert.FwdSwaReferenceIdeal.Read Cert.FwdSwaReferenceIdeal.Gen
open Cert.Swa (rd rd_at Scores pr rowO weigh_congr ref_v st_top st_p real_of_abs_lt tbl_ext)

variable {x : (⟨S16384x2816, .f32⟩ : BufTy).Contents (Elt Ideal)} {x1 : (⟨S8, .f32⟩ : BufTy).Contents (Elt Ideal)}
  {x2 : (⟨S16384x1024, .bf16⟩ : BufTy).Contents (Elt Ideal)} {X : ℕ → ℕ → ℝ} {A : ℕ → ℝ}

/-- The windows of values are those of the gradient's reference, which runs the same forward lines. -/
theorem ref_values : val_main_v16 (F := Ideal) x = Cert.ReferenceIdeal.Read.val_main_v16 (F := Ideal) x := rfl

/-- The probabilities are those of the gradient's reference. -/
theorem ref_probs : val_main_v70 (F := Ideal) x x1 = Cert.ReferenceIdeal.Read.val_main_v93 (F := Ideal) x x1 := rfl

/-- The attention's output at a row and a column. -/
theorem ref_out (H : Scores x x1 X A) (r : Fin 16384) (c : Fin 512) :
    val_main_v74 (F := Ideal) x x1 (ix2 r c) = rowO x X A r.val c.val := by
  pointwise [val_main_v74, val_main_v73, val_main_v72, val_main_v71]
  rw [ref_values, ref_probs]
  unfold rowO
  refine Eq.trans (Finset.sum_congr rfl fun t _ => ?_) (weigh_congr X A (r.val / 128) (r.val % 128) (c.val / 256) (c.val / 64 % 4)
    (u := fun t => if r.val / 128 = 0 ∧ t.val < 128 then 0 else rd x (128 * (r.val / 128) + t.val - 128) (2688 + (64 * (c.val / 256) + c.val % 64)))
    fun t hs => if_neg hs.2.2)
  obtain ⟨μ, hμ⟩ := st_top H ⟨r.val / 128, by omega⟩ ⟨r.val % 128, by omega⟩ ⟨c.val / 256, by omega⟩ ⟨c.val / 64 % 4, by omega⟩
  rw [ref_v, st_p H hμ]

/-- The reference's array: the first half of the columns as launched, the second the attention's output. -/
theorem ref_table (H : Scores x x1 X A) : (val_main_v77 (F := Ideal) x x1 x2 : S16384x1024.Idx → EReal)
    = fun i => if 512 ≤ (i 1).val then rowO x X A (i 0).val ((i 1).val - 512) else x2 i := by
  refine tbl_ext fun r c => ?_
  have e := ref_out H
  unfold val_main_v77 val_main_v76 val_main_v75
  generalize val_main_v74 (F := Ideal) x x1 = y at e ⊢
  pointwise
  by_cases h : c.val < 512
  · refine (dif_pos h).trans (Eq.trans ?_ (if_neg (not_le.2 h)).symm)
    rfl
  · refine (dif_neg h).trans (Eq.trans ?_ (if_pos (not_lt.1 h)).symm)
    exact e _ _

/-- The shapes the precondition's operations take fit. -/
theorem scores_facts : Cert.Pre_finite_scores.Facts := by
  constructor <;> decide

attribute [local instance] scores_facts

/-- Under the precondition the columns of the projection that hold the queries and the keys, and the sinks, are tables of real numbers. -/
theorem scores_of_finite (h : Cert.Pre_finite_scores.fn (F := Ideal) x x1 x2 = fun _ => 1#1) : ∃ X A, Scores x x1 X A := by
  have h0 := congrFun h (fun a => a.elim0)
  unfold Cert.Pre_finite_scores.fn at h0
  obtain ⟨h1, h2⟩ := IntOp.andi_eq_one.1 h0
  haveI : Subsingleton Cert.Pre_finite_scores.S_.Idx := ⟨fun a b => funext fun k => k.elim0⟩
  have p : ∀ (r : Fin 16384) (c : Fin 640), x (ix2 r ⟨2048 + c.val, by omega⟩) = ((x (ix2 r ⟨2048 + c.val, by omega⟩)).toReal : EReal) := fun r c => by
    have := Host.reduce_andi_all _ _ _ _ _ h1 (ix2 r c)
    pointwise at this
    exact real_of_abs_lt this
  have s : ∀ k : Fin 8, x1 (ix1 k) = ((x1 (ix1 k)).toReal : EReal) := fun k => by
    have := Host.reduce_andi_all _ _ _ _ _ h2 (ix1 k)
    pointwise at this
    exact real_of_abs_lt this
  refine ⟨fun r c => (rd x r c).toReal, fun k => (x1 (ix1 (Fin.ofNat 8 k))).toReal, fun r c hl hu => ?_, fun k => ?_⟩
  · have := p (Fin.ofNat 16384 r) ⟨c - 2048, by omega⟩
    rwa [rd_at x (Fin.ofNat 16384 r) ⟨2048 + (c - 2048), by omega⟩ (r := r % 16384) (c := c) rfl (by dsimp only; omega),
      show rd x (r % 16384) c = rd x r c from congrArg (fun k => x (ix2 k _)) (Fin.ext (Nat.mod_mod r 16384))] at this
  · have e : Fin.ofNat 8 k.val = k := Fin.ext (Nat.mod_eq_of_lt k.isLt)
    rw [e]; exact s k

end Cert.FwdSwaProof

end
-- ==== Proof.FwdSwa.lean ====
/- The attention's forward pass: its frames, and its value claim. -/
module

public import proofs.«01_k».proof.Defs
public import proofs.«01_k».proof.Proof.Gen.FwdSwa.Frame
public import proofs.«01_k».proof.Proof.Gen.FwdSwaIdeal.Value
public import proofs.«01_k».proof.Proof.Gen.FwdSwaReferenceIdeal.Run
public import proofs.«01_k».proof.Proof.Gen.FwdSwaReferenceIdeal.Read
public import proofs.«01_k».proof.Proof.SwaArray
public import proofs.«01_k».proof.Proof.SwaRef
public import Idealize.ShloMosaic.Adequacy
public import Idealize.ShloMosaic.Init
public import Idealize.ShloMosaic.Lib.Claim

@[expose] public section

noncomputable section

namespace Cert.FwdSwaProof

open Idealize.ShloMosaic Idealize.SL.Sem
open Cert.Swa (rowO)

/-- The kernel runs and keeps its arguments. -/
theorem frame_kernel : Cert.quiescent_FwdSwa := fun m ρ _ => Cert.FwdSwa.Gen.frame m ρ

/-- The kernel over the reals runs and keeps its arguments. -/
theorem frame_kernelIdeal : Cert.quiescent_FwdSwaIdeal := fun m ρ _ => Cert.FwdSwaIdeal.Gen.frame m ρ

/-- The reference over the reals runs and keeps its arguments. -/
theorem frame_referenceIdeal : Cert.quiescent_FwdSwaReferenceIdeal := fun m ρ _ =>
  (θ_run Cert.FwdSwaReferenceIdeal.defs _ _).mono (fun r h => ⟨fun c => (h c).2, sem_eq_zero_of_no_sems (by decide) r.2⟩)
    (Cert.FwdSwaReferenceIdeal.Value.run (F := Ideal) m ρ)

/-- The two frames under the precondition of the value claim: the same runs. -/
theorem frame_kernelIdeal_finite [Cert.Pre_finite_scores.Facts] : Cert.quiescent_FwdSwaIdeal_pre_finite_scores := fun m ρ _ =>
  frame_kernelIdeal m ρ trivial

@[inherit_doc frame_kernelIdeal_finite]
theorem frame_referenceIdeal_finite [Cert.Pre_finite_scores.Facts] : Cert.quiescent_FwdSwaReferenceIdeal_pre_finite_scores := fun m ρ _ =>
  frame_referenceIdeal m ρ trivial

attribute [local instance] scores_facts

/-- The kernel's array is the reference's, under the precondition. -/
theorem values : Cert.algebraic_FwdSwaIdeal_FwdSwaReferenceIdeal_pre_finite_scores := by
  intro m g m' g' hp ha
  choose X A H using fun c => scores_of_finite (hp c)
  refine ⟨fun c i => if 512 ≤ (i 1).val then rowO (arg0 m c) (X c) (A c) (i 0).val ((i 1).val - 512) else arg2 m c i,
    (θ_run _ _ _).mono (fun r h c => ⟨(h c).1.trans (out m (H c)), (h c).2⟩) (Cert.FwdSwaIdeal.Value.run_blocks (F := Ideal) m g),
    (θ_run _ _ _).mono (fun r h c => ⟨(h c).1.trans ?_, (h c).2⟩) (Cert.FwdSwaReferenceIdeal.Value.run (F := Ideal) m' g')⟩
  refine (Cert.FwdSwaReferenceIdeal.Read.val_main_v77_eq _ _).trans ?_
  rw [(ha c).1, (ha c).2.1, (ha c).2.2]
  exact ref_table (H c)

end Cert.FwdSwaProof

end
-- ==== Proof.lean ====
/- The certificate. -/
module

public import proofs.«01_k».proof.Defs
public import proofs.«01_k».proof.Proof.Frames
public import proofs.«01_k».proof.Proof.Gen.Kernel
public import proofs.«01_k».proof.Proof.Gen.KernelIdeal
public import proofs.«01_k».proof.Proof.Gen.ReferenceIdeal
public import proofs.«01_k».proof.Proof.Gen.DwIn
public import proofs.«01_k».proof.Proof.Gen.DwInIdeal
public import proofs.«01_k».proof.Proof.Gen.DwInReferenceIdeal
public import proofs.«01_k».proof.Proof.Gen.DwDown
public import proofs.«01_k».proof.Proof.Gen.DwDownIdeal
public import proofs.«01_k».proof.Proof.Gen.DwDownReferenceIdeal
public import proofs.«01_k».proof.Proof.Gen.DwOut
public import proofs.«01_k».proof.Proof.Gen.DwOutIdeal
public import proofs.«01_k».proof.Proof.Gen.DwOutReferenceIdeal
public import proofs.«01_k».proof.Proof.Gen.DwPu
public import proofs.«01_k».proof.Proof.Gen.DwPuIdeal
public import proofs.«01_k».proof.Proof.Gen.DwPuReferenceIdeal
public import proofs.«01_k».proof.Proof.Gen.DxDown
public import proofs.«01_k».proof.Proof.Gen.DxDownIdeal
public import proofs.«01_k».proof.Proof.Gen.DxDownReferenceIdeal
public import proofs.«01_k».proof.Proof.Gen.DxOut
public import proofs.«01_k».proof.Proof.Gen.DxOutIdeal
public import proofs.«01_k».proof.Proof.Gen.DxOutReferenceIdeal
public import proofs.«01_k».proof.Proof.Gen.DxUp
public import proofs.«01_k».proof.Proof.Gen.DxUpIdeal
public import proofs.«01_k».proof.Proof.Gen.DxUpReferenceIdeal
public import proofs.«01_k».proof.Proof.Gen.DxIn
public import proofs.«01_k».proof.Proof.Gen.DxInIdeal
public import proofs.«01_k».proof.Proof.Gen.DxInReferenceIdeal
public import proofs.«01_k».proof.Proof.Gen.DxGate
public import proofs.«01_k».proof.Proof.Gen.DxGateIdeal
public import proofs.«01_k».proof.Proof.Gen.DxGateReferenceIdeal
public import proofs.«01_k».proof.Proof.Gen.FwdIn
public import proofs.«01_k».proof.Proof.Gen.FwdInIdeal
public import proofs.«01_k».proof.Proof.Gen.FwdInReferenceIdeal
public import proofs.«01_k».proof.Proof.Gen.FwdUp
public import proofs.«01_k».proof.Proof.Gen.FwdUpIdeal
public import proofs.«01_k».proof.Proof.Gen.FwdUpReferenceIdeal
public import proofs.«01_k».proof.Proof.Gen.FwdGate
public import proofs.«01_k».proof.Proof.Gen.FwdGateIdeal
public import proofs.«01_k».proof.Proof.Gen.FwdGateReferenceIdeal
public import proofs.«01_k».proof.Proof.Gen.FwdOut
public import proofs.«01_k».proof.Proof.Gen.FwdOutIdeal
public import proofs.«01_k».proof.Proof.Gen.FwdOutReferenceIdeal
public import proofs.«01_k».proof.Proof.Gen.FwdDown
public import proofs.«01_k».proof.Proof.Gen.FwdDownIdeal
public import proofs.«01_k».proof.Proof.Gen.FwdDownReferenceIdeal
public import proofs.«01_k».proof.Proof.Gen.BwdPle
public import proofs.«01_k».proof.Proof.Gen.BwdPleIdeal
public import proofs.«01_k».proof.Proof.Gen.BwdPleReferenceIdeal
public import proofs.«01_k».proof.Proof.Gen.FwdPle
public import proofs.«01_k».proof.Proof.Gen.FwdPleIdeal
public import proofs.«01_k».proof.Proof.Gen.FwdPleReferenceIdeal
public import proofs.«01_k».proof.Proof.Gen.FwdNorm
public import proofs.«01_k».proof.Proof.Gen.FwdNormIdeal
public import proofs.«01_k».proof.Proof.Gen.FwdNormReferenceIdeal
public import proofs.«01_k».proof.Proof.Gen.FwdSwa
public import proofs.«01_k».proof.Proof.Gen.FwdSwaIdeal
public import proofs.«01_k».proof.Proof.Gen.FwdSwaReferenceIdeal
public import proofs.«01_k».proof.Proof.Value
public import proofs.«01_k».proof.Proof.DwIn
public import proofs.«01_k».proof.Proof.DwDown
public import proofs.«01_k».proof.Proof.DwOut
public import proofs.«01_k».proof.Proof.DwPu
public import proofs.«01_k».proof.Proof.DxDown
public import proofs.«01_k».proof.Proof.DxOut
public import proofs.«01_k».proof.Proof.DxUp
public import proofs.«01_k».proof.Proof.DxIn
public import proofs.«01_k».proof.Proof.DxGate
public import proofs.«01_k».proof.Proof.FwdIn
public import proofs.«01_k».proof.Proof.FwdUp
public import proofs.«01_k».proof.Proof.FwdGate
public import proofs.«01_k».proof.Proof.FwdOut
public import proofs.«01_k».proof.Proof.FwdDown
public import proofs.«01_k».proof.Proof.BwdPle
public import proofs.«01_k».proof.Proof.FwdPle
public import proofs.«01_k».proof.Proof.FwdNorm
public import proofs.«01_k».proof.Proof.FwdSwa

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.DwIn.Gen.facts, Cert.DwInIdeal.Gen.facts, Cert.DwInReferenceIdeal.Gen.facts,
    Cert.DwDown.Gen.facts, Cert.DwDownIdeal.Gen.facts, Cert.DwDownReferenceIdeal.Gen.facts,
    Cert.DwOut.Gen.facts, Cert.DwOutIdeal.Gen.facts, Cert.DwOutReferenceIdeal.Gen.facts,
    Cert.DwPu.Gen.facts, Cert.DwPuIdeal.Gen.facts, Cert.DwPuReferenceIdeal.Gen.facts,
    Cert.DxDown.Gen.facts, Cert.DxDownIdeal.Gen.facts, Cert.DxDownReferenceIdeal.Gen.facts,
    Cert.DxOut.Gen.facts, Cert.DxOutIdeal.Gen.facts, Cert.DxOutReferenceIdeal.Gen.facts,
    Cert.DxUp.Gen.facts, Cert.DxUpIdeal.Gen.facts, Cert.DxUpReferenceIdeal.Gen.facts,
    Cert.DxIn.Gen.facts, Cert.DxInIdeal.Gen.facts, Cert.DxInReferenceIdeal.Gen.facts,
    Cert.DxGate.Gen.facts, Cert.DxGateIdeal.Gen.facts, Cert.DxGateReferenceIdeal.Gen.facts,
    Cert.FwdIn.Gen.facts, Cert.FwdInIdeal.Gen.facts, Cert.FwdInReferenceIdeal.Gen.facts,
    Cert.FwdUp.Gen.facts, Cert.FwdUpIdeal.Gen.facts, Cert.FwdUpReferenceIdeal.Gen.facts,
    Cert.FwdGate.Gen.facts, Cert.FwdGateIdeal.Gen.facts, Cert.FwdGateReferenceIdeal.Gen.facts,
    Cert.FwdOut.Gen.facts, Cert.FwdOutIdeal.Gen.facts, Cert.FwdOutReferenceIdeal.Gen.facts,
    Cert.FwdDown.Gen.facts, Cert.FwdDownIdeal.Gen.facts, Cert.FwdDownReferenceIdeal.Gen.facts,
    Cert.BwdPle.Gen.facts, Cert.BwdPleIdeal.Gen.facts, Cert.BwdPleReferenceIdeal.Gen.facts,
    Cert.FwdPle.Gen.facts, Cert.FwdPleIdeal.Gen.facts, Cert.FwdPleReferenceIdeal.Gen.facts,
    Cert.FwdNorm.Gen.facts, Cert.FwdNormIdeal.Gen.facts, Cert.FwdNormReferenceIdeal.Gen.facts,
    Cert.FwdSwa.Gen.facts, Cert.FwdSwaIdeal.Gen.facts, Cert.FwdSwaReferenceIdeal.Gen.facts,
    Cert.Swa.finite_facts, FwdSwaProof.scores_facts,
    frame_kernel, frame_kernelIdeal, @frame_kernelIdeal_finite Cert.Swa.finite_facts, frame_referenceIdeal,
    @frame_referenceIdeal_finite Cert.Swa.finite_facts,
    DwInProof.frame_kernel, DwInProof.frame_kernelIdeal, DwInProof.frame_referenceIdeal,
    DwDownProof.frame_kernel, DwDownProof.frame_kernelIdeal, DwDownProof.frame_referenceIdeal,
    DwOutProof.frame_kernel, DwOutProof.frame_kernelIdeal, DwOutProof.frame_referenceIdeal,
    DwPuProof.frame_kernel, DwPuProof.frame_kernelIdeal, DwPuProof.frame_referenceIdeal,
    DxDownProof.frame_kernel, DxDownProof.frame_kernelIdeal, DxDownProof.frame_referenceIdeal,
    DxOutProof.frame_kernel, DxOutProof.frame_kernelIdeal, DxOutProof.frame_referenceIdeal,
    DxUpProof.frame_kernel, DxUpProof.frame_kernelIdeal, DxUpProof.frame_referenceIdeal,
    DxInProof.frame_kernel, DxInProof.frame_kernelIdeal, DxInProof.frame_referenceIdeal,
    DxGateProof.frame_kernel, DxGateProof.frame_kernelIdeal, DxGateProof.frame_referenceIdeal,
    FwdInProof.frame_kernel, FwdInProof.frame_kernelIdeal, FwdInProof.frame_referenceIdeal,
    FwdUpProof.frame_kernel, FwdUpProof.frame_kernelIdeal, FwdUpProof.frame_referenceIdeal,
    FwdGateProof.frame_kernel, FwdGateProof.frame_kernelIdeal, FwdGateProof.frame_referenceIdeal,
    FwdOutProof.frame_kernel, FwdOutProof.frame_kernelIdeal, FwdOutProof.frame_referenceIdeal,
    FwdDownProof.frame_kernel, FwdDownProof.frame_kernelIdeal, FwdDownProof.frame_referenceIdeal,
    BwdPleProof.frame_kernel, BwdPleProof.frame_kernelIdeal, BwdPleProof.frame_referenceIdeal,
    FwdPleProof.frame_kernel, FwdPleProof.frame_kernelIdeal, FwdPleProof.frame_referenceIdeal,
    FwdNormProof.frame_kernel, FwdNormProof.frame_kernelIdeal, FwdNormProof.frame_referenceIdeal,
    FwdSwaProof.frame_kernel, FwdSwaProof.frame_kernelIdeal, @FwdSwaProof.frame_kernelIdeal_finite FwdSwaProof.scores_facts,
    FwdSwaProof.frame_referenceIdeal, @FwdSwaProof.frame_referenceIdeal_finite FwdSwaProof.scores_facts,
    trivial, Cert.Swa.values, trivial, DwInProof.values, trivial, DwDownProof.values, trivial, DwOutProof.values, trivial, DwPuProof.values,
    trivial, DxDownProof.values, trivial, DxOutProof.values, trivial, DxUpProof.values, trivial, DxInProof.values, trivial, DxGateProof.values,
    trivial, FwdInProof.values, trivial, FwdUpProof.values, trivial, FwdGateProof.values, trivial, FwdOutProof.values, trivial, FwdDownProof.values,
    trivial, BwdPleProof.values, trivial, FwdPleProof.values, trivial, FwdNormProof.values, trivial, FwdSwaProof.values⟩

end Cert.Proof

end
